-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonnegative [hPre_scales_nonnegative : Cert.Pre_scales_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonnegative [hPre_scales_nonnegative : Cert.Pre_scales_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_nonnegative [hKernelIdeal : Cert.KernelIdeal.Facts] [hPre_scales_nonnegative : Cert.Pre_scales_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_nonnegative [hReferenceIdeal : Cert.ReferenceIdeal.Facts] [hPre_scales_nonnegative : Cert.Pre_scales_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "attn_log2e" .f32 0x3D8293EE#32 (((Real.sqrt 512)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_scales_nonnegative [hKernelIdeal : Cert.KernelIdeal.Facts] [hReferenceIdeal : Cert.ReferenceIdeal.Facts] [hPre_scales_nonnegative : Cert.Pre_scales_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scales_nonnegative : Cert.Pre_scales_nonnegative.Facts),
    quiescent_Kernel (hKernel := hKernel)
    ∧ quiescent_KernelIdeal (hKernelIdeal := hKernelIdeal)
    ∧ quiescent_KernelIdeal_pre_scales_nonnegative (hKernelIdeal := hKernelIdeal) (hPre_scales_nonnegative := hPre_scales_nonnegative)
    ∧ quiescent_ReferenceIdeal (hReferenceIdeal := hReferenceIdeal)
    ∧ quiescent_ReferenceIdeal_pre_scales_nonnegative (hReferenceIdeal := hReferenceIdeal) (hPre_scales_nonnegative := hPre_scales_nonnegative)
    ∧ preserves_Kernel_KernelIdeal
    ∧ algebraic_KernelIdeal_ReferenceIdeal_pre_scales_nonnegative (hKernelIdeal := hKernelIdeal) (hReferenceIdeal := hReferenceIdeal) (hPre_scales_nonnegative := hPre_scales_nonnegative)
-- ==== Pre_scales_nonnegative.lean ====
abbrev S3x4096x512 : Shape := ⟨3, ![3, 4096, 512]⟩
abbrev S3x4096 : Shape := ⟨2, ![3, 4096]⟩
abbrev S3x512 : Shape := ⟨2, ![3, 512]⟩
abbrev S512x512 : Shape := ⟨2, ![512, 512]⟩
abbrev S512 : Shape := ⟨1, ![512]⟩
abbrev S_ : Shape := ⟨0, ![]⟩

class Facts : Prop where
  bcast_S_S3x4096 : S_.BroadcastsInDim S3x4096 (![] : Fin 0 → Fin S3x4096.rank)

variable [Facts]

def fn {F : FTy → Type} [FloatOps F] (main_arg0 : FVec F S3x4096x512 .bf16) (main_arg1 : FVec F S3x4096x512 .fp8e4m3) (main_arg2 : FVec F S3x4096x512 .fp8e4m3) (main_arg3 : FVec F S3x4096x512 .fp8e4m3) (main_arg4 : FVec F S3x4096 .f32) (main_arg5 : FVec F S3x4096 .f32) (main_arg6 : FVec F S3x512 .f32) (main_arg7 : FVec F S512x512 .fp8e4m3) (main_arg8 : FVec F S512 .f32) (main_arg9 : FVec F S512 .f32) : IVec S3x4096 1 :=
  let main_cst : FVec F S_ .f32 := constant S_ .f32 0x00000000#32
  let main_v0 : FVec F S3x4096 .f32 := broadcastInDim S3x4096 ![] bcast_S_S3x4096 main_cst
  let main_v1 : IVec S3x4096 1 := cmpf .oge main_arg4 main_v0
  main_v1
-- ==== Kernel.lean ====
abbrev S3x4096x512 : Shape := ⟨3, ![3, 4096, 512]⟩
abbrev S3x4096 : Shape := ⟨2, ![3, 4096]⟩
abbrev S3x512 : Shape := ⟨2, ![3, 512]⟩
abbrev S512x512 : Shape := ⟨2, ![512, 512]⟩
abbrev S512 : Shape := ⟨1, ![512]⟩
abbrev S1x512 : Shape := ⟨2, ![1, 512]⟩
abbrev S1x512x512 : Shape := ⟨3, ![1, 512, 512]⟩
abbrev S1x4096x512 : Shape := ⟨3, ![1, 4096, 512]⟩
abbrev S512x4096 : Shape := ⟨2, ![512, 4096]⟩
abbrev S512x128 : Shape := ⟨2, ![512, 128]⟩
abbrev S1x1024x512 : Shape := ⟨3, ![1, 1024, 512]⟩
abbrev S1024x512 : Shape := ⟨2, ![1024, 512]⟩
abbrev S512x1024 : Shape := ⟨2, ![512, 1024]⟩
abbrev S1x1024 : Shape := ⟨2, ![1, 1024]⟩
abbrev S128x512 : Shape := ⟨2, ![128, 512]⟩
abbrev S512x1 : Shape := ⟨2, ![512, 1]⟩

abbrev nBuf : Space → Nat
  | .hbm => 16
  | .vmem => 29
  | .smem => 0
  | _ => 0

abbrev bufTy : (tb : Table) → Fin (tcTables nBuf tb) → BufTy
  | .hbm, ⟨0, _⟩ => ⟨S3x4096x512, .bf16⟩
  | .hbm, ⟨1, _⟩ => ⟨S3x4096x512, .fp8e4m3⟩
  | .hbm, ⟨2, _⟩ => ⟨S3x4096x512, .fp8e4m3⟩
  | .hbm, ⟨3, _⟩ => ⟨S3x4096x512, .fp8e4m3⟩
  | .hbm, ⟨4, _⟩ => ⟨S3x4096, .f32⟩
  | .hbm, ⟨5, _⟩ => ⟨S3x4096, .f32⟩
  | .hbm, ⟨6, _⟩ => ⟨S3x512, .f32⟩
  | .hbm, ⟨7, _⟩ => ⟨S512x512, .fp8e4m3⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S1x512, .f32⟩
  | .hbm, ⟨12, _⟩ => ⟨S3x4096x512, .bf16⟩
  | .hbm, ⟨13, _⟩ => ⟨S3x4096x512, .bf16⟩
  | .hbm, ⟨14, _⟩ => ⟨S3x4096x512, .fp8e4m3⟩
  | .hbm, ⟨15, _⟩ => ⟨S3x4096, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .fp8e4m3⟩
  | .local _ .vmem, ⟨3, _⟩ => ⟨S1x512x512, .fp8e4m3⟩
  | .local _ .vmem, ⟨4, _⟩ => ⟨S1x4096x512, .fp8e4m3⟩
  | .local _ .vmem, ⟨5, _⟩ => ⟨S1x4096x512, .fp8e4m3⟩
  | .local _ .vmem, ⟨6, _⟩ => ⟨S1x4096x512, .fp8e4m3⟩
  | .local _ .vmem, ⟨7, _⟩ => ⟨S1x4096x512, .fp8e4m3⟩
  | .local _ .vmem, ⟨8, _⟩ => ⟨S3x4096, .f32⟩
  | .local _ .vmem, ⟨9, _⟩ => ⟨S3x4096, .f32⟩
  | .local _ .vmem, ⟨10, _⟩ => ⟨S3x512, .f32⟩
  | .local _ .vmem, ⟨11, _⟩ => ⟨S512x512, .fp8e4m3⟩
  | .local _ .vmem, ⟨12, _⟩ => ⟨S1x512, .f32⟩
  | .local _ .vmem, ⟨13, _⟩ => ⟨S1x512, .f32⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .fp8e4m3⟩
  | .local _ .vmem, ⟨19, _⟩ => ⟨S1x512x512, .fp8e4m3⟩
  | .local _ .vmem, ⟨20, _⟩ => ⟨S3x4096, .f32⟩
  | .local _ .vmem, ⟨21, _⟩ => ⟨S512x4096, .f32⟩
  | .local _ .vmem, ⟨22, _⟩ => ⟨S512x4096, .f32⟩
  | .local _ .vmem, ⟨23, _⟩ => ⟨S512x512, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | _, _ => ⟨S3x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨1, ![27], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c0_i32_0 : BitVec 32 := 0#32
  let v1 : BitVec 1 := Scalar.cmpi .sle arg0 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (i : grid0.Coords) : Fin 2 → Nat :=
  let arg0 : BitVec 32 := BitVec.ofNat 32 (i 0).val
  let c0_i32_13 : BitVec 32 := 0#32
  let v36 : BitVec 1 := Scalar.cmpi .sgt arg0 c0_i32_13
  let v37 : BitVec 32 := Scalar.extui v36
  let c0_i32_14 : BitVec 32 := 0#32
  let v38 : BitVec 1 := Scalar.cmpi .slt arg0 c0_i32_14
  let v39 : BitVec 32 := Scalar.extui v38
  let v40 : BitVec 32 := Scalar.subi v37 v39
  let c8_i32 : BitVec 32 := 8#32
  let c0_i32_15 : BitVec 32 := 0#32
  let v41 : BitVec 1 := Scalar.cmpi .sgt c8_i32 c0_i32_15
  let v42 : BitVec 32 := Scalar.extui v41
  let c0_i32_16 : BitVec 32 := 0#32
  let v43 : BitVec 1 := Scalar.cmpi .slt c8_i32 c0_i32_16
  let v44 : BitVec 32 := Scalar.extui v43
  let v45 : BitVec 32 := Scalar.subi v42 v44
  let v46 : BitVec 1 := Scalar.cmpi .ne v40 v45
  let v47 : BitVec 32 := Scalar.remsi arg0 c8_i32
  let c0_i32_17 : BitVec 32 := 0#32
  let v48 : BitVec 1 := Scalar.cmpi .ne v47 c0_i32_17
  let v49 : BitVec 1 := Scalar.andi v46 v48
  let v35 : BitVec 32 := Scalar.divsi arg0 c8_i32
  let c1_i32_18 : BitVec 32 := 1#32
  let v50 : BitVec 32 := Scalar.subi v35 c1_i32_18
  let v51 : BitVec 32 := Scalar.select v49 v50 v35
  let v57 : Index := Scalar.indexCast v51
  let c0_24 : Index := 0#32
  ![v57.toNat, 0]
def k0_off2 (i : grid0.Coords) : Fin 2 → Nat :=
  let arg0 : BitVec 32 := BitVec.ofNat 32 (i 0).val
  let c0_i32_30 : BitVec 32 := 0#32
  let v83 : BitVec 1 := Scalar.cmpi .sgt arg0 c0_i32_30
  let v84 : BitVec 32 := Scalar.extui v83
  let c0_i32_31 : BitVec 32 := 0#32
  let v85 : BitVec 1 := Scalar.cmpi .slt arg0 c0_i32_31
  let v86 : BitVec 32 := Scalar.extui v85
  let v87 : BitVec 32 := Scalar.subi v84 v86
  let c8_i32_29 : BitVec 32 := 8#32
  let c0_i32_32 : BitVec 32 := 0#32
  let v88 : BitVec 1 := Scalar.cmpi .sgt c8_i32_29 c0_i32_32
  let v89 : BitVec 32 := Scalar.extui v88
  let c0_i32_33 : BitVec 32 := 0#32
  let v90 : BitVec 1 := Scalar.cmpi .slt c8_i32_29 c0_i32_33
  let v91 : BitVec 32 := Scalar.extui v90
  let v92 : BitVec 32 := Scalar.subi v89 v91
  let v93 : BitVec 1 := Scalar.cmpi .ne v87 v92
  let v94 : BitVec 32 := Scalar.remsi arg0 c8_i32_29
  let c0_i32_34 : BitVec 32 := 0#32
  let v95 : BitVec 1 := Scalar.cmpi .ne v94 c0_i32_34
  let v96 : BitVec 1 := Scalar.andi v93 v95
  let v82 : BitVec 32 := Scalar.divsi arg0 c8_i32_29
  let c1_i32_35 : BitVec 32 := 1#32
  let v97 : BitVec 32 := Scalar.subi v82 c1_i32_35
  let v98 : BitVec 32 := Scalar.select v96 v97 v82
  let v104 : Index := Scalar.indexCast v98
  let c1024_42 : Index := 1024#32
  ![v104.toNat, 1024]
def k0_off3 (i : grid0.Coords) : Fin 2 → Nat :=
  let arg0 : BitVec 32 := BitVec.ofNat 32 (i 0).val
  let c0_i32_50 : BitVec 32 := 0#32
  let v132 : BitVec 1 := Scalar.cmpi .sgt arg0 c0_i32_50
  let v133 : BitVec 32 := Scalar.extui v132
  let c0_i32_51 : BitVec 32 := 0#32
  let v134 : BitVec 1 := Scalar.cmpi .slt arg0 c0_i32_51
  let v135 : BitVec 32 := Scalar.extui v134
  let v136 : BitVec 32 := Scalar.subi v133 v135
  let c8_i32_49 : BitVec 32 := 8#32
  let c0_i32_52 : BitVec 32 := 0#32
  let v137 : BitVec 1 := Scalar.cmpi .sgt c8_i32_49 c0_i32_52
  let v138 : BitVec 32 := Scalar.extui v137
  let c0_i32_53 : BitVec 32 := 0#32
  let v139 : BitVec 1 := Scalar.cmpi .slt c8_i32_49 c0_i32_53
  let v140 : BitVec 32 := Scalar.extui v139
  let v141 : BitVec 32 := Scalar.subi v138 v140
  let v142 : BitVec 1 := Scalar.cmpi .ne v136 v141
  let v143 : BitVec 32 := Scalar.remsi arg0 c8_i32_49
  let c0_i32_54 : BitVec 32 := 0#32
  let v144 : BitVec 1 := Scalar.cmpi .ne v143 c0_i32_54
  let v145 : BitVec 1 := Scalar.andi v142 v144
  let v131 : BitVec 32 := Scalar.divsi arg0 c8_i32_49
  let c1_i32_55 : BitVec 32 := 1#32
  let v146 : BitVec 32 := Scalar.subi v131 c1_i32_55
  let v147 : BitVec 32 := Scalar.select v145 v146 v131
  let v153 : Index := Scalar.indexCast v147
  let c2048_62 : Index := 2048#32
  ![v153.toNat, 2048]
def k0_off4 (i : grid0.Coords) : Fin 2 → Nat :=
  let arg0 : BitVec 32 := BitVec.ofNat 32 (i 0).val
  let c0_i32_70 : BitVec 32 := 0#32
  let v181 : BitVec 1 := Scalar.cmpi .sgt arg0 c0_i32_70
  let v182 : BitVec 32 := Scalar.extui v181
  let c0_i32_71 : BitVec 32 := 0#32
  let v183 : BitVec 1 := Scalar.cmpi .slt arg0 c0_i32_71
  let v184 : BitVec 32 := Scalar.extui v183
  let v185 : BitVec 32 := Scalar.subi v182 v184
  let c8_i32_69 : BitVec 32 := 8#32
  let c0_i32_72 : BitVec 32 := 0#32
  let v186 : BitVec 1 := Scalar.cmpi .sgt c8_i32_69 c0_i32_72
  let v187 : BitVec 32 := Scalar.extui v186
  let c0_i32_73 : BitVec 32 := 0#32
  let v188 : BitVec 1 := Scalar.cmpi .slt c8_i32_69 c0_i32_73
  let v189 : BitVec 32 := Scalar.extui v188
  let v190 : BitVec 32 := Scalar.subi v187 v189
  let v191 : BitVec 1 := Scalar.cmpi .ne v185 v190
  let v192 : BitVec 32 := Scalar.remsi arg0 c8_i32_69
  let c0_i32_74 : BitVec 32 := 0#32
  let v193 : BitVec 1 := Scalar.cmpi .ne v192 c0_i32_74
  let v194 : BitVec 1 := Scalar.andi v191 v193
  let v180 : BitVec 32 := Scalar.divsi arg0 c8_i32_69
  let c1_i32_75 : BitVec 32 := 1#32
  let v195 : BitVec 32 := Scalar.subi v180 c1_i32_75
  let v196 : BitVec 32 := Scalar.select v194 v195 v180
  let v202 : Index := Scalar.indexCast v196
  let c3072_82 : Index := 3072#32
  ![v202.toNat, 3072]
def k0_mult1 (i : grid0.Coords) : BitVec 32 :=
  let arg0 : BitVec 32 := BitVec.ofNat 32 (i 0).val
  let c8_i32_89 : BitVec 32 := 8#32
  let v229 : BitVec 32 := Scalar.remsi arg0 c8_i32_89
  let c512_i32 : BitVec 32 := 512#32
  let v230 : BitVec 32 := Scalar.muli v229 c512_i32
  v230
def k0_off5 (i : grid0.Coords) : Fin 2 → Nat :=
  let arg0 : BitVec 32 := BitVec.ofNat 32 (i 0).val
  let c0_i32_91 : BitVec 32 := 0#32
  let v232 : BitVec 1 := Scalar.cmpi .sgt arg0 c0_i32_91
  let v233 : BitVec 32 := Scalar.extui v232
  let c0_i32_92 : BitVec 32 := 0#32
  let v234 : BitVec 1 := Scalar.cmpi .slt arg0 c0_i32_92
  let v235 : BitVec 32 := Scalar.extui v234
  let v236 : BitVec 32 := Scalar.subi v233 v235
  let c8_i32_90 : BitVec 32 := 8#32
  let c0_i32_93 : BitVec 32 := 0#32
  let v237 : BitVec 1 := Scalar.cmpi .sgt c8_i32_90 c0_i32_93
  let v238 : BitVec 32 := Scalar.extui v237
  let c0_i32_94 : BitVec 32 := 0#32
  let v239 : BitVec 1 := Scalar.cmpi .slt c8_i32_90 c0_i32_94
  let v240 : BitVec 32 := Scalar.extui v239
  let v241 : BitVec 32 := Scalar.subi v238 v240
  let v242 : BitVec 1 := Scalar.cmpi .ne v236 v241
  let v243 : BitVec 32 := Scalar.remsi arg0 c8_i32_90
  let c0_i32_95 : BitVec 32 := 0#32
  let v244 : BitVec 1 := Scalar.cmpi .ne v243 c0_i32_95
  let v245 : BitVec 1 := Scalar.andi v242 v244
  let v231 : BitVec 32 := Scalar.divsi arg0 c8_i32_90
  let c1_i32_96 : BitVec 32 := 1#32
  let v246 : BitVec 32 := Scalar.subi v231 c1_i32_96
  let v247 : BitVec 32 := Scalar.select v245 v246 v231
  let v249 : Index := Scalar.indexCast v247
  let c8_i32_89 : BitVec 32 := 8#32
  let v229 : BitVec 32 := Scalar.remsi arg0 c8_i32_89
  let c512_i32 : BitVec 32 := 512#32
  let v230 : BitVec 32 := Scalar.muli v229 c512_i32
  let v248 : BitVec 32 := v230
  let v250 : Index := Scalar.indexCast v248
  ![v249.toNat, v250.toNat]
def k0_cond2 (i : grid0.Coords) : BitVec 1 :=
  let arg0 : BitVec 32 := BitVec.ofNat 32 (i 0).val
  let c1_i32 : BitVec 32 := 1#32
  let v5 : BitVec 1 := Scalar.cmpi .sge arg0 c1_i32
  let c1_i32_2 : BitVec 32 := 1#32
  let v6 : BitVec 1 := Scalar.cmpi .sle arg0 c1_i32_2
  let v7 : BitVec 1 := Scalar.andi v5 v6
  let v8 : BitVec 32 := Scalar.extui v7
  let c0_i32_3 : BitVec 32 := 0#32
  let v9 : BitVec 1 := Scalar.cmpi .ne v8 c0_i32_3
  v9

def k0_off6 (i : grid0.Coords) : Fin 2 → Nat :=
  let arg0 : BitVec 32 := BitVec.ofNat 32 (i 0).val
  let c0_i32_43 : BitVec 32 := 0#32
  let v104 : BitVec 1 := Scalar.cmpi .sgt arg0 c0_i32_43
  let v105 : BitVec 32 := Scalar.extui v104
  let c0_i32_44 : BitVec 32 := 0#32
  let v106 : BitVec 1 := Scalar.cmpi .slt arg0 c0_i32_44
  let v107 : BitVec 32 := Scalar.extui v106
  let v108 : BitVec 32 := Scalar.subi v105 v107
  let c8_i32 : BitVec 32 := 8#32
  let c0_i32_45 : BitVec 32 := 0#32
  let v109 : BitVec 1 := Scalar.cmpi .sgt c8_i32 c0_i32_45
  let v110 : BitVec 32 := Scalar.extui v109
  let c0_i32_46 : BitVec 32 := 0#32
  let v111 : BitVec 1 := Scalar.cmpi .slt c8_i32 c0_i32_46
  let v112 : BitVec 32 := Scalar.extui v111
  let v113 : BitVec 32 := Scalar.subi v110 v112
  let v114 : BitVec 1 := Scalar.cmpi .ne v108 v113
  let v115 : BitVec 32 := Scalar.remsi arg0 c8_i32
  let c0_i32_47 : BitVec 32 := 0#32
  let v116 : BitVec 1 := Scalar.cmpi .ne v115 c0_i32_47
  let v117 : BitVec 1 := Scalar.andi v114 v116
  let v103 : BitVec 32 := Scalar.divsi arg0 c8_i32
  let c1_i32_48 : BitVec 32 := 1#32
  let v118 : BitVec 32 := Scalar.subi v103 c1_i32_48
  let v119 : BitVec 32 := Scalar.select v117 v118 v103
  let v125 : Index := Scalar.indexCast v119
  let c0_55 : Index := 0#32
  ![v125.toNat, 0]
def k0_off7 (i : grid0.Coords) : Fin 2 → Nat :=
  let arg0 : BitVec 32 := BitVec.ofNat 32 (i 0).val
  let c0_i32_93 : BitVec 32 := 0#32
  let v221 : BitVec 1 := Scalar.cmpi .sgt arg0 c0_i32_93
  let v222 : BitVec 32 := Scalar.extui v221
  let c0_i32_94 : BitVec 32 := 0#32
  let v223 : BitVec 1 := Scalar.cmpi .slt arg0 c0_i32_94
  let v224 : BitVec 32 := Scalar.extui v223
  let v225 : BitVec 32 := Scalar.subi v222 v224
  let c8_i32_92 : BitVec 32 := 8#32
  let c0_i32_95 : BitVec 32 := 0#32
  let v226 : BitVec 1 := Scalar.cmpi .sgt c8_i32_92 c0_i32_95
  let v227 : BitVec 32 := Scalar.extui v226
  let c0_i32_96 : BitVec 32 := 0#32
  let v228 : BitVec 1 := Scalar.cmpi .slt c8_i32_92 c0_i32_96
  let v229 : BitVec 32 := Scalar.extui v228
  let v230 : BitVec 32 := Scalar.subi v227 v229
  let v231 : BitVec 1 := Scalar.cmpi .ne v225 v230
  let v232 : BitVec 32 := Scalar.remsi arg0 c8_i32_92
  let c0_i32_97 : BitVec 32 := 0#32
  let v233 : BitVec 1 := Scalar.cmpi .ne v232 c0_i32_97
  let v234 : BitVec 1 := Scalar.andi v231 v233
  let v220 : BitVec 32 := Scalar.divsi arg0 c8_i32_92
  let c1_i32_98 : BitVec 32 := 1#32
  let v235 : BitVec 32 := Scalar.subi v220 c1_i32_98
  let v236 : BitVec 32 := Scalar.select v234 v235 v220
  let v242 : Index := Scalar.indexCast v236
  let c1024_106 : Index := 1024#32
  ![v242.toNat, 1024]
def k0_off8 (i : grid0.Coords) : Fin 2 → Nat :=
  let arg0 : BitVec 32 := BitVec.ofNat 32 (i 0).val
  let c0_i32_146 : BitVec 32 := 0#32
  let v340 : BitVec 1 := Scalar.cmpi .sgt arg0 c0_i32_146
  let v341 : BitVec 32 := Scalar.extui v340
  let c0_i32_147 : BitVec 32 := 0#32
  let v342 : BitVec 1 := Scalar.cmpi .slt arg0 c0_i32_147
  let v343 : BitVec 32 := Scalar.extui v342
  let v344 : BitVec 32 := Scalar.subi v341 v343
  let c8_i32_145 : BitVec 32 := 8#32
  let c0_i32_148 : BitVec 32 := 0#32
  let v345 : BitVec 1 := Scalar.cmpi .sgt c8_i32_145 c0_i32_148
  let v346 : BitVec 32 := Scalar.extui v345
  let c0_i32_149 : BitVec 32 := 0#32
  let v347 : BitVec 1 := Scalar.cmpi .slt c8_i32_145 c0_i32_149
  let v348 : BitVec 32 := Scalar.extui v347
  let v349 : BitVec 32 := Scalar.subi v346 v348
  let v350 : BitVec 1 := Scalar.cmpi .ne v344 v349
  let v351 : BitVec 32 := Scalar.remsi arg0 c8_i32_145
  let c0_i32_150 : BitVec 32 := 0#32
  let v352 : BitVec 1 := Scalar.cmpi .ne v351 c0_i32_150
  let v353 : BitVec 1 := Scalar.andi v350 v352
  let v339 : BitVec 32 := Scalar.divsi arg0 c8_i32_145
  let c1_i32_151 : BitVec 32 := 1#32
  let v354 : BitVec 32 := Scalar.subi v339 c1_i32_151
  let v355 : BitVec 32 := Scalar.select v353 v354 v339
  let v361 : Index := Scalar.indexCast v355
  let c2048_159 : Index := 2048#32
  ![v361.toNat, 2048]
def k0_off9 (i : grid0.Coords) : Fin 2 → Nat :=
  let arg0 : BitVec 32 := BitVec.ofNat 32 (i 0).val
  let c0_i32_199 : BitVec 32 := 0#32
  let v459 : BitVec 1 := Scalar.cmpi .sgt arg0 c0_i32_199
  let v460 : BitVec 32 := Scalar.extui v459
  let c0_i32_200 : BitVec 32 := 0#32
  let v461 : BitVec 1 := Scalar.cmpi .slt arg0 c0_i32_200
  let v462 : BitVec 32 := Scalar.extui v461
  let v463 : BitVec 32 := Scalar.subi v460 v462
  let c8_i32_198 : BitVec 32 := 8#32
  let c0_i32_201 : BitVec 32 := 0#32
  let v464 : BitVec 1 := Scalar.cmpi .sgt c8_i32_198 c0_i32_201
  let v465 : BitVec 32 := Scalar.extui v464
  let c0_i32_202 : BitVec 32 := 0#32
  let v466 : BitVec 1 := Scalar.cmpi .slt c8_i32_198 c0_i32_202
  let v467 : BitVec 32 := Scalar.extui v466
  let v468 : BitVec 32 := Scalar.subi v465 v467
  let v469 : BitVec 1 := Scalar.cmpi .ne v463 v468
  let v470 : BitVec 32 := Scalar.remsi arg0 c8_i32_198
  let c0_i32_203 : BitVec 32 := 0#32
  let v471 : BitVec 1 := Scalar.cmpi .ne v470 c0_i32_203
  let v472 : BitVec 1 := Scalar.andi v469 v471
  let v458 : BitVec 32 := Scalar.divsi arg0 c8_i32_198
  let c1_i32_204 : BitVec 32 := 1#32
  let v473 : BitVec 32 := Scalar.subi v458 c1_i32_204
  let v474 : BitVec 32 := Scalar.select v472 v473 v458
  let v480 : Index := Scalar.indexCast v474
  let c3072_212 : Index := 3072#32
  ![v480.toNat, 3072]
def k0_mult2 (i : grid0.Coords) : BitVec 32 :=
  let arg0 : BitVec 32 := BitVec.ofNat 32 (i 0).val
  let c8_i32_225 : BitVec 32 := 8#32
  let v517 : BitVec 32 := Scalar.remsi arg0 c8_i32_225
  let c512_i32 : BitVec 32 := 512#32
  let v518 : BitVec 32 := Scalar.muli v517 c512_i32
  v518
def k0_off10 (i : grid0.Coords) : Fin 2 → Nat :=
  let arg0 : BitVec 32 := BitVec.ofNat 32 (i 0).val
  let c0_i32_227 : BitVec 32 := 0#32
  let v520 : BitVec 1 := Scalar.cmpi .sgt arg0 c0_i32_227
  let v521 : BitVec 32 := Scalar.extui v520
  let c0_i32_228 : BitVec 32 := 0#32
  let v522 : BitVec 1 := Scalar.cmpi .slt arg0 c0_i32_228
  let v523 : BitVec 32 := Scalar.extui v522
  let v524 : BitVec 32 := Scalar.subi v521 v523
  let c8_i32_226 : BitVec 32 := 8#32
  let c0_i32_229 : BitVec 32 := 0#32
  let v525 : BitVec 1 := Scalar.cmpi .sgt c8_i32_226 c0_i32_229
  let v526 : BitVec 32 := Scalar.extui v525
  let c0_i32_230 : BitVec 32 := 0#32
  let v527 : BitVec 1 := Scalar.cmpi .slt c8_i32_226 c0_i32_230
  let v528 : BitVec 32 := Scalar.extui v527
  let v529 : BitVec 32 := Scalar.subi v526 v528
  let v530 : BitVec 1 := Scalar.cmpi .ne v524 v529
  let v531 : BitVec 32 := Scalar.remsi arg0 c8_i32_226
  let c0_i32_231 : BitVec 32 := 0#32
  let v532 : BitVec 1 := Scalar.cmpi .ne v531 c0_i32_231
  let v533 : BitVec 1 := Scalar.andi v530 v532
  let v519 : BitVec 32 := Scalar.divsi arg0 c8_i32_226
  let c1_i32_232 : BitVec 32 := 1#32
  let v534 : BitVec 32 := Scalar.subi v519 c1_i32_232
  let v535 : BitVec 32 := Scalar.select v533 v534 v519
  let v537 : Index := Scalar.indexCast v535
  let c8_i32_225 : BitVec 32 := 8#32
  let v517 : BitVec 32 := Scalar.remsi arg0 c8_i32_225
  let c512_i32 : BitVec 32 := 512#32
  let v518 : BitVec 32 := Scalar.muli v517 c512_i32
  let v536 : BitVec 32 := v518
  let v538 : Index := Scalar.indexCast v536
  ![v537.toNat, v538.toNat]
def k0_cond3 (i : grid0.Coords) : BitVec 1 :=
  let arg0 : BitVec 32 := BitVec.ofNat 32 (i 0).val
  let c2_i32 : BitVec 32 := 2#32
  let v10 : BitVec 1 := Scalar.cmpi .sge arg0 c2_i32
  let c2_i32_4 : BitVec 32 := 2#32
  let v11 : BitVec 1 := Scalar.cmpi .sle arg0 c2_i32_4
  let v12 : BitVec 1 := Scalar.andi v10 v11
  let v13 : BitVec 32 := Scalar.extui v12
  let c0_i32_5 : BitVec 32 := 0#32
  let v14 : BitVec 1 := Scalar.cmpi .ne v13 c0_i32_5
  v14

def k0_off11 (i : grid0.Coords) : Fin 2 → Nat :=
  let arg0 : BitVec 32 := BitVec.ofNat 32 (i 0).val
  let c0_i32_66 : BitVec 32 := 0#32
  let v136 : BitVec 1 := Scalar.cmpi .sgt arg0 c0_i32_66
  let v137 : BitVec 32 := Scalar.extui v136
  let c0_i32_67 : BitVec 32 := 0#32
  let v138 : BitVec 1 := Scalar.cmpi .slt arg0 c0_i32_67
  let v139 : BitVec 32 := Scalar.extui v138
  let v140 : BitVec 32 := Scalar.subi v137 v139
  let c8_i32 : BitVec 32 := 8#32
  let c0_i32_68 : BitVec 32 := 0#32
  let v141 : BitVec 1 := Scalar.cmpi .sgt c8_i32 c0_i32_68
  let v142 : BitVec 32 := Scalar.extui v141
  let c0_i32_69 : BitVec 32 := 0#32
  let v143 : BitVec 1 := Scalar.cmpi .slt c8_i32 c0_i32_69
  let v144 : BitVec 32 := Scalar.extui v143
  let v145 : BitVec 32 := Scalar.subi v142 v144
  let v146 : BitVec 1 := Scalar.cmpi .ne v140 v145
  let v147 : BitVec 32 := Scalar.remsi arg0 c8_i32
  let c0_i32_70 : BitVec 32 := 0#32
  let v148 : BitVec 1 := Scalar.cmpi .ne v147 c0_i32_70
  let v149 : BitVec 1 := Scalar.andi v146 v148
  let v135 : BitVec 32 := Scalar.divsi arg0 c8_i32
  let c1_i32_71 : BitVec 32 := 1#32
  let v150 : BitVec 32 := Scalar.subi v135 c1_i32_71
  let v151 : BitVec 32 := Scalar.select v149 v150 v135
  let v157 : Index := Scalar.indexCast v151
  let c0_79 : Index := 0#32
  ![v157.toNat, 0]
def k0_off12 (i : grid0.Coords) : Fin 2 → Nat :=
  let arg0 : BitVec 32 := BitVec.ofNat 32 (i 0).val
  let c0_i32_143 : BitVec 32 := 0#32
  let v287 : BitVec 1 := Scalar.cmpi .sgt arg0 c0_i32_143
  let v288 : BitVec 32 := Scalar.extui v287
  let c0_i32_144 : BitVec 32 := 0#32
  let v289 : BitVec 1 := Scalar.cmpi .slt arg0 c0_i32_144
  let v290 : BitVec 32 := Scalar.extui v289
  let v291 : BitVec 32 := Scalar.subi v288 v290
  let c8_i32_142 : BitVec 32 := 8#32
  let c0_i32_145 : BitVec 32 := 0#32
  let v292 : BitVec 1 := Scalar.cmpi .sgt c8_i32_142 c0_i32_145
  let v293 : BitVec 32 := Scalar.extui v292
  let c0_i32_146 : BitVec 32 := 0#32
  let v294 : BitVec 1 := Scalar.cmpi .slt c8_i32_142 c0_i32_146
  let v295 : BitVec 32 := Scalar.extui v294
  let v296 : BitVec 32 := Scalar.subi v293 v295
  let v297 : BitVec 1 := Scalar.cmpi .ne v291 v296
  let v298 : BitVec 32 := Scalar.remsi arg0 c8_i32_142
  let c0_i32_147 : BitVec 32 := 0#32
  let v299 : BitVec 1 := Scalar.cmpi .ne v298 c0_i32_147
  let v300 : BitVec 1 := Scalar.andi v297 v299
  let v286 : BitVec 32 := Scalar.divsi arg0 c8_i32_142
  let c1_i32_148 : BitVec 32 := 1#32
  let v301 : BitVec 32 := Scalar.subi v286 c1_i32_148
  let v302 : BitVec 32 := Scalar.select v300 v301 v286
  let v308 : Index := Scalar.indexCast v302
  let c1024_156 : Index := 1024#32
  ![v308.toNat, 1024]
def k0_off13 (i : grid0.Coords) : Fin 2 → Nat :=
  let arg0 : BitVec 32 := BitVec.ofNat 32 (i 0).val
  let c0_i32_222 : BitVec 32 := 0#32
  let v440 : BitVec 1 := Scalar.cmpi .sgt arg0 c0_i32_222
  let v441 : BitVec 32 := Scalar.extui v440
  let c0_i32_223 : BitVec 32 := 0#32
  let v442 : BitVec 1 := Scalar.cmpi .slt arg0 c0_i32_223
  let v443 : BitVec 32 := Scalar.extui v442
  let v444 : BitVec 32 := Scalar.subi v441 v443
  let c8_i32_221 : BitVec 32 := 8#32
  let c0_i32_224 : BitVec 32 := 0#32
  let v445 : BitVec 1 := Scalar.cmpi .sgt c8_i32_221 c0_i32_224
  let v446 : BitVec 32 := Scalar.extui v445
  let c0_i32_225 : BitVec 32 := 0#32
  let v447 : BitVec 1 := Scalar.cmpi .slt c8_i32_221 c0_i32_225
  let v448 : BitVec 32 := Scalar.extui v447
  let v449 : BitVec 32 := Scalar.subi v446 v448
  let v450 : BitVec 1 := Scalar.cmpi .ne v444 v449
  let v451 : BitVec 32 := Scalar.remsi arg0 c8_i32_221
  let c0_i32_226 : BitVec 32 := 0#32
  let v452 : BitVec 1 := Scalar.cmpi .ne v451 c0_i32_226
  let v453 : BitVec 1 := Scalar.andi v450 v452
  let v439 : BitVec 32 := Scalar.divsi arg0 c8_i32_221
  let c1_i32_227 : BitVec 32 := 1#32
  let v454 : BitVec 32 := Scalar.subi v439 c1_i32_227
  let v455 : BitVec 32 := Scalar.select v453 v454 v439
  let v461 : Index := Scalar.indexCast v455
  let c2048_235 : Index := 2048#32
  ![v461.toNat, 2048]
def k0_off14 (i : grid0.Coords) : Fin 2 → Nat :=
  let arg0 : BitVec 32 := BitVec.ofNat 32 (i 0).val
  let c2_i32_258 : BitVec 32 := 2#32
  let v519 : BitVec 32 := Scalar.subi arg0 c2_i32_258
  let c0_i32_260 : BitVec 32 := 0#32
  let v521 : BitVec 1 := Scalar.cmpi .sgt v519 c0_i32_260
  let v522 : BitVec 32 := Scalar.extui v521
  let c0_i32_261 : BitVec 32 := 0#32
  let v523 : BitVec 1 := Scalar.cmpi .slt v519 c0_i32_261
  let v524 : BitVec 32 := Scalar.extui v523
  let v525 : BitVec 32 := Scalar.subi v522 v524
  let c8_i32_259 : BitVec 32 := 8#32
  let c0_i32_262 : BitVec 32 := 0#32
  let v526 : BitVec 1 := Scalar.cmpi .sgt c8_i32_259 c0_i32_262
  let v527 : BitVec 32 := Scalar.extui v526
  let c0_i32_263 : BitVec 32 := 0#32
  let v528 : BitVec 1 := Scalar.cmpi .slt c8_i32_259 c0_i32_263
  let v529 : BitVec 32 := Scalar.extui v528
  let v530 : BitVec 32 := Scalar.subi v527 v529
  let v531 : BitVec 1 := Scalar.cmpi .ne v525 v530
  let v532 : BitVec 32 := Scalar.remsi v519 c8_i32_259
  let c0_i32_264 : BitVec 32 := 0#32
  let v533 : BitVec 1 := Scalar.cmpi .ne v532 c0_i32_264
  let v534 : BitVec 1 := Scalar.andi v531 v533
  let v520 : BitVec 32 := Scalar.divsi v519 c8_i32_259
  let c1_i32_265 : BitVec 32 := 1#32
  let v535 : BitVec 32 := Scalar.subi v520 c1_i32_265
  let v536 : BitVec 32 := Scalar.select v534 v535 v520
  let v537 : Index := Scalar.indexCast v536
  let c0_266 : Index := 0#32
  ![v537.toNat, 0]
def k0_off15 (i : grid0.Coords) : Fin 2 → Nat :=
  let arg0 : BitVec 32 := BitVec.ofNat 32 (i 0).val
  let c0_i32_310 : BitVec 32 := 0#32
  let v615 : BitVec 1 := Scalar.cmpi .sgt arg0 c0_i32_310
  let v616 : BitVec 32 := Scalar.extui v615
  let c0_i32_311 : BitVec 32 := 0#32
  let v617 : BitVec 1 := Scalar.cmpi .slt arg0 c0_i32_311
  let v618 : BitVec 32 := Scalar.extui v617
  let v619 : BitVec 32 := Scalar.subi v616 v618
  let c8_i32_309 : BitVec 32 := 8#32
  let c0_i32_312 : BitVec 32 := 0#32
  let v620 : BitVec 1 := Scalar.cmpi .sgt c8_i32_309 c0_i32_312
  let v621 : BitVec 32 := Scalar.extui v620
  let c0_i32_313 : BitVec 32 := 0#32
  let v622 : BitVec 1 := Scalar.cmpi .slt c8_i32_309 c0_i32_313
  let v623 : BitVec 32 := Scalar.extui v622
  let v624 : BitVec 32 := Scalar.subi v621 v623
  let v625 : BitVec 1 := Scalar.cmpi .ne v619 v624
  let v626 : BitVec 32 := Scalar.remsi arg0 c8_i32_309
  let c0_i32_314 : BitVec 32 := 0#32
  let v627 : BitVec 1 := Scalar.cmpi .ne v626 c0_i32_314
  let v628 : BitVec 1 := Scalar.andi v625 v627
  let v614 : BitVec 32 := Scalar.divsi arg0 c8_i32_309
  let c1_i32_315 : BitVec 32 := 1#32
  let v629 : BitVec 32 := Scalar.subi v614 c1_i32_315
  let v630 : BitVec 32 := Scalar.select v628 v629 v614
  let v636 : Index := Scalar.indexCast v630
  let c3072_323 : Index := 3072#32
  ![v636.toNat, 3072]
def k0_mult3 (i : grid0.Coords) : BitVec 32 :=
  let arg0 : BitVec 32 := BitVec.ofNat 32 (i 0).val
  let c8_i32_336 : BitVec 32 := 8#32
  let v673 : BitVec 32 := Scalar.remsi arg0 c8_i32_336
  let c512_i32 : BitVec 32 := 512#32
  let v674 : BitVec 32 := Scalar.muli v673 c512_i32
  v674
def k0_off16 (i : grid0.Coords) : Fin 2 → Nat :=
  let arg0 : BitVec 32 := BitVec.ofNat 32 (i 0).val
  let c0_i32_338 : BitVec 32 := 0#32
  let v676 : BitVec 1 := Scalar.cmpi .sgt arg0 c0_i32_338
  let v677 : BitVec 32 := Scalar.extui v676
  let c0_i32_339 : BitVec 32 := 0#32
  let v678 : BitVec 1 := Scalar.cmpi .slt arg0 c0_i32_339
  let v679 : BitVec 32 := Scalar.extui v678
  let v680 : BitVec 32 := Scalar.subi v677 v679
  let c8_i32_337 : BitVec 32 := 8#32
  let c0_i32_340 : BitVec 32 := 0#32
  let v681 : BitVec 1 := Scalar.cmpi .sgt c8_i32_337 c0_i32_340
  let v682 : BitVec 32 := Scalar.extui v681
  let c0_i32_341 : BitVec 32 := 0#32
  let v683 : BitVec 1 := Scalar.cmpi .slt c8_i32_337 c0_i32_341
  let v684 : BitVec 32 := Scalar.extui v683
  let v685 : BitVec 32 := Scalar.subi v682 v684
  let v686 : BitVec 1 := Scalar.cmpi .ne v680 v685
  let v687 : BitVec 32 := Scalar.remsi arg0 c8_i32_337
  let c0_i32_342 : BitVec 32 := 0#32
  let v688 : BitVec 1 := Scalar.cmpi .ne v687 c0_i32_342
  let v689 : BitVec 1 := Scalar.andi v686 v688
  let v675 : BitVec 32 := Scalar.divsi arg0 c8_i32_337
  let c1_i32_343 : BitVec 32 := 1#32
  let v690 : BitVec 32 := Scalar.subi v675 c1_i32_343
  let v691 : BitVec 32 := Scalar.select v689 v690 v675
  let v693 : Index := Scalar.indexCast v691
  let c8_i32_336 : BitVec 32 := 8#32
  let v673 : BitVec 32 := Scalar.remsi arg0 c8_i32_336
  let c512_i32 : BitVec 32 := 512#32
  let v674 : BitVec 32 := Scalar.muli v673 c512_i32
  let v692 : BitVec 32 := v674
  let v694 : Index := Scalar.indexCast v692
  ![v693.toNat, v694.toNat]
def k0_cond4 (i : grid0.Coords) : BitVec 1 :=
  let arg0 : BitVec 32 := BitVec.ofNat 32 (i 0).val
  let c3_i32 : BitVec 32 := 3#32
  let v15 : BitVec 1 := Scalar.cmpi .sge arg0 c3_i32
  let c23_i32 : BitVec 32 := 23#32
  let v16 : BitVec 1 := Scalar.cmpi .sle arg0 c23_i32
  let v17 : BitVec 1 := Scalar.andi v15 v16
  let v18 : BitVec 32 := Scalar.extui v17
  let c0_i32_6 : BitVec 32 := 0#32
  let v19 : BitVec 1 := Scalar.cmpi .ne v18 c0_i32_6
  v19

def k0_mult4 (i : grid0.Coords) : BitVec 32 :=
  let arg0 : BitVec 32 := BitVec.ofNat 32 (i 0).val
  let c3_i32_13 : BitVec 32 := 3#32
  let v35 : BitVec 32 := Scalar.subi arg0 c3_i32_13
  let c8_i32 : BitVec 32 := 8#32
  let v36 : BitVec 32 := Scalar.remsi v35 c8_i32
  let c512_i32 : BitVec 32 := 512#32
  let v37 : BitVec 32 := Scalar.muli v36 c512_i32
  v37
def k0_off17 (i : grid0.Coords) : Fin 2 → Nat :=
  let arg0 : BitVec 32 := BitVec.ofNat 32 (i 0).val
  let c3_i32_13 : BitVec 32 := 3#32
  let v35 : BitVec 32 := Scalar.subi arg0 c3_i32_13
  let c0_i32_15 : BitVec 32 := 0#32
  let v39 : BitVec 1 := Scalar.cmpi .sgt v35 c0_i32_15
  let v40 : BitVec 32 := Scalar.extui v39
  let c0_i32_16 : BitVec 32 := 0#32
  let v41 : BitVec 1 := Scalar.cmpi .slt v35 c0_i32_16
  let v42 : BitVec 32 := Scalar.extui v41
  let v43 : BitVec 32 := Scalar.subi v40 v42
  let c8_i32_14 : BitVec 32 := 8#32
  let c0_i32_17 : BitVec 32 := 0#32
  let v44 : BitVec 1 := Scalar.cmpi .sgt c8_i32_14 c0_i32_17
  let v45 : BitVec 32 := Scalar.extui v44
  let c0_i32_18 : BitVec 32 := 0#32
  let v46 : BitVec 1 := Scalar.cmpi .slt c8_i32_14 c0_i32_18
  let v47 : BitVec 32 := Scalar.extui v46
  let v48 : BitVec 32 := Scalar.subi v45 v47
  let v49 : BitVec 1 := Scalar.cmpi .ne v43 v48
  let v50 : BitVec 32 := Scalar.remsi v35 c8_i32_14
  let c0_i32_19 : BitVec 32 := 0#32
  let v51 : BitVec 1 := Scalar.cmpi .ne v50 c0_i32_19
  let v52 : BitVec 1 := Scalar.andi v49 v51
  let v38 : BitVec 32 := Scalar.divsi v35 c8_i32_14
  let c1_i32_20 : BitVec 32 := 1#32
  let v53 : BitVec 32 := Scalar.subi v38 c1_i32_20
  let v54 : BitVec 32 := Scalar.select v52 v53 v38
  let v90 : Index := Scalar.indexCast v54
  let c8_i32 : BitVec 32 := 8#32
  let v36 : BitVec 32 := Scalar.remsi v35 c8_i32
  let c512_i32 : BitVec 32 := 512#32
  let v37 : BitVec 32 := Scalar.muli v36 c512_i32
  let v55 : BitVec 32 := v37
  let v91 : Index := Scalar.indexCast v55
  ![v90.toNat, v91.toNat]
def k0_off18 (i : grid0.Coords) : Fin 2 → Nat :=
  let arg0 : BitVec 32 := BitVec.ofNat 32 (i 0).val
  let c0_i32_105 : BitVec 32 := 0#32
  let v218 : BitVec 1 := Scalar.cmpi .sgt arg0 c0_i32_105
  let v219 : BitVec 32 := Scalar.extui v218
  let c0_i32_106 : BitVec 32 := 0#32
  let v220 : BitVec 1 := Scalar.cmpi .slt arg0 c0_i32_106
  let v221 : BitVec 32 := Scalar.extui v220
  let v222 : BitVec 32 := Scalar.subi v219 v221
  let c8_i32_104 : BitVec 32 := 8#32
  let c0_i32_107 : BitVec 32 := 0#32
  let v223 : BitVec 1 := Scalar.cmpi .sgt c8_i32_104 c0_i32_107
  let v224 : BitVec 32 := Scalar.extui v223
  let c0_i32_108 : BitVec 32 := 0#32
  let v225 : BitVec 1 := Scalar.cmpi .slt c8_i32_104 c0_i32_108
  let v226 : BitVec 32 := Scalar.extui v225
  let v227 : BitVec 32 := Scalar.subi v224 v226
  let v228 : BitVec 1 := Scalar.cmpi .ne v222 v227
  let v229 : BitVec 32 := Scalar.remsi arg0 c8_i32_104
  let c0_i32_109 : BitVec 32 := 0#32
  let v230 : BitVec 1 := Scalar.cmpi .ne v229 c0_i32_109
  let v231 : BitVec 1 := Scalar.andi v228 v230
  let v217 : BitVec 32 := Scalar.divsi arg0 c8_i32_104
  let c1_i32_110 : BitVec 32 := 1#32
  let v232 : BitVec 32 := Scalar.subi v217 c1_i32_110
  let v233 : BitVec 32 := Scalar.select v231 v232 v217
  let v239 : Index := Scalar.indexCast v233
  let c0_118 : Index := 0#32
  ![v239.toNat, 0]
def k0_off19 (i : grid0.Coords) : Fin 2 → Nat :=
  let arg0 : BitVec 32 := BitVec.ofNat 32 (i 0).val
  let c0_i32_182 : BitVec 32 := 0#32
  let v369 : BitVec 1 := Scalar.cmpi .sgt arg0 c0_i32_182
  let v370 : BitVec 32 := Scalar.extui v369
  let c0_i32_183 : BitVec 32 := 0#32
  let v371 : BitVec 1 := Scalar.cmpi .slt arg0 c0_i32_183
  let v372 : BitVec 32 := Scalar.extui v371
  let v373 : BitVec 32 := Scalar.subi v370 v372
  let c8_i32_181 : BitVec 32 := 8#32
  let c0_i32_184 : BitVec 32 := 0#32
  let v374 : BitVec 1 := Scalar.cmpi .sgt c8_i32_181 c0_i32_184
  let v375 : BitVec 32 := Scalar.extui v374
  let c0_i32_185 : BitVec 32 := 0#32
  let v376 : BitVec 1 := Scalar.cmpi .slt c8_i32_181 c0_i32_185
  let v377 : BitVec 32 := Scalar.extui v376
  let v378 : BitVec 32 := Scalar.subi v375 v377
  let v379 : BitVec 1 := Scalar.cmpi .ne v373 v378
  let v380 : BitVec 32 := Scalar.remsi arg0 c8_i32_181
  let c0_i32_186 : BitVec 32 := 0#32
  let v381 : BitVec 1 := Scalar.cmpi .ne v380 c0_i32_186
  let v382 : BitVec 1 := Scalar.andi v379 v381
  let v368 : BitVec 32 := Scalar.divsi arg0 c8_i32_181
  let c1_i32_187 : BitVec 32 := 1#32
  let v383 : BitVec 32 := Scalar.subi v368 c1_i32_187
  let v384 : BitVec 32 := Scalar.select v382 v383 v368
  let v390 : Index := Scalar.indexCast v384
  let c1024_195 : Index := 1024#32
  ![v390.toNat, 1024]
def k0_off20 (i : grid0.Coords) : Fin 2 → Nat :=
  let arg0 : BitVec 32 := BitVec.ofNat 32 (i 0).val
  let c0_i32_261 : BitVec 32 := 0#32
  let v522 : BitVec 1 := Scalar.cmpi .sgt arg0 c0_i32_261
  let v523 : BitVec 32 := Scalar.extui v522
  let c0_i32_262 : BitVec 32 := 0#32
  let v524 : BitVec 1 := Scalar.cmpi .slt arg0 c0_i32_262
  let v525 : BitVec 32 := Scalar.extui v524
  let v526 : BitVec 32 := Scalar.subi v523 v525
  let c8_i32_260 : BitVec 32 := 8#32
  let c0_i32_263 : BitVec 32 := 0#32
  let v527 : BitVec 1 := Scalar.cmpi .sgt c8_i32_260 c0_i32_263
  let v528 : BitVec 32 := Scalar.extui v527
  let c0_i32_264 : BitVec 32 := 0#32
  let v529 : BitVec 1 := Scalar.cmpi .slt c8_i32_260 c0_i32_264
  let v530 : BitVec 32 := Scalar.extui v529
  let v531 : BitVec 32 := Scalar.subi v528 v530
  let v532 : BitVec 1 := Scalar.cmpi .ne v526 v531
  let v533 : BitVec 32 := Scalar.remsi arg0 c8_i32_260
  let c0_i32_265 : BitVec 32 := 0#32
  let v534 : BitVec 1 := Scalar.cmpi .ne v533 c0_i32_265
  let v535 : BitVec 1 := Scalar.andi v532 v534
  let v521 : BitVec 32 := Scalar.divsi arg0 c8_i32_260
  let c1_i32_266 : BitVec 32 := 1#32
  let v536 : BitVec 32 := Scalar.subi v521 c1_i32_266
  let v537 : BitVec 32 := Scalar.select v535 v536 v521
  let v543 : Index := Scalar.indexCast v537
  let c2048_274 : Index := 2048#32
  ![v543.toNat, 2048]
def k0_off21 (i : grid0.Coords) : Fin 2 → Nat :=
  let arg0 : BitVec 32 := BitVec.ofNat 32 (i 0).val
  let c2_i32_297 : BitVec 32 := 2#32
  let v601 : BitVec 32 := Scalar.subi arg0 c2_i32_297
  let c0_i32_299 : BitVec 32 := 0#32
  let v603 : BitVec 1 := Scalar.cmpi .sgt v601 c0_i32_299
  let v604 : BitVec 32 := Scalar.extui v603
  let c0_i32_300 : BitVec 32 := 0#32
  let v605 : BitVec 1 := Scalar.cmpi .slt v601 c0_i32_300
  let v606 : BitVec 32 := Scalar.extui v605
  let v607 : BitVec 32 := Scalar.subi v604 v606
  let c8_i32_298 : BitVec 32 := 8#32
  let c0_i32_301 : BitVec 32 := 0#32
  let v608 : BitVec 1 := Scalar.cmpi .sgt c8_i32_298 c0_i32_301
  let v609 : BitVec 32 := Scalar.extui v608
  let c0_i32_302 : BitVec 32 := 0#32
  let v610 : BitVec 1 := Scalar.cmpi .slt c8_i32_298 c0_i32_302
  let v611 : BitVec 32 := Scalar.extui v610
  let v612 : BitVec 32 := Scalar.subi v609 v611
  let v613 : BitVec 1 := Scalar.cmpi .ne v607 v612
  let v614 : BitVec 32 := Scalar.remsi v601 c8_i32_298
  let c0_i32_303 : BitVec 32 := 0#32
  let v615 : BitVec 1 := Scalar.cmpi .ne v614 c0_i32_303
  let v616 : BitVec 1 := Scalar.andi v613 v615
  let v602 : BitVec 32 := Scalar.divsi v601 c8_i32_298
  let c1_i32_304 : BitVec 32 := 1#32
  let v617 : BitVec 32 := Scalar.subi v602 c1_i32_304
  let v618 : BitVec 32 := Scalar.select v616 v617 v602
  let v619 : Index := Scalar.indexCast v618
  let c0_305 : Index := 0#32
  ![v619.toNat, 0]
def k0_off22 (i : grid0.Coords) : Fin 2 → Nat :=
  let arg0 : BitVec 32 := BitVec.ofNat 32 (i 0).val
  let c0_i32_349 : BitVec 32 := 0#32
  let v697 : BitVec 1 := Scalar.cmpi .sgt arg0 c0_i32_349
  let v698 : BitVec 32 := Scalar.extui v697
  let c0_i32_350 : BitVec 32 := 0#32
  let v699 : BitVec 1 := Scalar.cmpi .slt arg0 c0_i32_350
  let v700 : BitVec 32 := Scalar.extui v699
  let v701 : BitVec 32 := Scalar.subi v698 v700
  let c8_i32_348 : BitVec 32 := 8#32
  let c0_i32_351 : BitVec 32 := 0#32
  let v702 : BitVec 1 := Scalar.cmpi .sgt c8_i32_348 c0_i32_351
  let v703 : BitVec 32 := Scalar.extui v702
  let c0_i32_352 : BitVec 32 := 0#32
  let v704 : BitVec 1 := Scalar.cmpi .slt c8_i32_348 c0_i32_352
  let v705 : BitVec 32 := Scalar.extui v704
  let v706 : BitVec 32 := Scalar.subi v703 v705
  let v707 : BitVec 1 := Scalar.cmpi .ne v701 v706
  let v708 : BitVec 32 := Scalar.remsi arg0 c8_i32_348
  let c0_i32_353 : BitVec 32 := 0#32
  let v709 : BitVec 1 := Scalar.cmpi .ne v708 c0_i32_353
  let v710 : BitVec 1 := Scalar.andi v707 v709
  let v696 : BitVec 32 := Scalar.divsi arg0 c8_i32_348
  let c1_i32_354 : BitVec 32 := 1#32
  let v711 : BitVec 32 := Scalar.subi v696 c1_i32_354
  let v712 : BitVec 32 := Scalar.select v710 v711 v696
  let v718 : Index := Scalar.indexCast v712
  let c3072_362 : Index := 3072#32
  ![v718.toNat, 3072]
def k0_mult5 (i : grid0.Coords) : BitVec 32 :=
  let arg0 : BitVec 32 := BitVec.ofNat 32 (i 0).val
  let c8_i32_375 : BitVec 32 := 8#32
  let v755 : BitVec 32 := Scalar.remsi arg0 c8_i32_375
  let c512_i32_376 : BitVec 32 := 512#32
  let v756 : BitVec 32 := Scalar.muli v755 c512_i32_376
  v756
def k0_off23 (i : grid0.Coords) : Fin 2 → Nat :=
  let arg0 : BitVec 32 := BitVec.ofNat 32 (i 0).val
  let c0_i32_378 : BitVec 32 := 0#32
  let v758 : BitVec 1 := Scalar.cmpi .sgt arg0 c0_i32_378
  let v759 : BitVec 32 := Scalar.extui v758
  let c0_i32_379 : BitVec 32 := 0#32
  let v760 : BitVec 1 := Scalar.cmpi .slt arg0 c0_i32_379
  let v761 : BitVec 32 := Scalar.extui v760
  let v762 : BitVec 32 := Scalar.subi v759 v761
  let c8_i32_377 : BitVec 32 := 8#32
  let c0_i32_380 : BitVec 32 := 0#32
  let v763 : BitVec 1 := Scalar.cmpi .sgt c8_i32_377 c0_i32_380
  let v764 : BitVec 32 := Scalar.extui v763
  let c0_i32_381 : BitVec 32 := 0#32
  let v765 : BitVec 1 := Scalar.cmpi .slt c8_i32_377 c0_i32_381
  let v766 : BitVec 32 := Scalar.extui v765
  let v767 : BitVec 32 := Scalar.subi v764 v766
  let v768 : BitVec 1 := Scalar.cmpi .ne v762 v767
  let v769 : BitVec 32 := Scalar.remsi arg0 c8_i32_377
  let c0_i32_382 : BitVec 32 := 0#32
  let v770 : BitVec 1 := Scalar.cmpi .ne v769 c0_i32_382
  let v771 : BitVec 1 := Scalar.andi v768 v770
  let v757 : BitVec 32 := Scalar.divsi arg0 c8_i32_377
  let c1_i32_383 : BitVec 32 := 1#32
  let v772 : BitVec 32 := Scalar.subi v757 c1_i32_383
  let v773 : BitVec 32 := Scalar.select v771 v772 v757
  let v775 : Index := Scalar.indexCast v773
  let c8_i32_375 : BitVec 32 := 8#32
  let v755 : BitVec 32 := Scalar.remsi arg0 c8_i32_375
  let c512_i32_376 : BitVec 32 := 512#32
  let v756 : BitVec 32 := Scalar.muli v755 c512_i32_376
  let v774 : BitVec 32 := v756
  let v776 : Index := Scalar.indexCast v774
  ![v775.toNat, v776.toNat]
def k0_cond5 (i : grid0.Coords) : BitVec 1 :=
  let arg0 : BitVec 32 := BitVec.ofNat 32 (i 0).val
  let c24_i32 : BitVec 32 := 24#32
  let v20 : BitVec 1 := Scalar.cmpi .sge arg0 c24_i32
  let c24_i32_7 : BitVec 32 := 24#32
  let v21 : BitVec 1 := Scalar.cmpi .sle arg0 c24_i32_7
  let v22 : BitVec 1 := Scalar.andi v20 v21
  let v23 : BitVec 32 := Scalar.extui v22
  let c0_i32_8 : BitVec 32 := 0#32
  let v24 : BitVec 1 := Scalar.cmpi .ne v23 c0_i32_8
  v24

def k0_mult6 (i : grid0.Coords) : BitVec 32 :=
  let arg0 : BitVec 32 := BitVec.ofNat 32 (i 0).val
  let c3_i32_13 : BitVec 32 := 3#32
  let v35 : BitVec 32 := Scalar.subi arg0 c3_i32_13
  let c8_i32 : BitVec 32 := 8#32
  let v36 : BitVec 32 := Scalar.remsi v35 c8_i32
  let c512_i32 : BitVec 32 := 512#32
  let v37 : BitVec 32 := Scalar.muli v36 c512_i32
  v37
def k0_off24 (i : grid0.Coords) : Fin 2 → Nat :=
  let arg0 : BitVec 32 := BitVec.ofNat 32 (i 0).val
  let c3_i32_13 : BitVec 32 := 3#32
  let v35 : BitVec 32 := Scalar.subi arg0 c3_i32_13
  let c0_i32_15 : BitVec 32 := 0#32
  let v39 : BitVec 1 := Scalar.cmpi .sgt v35 c0_i32_15
  let v40 : BitVec 32 := Scalar.extui v39
  let c0_i32_16 : BitVec 32 := 0#32
  let v41 : BitVec 1 := Scalar.cmpi .slt v35 c0_i32_16
  let v42 : BitVec 32 := Scalar.extui v41
  let v43 : BitVec 32 := Scalar.subi v40 v42
  let c8_i32_14 : BitVec 32 := 8#32
  let c0_i32_17 : BitVec 32 := 0#32
  let v44 : BitVec 1 := Scalar.cmpi .sgt c8_i32_14 c0_i32_17
  let v45 : BitVec 32 := Scalar.extui v44
  let c0_i32_18 : BitVec 32 := 0#32
  let v46 : BitVec 1 := Scalar.cmpi .slt c8_i32_14 c0_i32_18
  let v47 : BitVec 32 := Scalar.extui v46
  let v48 : BitVec 32 := Scalar.subi v45 v47
  let v49 : BitVec 1 := Scalar.cmpi .ne v43 v48
  let v50 : BitVec 32 := Scalar.remsi v35 c8_i32_14
  let c0_i32_19 : BitVec 32 := 0#32
  let v51 : BitVec 1 := Scalar.cmpi .ne v50 c0_i32_19
  let v52 : BitVec 1 := Scalar.andi v49 v51
  let v38 : BitVec 32 := Scalar.divsi v35 c8_i32_14
  let c1_i32_20 : BitVec 32 := 1#32
  let v53 : BitVec 32 := Scalar.subi v38 c1_i32_20
  let v54 : BitVec 32 := Scalar.select v52 v53 v38
  let v90 : Index := Scalar.indexCast v54
  let c8_i32 : BitVec 32 := 8#32
  let v36 : BitVec 32 := Scalar.remsi v35 c8_i32
  let c512_i32 : BitVec 32 := 512#32
  let v37 : BitVec 32 := Scalar.muli v36 c512_i32
  let v55 : BitVec 32 := v37
  let v91 : Index := Scalar.indexCast v55
  ![v90.toNat, v91.toNat]
def k0_off25 (i : grid0.Coords) : Fin 2 → Nat :=
  let arg0 : BitVec 32 := BitVec.ofNat 32 (i 0).val
  let c2_i32_236 : BitVec 32 := 2#32
  let v456 : BitVec 32 := Scalar.subi arg0 c2_i32_236
  let c0_i32_238 : BitVec 32 := 0#32
  let v458 : BitVec 1 := Scalar.cmpi .sgt v456 c0_i32_238
  let v459 : BitVec 32 := Scalar.extui v458
  let c0_i32_239 : BitVec 32 := 0#32
  let v460 : BitVec 1 := Scalar.cmpi .slt v456 c0_i32_239
  let v461 : BitVec 32 := Scalar.extui v460
  let v462 : BitVec 32 := Scalar.subi v459 v461
  let c8_i32_237 : BitVec 32 := 8#32
  let c0_i32_240 : BitVec 32 := 0#32
  let v463 : BitVec 1 := Scalar.cmpi .sgt c8_i32_237 c0_i32_240
  let v464 : BitVec 32 := Scalar.extui v463
  let c0_i32_241 : BitVec 32 := 0#32
  let v465 : BitVec 1 := Scalar.cmpi .slt c8_i32_237 c0_i32_241
  let v466 : BitVec 32 := Scalar.extui v465
  let v467 : BitVec 32 := Scalar.subi v464 v466
  let v468 : BitVec 1 := Scalar.cmpi .ne v462 v467
  let v469 : BitVec 32 := Scalar.remsi v456 c8_i32_237
  let c0_i32_242 : BitVec 32 := 0#32
  let v470 : BitVec 1 := Scalar.cmpi .ne v469 c0_i32_242
  let v471 : BitVec 1 := Scalar.andi v468 v470
  let v457 : BitVec 32 := Scalar.divsi v456 c8_i32_237
  let c1_i32_243 : BitVec 32 := 1#32
  let v472 : BitVec 32 := Scalar.subi v457 c1_i32_243
  let v473 : BitVec 32 := Scalar.select v471 v472 v457
  let v474 : Index := Scalar.indexCast v473
  let c0_244 : Index := 0#32
  ![v474.toNat, 0]
def k0_cond6 (i : grid0.Coords) : BitVec 1 :=
  let arg0 : BitVec 32 := BitVec.ofNat 32 (i 0).val
  let c25_i32 : BitVec 32 := 25#32
  let v25 : BitVec 1 := Scalar.cmpi .sge arg0 c25_i32
  let c25_i32_9 : BitVec 32 := 25#32
  let v26 : BitVec 1 := Scalar.cmpi .sle arg0 c25_i32_9
  let v27 : BitVec 1 := Scalar.andi v25 v26
  let v28 : BitVec 32 := Scalar.extui v27
  let c0_i32_10 : BitVec 32 := 0#32
  let v29 : BitVec 1 := Scalar.cmpi .ne v28 c0_i32_10
  v29

def k0_mult7 (i : grid0.Coords) : BitVec 32 :=
  let arg0 : BitVec 32 := BitVec.ofNat 32 (i 0).val
  let c3_i32_13 : BitVec 32 := 3#32
  let v35 : BitVec 32 := Scalar.subi arg0 c3_i32_13
  let c8_i32 : BitVec 32 := 8#32
  let v36 : BitVec 32 := Scalar.remsi v35 c8_i32
  let c512_i32 : BitVec 32 := 512#32
  let v37 : BitVec 32 := Scalar.muli v36 c512_i32
  v37
def k0_off26 (i : grid0.Coords) : Fin 2 → Nat :=
  let arg0 : BitVec 32 := BitVec.ofNat 32 (i 0).val
  let c3_i32_13 : BitVec 32 := 3#32
  let v35 : BitVec 32 := Scalar.subi arg0 c3_i32_13
  let c0_i32_15 : BitVec 32 := 0#32
  let v39 : BitVec 1 := Scalar.cmpi .sgt v35 c0_i32_15
  let v40 : BitVec 32 := Scalar.extui v39
  let c0_i32_16 : BitVec 32 := 0#32
  let v41 : BitVec 1 := Scalar.cmpi .slt v35 c0_i32_16
  let v42 : BitVec 32 := Scalar.extui v41
  let v43 : BitVec 32 := Scalar.subi v40 v42
  let c8_i32_14 : BitVec 32 := 8#32
  let c0_i32_17 : BitVec 32 := 0#32
  let v44 : BitVec 1 := Scalar.cmpi .sgt c8_i32_14 c0_i32_17
  let v45 : BitVec 32 := Scalar.extui v44
  let c0_i32_18 : BitVec 32 := 0#32
  let v46 : BitVec 1 := Scalar.cmpi .slt c8_i32_14 c0_i32_18
  let v47 : BitVec 32 := Scalar.extui v46
  let v48 : BitVec 32 := Scalar.subi v45 v47
  let v49 : BitVec 1 := Scalar.cmpi .ne v43 v48
  let v50 : BitVec 32 := Scalar.remsi v35 c8_i32_14
  let c0_i32_19 : BitVec 32 := 0#32
  let v51 : BitVec 1 := Scalar.cmpi .ne v50 c0_i32_19
  let v52 : BitVec 1 := Scalar.andi v49 v51
  let v38 : BitVec 32 := Scalar.divsi v35 c8_i32_14
  let c1_i32_20 : BitVec 32 := 1#32
  let v53 : BitVec 32 := Scalar.subi v38 c1_i32_20
  let v54 : BitVec 32 := Scalar.select v52 v53 v38
  let v90 : Index := Scalar.indexCast v54
  let c8_i32 : BitVec 32 := 8#32
  let v36 : BitVec 32 := Scalar.remsi v35 c8_i32
  let c512_i32 : BitVec 32 := 512#32
  let v37 : BitVec 32 := Scalar.muli v36 c512_i32
  let v55 : BitVec 32 := v37
  let v91 : Index := Scalar.indexCast v55
  ![v90.toNat, v91.toNat]
def k0_off27 (i : grid0.Coords) : Fin 2 → Nat :=
  let arg0 : BitVec 32 := BitVec.ofNat 32 (i 0).val
  let c2_i32_118 : BitVec 32 := 2#32
  let v248 : BitVec 32 := Scalar.subi arg0 c2_i32_118
  let c0_i32_120 : BitVec 32 := 0#32
  let v250 : BitVec 1 := Scalar.cmpi .sgt v248 c0_i32_120
  let v251 : BitVec 32 := Scalar.extui v250
  let c0_i32_121 : BitVec 32 := 0#32
  let v252 : BitVec 1 := Scalar.cmpi .slt v248 c0_i32_121
  let v253 : BitVec 32 := Scalar.extui v252
  let v254 : BitVec 32 := Scalar.subi v251 v253
  let c8_i32_119 : BitVec 32 := 8#32
  let c0_i32_122 : BitVec 32 := 0#32
  let v255 : BitVec 1 := Scalar.cmpi .sgt c8_i32_119 c0_i32_122
  let v256 : BitVec 32 := Scalar.extui v255
  let c0_i32_123 : BitVec 32 := 0#32
  let v257 : BitVec 1 := Scalar.cmpi .slt c8_i32_119 c0_i32_123
  let v258 : BitVec 32 := Scalar.extui v257
  let v259 : BitVec 32 := Scalar.subi v256 v258
  let v260 : BitVec 1 := Scalar.cmpi .ne v254 v259
  let v261 : BitVec 32 := Scalar.remsi v248 c8_i32_119
  let c0_i32_124 : BitVec 32 := 0#32
  let v262 : BitVec 1 := Scalar.cmpi .ne v261 c0_i32_124
  let v263 : BitVec 1 := Scalar.andi v260 v262
  let v249 : BitVec 32 := Scalar.divsi v248 c8_i32_119
  let c1_i32_125 : BitVec 32 := 1#32
  let v264 : BitVec 32 := Scalar.subi v249 c1_i32_125
  let v265 : BitVec 32 := Scalar.select v263 v264 v249
  let v266 : Index := Scalar.indexCast v265
  let c0_126 : Index := 0#32
  ![v266.toNat, 0]
def k0_cond7 (i : grid0.Coords) : BitVec 1 :=
  let arg0 : BitVec 32 := BitVec.ofNat 32 (i 0).val
  let c26_i32 : BitVec 32 := 26#32
  let v30 : BitVec 1 := Scalar.cmpi .sge arg0 c26_i32
  let c26_i32_11 : BitVec 32 := 26#32
  let v31 : BitVec 1 := Scalar.cmpi .sle arg0 c26_i32_11
  let v32 : BitVec 1 := Scalar.andi v30 v31
  let v33 : BitVec 32 := Scalar.extui v32
  let c0_i32_12 : BitVec 32 := 0#32
  let v34 : BitVec 1 := Scalar.cmpi .ne v33 c0_i32_12
  v34

def k0_mult8 (i : grid0.Coords) : BitVec 32 :=
  let arg0 : BitVec 32 := BitVec.ofNat 32 (i 0).val
  let c3_i32_13 : BitVec 32 := 3#32
  let v35 : BitVec 32 := Scalar.subi arg0 c3_i32_13
  let c8_i32 : BitVec 32 := 8#32
  let v36 : BitVec 32 := Scalar.remsi v35 c8_i32
  let c512_i32 : BitVec 32 := 512#32
  let v37 : BitVec 32 := Scalar.muli v36 c512_i32
  v37
def k0_off28 (i : grid0.Coords) : Fin 2 → Nat :=
  let arg0 : BitVec 32 := BitVec.ofNat 32 (i 0).val
  let c3_i32_13 : BitVec 32 := 3#32
  let v35 : BitVec 32 := Scalar.subi arg0 c3_i32_13
  let c0_i32_15 : BitVec 32 := 0#32
  let v39 : BitVec 1 := Scalar.cmpi .sgt v35 c0_i32_15
  let v40 : BitVec 32 := Scalar.extui v39
  let c0_i32_16 : BitVec 32 := 0#32
  let v41 : BitVec 1 := Scalar.cmpi .slt v35 c0_i32_16
  let v42 : BitVec 32 := Scalar.extui v41
  let v43 : BitVec 32 := Scalar.subi v40 v42
  let c8_i32_14 : BitVec 32 := 8#32
  let c0_i32_17 : BitVec 32 := 0#32
  let v44 : BitVec 1 := Scalar.cmpi .sgt c8_i32_14 c0_i32_17
  let v45 : BitVec 32 := Scalar.extui v44
  let c0_i32_18 : BitVec 32 := 0#32
  let v46 : BitVec 1 := Scalar.cmpi .slt c8_i32_14 c0_i32_18
  let v47 : BitVec 32 := Scalar.extui v46
  let v48 : BitVec 32 := Scalar.subi v45 v47
  let v49 : BitVec 1 := Scalar.cmpi .ne v43 v48
  let v50 : BitVec 32 := Scalar.remsi v35 c8_i32_14
  let c0_i32_19 : BitVec 32 := 0#32
  let v51 : BitVec 1 := Scalar.cmpi .ne v50 c0_i32_19
  let v52 : BitVec 1 := Scalar.andi v49 v51
  let v38 : BitVec 32 := Scalar.divsi v35 c8_i32_14
  let c1_i32_20 : BitVec 32 := 1#32
  let v53 : BitVec 32 := Scalar.subi v38 c1_i32_20
  let v54 : BitVec 32 := Scalar.select v52 v53 v38
  let v90 : Index := Scalar.indexCast v54
  let c8_i32 : BitVec 32 := 8#32
  let v36 : BitVec 32 := Scalar.remsi v35 c8_i32
  let c512_i32 : BitVec 32 := 512#32
  let v37 : BitVec 32 := Scalar.muli v36 c512_i32
  let v55 : BitVec 32 := v37
  let v91 : Index := Scalar.indexCast v55
  ![v90.toNat, v91.toNat]
def cc0_transform_0 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let c23_i32 : BitVec 32 := 23#32
  let v1 : BitVec 32 := Scalar.maxsi c0_i32 v0
  let v2 : BitVec 32 := Scalar.minsi c23_i32 v1
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c3_i32_5 : BitVec 32 := 3#32
  let v20 : BitVec 32 := Scalar.subi arg0 c3_i32_5
  let c0_i32_6 : BitVec 32 := 0#32
  let c23_i32_7 : BitVec 32 := 23#32
  let v21 : BitVec 32 := Scalar.maxsi c0_i32_6 v20
  let v22 : BitVec 32 := Scalar.minsi c23_i32_7 v21
  let c8_i32_8 : BitVec 32 := 8#32
  let c0_i32_9 : BitVec 32 := 0#32
  let v23 : BitVec 1 := Scalar.cmpi .eq c8_i32_8 c0_i32_9
  let c1_i32_10 : BitVec 32 := 1#32
  let v24 : BitVec 32 := Scalar.select v23 c1_i32_10 c8_i32_8
  let v25 : BitVec 32 := Scalar.remsi v22 v24
  let c0_i32_11 : BitVec 32 := 0#32
  let v26 : BitVec 1 := Scalar.cmpi .ne v25 c0_i32_11
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let v30 : BitVec 1 := Scalar.andi v29 v26
  let v31 : BitVec 32 := Scalar.addi v25 v24
  let v32 : BitVec 32 := Scalar.select v30 v31 v25
  let c0_i32_14 : BitVec 32 := 0#32
  let c0_i32_15 : BitVec 32 := 0#32
  ![v19.toNat, v32.toNat, c0_i32_14.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c23_i32 : BitVec 32 := 23#32
  let v1 : BitVec 32 := Scalar.maxsi c0_i32_0 v0
  let v2 : BitVec 32 := Scalar.minsi c23_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let v20 : BitVec 32 := Scalar.subi arg0 c0_i32_6
  let c0_i32_7 : BitVec 32 := 0#32
  let c23_i32_8 : BitVec 32 := 23#32
  let v21 : BitVec 32 := Scalar.maxsi c0_i32_7 v20
  let v22 : BitVec 32 := Scalar.minsi c23_i32_8 v21
  let c8_i32_9 : BitVec 32 := 8#32
  let c0_i32_10 : BitVec 32 := 0#32
  let v23 : BitVec 1 := Scalar.cmpi .eq c8_i32_9 c0_i32_10
  let c1_i32_11 : BitVec 32 := 1#32
  let v24 : BitVec 32 := Scalar.select v23 c1_i32_11 c8_i32_9
  let v25 : BitVec 32 := Scalar.remsi v22 v24
  let c0_i32_12 : BitVec 32 := 0#32
  let v26 : BitVec 1 := Scalar.cmpi .ne v25 c0_i32_12
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let v30 : BitVec 1 := Scalar.andi v29 v26
  let v31 : BitVec 32 := Scalar.addi v25 v24
  let v32 : BitVec 32 := Scalar.select v30 v31 v25
  let c0_i32_15 : BitVec 32 := 0#32
  let c0_i32_16 : BitVec 32 := 0#32
  ![v19.toNat, v32.toNat, c0_i32_15.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c23_i32 : BitVec 32 := 23#32
  let v1 : BitVec 32 := Scalar.maxsi c0_i32_0 v0
  let v2 : BitVec 32 := Scalar.minsi c23_i32 v1
  let c8_i32 : BitVec 32 := 8#32
  let v3 : BitVec 32 := Scalar.divsi v2 c8_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c8_i32 c0_i32_3
  let v10 : BitVec 32 := Scalar.extui v9
  let c0_i32_4 : BitVec 32 := 0#32
  let v11 : BitVec 1 := Scalar.cmpi .slt c8_i32 c0_i32_4
  let v12 : BitVec 32 := Scalar.extui v11
  let v13 : BitVec 32 := Scalar.subi v10 v12
  let v14 : BitVec 1 := Scalar.cmpi .ne v8 v13
  let v15 : BitVec 32 := Scalar.remsi v2 c8_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let c0_i32_7 : BitVec 32 := 0#32
  let c0_i32_8 : BitVec 32 := 0#32
  ![v19.toNat, c0_i32_6.toNat, c0_i32_7.toNat]

def cc0_transform_3 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c23_i32 : BitVec 32 := 23#32
  let v1 : BitVec 32 := Scalar.maxsi c0_i32 v0
  let v2 : BitVec 32 := Scalar.minsi c23_i32 v1
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let c23_i32 : BitVec 32 := 23#32
  let v1 : BitVec 32 := Scalar.maxsi c0_i32 v0
  let v2 : BitVec 32 := Scalar.minsi c23_i32 v1
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c3_i32_5 : BitVec 32 := 3#32
  let v20 : BitVec 32 := Scalar.subi arg0 c3_i32_5
  let c0_i32_6 : BitVec 32 := 0#32
  let c23_i32_7 : BitVec 32 := 23#32
  let v21 : BitVec 32 := Scalar.maxsi c0_i32_6 v20
  let v22 : BitVec 32 := Scalar.minsi c23_i32_7 v21
  let c8_i32_8 : BitVec 32 := 8#32
  let c0_i32_9 : BitVec 32 := 0#32
  let v23 : BitVec 1 := Scalar.cmpi .eq c8_i32_8 c0_i32_9
  let c1_i32_10 : BitVec 32 := 1#32
  let v24 : BitVec 32 := Scalar.select v23 c1_i32_10 c8_i32_8
  let v25 : BitVec 32 := Scalar.remsi v22 v24
  let c0_i32_11 : BitVec 32 := 0#32
  let v26 : BitVec 1 := Scalar.cmpi .ne v25 c0_i32_11
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let v30 : BitVec 1 := Scalar.andi v29 v26
  let v31 : BitVec 32 := Scalar.addi v25 v24
  let v32 : BitVec 32 := Scalar.select v30 v31 v25
  let c0_i32_14 : BitVec 32 := 0#32
  let c0_i32_15 : BitVec 32 := 0#32
  ![v19.toNat, v32.toNat, c0_i32_14.toNat]

def cc0_transform_11 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let c23_i32 : BitVec 32 := 23#32
  let v1 : BitVec 32 := Scalar.maxsi c0_i32 v0
  let v2 : BitVec 32 := Scalar.minsi c23_i32 v1
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c3_i32_5 : BitVec 32 := 3#32
  let v20 : BitVec 32 := Scalar.subi arg0 c3_i32_5
  let c0_i32_6 : BitVec 32 := 0#32
  let c23_i32_7 : BitVec 32 := 23#32
  let v21 : BitVec 32 := Scalar.maxsi c0_i32_6 v20
  let v22 : BitVec 32 := Scalar.minsi c23_i32_7 v21
  let c8_i32_8 : BitVec 32 := 8#32
  let c0_i32_9 : BitVec 32 := 0#32
  let v23 : BitVec 1 := Scalar.cmpi .eq c8_i32_8 c0_i32_9
  let c1_i32_10 : BitVec 32 := 1#32
  let v24 : BitVec 32 := Scalar.select v23 c1_i32_10 c8_i32_8
  let v25 : BitVec 32 := Scalar.remsi v22 v24
  let c0_i32_11 : BitVec 32 := 0#32
  let v26 : BitVec 1 := Scalar.cmpi .ne v25 c0_i32_11
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let v30 : BitVec 1 := Scalar.andi v29 v26
  let v31 : BitVec 32 := Scalar.addi v25 v24
  let v32 : BitVec 32 := Scalar.select v30 v31 v25
  let c0_i32_14 : BitVec 32 := 0#32
  let c0_i32_15 : BitVec 32 := 0#32
  ![v19.toNat, v32.toNat, c0_i32_14.toNat]

def cc0_transform_12 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let c23_i32 : BitVec 32 := 23#32
  let v1 : BitVec 32 := Scalar.maxsi c0_i32 v0
  let v2 : BitVec 32 := Scalar.minsi c23_i32 v1
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c3_i32_5 : BitVec 32 := 3#32
  let v20 : BitVec 32 := Scalar.subi arg0 c3_i32_5
  let c0_i32_6 : BitVec 32 := 0#32
  let c23_i32_7 : BitVec 32 := 23#32
  let v21 : BitVec 32 := Scalar.maxsi c0_i32_6 v20
  let v22 : BitVec 32 := Scalar.minsi c23_i32_7 v21
  let c8_i32_8 : BitVec 32 := 8#32
  let c0_i32_9 : BitVec 32 := 0#32
  let v23 : BitVec 1 := Scalar.cmpi .eq c8_i32_8 c0_i32_9
  let c1_i32_10 : BitVec 32 := 1#32
  let v24 : BitVec 32 := Scalar.select v23 c1_i32_10 c8_i32_8
  let v25 : BitVec 32 := Scalar.remsi v22 v24
  let c0_i32_11 : BitVec 32 := 0#32
  let v26 : BitVec 1 := Scalar.cmpi .ne v25 c0_i32_11
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let v30 : BitVec 1 := Scalar.andi v29 v26
  let v31 : BitVec 32 := Scalar.addi v25 v24
  let v32 : BitVec 32 := Scalar.select v30 v31 v25
  let c0_i32_14 : BitVec 32 := 0#32
  let c0_i32_15 : BitVec 32 := 0#32
  ![v19.toNat, v32.toNat, c0_i32_14.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S3x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "attn_log2e" => some (((Real.sqrt 512)⁻¹ * (Real.log 2)⁻¹ : ℝ) : EReal)
  | "log2e" => some (((Real.log 2)⁻¹ : ℝ) : EReal)
  | _ => none
-- ==== ReferenceIdeal.lean ====
abbrev S3x4096x512 : Shape := ⟨3, ![3, 4096, 512]⟩
abbrev S3x4096 : Shape := ⟨2, ![3, 4096]⟩
abbrev S3x512 : Shape := ⟨2, ![3, 512]⟩
abbrev S512x512 : Shape := ⟨2, ![512, 512]⟩
abbrev S512 : Shape := ⟨1, ![512]⟩
abbrev S1x512 : Shape := ⟨2, ![1, 512]⟩
abbrev S1x4096x512 : Shape := ⟨3, ![1, 4096, 512]⟩
abbrev S4096x512 : Shape := ⟨2, ![4096, 512]⟩
abbrev S4096x4096 : Shape := ⟨2, ![4096, 4096]⟩
abbrev S1x4096 : Shape := ⟨2, ![1, 4096]⟩
abbrev S4096 : Shape := ⟨1, ![4096]⟩
abbrev S4096x1 : Shape := ⟨2, ![4096, 1]⟩

abbrev nBuf : Space → Nat
  | .hbm => 16
  | .vmem => 14
  | .smem => 0
  | _ => 0

abbrev bufTy : (tb : Table) → Fin (tcTables nBuf tb) → BufTy
  | .hbm, ⟨0, _⟩ => ⟨S3x4096x512, .bf16⟩
  | .hbm, ⟨1, _⟩ => ⟨S3x4096x512, .fp8e4m3⟩
  | .hbm, ⟨2, _⟩ => ⟨S3x4096x512, .fp8e4m3⟩
  | .hbm, ⟨3, _⟩ => ⟨S3x4096x512, .fp8e4m3⟩
  | .hbm, ⟨4, _⟩ => ⟨S3x4096, .f32⟩
  | .hbm, ⟨5, _⟩ => ⟨S3x4096, .f32⟩
  | .hbm, ⟨6, _⟩ => ⟨S3x512, .f32⟩
  | .hbm, ⟨7, _⟩ => ⟨S512x512, .fp8e4m3⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S1x512, .f32⟩
  | .hbm, ⟨12, _⟩ => ⟨S3x4096x512, .bf16⟩
  | .hbm, ⟨13, _⟩ => ⟨S3x4096x512, .bf16⟩
  | .hbm, ⟨14, _⟩ => ⟨S3x4096x512, .fp8e4m3⟩
  | .hbm, ⟨15, _⟩ => ⟨S3x4096, .f32⟩
  | .local _ .vmem, ⟨0, _⟩ => ⟨S3x4096x512, .bf16⟩
  | .local _ .vmem, ⟨1, _⟩ => ⟨S3x4096x512, .fp8e4m3⟩
  | .local _ .vmem, ⟨2, _⟩ => ⟨S3x4096x512, .fp8e4m3⟩
  | .local _ .vmem, ⟨3, _⟩ => ⟨S3x4096x512, .fp8e4m3⟩
  | .local _ .vmem, ⟨4, _⟩ => ⟨S3x4096, .f32⟩
  | .local _ .vmem, ⟨5, _⟩ => ⟨S3x4096, .f32⟩
  | .local _ .vmem, ⟨6, _⟩ => ⟨S3x512, .f32⟩
  | .local _ .vmem, ⟨7, _⟩ => ⟨S512x512, .fp8e4m3⟩
  | .local _ .vmem, ⟨8, _⟩ => ⟨S1x512, .f32⟩
  | .local _ .vmem, ⟨9, _⟩ => ⟨S1x512, .f32⟩
  | .local _ .vmem, ⟨10, _⟩ => ⟨S3x4096x512, .bf16⟩
  | .local _ .vmem, ⟨11, _⟩ => ⟨S3x4096x512, .bf16⟩
  | .local _ .vmem, ⟨12, _⟩ => ⟨S3x4096x512, .fp8e4m3⟩
  | .local _ .vmem, ⟨13, _⟩ => ⟨S3x4096, .f32⟩
  | _, _ => ⟨S3x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F] [Named F]

def κ : String → Option EReal := fun
  | "attn_scale" => some (((Real.sqrt 512)⁻¹ : ℝ) : EReal)
  | "log2e" => some (((Real.log 2)⁻¹ : ℝ) : EReal)
  | _ => none

abbrev grid0 : Pipeline.Grid := .none

abbrev stage0_0 : Fin 1 → Memref sig .tc .vmem S3x4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4096x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x4096x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x4096x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x512 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x4096x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x4096x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x4096x512 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Kernel.RunBase.lean ====
/- What the seven runs of the body of `Kernel` share: the body's branch conditions in closed form over the points. -/
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch 0. -/
abbrev cond0_0 (i : grid0.Coords) : Prop := k0_cond1 i = 1#1
/-- It holds where said, decided over the grid. -/
theorem hcond0_0 : ∀ t : Fin cfg0.N, cond0_0 (grid0.coords t) ↔ t.val = 0 :=
  (by decide +kernel : ∀ t : Fin grid0.N, cond0_0 (grid0.coords t) ↔ t.val = 0)

/-- The condition of the body's branch 1. -/
abbrev cond0_1 (i : grid0.Coords) : Prop := k0_cond2 i = 1#1
/-- It holds where said, decided over the grid. -/
theorem hcond0_1 : ∀ t : Fin cfg0.N, cond0_1 (grid0.coords t) ↔ t.val = 1 :=
  (by decide +kernel : ∀ t : Fin grid0.N, cond0_1 (grid0.coords t) ↔ t.val = 1)

/-- The condition of the body's branch 2. -/
abbrev cond0_2 (i : grid0.Coords) : Prop := k0_cond3 i = 1#1
/-- It holds where said, decided over the grid. -/
theorem hcond0_2 : ∀ t : Fin cfg0.N, cond0_2 (grid0.coords t) ↔ t.val = 2 :=
  (by decide +kernel : ∀ t : Fin grid0.N, cond0_2 (grid0.coords t) ↔ t.val = 2)

/-- The condition of the body's branch 3. -/
abbrev cond0_3 (i : grid0.Coords) : Prop := k0_cond4 i = 1#1
/-- It holds where said, decided over the grid. -/
theorem hcond0_3 : ∀ t : Fin cfg0.N, cond0_3 (grid0.coords t) ↔ (3 ≤ t.val ∧ t.val ≤ 23) :=
  (by decide +kernel : ∀ t : Fin grid0.N, cond0_3 (grid0.coords t) ↔ (3 ≤ t.val ∧ t.val ≤ 23))

/-- The condition of the body's branch 4. -/
abbrev cond0_4 (i : grid0.Coords) : Prop := k0_cond5 i = 1#1
/-- It holds where said, decided over the grid. -/
theorem hcond0_4 : ∀ t : Fin cfg0.N, cond0_4 (grid0.coords t) ↔ t.val = 24 :=
  (by decide +kernel : ∀ t : Fin grid0.N, cond0_4 (grid0.coords t) ↔ t.val = 24)

/-- The condition of the body's branch 5. -/
abbrev cond0_5 (i : grid0.Coords) : Prop := k0_cond6 i = 1#1
/-- It holds where said, decided over the grid. -/
theorem hcond0_5 : ∀ t : Fin cfg0.N, cond0_5 (grid0.coords t) ↔ t.val = 25 :=
  (by decide +kernel : ∀ t : Fin grid0.N, cond0_5 (grid0.coords t) ↔ t.val = 25)

/-- The condition of the body's branch 6. -/
abbrev cond0_6 (i : grid0.Coords) : Prop := k0_cond7 i = 1#1
/-- It holds where said, decided over the grid. -/
theorem hcond0_6 : ∀ t : Fin cfg0.N, cond0_6 (grid0.coords t) ↔ t.val = 26 :=
  (by decide +kernel : ∀ t : Fin grid0.N, cond0_6 (grid0.coords t) ↔ t.val = 26)

/-- Named here, so that the modules of the runs, which all rewrite by it, do not each make it. -/
theorem part81_congr_named : True := by
  have := @k0_part81_skel.congr_simp
  trivial

end Cert.Kernel.Gen

end
-- ==== Proof.Kernel.RunA.lean ====
/- The run of the body of `Kernel` at the first point. -/
module

public import proofs.«01_k».proof.Proof.Kernel.RunBase

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body at the first point: on whole staging memrefs and scratch at the contents `x·`, it runs to the continuation
    holding what it does not store into as it was, and each buffer it stores into with its pieces `L·` (last first)
    written over its contents. The pieces are found by the run. -/
noncomputable def runA (c : Dev nD) (i : grid0.Coords) (arg1 : Memref sig .tc .vmem S1x512x512 .bf16) (harg1 : arg1.IsWhole) (arg2 : Memref sig .tc .vmem S1x512x512 .fp8e4m3) (harg2 : arg2.IsWhole) (arg3 : Memref sig .tc .vmem S1x4096x512 .fp8e4m3) (harg3 : arg3.IsWhole) (arg4 : Memref sig .tc .vmem S1x4096x512 .fp8e4m3) (harg4 : arg4.IsWhole) (arg5 : Memref sig .tc .vmem S3x4096 .f32) (harg5 : arg5.IsWhole) (arg6 : Memref sig .tc .vmem S3x4096 .f32) (harg6 : arg6.IsWhole) (arg7 : Memref sig .tc .vmem S3x512 .f32) (harg7 : arg7.IsWhole) (arg8 : Memref sig .tc .vmem S512x512 .fp8e4m3) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .fp8e4m3) (harg13 : arg13.IsWhole) (arg14 : Memref sig .tc .vmem S3x4096 .f32) (harg14 : arg14.IsWhole) (arg15 : Memref sig .tc .vmem S512x4096 .f32) (harg15 : arg15.IsWhole) (arg16 : Memref sig .tc .vmem S512x4096 .f32) (harg16 : arg16.IsWhole) (arg17 : Memref sig .tc .vmem S512x512 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole)
    (hc0 : cond0_0 i) (hc1 : ¬cond0_1 i) (hc2 : ¬cond0_2 i) (hc3 : ¬cond0_3 i) (hc4 : ¬cond0_4 i) (hc5 : ¬cond0_5 i) (hc6 : ¬cond0_6 i)
    (x1 : Vec F S1x512x512 .bf16) (x2 : Vec F S1x512x512 .fp8e4m3) (x3 : Vec F S1x4096x512 .fp8e4m3) (x4 : Vec F S1x4096x512 .fp8e4m3) (x5 : Vec F S3x4096 .f32) (x6 : Vec F S3x4096 .f32) (x7 : Vec F S3x512 .f32) (x8 : Vec F S512x512 .fp8e4m3) (x9 : Vec F S1x512 .f32) (x10 : Vec F S1x512 .f32) (x11 : Vec F S1x512x512 .bf16) (x12 : Vec F S1x512x512 .bf16) (x13 : Vec F S1x512x512 .fp8e4m3) (x14 : Vec F S3x4096 .f32) (x15 : Vec F S512x4096 .f32) (x16 : Vec F S512x4096 .f32) (x17 : Vec F S512x512 .f32) (x18 : Vec F S512x128 .f32) (x19 : Vec F S512x128 .f32) (x20 : Vec F S512x128 .f32) (x21 : Vec F S512x128 .f32) (x22 : Vec F S512x128 .f32) :
    Σ' (L15 : List (View.Piece (Elt F) S512x4096 .f32)), Σ' (L18 : List (View.Piece (Elt F) S512x128 .f32)), Σ' (L19 : List (View.Piece (Elt F) S512x128 .f32)), { L20 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (arg15.view.loc (c : Thread nD τ) ↦[arg15.view.set]{fullShare} arg15.view.writes (Elt F) (harg15.unread x15) L15) ∗ owns (c : Thread nD τ) arg16 fullShare x16 ∗ owns (c : Thread nD τ) arg17 fullShare x17 ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ owns (c : Thread nD τ) arg21 fullShare x21 ∗ owns (c : Thread nD τ) arg22 fullShare x22) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, fun E K => ?run⟩
  case run =>
    simp only [cc0_attn_eq_skeleton]; unfold cc0_attn_skel
    simp only [k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | sl_exact hc0 | sl_exact hc1 | sl_exact hc2 | sl_exact hc3 | sl_exact hc4 | sl_exact hc5 | sl_exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexact H15
    isplitl [H16]
    · iexists _; isplitr; · ipureintro; exact harg16.read_unread _
      iexact H16
    isplitl [H17]
    · iexists _; isplitr; · ipureintro; exact harg17.read_unread _
      iexact H17
    isplitl [H18]; · iexact H18
    isplitl [H19]; · iexact H19
    isplitl [H20]; · iexact H20
    isplitl [H21]
    · iexists _; isplitr; · ipureintro; exact harg21.read_unread _
      iexact H21
    iexists _; isplitr; · ipureintro; exact harg22.read_unread _
    iexact H22

end Cert.Kernel.Gen

end
-- ==== Proof.Kernel.RunB.lean ====
/- The run of the body of `Kernel` at point 1. -/
module

public import proofs.«01_k».proof.Proof.Kernel.RunBase

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body at point 1: on whole staging memrefs and scratch at the contents `x·`, it runs to the continuation
    holding what it does not store into as it was, and each buffer it stores into with its pieces `L·` (last first)
    written over its contents. The pieces are found by the run. -/
noncomputable def runB (c : Dev nD) (i : grid0.Coords) (arg1 : Memref sig .tc .vmem S1x512x512 .bf16) (harg1 : arg1.IsWhole) (arg2 : Memref sig .tc .vmem S1x512x512 .fp8e4m3) (harg2 : arg2.IsWhole) (arg3 : Memref sig .tc .vmem S1x4096x512 .fp8e4m3) (harg3 : arg3.IsWhole) (arg4 : Memref sig .tc .vmem S1x4096x512 .fp8e4m3) (harg4 : arg4.IsWhole) (arg5 : Memref sig .tc .vmem S3x4096 .f32) (harg5 : arg5.IsWhole) (arg6 : Memref sig .tc .vmem S3x4096 .f32) (harg6 : arg6.IsWhole) (arg7 : Memref sig .tc .vmem S3x512 .f32) (harg7 : arg7.IsWhole) (arg8 : Memref sig .tc .vmem S512x512 .fp8e4m3) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .fp8e4m3) (harg13 : arg13.IsWhole) (arg14 : Memref sig .tc .vmem S3x4096 .f32) (harg14 : arg14.IsWhole) (arg15 : Memref sig .tc .vmem S512x4096 .f32) (harg15 : arg15.IsWhole) (arg16 : Memref sig .tc .vmem S512x4096 .f32) (harg16 : arg16.IsWhole) (arg17 : Memref sig .tc .vmem S512x512 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole)
    (hc0 : ¬cond0_0 i) (hc1 : cond0_1 i) (hc2 : ¬cond0_2 i) (hc3 : ¬cond0_3 i) (hc4 : ¬cond0_4 i) (hc5 : ¬cond0_5 i) (hc6 : ¬cond0_6 i)
    (x1 : Vec F S1x512x512 .bf16) (x2 : Vec F S1x512x512 .fp8e4m3) (x3 : Vec F S1x4096x512 .fp8e4m3) (x4 : Vec F S1x4096x512 .fp8e4m3) (x5 : Vec F S3x4096 .f32) (x6 : Vec F S3x4096 .f32) (x7 : Vec F S3x512 .f32) (x8 : Vec F S512x512 .fp8e4m3) (x9 : Vec F S1x512 .f32) (x10 : Vec F S1x512 .f32) (x11 : Vec F S1x512x512 .bf16) (x12 : Vec F S1x512x512 .bf16) (x13 : Vec F S1x512x512 .fp8e4m3) (x14 : Vec F S3x4096 .f32) (x15 : Vec F S512x4096 .f32) (x16 : Vec F S512x4096 .f32) (x17 : Vec F S512x512 .f32) (x18 : Vec F S512x128 .f32) (x19 : Vec F S512x128 .f32) (x20 : Vec F S512x128 .f32) (x21 : Vec F S512x128 .f32) (x22 : Vec F S512x128 .f32) :
    Σ' (L15 : List (View.Piece (Elt F) S512x4096 .f32)), Σ' (L16 : List (View.Piece (Elt F) S512x4096 .f32)), Σ' (L18 : List (View.Piece (Elt F) S512x128 .f32)), Σ' (L19 : List (View.Piece (Elt F) S512x128 .f32)), Σ' (L20 : List (View.Piece (Elt F) S512x128 .f32)), Σ' (L21 : List (View.Piece (Elt F) S512x128 .f32)), { L22 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ owns (c : Thread nD τ) arg17 fullShare x17 ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22)) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, fun E K => ?run⟩
  case run =>
    simp only [cc0_attn_eq_skeleton]; unfold cc0_attn_skel
    simp only [k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | sl_exact hc0 | sl_exact hc1 | sl_exact hc2 | sl_exact hc3 | sl_exact hc4 | sl_exact hc5 | sl_exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexact H15
    isplitl [H16]; · iexact H16
    isplitl [H17]
    · iexists _; isplitr; · ipureintro; exact harg17.read_unread _
      iexact H17
    isplitl [H18]; · iexact H18
    isplitl [H19]; · iexact H19
    isplitl [H20]; · iexact H20
    isplitl [H21]; · iexact H21
    iexact H22

end Cert.Kernel.Gen

end
-- ==== Proof.Kernel.RunC.lean ====
/- The run of the body of `Kernel` at point 2. -/
module

public import proofs.«01_k».proof.Proof.Kernel.RunBase

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body at point 2: on whole staging memrefs and scratch at the contents `x·`, it runs to the continuation
    holding what it does not store into as it was, and each buffer it stores into with its pieces `L·` (last first)
    written over its contents. The pieces are found by the run. -/
noncomputable def runC (c : Dev nD) (i : grid0.Coords) (arg1 : Memref sig .tc .vmem S1x512x512 .bf16) (harg1 : arg1.IsWhole) (arg2 : Memref sig .tc .vmem S1x512x512 .fp8e4m3) (harg2 : arg2.IsWhole) (arg3 : Memref sig .tc .vmem S1x4096x512 .fp8e4m3) (harg3 : arg3.IsWhole) (arg4 : Memref sig .tc .vmem S1x4096x512 .fp8e4m3) (harg4 : arg4.IsWhole) (arg5 : Memref sig .tc .vmem S3x4096 .f32) (harg5 : arg5.IsWhole) (arg6 : Memref sig .tc .vmem S3x4096 .f32) (harg6 : arg6.IsWhole) (arg7 : Memref sig .tc .vmem S3x512 .f32) (harg7 : arg7.IsWhole) (arg8 : Memref sig .tc .vmem S512x512 .fp8e4m3) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .fp8e4m3) (harg13 : arg13.IsWhole) (arg14 : Memref sig .tc .vmem S3x4096 .f32) (harg14 : arg14.IsWhole) (arg15 : Memref sig .tc .vmem S512x4096 .f32) (harg15 : arg15.IsWhole) (arg16 : Memref sig .tc .vmem S512x4096 .f32) (harg16 : arg16.IsWhole) (arg17 : Memref sig .tc .vmem S512x512 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole)
    (hc0 : ¬cond0_0 i) (hc1 : ¬cond0_1 i) (hc2 : cond0_2 i) (hc3 : ¬cond0_3 i) (hc4 : ¬cond0_4 i) (hc5 : ¬cond0_5 i) (hc6 : ¬cond0_6 i)
    (x1 : Vec F S1x512x512 .bf16) (x2 : Vec F S1x512x512 .fp8e4m3) (x3 : Vec F S1x4096x512 .fp8e4m3) (x4 : Vec F S1x4096x512 .fp8e4m3) (x5 : Vec F S3x4096 .f32) (x6 : Vec F S3x4096 .f32) (x7 : Vec F S3x512 .f32) (x8 : Vec F S512x512 .fp8e4m3) (x9 : Vec F S1x512 .f32) (x10 : Vec F S1x512 .f32) (x11 : Vec F S1x512x512 .bf16) (x12 : Vec F S1x512x512 .bf16) (x13 : Vec F S1x512x512 .fp8e4m3) (x14 : Vec F S3x4096 .f32) (x15 : Vec F S512x4096 .f32) (x16 : Vec F S512x4096 .f32) (x17 : Vec F S512x512 .f32) (x18 : Vec F S512x128 .f32) (x19 : Vec F S512x128 .f32) (x20 : Vec F S512x128 .f32) (x21 : Vec F S512x128 .f32) (x22 : Vec F S512x128 .f32) :
    Σ' (L15 : List (View.Piece (Elt F) S512x4096 .f32)), Σ' (L16 : List (View.Piece (Elt F) S512x4096 .f32)), Σ' (L17 : List (View.Piece (Elt F) S512x512 .f32)), Σ' (L18 : List (View.Piece (Elt F) S512x128 .f32)), Σ' (L19 : List (View.Piece (Elt F) S512x128 .f32)), Σ' (L20 : List (View.Piece (Elt F) S512x128 .f32)), Σ' (L21 : List (View.Piece (Elt F) S512x128 .f32)), { L22 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22)) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun E K => ?run⟩
  case run =>
    simp only [cc0_attn_eq_skeleton]; unfold cc0_attn_skel
    simp only [k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | sl_exact hc0 | sl_exact hc1 | sl_exact hc2 | sl_exact hc3 | sl_exact hc4 | sl_exact hc5 | sl_exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.Kernel.Gen

end
-- ==== Proof.Kernel.RunD.lean ====
/- The run of the body of `Kernel` at points 3 to 23. -/
module

public import proofs.«01_k».proof.Proof.Kernel.RunBase

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body at points 3 to 23: on whole staging memrefs and scratch at the contents `x·`, it runs to the continuation
    holding what it does not store into as it was, and each buffer it stores into with its pieces `L·` (last first)
    written over its contents. The pieces are found by the run. -/
noncomputable def runD (c : Dev nD) (i : grid0.Coords) (arg1 : Memref sig .tc .vmem S1x512x512 .bf16) (harg1 : arg1.IsWhole) (arg2 : Memref sig .tc .vmem S1x512x512 .fp8e4m3) (harg2 : arg2.IsWhole) (arg3 : Memref sig .tc .vmem S1x4096x512 .fp8e4m3) (harg3 : arg3.IsWhole) (arg4 : Memref sig .tc .vmem S1x4096x512 .fp8e4m3) (harg4 : arg4.IsWhole) (arg5 : Memref sig .tc .vmem S3x4096 .f32) (harg5 : arg5.IsWhole) (arg6 : Memref sig .tc .vmem S3x4096 .f32) (harg6 : arg6.IsWhole) (arg7 : Memref sig .tc .vmem S3x512 .f32) (harg7 : arg7.IsWhole) (arg8 : Memref sig .tc .vmem S512x512 .fp8e4m3) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .fp8e4m3) (harg13 : arg13.IsWhole) (arg14 : Memref sig .tc .vmem S3x4096 .f32) (harg14 : arg14.IsWhole) (arg15 : Memref sig .tc .vmem S512x4096 .f32) (harg15 : arg15.IsWhole) (arg16 : Memref sig .tc .vmem S512x4096 .f32) (harg16 : arg16.IsWhole) (arg17 : Memref sig .tc .vmem S512x512 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole)
    (hc0 : ¬cond0_0 i) (hc1 : ¬cond0_1 i) (hc2 : ¬cond0_2 i) (hc3 : cond0_3 i) (hc4 : ¬cond0_4 i) (hc5 : ¬cond0_5 i) (hc6 : ¬cond0_6 i)
    (x1 : Vec F S1x512x512 .bf16) (x2 : Vec F S1x512x512 .fp8e4m3) (x3 : Vec F S1x4096x512 .fp8e4m3) (x4 : Vec F S1x4096x512 .fp8e4m3) (x5 : Vec F S3x4096 .f32) (x6 : Vec F S3x4096 .f32) (x7 : Vec F S3x512 .f32) (x8 : Vec F S512x512 .fp8e4m3) (x9 : Vec F S1x512 .f32) (x10 : Vec F S1x512 .f32) (x11 : Vec F S1x512x512 .bf16) (x12 : Vec F S1x512x512 .bf16) (x13 : Vec F S1x512x512 .fp8e4m3) (x14 : Vec F S3x4096 .f32) (x15 : Vec F S512x4096 .f32) (x16 : Vec F S512x4096 .f32) (x17 : Vec F S512x512 .f32) (x18 : Vec F S512x128 .f32) (x19 : Vec F S512x128 .f32) (x20 : Vec F S512x128 .f32) (x21 : Vec F S512x128 .f32) (x22 : Vec F S512x128 .f32) :
    Σ' (L11 : List (View.Piece (Elt F) S1x512x512 .bf16)), Σ' (L12 : List (View.Piece (Elt F) S1x512x512 .bf16)), Σ' (L13 : List (View.Piece (Elt F) S1x512x512 .fp8e4m3)), Σ' (L14 : List (View.Piece (Elt F) S3x4096 .f32)), Σ' (L15 : List (View.Piece (Elt F) S512x4096 .f32)), Σ' (L16 : List (View.Piece (Elt F) S512x4096 .f32)), Σ' (L17 : List (View.Piece (Elt F) S512x512 .f32)), Σ' (L18 : List (View.Piece (Elt F) S512x128 .f32)), Σ' (L19 : List (View.Piece (Elt F) S512x128 .f32)), Σ' (L20 : List (View.Piece (Elt F) S512x128 .f32)), Σ' (L21 : List (View.Piece (Elt F) S512x128 .f32)), { L22 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22)) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, fun E K => ?run⟩
  case run =>
    simp only [cc0_attn_eq_skeleton]; unfold cc0_attn_skel
    simp only [k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | sl_exact hc0 | sl_exact hc1 | sl_exact hc2 | sl_exact hc3 | sl_exact hc4 | sl_exact hc5 | sl_exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.Kernel.Gen

end
-- ==== Proof.Kernel.RunE.lean ====
/- The run of the body of `Kernel` at point 24. -/
module

public import proofs.«01_k».proof.Proof.Kernel.RunBase

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body at point 24: on whole staging memrefs and scratch at the contents `x·`, it runs to the continuation
    holding what it does not store into as it was, and each buffer it stores into with its pieces `L·` (last first)
    written over its contents. The pieces are found by the run. -/
noncomputable def runE (c : Dev nD) (i : grid0.Coords) (arg1 : Memref sig .tc .vmem S1x512x512 .bf16) (harg1 : arg1.IsWhole) (arg2 : Memref sig .tc .vmem S1x512x512 .fp8e4m3) (harg2 : arg2.IsWhole) (arg3 : Memref sig .tc .vmem S1x4096x512 .fp8e4m3) (harg3 : arg3.IsWhole) (arg4 : Memref sig .tc .vmem S1x4096x512 .fp8e4m3) (harg4 : arg4.IsWhole) (arg5 : Memref sig .tc .vmem S3x4096 .f32) (harg5 : arg5.IsWhole) (arg6 : Memref sig .tc .vmem S3x4096 .f32) (harg6 : arg6.IsWhole) (arg7 : Memref sig .tc .vmem S3x512 .f32) (harg7 : arg7.IsWhole) (arg8 : Memref sig .tc .vmem S512x512 .fp8e4m3) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .fp8e4m3) (harg13 : arg13.IsWhole) (arg14 : Memref sig .tc .vmem S3x4096 .f32) (harg14 : arg14.IsWhole) (arg15 : Memref sig .tc .vmem S512x4096 .f32) (harg15 : arg15.IsWhole) (arg16 : Memref sig .tc .vmem S512x4096 .f32) (harg16 : arg16.IsWhole) (arg17 : Memref sig .tc .vmem S512x512 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole)
    (hc0 : ¬cond0_0 i) (hc1 : ¬cond0_1 i) (hc2 : ¬cond0_2 i) (hc3 : ¬cond0_3 i) (hc4 : cond0_4 i) (hc5 : ¬cond0_5 i) (hc6 : ¬cond0_6 i)
    (x1 : Vec F S1x512x512 .bf16) (x2 : Vec F S1x512x512 .fp8e4m3) (x3 : Vec F S1x4096x512 .fp8e4m3) (x4 : Vec F S1x4096x512 .fp8e4m3) (x5 : Vec F S3x4096 .f32) (x6 : Vec F S3x4096 .f32) (x7 : Vec F S3x512 .f32) (x8 : Vec F S512x512 .fp8e4m3) (x9 : Vec F S1x512 .f32) (x10 : Vec F S1x512 .f32) (x11 : Vec F S1x512x512 .bf16) (x12 : Vec F S1x512x512 .bf16) (x13 : Vec F S1x512x512 .fp8e4m3) (x14 : Vec F S3x4096 .f32) (x15 : Vec F S512x4096 .f32) (x16 : Vec F S512x4096 .f32) (x17 : Vec F S512x512 .f32) (x18 : Vec F S512x128 .f32) (x19 : Vec F S512x128 .f32) (x20 : Vec F S512x128 .f32) (x21 : Vec F S512x128 .f32) (x22 : Vec F S512x128 .f32) :
    Σ' (L11 : List (View.Piece (Elt F) S1x512x512 .bf16)), Σ' (L12 : List (View.Piece (Elt F) S1x512x512 .bf16)), Σ' (L13 : List (View.Piece (Elt F) S1x512x512 .fp8e4m3)), Σ' (L14 : List (View.Piece (Elt F) S3x4096 .f32)), Σ' (L16 : List (View.Piece (Elt F) S512x4096 .f32)), Σ' (L17 : List (View.Piece (Elt F) S512x512 .f32)), Σ' (L21 : List (View.Piece (Elt F) S512x128 .f32)), { L22 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ owns (c : Thread nD τ) arg15 fullShare x15 ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ owns (c : Thread nD τ) arg18 fullShare x18 ∗ owns (c : Thread nD τ) arg19 fullShare x19 ∗ owns (c : Thread nD τ) arg20 fullShare x20 ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22)) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun E K => ?run⟩
  case run =>
    simp only [cc0_attn_eq_skeleton]; unfold cc0_attn_skel
    simp only [k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | sl_exact hc0 | sl_exact hc1 | sl_exact hc2 | sl_exact hc3 | sl_exact hc4 | sl_exact hc5 | sl_exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]; · iexact H12
    isplitl [H13]; · iexact H13
    isplitl [H14]; · iexact H14
    isplitl [H15]
    · iexists _; isplitr; · ipureintro; exact harg15.read_unread _
      iexact H15
    isplitl [H16]; · iexact H16
    isplitl [H17]; · iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]; · iexact H21
    iexact H22

end Cert.Kernel.Gen

end
-- ==== Proof.Kernel.RunF.lean ====
/- The run of the body of `Kernel` at point 25. -/
module

public import proofs.«01_k».proof.Proof.Kernel.RunBase

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body at point 25: on whole staging memrefs and scratch at the contents `x·`, it runs to the continuation
    holding what it does not store into as it was, and each buffer it stores into with its pieces `L·` (last first)
    written over its contents. The pieces are found by the run. -/
noncomputable def runF (c : Dev nD) (i : grid0.Coords) (arg1 : Memref sig .tc .vmem S1x512x512 .bf16) (harg1 : arg1.IsWhole) (arg2 : Memref sig .tc .vmem S1x512x512 .fp8e4m3) (harg2 : arg2.IsWhole) (arg3 : Memref sig .tc .vmem S1x4096x512 .fp8e4m3) (harg3 : arg3.IsWhole) (arg4 : Memref sig .tc .vmem S1x4096x512 .fp8e4m3) (harg4 : arg4.IsWhole) (arg5 : Memref sig .tc .vmem S3x4096 .f32) (harg5 : arg5.IsWhole) (arg6 : Memref sig .tc .vmem S3x4096 .f32) (harg6 : arg6.IsWhole) (arg7 : Memref sig .tc .vmem S3x512 .f32) (harg7 : arg7.IsWhole) (arg8 : Memref sig .tc .vmem S512x512 .fp8e4m3) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .fp8e4m3) (harg13 : arg13.IsWhole) (arg14 : Memref sig .tc .vmem S3x4096 .f32) (harg14 : arg14.IsWhole) (arg15 : Memref sig .tc .vmem S512x4096 .f32) (harg15 : arg15.IsWhole) (arg16 : Memref sig .tc .vmem S512x4096 .f32) (harg16 : arg16.IsWhole) (arg17 : Memref sig .tc .vmem S512x512 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole)
    (hc0 : ¬cond0_0 i) (hc1 : ¬cond0_1 i) (hc2 : ¬cond0_2 i) (hc3 : ¬cond0_3 i) (hc4 : ¬cond0_4 i) (hc5 : cond0_5 i) (hc6 : ¬cond0_6 i)
    (x1 : Vec F S1x512x512 .bf16) (x2 : Vec F S1x512x512 .fp8e4m3) (x3 : Vec F S1x4096x512 .fp8e4m3) (x4 : Vec F S1x4096x512 .fp8e4m3) (x5 : Vec F S3x4096 .f32) (x6 : Vec F S3x4096 .f32) (x7 : Vec F S3x512 .f32) (x8 : Vec F S512x512 .fp8e4m3) (x9 : Vec F S1x512 .f32) (x10 : Vec F S1x512 .f32) (x11 : Vec F S1x512x512 .bf16) (x12 : Vec F S1x512x512 .bf16) (x13 : Vec F S1x512x512 .fp8e4m3) (x14 : Vec F S3x4096 .f32) (x15 : Vec F S512x4096 .f32) (x16 : Vec F S512x4096 .f32) (x17 : Vec F S512x512 .f32) (x18 : Vec F S512x128 .f32) (x19 : Vec F S512x128 .f32) (x20 : Vec F S512x128 .f32) (x21 : Vec F S512x128 .f32) (x22 : Vec F S512x128 .f32) :
    Σ' (L11 : List (View.Piece (Elt F) S1x512x512 .bf16)), Σ' (L12 : List (View.Piece (Elt F) S1x512x512 .bf16)), Σ' (L13 : List (View.Piece (Elt F) S1x512x512 .fp8e4m3)), Σ' (L14 : List (View.Piece (Elt F) S3x4096 .f32)), { L17 : List (View.Piece (Elt F) S512x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ owns (c : Thread nD τ) arg15 fullShare x15 ∗ owns (c : Thread nD τ) arg16 fullShare x16 ∗ (arg17.view.loc (c : Thread nD τ) ↦[arg17.view.set]{fullShare} arg17.view.writes (Elt F) (harg17.unread x17) L17) ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, fun E K => ?run⟩
  case run =>
    simp only [cc0_attn_eq_skeleton]; unfold cc0_attn_skel
    simp only [k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | sl_exact hc0 | sl_exact hc1 | sl_exact hc2 | sl_exact hc3 | sl_exact hc4 | sl_exact hc5 | sl_exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]; · iexact H12
    isplitl [H13]; · iexact H13
    isplitl [H14]; · iexact H14
    isplitl [H15]
    · iexists _; isplitr; · ipureintro; exact harg15.read_unread _
      iexact H15
    isplitl [H16]
    · iexists _; isplitr; · ipureintro; exact harg16.read_unread _
      iexact H16
    isplitl [H17]; · iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    iexists _; isplitr; · ipureintro; exact harg22.read_unread _
    iexact H22

end Cert.Kernel.Gen

end
-- ==== Proof.Kernel.RunG.lean ====
/- The run of the body of `Kernel` at the last point. -/
module

public import proofs.«01_k».proof.Proof.Kernel.RunBase

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 4000000 in
/-- The body at the last point: on whole staging memrefs and scratch at the contents `x·`, it runs to the continuation
    holding what it does not store into as it was, and each buffer it stores into with its pieces `L·` (last first)
    written over its contents. The pieces are found by the run. -/
noncomputable def runG (c : Dev nD) (i : grid0.Coords) (arg1 : Memref sig .tc .vmem S1x512x512 .bf16) (harg1 : arg1.IsWhole) (arg2 : Memref sig .tc .vmem S1x512x512 .fp8e4m3) (harg2 : arg2.IsWhole) (arg3 : Memref sig .tc .vmem S1x4096x512 .fp8e4m3) (harg3 : arg3.IsWhole) (arg4 : Memref sig .tc .vmem S1x4096x512 .fp8e4m3) (harg4 : arg4.IsWhole) (arg5 : Memref sig .tc .vmem S3x4096 .f32) (harg5 : arg5.IsWhole) (arg6 : Memref sig .tc .vmem S3x4096 .f32) (harg6 : arg6.IsWhole) (arg7 : Memref sig .tc .vmem S3x512 .f32) (harg7 : arg7.IsWhole) (arg8 : Memref sig .tc .vmem S512x512 .fp8e4m3) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .fp8e4m3) (harg13 : arg13.IsWhole) (arg14 : Memref sig .tc .vmem S3x4096 .f32) (harg14 : arg14.IsWhole) (arg15 : Memref sig .tc .vmem S512x4096 .f32) (harg15 : arg15.IsWhole) (arg16 : Memref sig .tc .vmem S512x4096 .f32) (harg16 : arg16.IsWhole) (arg17 : Memref sig .tc .vmem S512x512 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole)
    (hc0 : ¬cond0_0 i) (hc1 : ¬cond0_1 i) (hc2 : ¬cond0_2 i) (hc3 : ¬cond0_3 i) (hc4 : ¬cond0_4 i) (hc5 : ¬cond0_5 i) (hc6 : cond0_6 i)
    (x1 : Vec F S1x512x512 .bf16) (x2 : Vec F S1x512x512 .fp8e4m3) (x3 : Vec F S1x4096x512 .fp8e4m3) (x4 : Vec F S1x4096x512 .fp8e4m3) (x5 : Vec F S3x4096 .f32) (x6 : Vec F S3x4096 .f32) (x7 : Vec F S3x512 .f32) (x8 : Vec F S512x512 .fp8e4m3) (x9 : Vec F S1x512 .f32) (x10 : Vec F S1x512 .f32) (x11 : Vec F S1x512x512 .bf16) (x12 : Vec F S1x512x512 .bf16) (x13 : Vec F S1x512x512 .fp8e4m3) (x14 : Vec F S3x4096 .f32) (x15 : Vec F S512x4096 .f32) (x16 : Vec F S512x4096 .f32) (x17 : Vec F S512x512 .f32) (x18 : Vec F S512x128 .f32) (x19 : Vec F S512x128 .f32) (x20 : Vec F S512x128 .f32) (x21 : Vec F S512x128 .f32) (x22 : Vec F S512x128 .f32) :
    Σ' (L11 : List (View.Piece (Elt F) S1x512x512 .bf16)), Σ' (L12 : List (View.Piece (Elt F) S1x512x512 .bf16)), Σ' (L13 : List (View.Piece (Elt F) S1x512x512 .fp8e4m3)), { L14 : List (View.Piece (Elt F) S3x4096 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, fun E K => ?run⟩
  case run =>
    simp only [cc0_attn_eq_skeleton]; unfold cc0_attn_skel
    simp only [k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | sl_exact hc0 | sl_exact hc1 | sl_exact hc2 | sl_exact hc3 | sl_exact hc4 | sl_exact hc5 | sl_exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]; · iexact H12
    isplitl [H13]; · iexact H13
    isplitl [H14]; · iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    iexists _; isplitr; · ipureintro; exact harg22.read_unread _
    iexact H22

end Cert.Kernel.Gen

end
-- ==== Proof.Kernel.Sound.lean ====
/- The body obligation of `Kernel` over relational proof data, from what each of the seven runs leaves, and the frame. -/
module

public import proofs.«01_k».proof.Proof.Kernel.RunA
public import proofs.«01_k».proof.Proof.Kernel.RunB
public import proofs.«01_k».proof.Proof.Kernel.RunC
public import proofs.«01_k».proof.Proof.Kernel.RunD
public import proofs.«01_k».proof.Proof.Kernel.RunE
public import proofs.«01_k».proof.Proof.Kernel.RunF
public import proofs.«01_k».proof.Proof.Kernel.RunG
public import Idealize.ShloMosaic.Lib.Pipeline.FrameBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging and scratch memrefs -/

abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x512 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S3x4096 .f32 := win0_13.stage (cfg0.slots t 13)
abbrev hs0_13 (t : Fin cfg0.N) : (ms0_13 t).IsWhole := hstage0_13 ((cfg0.slots t 13).cast nbuf0_13)
abbrev scM0_0 : Memref sig .tc .vmem S512x4096 .f32 := Memref.whole cc0_scratch0
abbrev scM0_1 : Memref sig .tc .vmem S512x4096 .f32 := Memref.whole cc0_scratch1
abbrev scM0_2 : Memref sig .tc .vmem S512x512 .f32 := Memref.whole cc0_scratch2
abbrev scM0_3 : Memref sig .tc .vmem S512x128 .f32 := Memref.whole cc0_scratch3
abbrev scM0_4 : Memref sig .tc .vmem S512x128 .f32 := Memref.whole cc0_scratch4
abbrev scM0_5 : Memref sig .tc .vmem S512x128 .f32 := Memref.whole cc0_scratch5
abbrev scM0_6 : Memref sig .tc .vmem S512x128 .f32 := Memref.whole cc0_scratch6
abbrev scM0_7 : Memref sig .tc .vmem S512x128 .f32 := Memref.whole cc0_scratch7

/-- The contents of the twenty-two buffers the body works on: ten inputs, four outputs, eight scratch buffers. -/
structure Bufs (F : FTy → Type) where
  x1 : Vec F S1x512x512 .bf16
  x2 : Vec F S1x512x512 .fp8e4m3
  x3 : Vec F S1x4096x512 .fp8e4m3
  x4 : Vec F S1x4096x512 .fp8e4m3
  x5 : Vec F S3x4096 .f32
  x6 : Vec F S3x4096 .f32
  x7 : Vec F S3x512 .f32
  x8 : Vec F S512x512 .fp8e4m3
  x9 : Vec F S1x512 .f32
  x10 : Vec F S1x512 .f32
  x11 : Vec F S1x512x512 .bf16
  x12 : Vec F S1x512x512 .bf16
  x13 : Vec F S1x512x512 .fp8e4m3
  x14 : Vec F S3x4096 .f32
  x15 : Vec F S512x4096 .f32
  x16 : Vec F S512x4096 .f32
  x17 : Vec F S512x512 .f32
  x18 : Vec F S512x128 .f32
  x19 : Vec F S512x128 .f32
  x20 : Vec F S512x128 .f32
  x21 : Vec F S512x128 .f32
  x22 : Vec F S512x128 .f32

/-- The outputs' buffers, held at their contents. -/
def heldOut (c : Dev nD) (t : Fin cfg0.N) (X : Bufs F) : sProp 𝕄 :=
  iprop(owns (c : Thread nD τ) (ms0_10 t) fullShare X.x11 ∗ owns (c : Thread nD τ) (ms0_11 t) fullShare X.x12 ∗ owns (c : Thread nD τ) (ms0_12 t) fullShare X.x13 ∗ owns (c : Thread nD τ) (ms0_13 t) fullShare X.x14)
/-- The scratch, held at its contents. -/
def heldScr (c : Dev nD) (X : Bufs F) : sProp 𝕄 :=
  iprop(owns (c : Thread nD τ) scM0_0 fullShare X.x15 ∗ owns (c : Thread nD τ) scM0_1 fullShare X.x16 ∗ owns (c : Thread nD τ) scM0_2 fullShare X.x17 ∗ owns (c : Thread nD τ) scM0_3 fullShare X.x18 ∗ owns (c : Thread nD τ) scM0_4 fullShare X.x19 ∗ owns (c : Thread nD τ) scM0_5 fullShare X.x20 ∗ owns (c : Thread nD τ) scM0_6 fullShare X.x21 ∗ owns (c : Thread nD τ) scM0_7 fullShare X.x22)
/-- The inputs' buffers, held at their contents. -/
def heldIn (c : Dev nD) (t : Fin cfg0.N) (X : Bufs F) : sProp 𝕄 :=
  iprop(owns (c : Thread nD τ) (ms0_0 t) fullShare X.x1 ∗ owns (c : Thread nD τ) (ms0_1 t) fullShare X.x2 ∗ owns (c : Thread nD τ) (ms0_2 t) fullShare X.x3 ∗ owns (c : Thread nD τ) (ms0_3 t) fullShare X.x4 ∗ owns (c : Thread nD τ) (ms0_4 t) fullShare X.x5 ∗ owns (c : Thread nD τ) (ms0_5 t) fullShare X.x6 ∗ owns (c : Thread nD τ) (ms0_6 t) fullShare X.x7 ∗ owns (c : Thread nD τ) (ms0_7 t) fullShare X.x8 ∗ owns (c : Thread nD τ) (ms0_8 t) fullShare X.x9 ∗ owns (c : Thread nD τ) (ms0_9 t) fullShare X.x10)

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- What a buffer reads back as after pieces are written over its contents. -/
def after {s : Shape} {e : EltTy} (M : Memref sig .tc .vmem s e) (hM : M.IsWhole) (x : Vec F s e) (L : List (View.Piece (Elt F) s e)) : Vec F s e :=
  M.view.read (Elt F) (M.view.writes (Elt F) (hM.unread x) L)

theorem owns_after (c : Dev nD) {s : Shape} {e : EltTy} (M : Memref sig .tc .vmem s e) (hM : M.IsWhole) (x : Vec F s e) (L : List (View.Piece (Elt F) s e)) :
    (iprop(M.view.loc (c : Thread nD τ) ↦[M.view.set]{fullShare} M.view.writes (Elt F) (hM.unread x) L) : sProp 𝕄) ⊢ owns (c : Thread nD τ) M fullShare (after M hM x L) := by
  unfold owns after
  iintro H
  iexists _; isplitr; swap; · iexact H
  ipureintro; rfl

/-! ## The runs on the pipeline's memrefs, and the contents they leave -/

/-- The run at the first point, on the pipeline's memrefs. -/
def atA (c : Dev nD) (t : Fin cfg0.N) (h : t.val = 0) (X : Bufs F) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
      ((hcond0_0 t).mpr h) (fun h' => by have := (hcond0_1 t).mp h'; omega) (fun h' => by have := (hcond0_2 t).mp h'; omega) (fun h' => by have := (hcond0_3 t).mp h'; omega) (fun h' => by have := (hcond0_4 t).mp h'; omega) (fun h' => by have := (hcond0_5 t).mp h'; omega) (fun h' => by have := (hcond0_6 t).mp h'; omega)
      X.x1 X.x2 X.x3 X.x4 X.x5 X.x6 X.x7 X.x8 X.x9 X.x10 X.x11 X.x12 X.x13 X.x14 X.x15 X.x16 X.x17 X.x18 X.x19 X.x20 X.x21 X.x22
/-- The contents it leaves. -/
def newA (c : Dev nD) (t : Fin cfg0.N) (h : t.val = 0) (X : Bufs F) : Bufs F :=
  { X with x15 := after scM0_0 (Memref.isWhole_whole _) X.x15 (atA c t h X).1,
           x18 := after scM0_3 (Memref.isWhole_whole _) X.x18 (atA c t h X).2.1,
           x19 := after scM0_4 (Memref.isWhole_whole _) X.x19 (atA c t h X).2.2.1,
           x20 := after scM0_5 (Memref.isWhole_whole _) X.x20 (atA c t h X).2.2.2.1 }
set_option maxHeartbeats 2000000 in
/-- The body there. -/
theorem stepA (c : Dev nD) (t : Fin cfg0.N) (h : t.val = 0) (X : Bufs F) (K : PUnit → sProp 𝕄) :
    iprop(heldIn c t X ∗ heldOut c t X ∗ heldScr c X ∗ (iprop(heldIn c t X ∗ heldOut c t (newA c t h X) ∗ heldScr c (newA c t h X)) -∗ K ⟨⟩))
      ⊢ wp frame (wpE (defs₀ (F := F)) Variants.none c none) Set.univ (bodyAt0 t) K := by
  unfold bodyAt0 heldIn heldOut heldScr
  dsimp only [newA]
  iintro ⟨⟨H1, H2, H3, H4, H5, H6, H7, H8, H9, H10⟩, ⟨H11, H12, H13, H14⟩, ⟨H15, H16, H17, H18, H19, H20, H21, H22⟩, Hk⟩
  iapply ((atA c t h X).2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H13, H14, H15, H16, H17, H18, H19, H20, H21, H22⟩
  iapply Hk
  isplitl [H1 H2 H3 H4 H5 H6 H7 H8 H9 H10]
  · isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [H11 H12 H13 H14]
  · isplitl [H11]
    · iexact H11
    isplitl [H12]
    · iexact H12
    isplitl [H13]
    · iexact H13
    · iexact H14
  isplitl [H15]
  · iapply (owns_after c scM0_0 (Memref.isWhole_whole _) X.x15 (atA c t h X).1); iexact H15
  isplitl [H16]
  · iexact H16
  isplitl [H17]
  · iexact H17
  isplitl [H18]
  · iapply (owns_after c scM0_3 (Memref.isWhole_whole _) X.x18 (atA c t h X).2.1); iexact H18
  isplitl [H19]
  · iapply (owns_after c scM0_4 (Memref.isWhole_whole _) X.x19 (atA c t h X).2.2.1); iexact H19
  isplitl [H20]
  · iapply (owns_after c scM0_5 (Memref.isWhole_whole _) X.x20 (atA c t h X).2.2.2.1); iexact H20
  isplitl [H21]
  · iexact H21
  · iexact H22

/-- The run at point 1, on the pipeline's memrefs. -/
def atB (c : Dev nD) (t : Fin cfg0.N) (h : t.val = 1) (X : Bufs F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
      (fun h' => by have := (hcond0_0 t).mp h'; omega) ((hcond0_1 t).mpr h) (fun h' => by have := (hcond0_2 t).mp h'; omega) (fun h' => by have := (hcond0_3 t).mp h'; omega) (fun h' => by have := (hcond0_4 t).mp h'; omega) (fun h' => by have := (hcond0_5 t).mp h'; omega) (fun h' => by have := (hcond0_6 t).mp h'; omega)
      X.x1 X.x2 X.x3 X.x4 X.x5 X.x6 X.x7 X.x8 X.x9 X.x10 X.x11 X.x12 X.x13 X.x14 X.x15 X.x16 X.x17 X.x18 X.x19 X.x20 X.x21 X.x22
/-- The contents it leaves. -/
def newB (c : Dev nD) (t : Fin cfg0.N) (h : t.val = 1) (X : Bufs F) : Bufs F :=
  { X with x15 := after scM0_0 (Memref.isWhole_whole _) X.x15 (atB c t h X).1,
           x16 := after scM0_1 (Memref.isWhole_whole _) X.x16 (atB c t h X).2.1,
           x18 := after scM0_3 (Memref.isWhole_whole _) X.x18 (atB c t h X).2.2.1,
           x19 := after scM0_4 (Memref.isWhole_whole _) X.x19 (atB c t h X).2.2.2.1,
           x20 := after scM0_5 (Memref.isWhole_whole _) X.x20 (atB c t h X).2.2.2.2.1,
           x21 := after scM0_6 (Memref.isWhole_whole _) X.x21 (atB c t h X).2.2.2.2.2.1,
           x22 := after scM0_7 (Memref.isWhole_whole _) X.x22 (atB c t h X).2.2.2.2.2.2.1 }
set_option maxHeartbeats 2000000 in
/-- The body there. -/
theorem stepB (c : Dev nD) (t : Fin cfg0.N) (h : t.val = 1) (X : Bufs F) (K : PUnit → sProp 𝕄) :
    iprop(heldIn c t X ∗ heldOut c t X ∗ heldScr c X ∗ (iprop(heldIn c t X ∗ heldOut c t (newB c t h X) ∗ heldScr c (newB c t h X)) -∗ K ⟨⟩))
      ⊢ wp frame (wpE (defs₀ (F := F)) Variants.none c none) Set.univ (bodyAt0 t) K := by
  unfold bodyAt0 heldIn heldOut heldScr
  dsimp only [newB]
  iintro ⟨⟨H1, H2, H3, H4, H5, H6, H7, H8, H9, H10⟩, ⟨H11, H12, H13, H14⟩, ⟨H15, H16, H17, H18, H19, H20, H21, H22⟩, Hk⟩
  iapply ((atB c t h X).2.2.2.2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H13, H14, H15, H16, H17, H18, H19, H20, H21, H22⟩
  iapply Hk
  isplitl [H1 H2 H3 H4 H5 H6 H7 H8 H9 H10]
  · isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [H11 H12 H13 H14]
  · isplitl [H11]
    · iexact H11
    isplitl [H12]
    · iexact H12
    isplitl [H13]
    · iexact H13
    · iexact H14
  isplitl [H15]
  · iapply (owns_after c scM0_0 (Memref.isWhole_whole _) X.x15 (atB c t h X).1); iexact H15
  isplitl [H16]
  · iapply (owns_after c scM0_1 (Memref.isWhole_whole _) X.x16 (atB c t h X).2.1); iexact H16
  isplitl [H17]
  · iexact H17
  isplitl [H18]
  · iapply (owns_after c scM0_3 (Memref.isWhole_whole _) X.x18 (atB c t h X).2.2.1); iexact H18
  isplitl [H19]
  · iapply (owns_after c scM0_4 (Memref.isWhole_whole _) X.x19 (atB c t h X).2.2.2.1); iexact H19
  isplitl [H20]
  · iapply (owns_after c scM0_5 (Memref.isWhole_whole _) X.x20 (atB c t h X).2.2.2.2.1); iexact H20
  isplitl [H21]
  · iapply (owns_after c scM0_6 (Memref.isWhole_whole _) X.x21 (atB c t h X).2.2.2.2.2.1); iexact H21
  · iapply (owns_after c scM0_7 (Memref.isWhole_whole _) X.x22 (atB c t h X).2.2.2.2.2.2.1); iexact H22

/-- The run at point 2, on the pipeline's memrefs. -/
def atC (c : Dev nD) (t : Fin cfg0.N) (h : t.val = 2) (X : Bufs F) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
      (fun h' => by have := (hcond0_0 t).mp h'; omega) (fun h' => by have := (hcond0_1 t).mp h'; omega) ((hcond0_2 t).mpr h) (fun h' => by have := (hcond0_3 t).mp h'; omega) (fun h' => by have := (hcond0_4 t).mp h'; omega) (fun h' => by have := (hcond0_5 t).mp h'; omega) (fun h' => by have := (hcond0_6 t).mp h'; omega)
      X.x1 X.x2 X.x3 X.x4 X.x5 X.x6 X.x7 X.x8 X.x9 X.x10 X.x11 X.x12 X.x13 X.x14 X.x15 X.x16 X.x17 X.x18 X.x19 X.x20 X.x21 X.x22
/-- The contents it leaves. -/
def newC (c : Dev nD) (t : Fin cfg0.N) (h : t.val = 2) (X : Bufs F) : Bufs F :=
  { X with x15 := after scM0_0 (Memref.isWhole_whole _) X.x15 (atC c t h X).1,
           x16 := after scM0_1 (Memref.isWhole_whole _) X.x16 (atC c t h X).2.1,
           x17 := after scM0_2 (Memref.isWhole_whole _) X.x17 (atC c t h X).2.2.1,
           x18 := after scM0_3 (Memref.isWhole_whole _) X.x18 (atC c t h X).2.2.2.1,
           x19 := after scM0_4 (Memref.isWhole_whole _) X.x19 (atC c t h X).2.2.2.2.1,
           x20 := after scM0_5 (Memref.isWhole_whole _) X.x20 (atC c t h X).2.2.2.2.2.1,
           x21 := after scM0_6 (Memref.isWhole_whole _) X.x21 (atC c t h X).2.2.2.2.2.2.1,
           x22 := after scM0_7 (Memref.isWhole_whole _) X.x22 (atC c t h X).2.2.2.2.2.2.2.1 }
set_option maxHeartbeats 2000000 in
/-- The body there. -/
theorem stepC (c : Dev nD) (t : Fin cfg0.N) (h : t.val = 2) (X : Bufs F) (K : PUnit → sProp 𝕄) :
    iprop(heldIn c t X ∗ heldOut c t X ∗ heldScr c X ∗ (iprop(heldIn c t X ∗ heldOut c t (newC c t h X) ∗ heldScr c (newC c t h X)) -∗ K ⟨⟩))
      ⊢ wp frame (wpE (defs₀ (F := F)) Variants.none c none) Set.univ (bodyAt0 t) K := by
  unfold bodyAt0 heldIn heldOut heldScr
  dsimp only [newC]
  iintro ⟨⟨H1, H2, H3, H4, H5, H6, H7, H8, H9, H10⟩, ⟨H11, H12, H13, H14⟩, ⟨H15, H16, H17, H18, H19, H20, H21, H22⟩, Hk⟩
  iapply ((atC c t h X).2.2.2.2.2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H13, H14, H15, H16, H17, H18, H19, H20, H21, H22⟩
  iapply Hk
  isplitl [H1 H2 H3 H4 H5 H6 H7 H8 H9 H10]
  · isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [H11 H12 H13 H14]
  · isplitl [H11]
    · iexact H11
    isplitl [H12]
    · iexact H12
    isplitl [H13]
    · iexact H13
    · iexact H14
  isplitl [H15]
  · iapply (owns_after c scM0_0 (Memref.isWhole_whole _) X.x15 (atC c t h X).1); iexact H15
  isplitl [H16]
  · iapply (owns_after c scM0_1 (Memref.isWhole_whole _) X.x16 (atC c t h X).2.1); iexact H16
  isplitl [H17]
  · iapply (owns_after c scM0_2 (Memref.isWhole_whole _) X.x17 (atC c t h X).2.2.1); iexact H17
  isplitl [H18]
  · iapply (owns_after c scM0_3 (Memref.isWhole_whole _) X.x18 (atC c t h X).2.2.2.1); iexact H18
  isplitl [H19]
  · iapply (owns_after c scM0_4 (Memref.isWhole_whole _) X.x19 (atC c t h X).2.2.2.2.1); iexact H19
  isplitl [H20]
  · iapply (owns_after c scM0_5 (Memref.isWhole_whole _) X.x20 (atC c t h X).2.2.2.2.2.1); iexact H20
  isplitl [H21]
  · iapply (owns_after c scM0_6 (Memref.isWhole_whole _) X.x21 (atC c t h X).2.2.2.2.2.2.1); iexact H21
  · iapply (owns_after c scM0_7 (Memref.isWhole_whole _) X.x22 (atC c t h X).2.2.2.2.2.2.2.1); iexact H22

/-- The run at points 3 to 23, on the pipeline's memrefs. -/
def atD (c : Dev nD) (t : Fin cfg0.N) (h : (3 ≤ t.val ∧ t.val ≤ 23)) (X : Bufs F) :=
  runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
      (fun h' => by have := (hcond0_0 t).mp h'; omega) (fun h' => by have := (hcond0_1 t).mp h'; omega) (fun h' => by have := (hcond0_2 t).mp h'; omega) ((hcond0_3 t).mpr h) (fun h' => by have := (hcond0_4 t).mp h'; omega) (fun h' => by have := (hcond0_5 t).mp h'; omega) (fun h' => by have := (hcond0_6 t).mp h'; omega)
      X.x1 X.x2 X.x3 X.x4 X.x5 X.x6 X.x7 X.x8 X.x9 X.x10 X.x11 X.x12 X.x13 X.x14 X.x15 X.x16 X.x17 X.x18 X.x19 X.x20 X.x21 X.x22
/-- The contents it leaves. -/
def newD (c : Dev nD) (t : Fin cfg0.N) (h : (3 ≤ t.val ∧ t.val ≤ 23)) (X : Bufs F) : Bufs F :=
  { X with x11 := after (ms0_10 t) (hs0_10 t) X.x11 (atD c t h X).1,
           x12 := after (ms0_11 t) (hs0_11 t) X.x12 (atD c t h X).2.1,
           x13 := after (ms0_12 t) (hs0_12 t) X.x13 (atD c t h X).2.2.1,
           x14 := after (ms0_13 t) (hs0_13 t) X.x14 (atD c t h X).2.2.2.1,
           x15 := after scM0_0 (Memref.isWhole_whole _) X.x15 (atD c t h X).2.2.2.2.1,
           x16 := after scM0_1 (Memref.isWhole_whole _) X.x16 (atD c t h X).2.2.2.2.2.1,
           x17 := after scM0_2 (Memref.isWhole_whole _) X.x17 (atD c t h X).2.2.2.2.2.2.1,
           x18 := after scM0_3 (Memref.isWhole_whole _) X.x18 (atD c t h X).2.2.2.2.2.2.2.1,
           x19 := after scM0_4 (Memref.isWhole_whole _) X.x19 (atD c t h X).2.2.2.2.2.2.2.2.1,
           x20 := after scM0_5 (Memref.isWhole_whole _) X.x20 (atD c t h X).2.2.2.2.2.2.2.2.2.1,
           x21 := after scM0_6 (Memref.isWhole_whole _) X.x21 (atD c t h X).2.2.2.2.2.2.2.2.2.2.1,
           x22 := after scM0_7 (Memref.isWhole_whole _) X.x22 (atD c t h X).2.2.2.2.2.2.2.2.2.2.2.1 }
set_option maxHeartbeats 2000000 in
/-- The body there. -/
theorem stepD (c : Dev nD) (t : Fin cfg0.N) (h : (3 ≤ t.val ∧ t.val ≤ 23)) (X : Bufs F) (K : PUnit → sProp 𝕄) :
    iprop(heldIn c t X ∗ heldOut c t X ∗ heldScr c X ∗ (iprop(heldIn c t X ∗ heldOut c t (newD c t h X) ∗ heldScr c (newD c t h X)) -∗ K ⟨⟩))
      ⊢ wp frame (wpE (defs₀ (F := F)) Variants.none c none) Set.univ (bodyAt0 t) K := by
  unfold bodyAt0 heldIn heldOut heldScr
  dsimp only [newD]
  iintro ⟨⟨H1, H2, H3, H4, H5, H6, H7, H8, H9, H10⟩, ⟨H11, H12, H13, H14⟩, ⟨H15, H16, H17, H18, H19, H20, H21, H22⟩, Hk⟩
  iapply ((atD c t h X).2.2.2.2.2.2.2.2.2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H13, H14, H15, H16, H17, H18, H19, H20, H21, H22⟩
  iapply Hk
  isplitl [H1 H2 H3 H4 H5 H6 H7 H8 H9 H10]
  · isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [H11 H12 H13 H14]
  · isplitl [H11]
    · iapply (owns_after c (ms0_10 t) (hs0_10 t) X.x11 (atD c t h X).1); iexact H11
    isplitl [H12]
    · iapply (owns_after c (ms0_11 t) (hs0_11 t) X.x12 (atD c t h X).2.1); iexact H12
    isplitl [H13]
    · iapply (owns_after c (ms0_12 t) (hs0_12 t) X.x13 (atD c t h X).2.2.1); iexact H13
    · iapply (owns_after c (ms0_13 t) (hs0_13 t) X.x14 (atD c t h X).2.2.2.1); iexact H14
  isplitl [H15]
  · iapply (owns_after c scM0_0 (Memref.isWhole_whole _) X.x15 (atD c t h X).2.2.2.2.1); iexact H15
  isplitl [H16]
  · iapply (owns_after c scM0_1 (Memref.isWhole_whole _) X.x16 (atD c t h X).2.2.2.2.2.1); iexact H16
  isplitl [H17]
  · iapply (owns_after c scM0_2 (Memref.isWhole_whole _) X.x17 (atD c t h X).2.2.2.2.2.2.1); iexact H17
  isplitl [H18]
  · iapply (owns_after c scM0_3 (Memref.isWhole_whole _) X.x18 (atD c t h X).2.2.2.2.2.2.2.1); iexact H18
  isplitl [H19]
  · iapply (owns_after c scM0_4 (Memref.isWhole_whole _) X.x19 (atD c t h X).2.2.2.2.2.2.2.2.1); iexact H19
  isplitl [H20]
  · iapply (owns_after c scM0_5 (Memref.isWhole_whole _) X.x20 (atD c t h X).2.2.2.2.2.2.2.2.2.1); iexact H20
  isplitl [H21]
  · iapply (owns_after c scM0_6 (Memref.isWhole_whole _) X.x21 (atD c t h X).2.2.2.2.2.2.2.2.2.2.1); iexact H21
  · iapply (owns_after c scM0_7 (Memref.isWhole_whole _) X.x22 (atD c t h X).2.2.2.2.2.2.2.2.2.2.2.1); iexact H22

/-- The run at point 24, on the pipeline's memrefs. -/
def atE (c : Dev nD) (t : Fin cfg0.N) (h : t.val = 24) (X : Bufs F) :=
  runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
      (fun h' => by have := (hcond0_0 t).mp h'; omega) (fun h' => by have := (hcond0_1 t).mp h'; omega) (fun h' => by have := (hcond0_2 t).mp h'; omega) (fun h' => by have := (hcond0_3 t).mp h'; omega) ((hcond0_4 t).mpr h) (fun h' => by have := (hcond0_5 t).mp h'; omega) (fun h' => by have := (hcond0_6 t).mp h'; omega)
      X.x1 X.x2 X.x3 X.x4 X.x5 X.x6 X.x7 X.x8 X.x9 X.x10 X.x11 X.x12 X.x13 X.x14 X.x15 X.x16 X.x17 X.x18 X.x19 X.x20 X.x21 X.x22
/-- The contents it leaves. -/
def newE (c : Dev nD) (t : Fin cfg0.N) (h : t.val = 24) (X : Bufs F) : Bufs F :=
  { X with x11 := after (ms0_10 t) (hs0_10 t) X.x11 (atE c t h X).1,
           x12 := after (ms0_11 t) (hs0_11 t) X.x12 (atE c t h X).2.1,
           x13 := after (ms0_12 t) (hs0_12 t) X.x13 (atE c t h X).2.2.1,
           x14 := after (ms0_13 t) (hs0_13 t) X.x14 (atE c t h X).2.2.2.1,
           x16 := after scM0_1 (Memref.isWhole_whole _) X.x16 (atE c t h X).2.2.2.2.1,
           x17 := after scM0_2 (Memref.isWhole_whole _) X.x17 (atE c t h X).2.2.2.2.2.1,
           x21 := after scM0_6 (Memref.isWhole_whole _) X.x21 (atE c t h X).2.2.2.2.2.2.1,
           x22 := after scM0_7 (Memref.isWhole_whole _) X.x22 (atE c t h X).2.2.2.2.2.2.2.1 }
set_option maxHeartbeats 2000000 in
/-- The body there. -/
theorem stepE (c : Dev nD) (t : Fin cfg0.N) (h : t.val = 24) (X : Bufs F) (K : PUnit → sProp 𝕄) :
    iprop(heldIn c t X ∗ heldOut c t X ∗ heldScr c X ∗ (iprop(heldIn c t X ∗ heldOut c t (newE c t h X) ∗ heldScr c (newE c t h X)) -∗ K ⟨⟩))
      ⊢ wp frame (wpE (defs₀ (F := F)) Variants.none c none) Set.univ (bodyAt0 t) K := by
  unfold bodyAt0 heldIn heldOut heldScr
  dsimp only [newE]
  iintro ⟨⟨H1, H2, H3, H4, H5, H6, H7, H8, H9, H10⟩, ⟨H11, H12, H13, H14⟩, ⟨H15, H16, H17, H18, H19, H20, H21, H22⟩, Hk⟩
  iapply ((atE c t h X).2.2.2.2.2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H13, H14, H15, H16, H17, H18, H19, H20, H21, H22⟩
  iapply Hk
  isplitl [H1 H2 H3 H4 H5 H6 H7 H8 H9 H10]
  · isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [H11 H12 H13 H14]
  · isplitl [H11]
    · iapply (owns_after c (ms0_10 t) (hs0_10 t) X.x11 (atE c t h X).1); iexact H11
    isplitl [H12]
    · iapply (owns_after c (ms0_11 t) (hs0_11 t) X.x12 (atE c t h X).2.1); iexact H12
    isplitl [H13]
    · iapply (owns_after c (ms0_12 t) (hs0_12 t) X.x13 (atE c t h X).2.2.1); iexact H13
    · iapply (owns_after c (ms0_13 t) (hs0_13 t) X.x14 (atE c t h X).2.2.2.1); iexact H14
  isplitl [H15]
  · iexact H15
  isplitl [H16]
  · iapply (owns_after c scM0_1 (Memref.isWhole_whole _) X.x16 (atE c t h X).2.2.2.2.1); iexact H16
  isplitl [H17]
  · iapply (owns_after c scM0_2 (Memref.isWhole_whole _) X.x17 (atE c t h X).2.2.2.2.2.1); iexact H17
  isplitl [H18]
  · iexact H18
  isplitl [H19]
  · iexact H19
  isplitl [H20]
  · iexact H20
  isplitl [H21]
  · iapply (owns_after c scM0_6 (Memref.isWhole_whole _) X.x21 (atE c t h X).2.2.2.2.2.2.1); iexact H21
  · iapply (owns_after c scM0_7 (Memref.isWhole_whole _) X.x22 (atE c t h X).2.2.2.2.2.2.2.1); iexact H22

/-- The run at point 25, on the pipeline's memrefs. -/
def atF (c : Dev nD) (t : Fin cfg0.N) (h : t.val = 25) (X : Bufs F) :=
  runF c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
      (fun h' => by have := (hcond0_0 t).mp h'; omega) (fun h' => by have := (hcond0_1 t).mp h'; omega) (fun h' => by have := (hcond0_2 t).mp h'; omega) (fun h' => by have := (hcond0_3 t).mp h'; omega) (fun h' => by have := (hcond0_4 t).mp h'; omega) ((hcond0_5 t).mpr h) (fun h' => by have := (hcond0_6 t).mp h'; omega)
      X.x1 X.x2 X.x3 X.x4 X.x5 X.x6 X.x7 X.x8 X.x9 X.x10 X.x11 X.x12 X.x13 X.x14 X.x15 X.x16 X.x17 X.x18 X.x19 X.x20 X.x21 X.x22
/-- The contents it leaves. -/
def newF (c : Dev nD) (t : Fin cfg0.N) (h : t.val = 25) (X : Bufs F) : Bufs F :=
  { X with x11 := after (ms0_10 t) (hs0_10 t) X.x11 (atF c t h X).1,
           x12 := after (ms0_11 t) (hs0_11 t) X.x12 (atF c t h X).2.1,
           x13 := after (ms0_12 t) (hs0_12 t) X.x13 (atF c t h X).2.2.1,
           x14 := after (ms0_13 t) (hs0_13 t) X.x14 (atF c t h X).2.2.2.1,
           x17 := after scM0_2 (Memref.isWhole_whole _) X.x17 (atF c t h X).2.2.2.2.1 }
set_option maxHeartbeats 2000000 in
/-- The body there. -/
theorem stepF (c : Dev nD) (t : Fin cfg0.N) (h : t.val = 25) (X : Bufs F) (K : PUnit → sProp 𝕄) :
    iprop(heldIn c t X ∗ heldOut c t X ∗ heldScr c X ∗ (iprop(heldIn c t X ∗ heldOut c t (newF c t h X) ∗ heldScr c (newF c t h X)) -∗ K ⟨⟩))
      ⊢ wp frame (wpE (defs₀ (F := F)) Variants.none c none) Set.univ (bodyAt0 t) K := by
  unfold bodyAt0 heldIn heldOut heldScr
  dsimp only [newF]
  iintro ⟨⟨H1, H2, H3, H4, H5, H6, H7, H8, H9, H10⟩, ⟨H11, H12, H13, H14⟩, ⟨H15, H16, H17, H18, H19, H20, H21, H22⟩, Hk⟩
  iapply ((atF c t h X).2.2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H13, H14, H15, H16, H17, H18, H19, H20, H21, H22⟩
  iapply Hk
  isplitl [H1 H2 H3 H4 H5 H6 H7 H8 H9 H10]
  · isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [H11 H12 H13 H14]
  · isplitl [H11]
    · iapply (owns_after c (ms0_10 t) (hs0_10 t) X.x11 (atF c t h X).1); iexact H11
    isplitl [H12]
    · iapply (owns_after c (ms0_11 t) (hs0_11 t) X.x12 (atF c t h X).2.1); iexact H12
    isplitl [H13]
    · iapply (owns_after c (ms0_12 t) (hs0_12 t) X.x13 (atF c t h X).2.2.1); iexact H13
    · iapply (owns_after c (ms0_13 t) (hs0_13 t) X.x14 (atF c t h X).2.2.2.1); iexact H14
  isplitl [H15]
  · iexact H15
  isplitl [H16]
  · iexact H16
  isplitl [H17]
  · iapply (owns_after c scM0_2 (Memref.isWhole_whole _) X.x17 (atF c t h X).2.2.2.2.1); iexact H17
  isplitl [H18]
  · iexact H18
  isplitl [H19]
  · iexact H19
  isplitl [H20]
  · iexact H20
  isplitl [H21]
  · iexact H21
  · iexact H22

/-- The run at the last point, on the pipeline's memrefs. -/
def atG (c : Dev nD) (t : Fin cfg0.N) (h : t.val = 26) (X : Bufs F) :=
  runG c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
      (fun h' => by have := (hcond0_0 t).mp h'; omega) (fun h' => by have := (hcond0_1 t).mp h'; omega) (fun h' => by have := (hcond0_2 t).mp h'; omega) (fun h' => by have := (hcond0_3 t).mp h'; omega) (fun h' => by have := (hcond0_4 t).mp h'; omega) (fun h' => by have := (hcond0_5 t).mp h'; omega) ((hcond0_6 t).mpr h)
      X.x1 X.x2 X.x3 X.x4 X.x5 X.x6 X.x7 X.x8 X.x9 X.x10 X.x11 X.x12 X.x13 X.x14 X.x15 X.x16 X.x17 X.x18 X.x19 X.x20 X.x21 X.x22
/-- The contents it leaves. -/
def newG (c : Dev nD) (t : Fin cfg0.N) (h : t.val = 26) (X : Bufs F) : Bufs F :=
  { X with x11 := after (ms0_10 t) (hs0_10 t) X.x11 (atG c t h X).1,
           x12 := after (ms0_11 t) (hs0_11 t) X.x12 (atG c t h X).2.1,
           x13 := after (ms0_12 t) (hs0_12 t) X.x13 (atG c t h X).2.2.1,
           x14 := after (ms0_13 t) (hs0_13 t) X.x14 (atG c t h X).2.2.2.1 }
set_option maxHeartbeats 2000000 in
/-- The body there. -/
theorem stepG (c : Dev nD) (t : Fin cfg0.N) (h : t.val = 26) (X : Bufs F) (K : PUnit → sProp 𝕄) :
    iprop(heldIn c t X ∗ heldOut c t X ∗ heldScr c X ∗ (iprop(heldIn c t X ∗ heldOut c t (newG c t h X) ∗ heldScr c (newG c t h X)) -∗ K ⟨⟩))
      ⊢ wp frame (wpE (defs₀ (F := F)) Variants.none c none) Set.univ (bodyAt0 t) K := by
  unfold bodyAt0 heldIn heldOut heldScr
  dsimp only [newG]
  iintro ⟨⟨H1, H2, H3, H4, H5, H6, H7, H8, H9, H10⟩, ⟨H11, H12, H13, H14⟩, ⟨H15, H16, H17, H18, H19, H20, H21, H22⟩, Hk⟩
  iapply ((atG c t h X).2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H13, H14, H15, H16, H17, H18, H19, H20, H21, H22⟩
  iapply Hk
  isplitl [H1 H2 H3 H4 H5 H6 H7 H8 H9 H10]
  · isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [H11 H12 H13 H14]
  · isplitl [H11]
    · iapply (owns_after c (ms0_10 t) (hs0_10 t) X.x11 (atG c t h X).1); iexact H11
    isplitl [H12]
    · iapply (owns_after c (ms0_11 t) (hs0_11 t) X.x12 (atG c t h X).2.1); iexact H12
    isplitl [H13]
    · iapply (owns_after c (ms0_12 t) (hs0_12 t) X.x13 (atG c t h X).2.2.1); iexact H13
    · iapply (owns_after c (ms0_13 t) (hs0_13 t) X.x14 (atG c t h X).2.2.2.1); iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  · iexact H22

/-! ## Relational proof data -/

/-- The inputs' buffers at point `t`: what their arrays have there. -/
def withIn (c : Dev nD) (t : Fin cfg0.N) (X : Bufs F) : Bufs F := { X with x1 := iblk m c 0 t, x2 := iblk m c 1 t, x3 := iblk m c 2 t, x4 := iblk m c 3 t, x5 := iblk m c 4 t, x6 := iblk m c 5 t, x7 := iblk m c 6 t, x8 := iblk m c 7 t, x9 := iblk m c 8 t, x10 := iblk m c 9 t }

/-- What a proof says of the body from point to point: of the scratch before a point (`inv`), of what the body leaves
    in the three output tiles' buffers at a point, and of what it leaves in the scales' buffer, given what it found. -/
structure Spec (F : FTy → Type) where
  inv : ℕ → Bufs F → Prop
  inv_scr : ∀ n X X', X.x15 = X'.x15 → X.x16 = X'.x16 → X.x17 = X'.x17 → X.x18 = X'.x18 → X.x19 = X'.x19 → X.x20 = X'.x20 → X.x21 = X'.x21 → X.x22 = X'.x22 → inv n X → inv n X'
  l10 : Fin cfg0.N → Vec F S1x512x512 .bf16 → Prop
  l11 : Fin cfg0.N → Vec F S1x512x512 .bf16 → Prop
  l12 : Fin cfg0.N → Vec F S1x512x512 .fp8e4m3 → Prop
  l13 : Fin cfg0.N → Vec F S3x4096 .f32 → Vec F S3x4096 .f32 → Prop

/-- What the body has to establish at point `t`, of what it finds and leaves. -/
def Spec.ok (sp : Spec F) (t : Fin cfg0.N) (X X' : Bufs F) : Prop :=
  sp.inv (t.val + 1) X' ∧ sp.l10 t X'.x11 ∧ sp.l11 t X'.x12 ∧ sp.l12 t X'.x13 ∧ sp.l13 t X.x14 X'.x14

/-- What the scales' buffer holds when the body finds it: what some run of the body left at the point before. -/
def Spec.found (sp : Spec F) (t : Fin cfg0.N) (x14 : Vec F S3x4096 .f32) : Prop :=
  t.val ≠ 0 → ∃ Y, sp.l13 ⟨t.val - 1, Nat.lt_of_le_of_lt (Nat.sub_le _ _) t.isLt⟩ Y x14

/-- That each of the body's seven runs establishes `ok`. -/
structure Spec.Steps (sp : Spec F) (c : Dev nD) : Prop where
  start : ∀ X, sp.inv 0 X
  atA : ∀ (t : Fin cfg0.N) (h : t.val = 0) X, sp.inv t.val X → sp.found t X.x14 → sp.ok t (withIn m c t X) (newA c t h (withIn m c t X))
  atB : ∀ (t : Fin cfg0.N) (h : t.val = 1) X, sp.inv t.val X → sp.found t X.x14 → sp.ok t (withIn m c t X) (newB c t h (withIn m c t X))
  atC : ∀ (t : Fin cfg0.N) (h : t.val = 2) X, sp.inv t.val X → sp.found t X.x14 → sp.ok t (withIn m c t X) (newC c t h (withIn m c t X))
  atD : ∀ (t : Fin cfg0.N) (h : (3 ≤ t.val ∧ t.val ≤ 23)) X, sp.inv t.val X → sp.found t X.x14 → sp.ok t (withIn m c t X) (newD c t h (withIn m c t X))
  atE : ∀ (t : Fin cfg0.N) (h : t.val = 24) X, sp.inv t.val X → sp.found t X.x14 → sp.ok t (withIn m c t X) (newE c t h (withIn m c t X))
  atF : ∀ (t : Fin cfg0.N) (h : t.val = 25) X, sp.inv t.val X → sp.found t X.x14 → sp.ok t (withIn m c t X) (newF c t h (withIn m c t X))
  atG : ∀ (t : Fin cfg0.N) (h : t.val = 26) X, sp.inv t.val X → sp.found t X.x14 → sp.ok t (withIn m c t X) (newG c t h (withIn m c t X))

/-- The invariant before point `n`: the scratch at some contents `inv` admits, and the generator register. -/
def PhiR (sp : Spec F) (c : Dev nD) (n : ℕ) : sProp 𝕄 :=
  iprop((∃ X, ⌜sp.inv n X⌝ ∗ heldScr c X) ∗ (∃ r, prngReg c r))

/-- The proof data: the arrays as the region finds them; each input's buffer left as found; the outputs' as `sp` says. -/
def rdat (sp : Dev nD → Spec F) (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun _ X => (sp c).l10 t X
    | ⟨11, _⟩ => fun _ X => (sp c).l11 t X
    | ⟨12, _⟩ => fun _ X => (sp c).l12 t X
    | ⟨13, _⟩ => fun Y X => (sp c).l13 t Y X
  Φ n := PhiR (sp c) c n.val
  q _ := fullShare
  owed _ := 0

theorem rdat_A (sp : Dev nD → Spec F) (c : Dev nD) (w : Fin cfg0.W) : (rdat m sp c).A w = V m c (Pipeline.arrRef spec0 w) := by
  dsimp only [rdat]

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body at any point: the point says which run. -/
theorem body_step (sp : Spec F) (c : Dev nD) (hs : sp.Steps m c) (t : Fin cfg0.N) (X : Bufs F)
    (hinv : sp.inv t.val X) (hf : sp.found t X.x14) (K : PUnit → sProp 𝕄) :
    iprop(heldIn c t (withIn m c t X) ∗ heldOut c t X ∗ heldScr c X
        ∗ (iprop(heldIn c t (withIn m c t X) ∗ ∃ X', ⌜sp.ok t X X'⌝ ∗ heldOut c t X' ∗ heldScr c X') -∗ K ⟨⟩))
      ⊢ wp frame (wpE (defs₀ (F := F)) Variants.none c none) Set.univ (bodyAt0 t) K := by
  have hN : t.val < 27 := lt_of_lt_of_eq t.isLt (show cfg0.N = 27 from N_0)
  have go : ∀ X' : Bufs F, sp.ok t (withIn m c t X) X' →
      (∀ K : PUnit → sProp 𝕄, iprop(heldIn c t (withIn m c t X) ∗ heldOut c t (withIn m c t X) ∗ heldScr c (withIn m c t X) ∗ (iprop(heldIn c t (withIn m c t X) ∗ heldOut c t X' ∗ heldScr c X') -∗ K ⟨⟩))
        ⊢ wp frame (wpE (defs₀ (F := F)) Variants.none c none) Set.univ (bodyAt0 t) K) →
      iprop(heldIn c t (withIn m c t X) ∗ heldOut c t X ∗ heldScr c X
        ∗ (iprop(heldIn c t (withIn m c t X) ∗ ∃ X', ⌜sp.ok t X X'⌝ ∗ heldOut c t X' ∗ heldScr c X') -∗ K ⟨⟩))
      ⊢ wp frame (wpE (defs₀ (F := F)) Variants.none c none) Set.univ (bodyAt0 t) K := by
    intro X' hok hrun
    iintro ⟨H1, H2, H3, Hk⟩
    iapply (hrun K)
    isplitl [H1]; · iexact H1
    isplitl [H2]; · iexact H2
    isplitl [H3]; · iexact H3
    iintro ⟨H1, H2, H3⟩
    iapply Hk
    isplitl [H1]; · iexact H1
    iexists X'
    isplitr; · ipureintro; exact hok
    isplitl [H2]; · iexact H2
    iexact H3
  by_cases h0 : t.val = 0
  · exact go _ (hs.atA t h0 X hinv hf) (stepA c t h0 _)
  by_cases h1 : t.val = 1
  · exact go _ (hs.atB t h1 X hinv hf) (stepB c t h1 _)
  by_cases h2 : t.val = 2
  · exact go _ (hs.atC t h2 X hinv hf) (stepC c t h2 _)
  by_cases h3 : (3 ≤ t.val ∧ t.val ≤ 23)
  · exact go _ (hs.atD t h3 X hinv hf) (stepD c t h3 _)
  by_cases h4 : t.val = 24
  · exact go _ (hs.atE t h4 X hinv hf) (stepE c t h4 _)
  by_cases h5 : t.val = 25
  · exact go _ (hs.atF t h5 X hinv hf) (stepF c t h5 _)
  have h6 : t.val = 26 := by omega
  exact go _ (hs.atG t h6 X hinv hf) (stepG c t h6 _)

/-- An input window's buffer holds its block at every point. -/
theorem finds_in (sp : Dev nD → Spec F) (c : Dev nD) (t : Fin cfg0.N) (Y : (w : Fin cfg0.W) → (cfg0.win w).block.Idx → Elt F (cfg0.win w).elt)
    (hY : ∀ w, (rdat m sp c).Finds w t (Y w)) :
    Y 0 = iblk m c 0 t ∧ Y 1 = iblk m c 1 t ∧ Y 2 = iblk m c 2 t ∧ Y 3 = iblk m c 3 t ∧ Y 4 = iblk m c 4 t ∧ Y 5 = iblk m c 5 t ∧ Y 6 = iblk m c 6 t ∧ Y 7 = iblk m c 7 t ∧ Y 8 = iblk m c 8 t ∧ Y 9 = iblk m c 9 t := by
  refine ⟨?_, ?_, ?_, ?_, ?_, ?_, ?_, ?_, ?_, ?_⟩
  · obtain ⟨d, hd⟩ := (rdat m sp c).finds_in_eq_fetched 0 rfl (fun _ _ _ => rfl) (fun _ _ _ h => h) t _ (hY 0)
    exact hd.trans (by unfold Pipeline.RDat.fetched Pipeline.RDat.blockOf iblk; rw [rdat_A]; try rfl)
  · obtain ⟨d, hd⟩ := (rdat m sp c).finds_in_eq_fetched 1 rfl (fun _ _ _ => rfl) (fun _ _ _ h => h) t _ (hY 1)
    exact hd.trans (by unfold Pipeline.RDat.fetched Pipeline.RDat.blockOf iblk; rw [rdat_A]; try rfl)
  · obtain ⟨d, hd⟩ := (rdat m sp c).finds_in_eq_fetched 2 rfl (fun _ _ _ => rfl) (fun _ _ _ h => h) t _ (hY 2)
    exact hd.trans (by unfold Pipeline.RDat.fetched Pipeline.RDat.blockOf iblk; rw [rdat_A]; try rfl)
  · obtain ⟨d, hd⟩ := (rdat m sp c).finds_in_eq_fetched 3 rfl (fun _ _ _ => rfl) (fun _ _ _ h => h) t _ (hY 3)
    exact hd.trans (by unfold Pipeline.RDat.fetched Pipeline.RDat.blockOf iblk; rw [rdat_A]; try rfl)
  · obtain ⟨d, hd⟩ := (rdat m sp c).finds_in_eq_fetched 4 rfl (fun _ _ _ => rfl) (fun _ _ _ h => h) t _ (hY 4)
    exact hd.trans (by unfold Pipeline.RDat.fetched Pipeline.RDat.blockOf iblk; rw [rdat_A]; try rfl)
  · obtain ⟨d, hd⟩ := (rdat m sp c).finds_in_eq_fetched 5 rfl (fun _ _ _ => rfl) (fun _ _ _ h => h) t _ (hY 5)
    exact hd.trans (by unfold Pipeline.RDat.fetched Pipeline.RDat.blockOf iblk; rw [rdat_A]; try rfl)
  · obtain ⟨d, hd⟩ := (rdat m sp c).finds_in_eq_fetched 6 rfl (fun _ _ _ => rfl) (fun _ _ _ h => h) t _ (hY 6)
    exact hd.trans (by unfold Pipeline.RDat.fetched Pipeline.RDat.blockOf iblk; rw [rdat_A]; try rfl)
  · obtain ⟨d, hd⟩ := (rdat m sp c).finds_in_eq_fetched 7 rfl (fun _ _ _ => rfl) (fun _ _ _ h => h) t _ (hY 7)
    exact hd.trans (by unfold Pipeline.RDat.fetched Pipeline.RDat.blockOf iblk; rw [rdat_A]; try rfl)
  · obtain ⟨d, hd⟩ := (rdat m sp c).finds_in_eq_fetched 8 rfl (fun _ _ _ => rfl) (fun _ _ _ h => h) t _ (hY 8)
    exact hd.trans (by unfold Pipeline.RDat.fetched Pipeline.RDat.blockOf iblk; rw [rdat_A]; try rfl)
  · obtain ⟨d, hd⟩ := (rdat m sp c).finds_in_eq_fetched 9 rfl (fun _ _ _ => rfl) (fun _ _ _ h => h) t _ (hY 9)
    exact hd.trans (by unfold Pipeline.RDat.fetched Pipeline.RDat.blockOf iblk; rw [rdat_A]; try rfl)

/-- The scales' window is written back at the last point only, and never fetched. -/
theorem flush13 : ∀ t : Fin cfg0.N, (cfg0.win 13).flush t = true → t.val = 26 :=
  (by decide +kernel : ∀ t : Fin grid0.N, (cfg0.win 13).flush t = true → t.val = 26)
theorem fetch13 : ∀ t : Fin cfg0.N, (cfg0.win 13).fetch t = false := fun t => (cfg0.win 13).fetch_out rfl t

/-- What the scales' window finds. -/
theorem finds13 (sp : Dev nD → Spec F) (c : Dev nD) (t : Fin cfg0.N) (Y : Vec F S3x4096 .f32)
    (hY : (rdat m sp c).Finds 13 t Y) : (sp c).found t Y := by
  intro h0
  have hN : t.val < 27 := lt_of_lt_of_eq t.isLt (show cfg0.N = 27 from N_0)
  rcases ((rdat m sp c).finds_of_pos (fetch13 t) h0 Y).mp hY with h | ⟨Z, -, h⟩
  · have := flush13 _ h; simp only at this; omega
  · exact ⟨Z, h⟩

set_option maxHeartbeats 2000000 in
/-- The library's body obligation. -/
theorem body_obligation (sp : Dev nD → Spec F) (c : Dev nD) (hs : (sp c).Steps m c) :
    (rdat m sp c).BodyObligation (defs₀ (F := F)) Variants.none () Set.univ := by
  intro t Y hY
  obtain ⟨e0, e1, e2, e3, e4, e5, e6, e7, e8, e9⟩ := finds_in m sp c t Y hY
  have hf := finds13 m sp c t (Y 13) (hY 13)
  rw [bigSep_W0, bigSep_W0, defs₀_row]
  rw [e0, e1, e2, e3, e4, e5, e6, e7, e8, e9]
  rw [show (rdat m sp c).owesAt () t.succ = (rdat m sp c).owesAt () t.castSucc from rfl]
  rw [show (rdat m sp c).Φ t.castSucc = PhiR (sp c) c t.val from rfl, show (rdat m sp c).Φ t.succ = PhiR (sp c) c (t.val + 1) from rfl]
  unfold PhiR
  iintro ⟨⟨⟨%X, %hinv, Hs⟩, Hg⟩, Ho, H1, H2, H3, H4, H5, H6, H7, H8, H9, H10, H11, H12, H13, H14⟩
  iapply (body_step m (sp c) c hs t { X with x11 := Y 10, x12 := Y 11, x13 := Y 12, x14 := Y 13 }
    ((sp c).inv_scr _ X _ rfl rfl rfl rfl rfl rfl rfl rfl hinv) hf _)
  unfold heldIn heldOut
  isplitl [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13 H14]
  · isplitl [H11]; · iexact H11
    isplitl [H12]; · iexact H12
    isplitl [H13]; · iexact H13
    iexact H14
  isplitl [Hs]; · iexact Hs
  iintro ⟨⟨H1, H2, H3, H4, H5, H6, H7, H8, H9, H10⟩, %X', %hok, ⟨H11, H12, H13, H14⟩, Hs⟩
  isplitl [Hs Hg]
  · isplitl [Hs]
    · iexists X'
      isplitr; · ipureintro; exact hok.1
      iexact Hs
    iexact Hg
  isplitl [Ho]; · iexact Ho
  isplitl [H1]
  · iexists (iblk m c 0 t); isplitr; · ipureintro; exact rfl
    iexact H1
  isplitl [H2]
  · iexists (iblk m c 1 t); isplitr; · ipureintro; exact rfl
    iexact H2
  isplitl [H3]
  · iexists (iblk m c 2 t); isplitr; · ipureintro; exact rfl
    iexact H3
  isplitl [H4]
  · iexists (iblk m c 3 t); isplitr; · ipureintro; exact rfl
    iexact H4
  isplitl [H5]
  · iexists (iblk m c 4 t); isplitr; · ipureintro; exact rfl
    iexact H5
  isplitl [H6]
  · iexists (iblk m c 5 t); isplitr; · ipureintro; exact rfl
    iexact H6
  isplitl [H7]
  · iexists (iblk m c 6 t); isplitr; · ipureintro; exact rfl
    iexact H7
  isplitl [H8]
  · iexists (iblk m c 7 t); isplitr; · ipureintro; exact rfl
    iexact H8
  isplitl [H9]
  · iexists (iblk m c 8 t); isplitr; · ipureintro; exact rfl
    iexact H9
  isplitl [H10]
  · iexists (iblk m c 9 t); isplitr; · ipureintro; exact rfl
    iexact H10
  isplitl [H11]
  · iexists X'.x11; isplitr; · ipureintro; exact hok.2.1
    iexact H11
  isplitl [H12]
  · iexists X'.x12; isplitr; · ipureintro; exact hok.2.2.1
    iexact H12
  isplitl [H13]
  · iexists X'.x13; isplitr; · ipureintro; exact hok.2.2.2.1
    iexact H13
  iexists X'.x14; isplitr; · ipureintro; exact hok.2.2.2.2
  iexact H14

/-- What the launch hands the region is the invariant before the first point. -/
theorem hin (sp : Dev nD → Spec F) (c : Dev nD) (hs : (sp c).Steps m c) : Pipeline.ΦA spec0 c ⊢ (rdat m sp c).Φ 0 := by
  rw [show (rdat m sp c).Φ 0 = PhiR (sp c) c 0 from rfl, PhiA0_eq]
  unfold PhiR
  iintro ⟨⟨⟨%x15, H15⟩, ⟨%x16, H16⟩, ⟨%x17, H17⟩, ⟨%x18, H18⟩, ⟨%x19, H19⟩, ⟨%x20, H20⟩, ⟨%x21, H21⟩, ⟨%x22, H22⟩⟩, Hg⟩
  have t0 : Fin cfg0.N := ⟨0, lt_of_lt_of_eq (by omega : 0 < 27) (show cfg0.N = 27 from N_0).symm⟩
  isplitl [H15 H16 H17 H18 H19 H20 H21 H22]
  · iexists ⟨iblk m c 0 t0, iblk m c 1 t0, iblk m c 2 t0, iblk m c 3 t0, iblk m c 4 t0, iblk m c 5 t0, iblk m c 6 t0, iblk m c 7 t0, iblk m c 8 t0, iblk m c 9 t0, iblk m c 0 t0, iblk m c 0 t0, iblk m c 1 t0, iblk m c 4 t0, x15, x16, x17, x18, x19, x20, x21, x22⟩
    isplitr; · ipureintro; exact hs.start _
    unfold heldScr
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  iexact Hg

/-- After the last point the invariant gives the launch's back: the contents are forgotten. -/
theorem hout (sp : Dev nD → Spec F) (c : Dev nD) : (rdat m sp c).Φ (Fin.last cfg0.N) ⊢ Pipeline.ΦA spec0 c := by
  rw [show (rdat m sp c).Φ (Fin.last cfg0.N) = PhiR (sp c) c (Fin.last cfg0.N).val from rfl, PhiA0_eq]
  unfold PhiR heldScr
  iintro ⟨⟨%X, -, H15, H16, H17, H18, H19, H20, H21, H22⟩, Hg⟩
  isplitl [H15 H16 H17 H18 H19 H20 H21 H22]
  · isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22
  iexact Hg

set_option backward.isDefEq.respectTransparency.types false in
/-- The launch: every weakly fair execution of @main terminates, at arrays the proof data admits and every counter at zero. -/
theorem run_main (sp : Dev nD → Spec F) (hs : ∀ c, (sp c).Steps m c) :
    θ_run defs (onTc (τ := τ) (main (F := F))) (s₀ m ρ) (fun r => Pipeline.RDat.FramePost (cfgs 0) (rdat m sp) (V m) r ∧ r.2.sem = fun _ => 0) :=
  Pipeline.RDat.θ_run_frame_track (Q' := _) cfgs (0 : Fin 1) launch0 defs₀ Variants.none (rdat m sp) m ρ main
    (hbody := fun c => body_obligation m sp c (hs c)) (hshare := fun c w => by unfold Pipeline.RDat.share; split <;> rfl)
    (howed := fun _ _ => rfl) (V := V m) (hmain := hmain m Variants.none) (hA := rdat_A m sp) (hin := fun c => hin m sp c (hs c)) (hout := hout m sp)

/-- The argument arrays after a run. -/
theorem kept (sp : Dev nD → Spec F) (r : PUnit × MemSt nD τ sig (Elt F)) (h : Pipeline.RDat.FramePost (cfgs 0) (rdat m sp) (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) :=
  ⟨(Pipeline.RDat.FramePost.arr_in h c 0 rfl).trans ((rdat_A m sp c 0).trans (V_main_arg0 m c)),
    (Pipeline.RDat.FramePost.arr_in h c 1 rfl).trans ((rdat_A m sp c 1).trans (V_main_arg1 m c)),
    (Pipeline.RDat.FramePost.arr_in h c 2 rfl).trans ((rdat_A m sp c 2).trans (V_main_arg2 m c)),
    (Pipeline.RDat.FramePost.arr_in h c 3 rfl).trans ((rdat_A m sp c 3).trans (V_main_arg3 m c)),
    (Pipeline.RDat.FramePost.arr_in h c 4 rfl).trans ((rdat_A m sp c 4).trans (V_main_arg4 m c)),
    (Pipeline.RDat.FramePost.arr_in h c 5 rfl).trans ((rdat_A m sp c 5).trans (V_main_arg5 m c)),
    (Pipeline.RDat.FramePost.arr_in h c 6 rfl).trans ((rdat_A m sp c 6).trans (V_main_arg6 m c)),
    (Pipeline.RDat.FramePost.arr_in h c 7 rfl).trans ((rdat_A m sp c 7).trans (V_main_arg7 m c)),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩

/-- The proof data that says nothing. -/
def nothing (_ : Dev nD) : Spec F where
  inv _ _ := True
  inv_scr := fun _ _ _ _ _ _ _ _ _ _ _ _ => trivial
  l10 _ _ := True
  l11 _ _ := True
  l12 _ _ := True
  l13 _ _ _ := True

theorem nothing_steps (c : Dev nD) : (nothing (F := F) c).Steps m c where
  start _ := trivial
  atA _ _ _ _ _ := ⟨trivial, trivial, trivial, trivial, trivial⟩
  atB _ _ _ _ _ := ⟨trivial, trivial, trivial, trivial, trivial⟩
  atC _ _ _ _ _ := ⟨trivial, trivial, trivial, trivial, trivial⟩
  atD _ _ _ _ _ := ⟨trivial, trivial, trivial, trivial, trivial⟩
  atE _ _ _ _ _ := ⟨trivial, trivial, trivial, trivial, trivial⟩
  atF _ _ _ _ _ := ⟨trivial, trivial, trivial, trivial, trivial⟩
  atG _ _ _ _ _ := ⟨trivial, trivial, trivial, trivial, trivial⟩

/-- The frame: the statement of the claim at any values. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)) ∧ r.2.sem = fun _ => 0) :=
  (θ_run defs _ _).mono (fun r h => ⟨fun c => kept m nothing r h.1 c, h.2⟩) (run_main m ρ nothing (fun c => nothing_steps m c))

end Cert.Kernel.Gen

end
-- ==== Proof.KernelIdeal.RunBase.lean ====
/- What the seven runs of the body of `KernelIdeal` share: the body's branch conditions in closed form over the points. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's branch 0. -/
abbrev cond0_0 (i : grid0.Coords) : Prop := k0_cond1 i = 1#1
/-- It holds where said, decided over the grid. -/
theorem hcond0_0 : ∀ t : Fin cfg0.N, cond0_0 (grid0.coords t) ↔ t.val = 0 :=
  (by decide +kernel : ∀ t : Fin grid0.N, cond0_0 (grid0.coords t) ↔ t.val = 0)

/-- The condition of the body's branch 1. -/
abbrev cond0_1 (i : grid0.Coords) : Prop := k0_cond2 i = 1#1
/-- It holds where said, decided over the grid. -/
theorem hcond0_1 : ∀ t : Fin cfg0.N, cond0_1 (grid0.coords t) ↔ t.val = 1 :=
  (by decide +kernel : ∀ t : Fin grid0.N, cond0_1 (grid0.coords t) ↔ t.val = 1)

/-- The condition of the body's branch 2. -/
abbrev cond0_2 (i : grid0.Coords) : Prop := k0_cond3 i = 1#1
/-- It holds where said, decided over the grid. -/
theorem hcond0_2 : ∀ t : Fin cfg0.N, cond0_2 (grid0.coords t) ↔ t.val = 2 :=
  (by decide +kernel : ∀ t : Fin grid0.N, cond0_2 (grid0.coords t) ↔ t.val = 2)

/-- The condition of the body's branch 3. -/
abbrev cond0_3 (i : grid0.Coords) : Prop := k0_cond4 i = 1#1
/-- It holds where said, decided over the grid. -/
theorem hcond0_3 : ∀ t : Fin cfg0.N, cond0_3 (grid0.coords t) ↔ (3 ≤ t.val ∧ t.val ≤ 23) :=
  (by decide +kernel : ∀ t : Fin grid0.N, cond0_3 (grid0.coords t) ↔ (3 ≤ t.val ∧ t.val ≤ 23))

/-- The condition of the body's branch 4. -/
abbrev cond0_4 (i : grid0.Coords) : Prop := k0_cond5 i = 1#1
/-- It holds where said, decided over the grid. -/
theorem hcond0_4 : ∀ t : Fin cfg0.N, cond0_4 (grid0.coords t) ↔ t.val = 24 :=
  (by decide +kernel : ∀ t : Fin grid0.N, cond0_4 (grid0.coords t) ↔ t.val = 24)

/-- The condition of the body's branch 5. -/
abbrev cond0_5 (i : grid0.Coords) : Prop := k0_cond6 i = 1#1
/-- It holds where said, decided over the grid. -/
theorem hcond0_5 : ∀ t : Fin cfg0.N, cond0_5 (grid0.coords t) ↔ t.val = 25 :=
  (by decide +kernel : ∀ t : Fin grid0.N, cond0_5 (grid0.coords t) ↔ t.val = 25)

/-- The condition of the body's branch 6. -/
abbrev cond0_6 (i : grid0.Coords) : Prop := k0_cond7 i = 1#1
/-- It holds where said, decided over the grid. -/
theorem hcond0_6 : ∀ t : Fin cfg0.N, cond0_6 (grid0.coords t) ↔ t.val = 26 :=
  (by decide +kernel : ∀ t : Fin grid0.N, cond0_6 (grid0.coords t) ↔ t.val = 26)

/-- Named here, so that the modules of the runs, which all rewrite by it, do not each make it. -/
theorem part81_congr_named : True := by
  have := @k0_part81_skel.congr_simp
  trivial

end Cert.KernelIdeal.Gen

end
-- ==== Proof.KernelIdeal.RunA.lean ====
/- The run of the body of `KernelIdeal` at the first point. -/
module

public import proofs.«01_k».proof.Proof.KernelIdeal.RunBase

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large
set_option maxHeartbeats 4000000 in
/-- The body at the first point: on whole staging memrefs and scratch at the contents `x·`, it runs to the continuation
    holding what it does not store into as it was, and each buffer it stores into with its pieces `L·` (last first)
    written over its contents. The pieces are found by the run. -/
noncomputable def runA (c : Dev nD) (i : grid0.Coords) (arg1 : Memref sig .tc .vmem S1x512x512 .bf16) (harg1 : arg1.IsWhole) (arg2 : Memref sig .tc .vmem S1x512x512 .fp8e4m3) (harg2 : arg2.IsWhole) (arg3 : Memref sig .tc .vmem S1x4096x512 .fp8e4m3) (harg3 : arg3.IsWhole) (arg4 : Memref sig .tc .vmem S1x4096x512 .fp8e4m3) (harg4 : arg4.IsWhole) (arg5 : Memref sig .tc .vmem S3x4096 .f32) (harg5 : arg5.IsWhole) (arg6 : Memref sig .tc .vmem S3x4096 .f32) (harg6 : arg6.IsWhole) (arg7 : Memref sig .tc .vmem S3x512 .f32) (harg7 : arg7.IsWhole) (arg8 : Memref sig .tc .vmem S512x512 .fp8e4m3) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .fp8e4m3) (harg13 : arg13.IsWhole) (arg14 : Memref sig .tc .vmem S3x4096 .f32) (harg14 : arg14.IsWhole) (arg15 : Memref sig .tc .vmem S512x4096 .f32) (harg15 : arg15.IsWhole) (arg16 : Memref sig .tc .vmem S512x4096 .f32) (harg16 : arg16.IsWhole) (arg17 : Memref sig .tc .vmem S512x512 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole)
    (hc0 : cond0_0 i) (hc1 : ¬cond0_1 i) (hc2 : ¬cond0_2 i) (hc3 : ¬cond0_3 i) (hc4 : ¬cond0_4 i) (hc5 : ¬cond0_5 i) (hc6 : ¬cond0_6 i)
    (x1 : Vec F S1x512x512 .bf16) (x2 : Vec F S1x512x512 .fp8e4m3) (x3 : Vec F S1x4096x512 .fp8e4m3) (x4 : Vec F S1x4096x512 .fp8e4m3) (x5 : Vec F S3x4096 .f32) (x6 : Vec F S3x4096 .f32) (x7 : Vec F S3x512 .f32) (x8 : Vec F S512x512 .fp8e4m3) (x9 : Vec F S1x512 .f32) (x10 : Vec F S1x512 .f32) (x11 : Vec F S1x512x512 .bf16) (x12 : Vec F S1x512x512 .bf16) (x13 : Vec F S1x512x512 .fp8e4m3) (x14 : Vec F S3x4096 .f32) (x15 : Vec F S512x4096 .f32) (x16 : Vec F S512x4096 .f32) (x17 : Vec F S512x512 .f32) (x18 : Vec F S512x128 .f32) (x19 : Vec F S512x128 .f32) (x20 : Vec F S512x128 .f32) (x21 : Vec F S512x128 .f32) (x22 : Vec F S512x128 .f32) :
    Σ' (L15 : List (View.Piece (Elt F) S512x4096 .f32)), Σ' (L18 : List (View.Piece (Elt F) S512x128 .f32)), Σ' (L19 : List (View.Piece (Elt F) S512x128 .f32)), { L20 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (arg15.view.loc (c : Thread nD τ) ↦[arg15.view.set]{fullShare} arg15.view.writes (Elt F) (harg15.unread x15) L15) ∗ owns (c : Thread nD τ) arg16 fullShare x16 ∗ owns (c : Thread nD τ) arg17 fullShare x17 ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ owns (c : Thread nD τ) arg21 fullShare x21 ∗ owns (c : Thread nD τ) arg22 fullShare x22) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, fun E K => ?run⟩
  case run =>
    simp only [cc0_attn_eq_skeleton]; unfold cc0_attn_skel
    simp only [k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | sl_exact hc0 | sl_exact hc1 | sl_exact hc2 | sl_exact hc3 | sl_exact hc4 | sl_exact hc5 | sl_exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexact H15
    isplitl [H16]
    · iexists _; isplitr; · ipureintro; exact harg16.read_unread _
      iexact H16
    isplitl [H17]
    · iexists _; isplitr; · ipureintro; exact harg17.read_unread _
      iexact H17
    isplitl [H18]; · iexact H18
    isplitl [H19]; · iexact H19
    isplitl [H20]; · iexact H20
    isplitl [H21]
    · iexists _; isplitr; · ipureintro; exact harg21.read_unread _
      iexact H21
    iexists _; isplitr; · ipureintro; exact harg22.read_unread _
    iexact H22

end Cert.KernelIdeal.Gen

end
-- ==== Proof.KernelIdeal.RunB.lean ====
/- The run of the body of `KernelIdeal` at point 1. -/
module

public import proofs.«01_k».proof.Proof.KernelIdeal.RunBase

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large
set_option maxHeartbeats 4000000 in
/-- The body at point 1: on whole staging memrefs and scratch at the contents `x·`, it runs to the continuation
    holding what it does not store into as it was, and each buffer it stores into with its pieces `L·` (last first)
    written over its contents. The pieces are found by the run. -/
noncomputable def runB (c : Dev nD) (i : grid0.Coords) (arg1 : Memref sig .tc .vmem S1x512x512 .bf16) (harg1 : arg1.IsWhole) (arg2 : Memref sig .tc .vmem S1x512x512 .fp8e4m3) (harg2 : arg2.IsWhole) (arg3 : Memref sig .tc .vmem S1x4096x512 .fp8e4m3) (harg3 : arg3.IsWhole) (arg4 : Memref sig .tc .vmem S1x4096x512 .fp8e4m3) (harg4 : arg4.IsWhole) (arg5 : Memref sig .tc .vmem S3x4096 .f32) (harg5 : arg5.IsWhole) (arg6 : Memref sig .tc .vmem S3x4096 .f32) (harg6 : arg6.IsWhole) (arg7 : Memref sig .tc .vmem S3x512 .f32) (harg7 : arg7.IsWhole) (arg8 : Memref sig .tc .vmem S512x512 .fp8e4m3) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .fp8e4m3) (harg13 : arg13.IsWhole) (arg14 : Memref sig .tc .vmem S3x4096 .f32) (harg14 : arg14.IsWhole) (arg15 : Memref sig .tc .vmem S512x4096 .f32) (harg15 : arg15.IsWhole) (arg16 : Memref sig .tc .vmem S512x4096 .f32) (harg16 : arg16.IsWhole) (arg17 : Memref sig .tc .vmem S512x512 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole)
    (hc0 : ¬cond0_0 i) (hc1 : cond0_1 i) (hc2 : ¬cond0_2 i) (hc3 : ¬cond0_3 i) (hc4 : ¬cond0_4 i) (hc5 : ¬cond0_5 i) (hc6 : ¬cond0_6 i)
    (x1 : Vec F S1x512x512 .bf16) (x2 : Vec F S1x512x512 .fp8e4m3) (x3 : Vec F S1x4096x512 .fp8e4m3) (x4 : Vec F S1x4096x512 .fp8e4m3) (x5 : Vec F S3x4096 .f32) (x6 : Vec F S3x4096 .f32) (x7 : Vec F S3x512 .f32) (x8 : Vec F S512x512 .fp8e4m3) (x9 : Vec F S1x512 .f32) (x10 : Vec F S1x512 .f32) (x11 : Vec F S1x512x512 .bf16) (x12 : Vec F S1x512x512 .bf16) (x13 : Vec F S1x512x512 .fp8e4m3) (x14 : Vec F S3x4096 .f32) (x15 : Vec F S512x4096 .f32) (x16 : Vec F S512x4096 .f32) (x17 : Vec F S512x512 .f32) (x18 : Vec F S512x128 .f32) (x19 : Vec F S512x128 .f32) (x20 : Vec F S512x128 .f32) (x21 : Vec F S512x128 .f32) (x22 : Vec F S512x128 .f32) :
    Σ' (L15 : List (View.Piece (Elt F) S512x4096 .f32)), Σ' (L16 : List (View.Piece (Elt F) S512x4096 .f32)), Σ' (L18 : List (View.Piece (Elt F) S512x128 .f32)), Σ' (L19 : List (View.Piece (Elt F) S512x128 .f32)), Σ' (L20 : List (View.Piece (Elt F) S512x128 .f32)), Σ' (L21 : List (View.Piece (Elt F) S512x128 .f32)), { L22 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ owns (c : Thread nD τ) arg17 fullShare x17 ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22)) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, fun E K => ?run⟩
  case run =>
    simp only [cc0_attn_eq_skeleton]; unfold cc0_attn_skel
    simp only [k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | sl_exact hc0 | sl_exact hc1 | sl_exact hc2 | sl_exact hc3 | sl_exact hc4 | sl_exact hc5 | sl_exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexact H15
    isplitl [H16]; · iexact H16
    isplitl [H17]
    · iexists _; isplitr; · ipureintro; exact harg17.read_unread _
      iexact H17
    isplitl [H18]; · iexact H18
    isplitl [H19]; · iexact H19
    isplitl [H20]; · iexact H20
    isplitl [H21]; · iexact H21
    iexact H22

end Cert.KernelIdeal.Gen

end
-- ==== Proof.KernelIdeal.RunC.lean ====
/- The run of the body of `KernelIdeal` at point 2. -/
module

public import proofs.«01_k».proof.Proof.KernelIdeal.RunBase

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large
set_option maxHeartbeats 4000000 in
/-- The body at point 2: on whole staging memrefs and scratch at the contents `x·`, it runs to the continuation
    holding what it does not store into as it was, and each buffer it stores into with its pieces `L·` (last first)
    written over its contents. The pieces are found by the run. -/
noncomputable def runC (c : Dev nD) (i : grid0.Coords) (arg1 : Memref sig .tc .vmem S1x512x512 .bf16) (harg1 : arg1.IsWhole) (arg2 : Memref sig .tc .vmem S1x512x512 .fp8e4m3) (harg2 : arg2.IsWhole) (arg3 : Memref sig .tc .vmem S1x4096x512 .fp8e4m3) (harg3 : arg3.IsWhole) (arg4 : Memref sig .tc .vmem S1x4096x512 .fp8e4m3) (harg4 : arg4.IsWhole) (arg5 : Memref sig .tc .vmem S3x4096 .f32) (harg5 : arg5.IsWhole) (arg6 : Memref sig .tc .vmem S3x4096 .f32) (harg6 : arg6.IsWhole) (arg7 : Memref sig .tc .vmem S3x512 .f32) (harg7 : arg7.IsWhole) (arg8 : Memref sig .tc .vmem S512x512 .fp8e4m3) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .fp8e4m3) (harg13 : arg13.IsWhole) (arg14 : Memref sig .tc .vmem S3x4096 .f32) (harg14 : arg14.IsWhole) (arg15 : Memref sig .tc .vmem S512x4096 .f32) (harg15 : arg15.IsWhole) (arg16 : Memref sig .tc .vmem S512x4096 .f32) (harg16 : arg16.IsWhole) (arg17 : Memref sig .tc .vmem S512x512 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole)
    (hc0 : ¬cond0_0 i) (hc1 : ¬cond0_1 i) (hc2 : cond0_2 i) (hc3 : ¬cond0_3 i) (hc4 : ¬cond0_4 i) (hc5 : ¬cond0_5 i) (hc6 : ¬cond0_6 i)
    (x1 : Vec F S1x512x512 .bf16) (x2 : Vec F S1x512x512 .fp8e4m3) (x3 : Vec F S1x4096x512 .fp8e4m3) (x4 : Vec F S1x4096x512 .fp8e4m3) (x5 : Vec F S3x4096 .f32) (x6 : Vec F S3x4096 .f32) (x7 : Vec F S3x512 .f32) (x8 : Vec F S512x512 .fp8e4m3) (x9 : Vec F S1x512 .f32) (x10 : Vec F S1x512 .f32) (x11 : Vec F S1x512x512 .bf16) (x12 : Vec F S1x512x512 .bf16) (x13 : Vec F S1x512x512 .fp8e4m3) (x14 : Vec F S3x4096 .f32) (x15 : Vec F S512x4096 .f32) (x16 : Vec F S512x4096 .f32) (x17 : Vec F S512x512 .f32) (x18 : Vec F S512x128 .f32) (x19 : Vec F S512x128 .f32) (x20 : Vec F S512x128 .f32) (x21 : Vec F S512x128 .f32) (x22 : Vec F S512x128 .f32) :
    Σ' (L15 : List (View.Piece (Elt F) S512x4096 .f32)), Σ' (L16 : List (View.Piece (Elt F) S512x4096 .f32)), Σ' (L17 : List (View.Piece (Elt F) S512x512 .f32)), Σ' (L18 : List (View.Piece (Elt F) S512x128 .f32)), Σ' (L19 : List (View.Piece (Elt F) S512x128 .f32)), Σ' (L20 : List (View.Piece (Elt F) S512x128 .f32)), Σ' (L21 : List (View.Piece (Elt F) S512x128 .f32)), { L22 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22)) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun E K => ?run⟩
  case run =>
    simp only [cc0_attn_eq_skeleton]; unfold cc0_attn_skel
    simp only [k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | sl_exact hc0 | sl_exact hc1 | sl_exact hc2 | sl_exact hc3 | sl_exact hc4 | sl_exact hc5 | sl_exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.KernelIdeal.Gen

end
-- ==== Proof.KernelIdeal.RunD.lean ====
/- The run of the body of `KernelIdeal` at points 3 to 23. -/
module

public import proofs.«01_k».proof.Proof.KernelIdeal.RunBase

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large
set_option maxHeartbeats 4000000 in
/-- The body at points 3 to 23: on whole staging memrefs and scratch at the contents `x·`, it runs to the continuation
    holding what it does not store into as it was, and each buffer it stores into with its pieces `L·` (last first)
    written over its contents. The pieces are found by the run. -/
noncomputable def runD (c : Dev nD) (i : grid0.Coords) (arg1 : Memref sig .tc .vmem S1x512x512 .bf16) (harg1 : arg1.IsWhole) (arg2 : Memref sig .tc .vmem S1x512x512 .fp8e4m3) (harg2 : arg2.IsWhole) (arg3 : Memref sig .tc .vmem S1x4096x512 .fp8e4m3) (harg3 : arg3.IsWhole) (arg4 : Memref sig .tc .vmem S1x4096x512 .fp8e4m3) (harg4 : arg4.IsWhole) (arg5 : Memref sig .tc .vmem S3x4096 .f32) (harg5 : arg5.IsWhole) (arg6 : Memref sig .tc .vmem S3x4096 .f32) (harg6 : arg6.IsWhole) (arg7 : Memref sig .tc .vmem S3x512 .f32) (harg7 : arg7.IsWhole) (arg8 : Memref sig .tc .vmem S512x512 .fp8e4m3) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .fp8e4m3) (harg13 : arg13.IsWhole) (arg14 : Memref sig .tc .vmem S3x4096 .f32) (harg14 : arg14.IsWhole) (arg15 : Memref sig .tc .vmem S512x4096 .f32) (harg15 : arg15.IsWhole) (arg16 : Memref sig .tc .vmem S512x4096 .f32) (harg16 : arg16.IsWhole) (arg17 : Memref sig .tc .vmem S512x512 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole)
    (hc0 : ¬cond0_0 i) (hc1 : ¬cond0_1 i) (hc2 : ¬cond0_2 i) (hc3 : cond0_3 i) (hc4 : ¬cond0_4 i) (hc5 : ¬cond0_5 i) (hc6 : ¬cond0_6 i)
    (x1 : Vec F S1x512x512 .bf16) (x2 : Vec F S1x512x512 .fp8e4m3) (x3 : Vec F S1x4096x512 .fp8e4m3) (x4 : Vec F S1x4096x512 .fp8e4m3) (x5 : Vec F S3x4096 .f32) (x6 : Vec F S3x4096 .f32) (x7 : Vec F S3x512 .f32) (x8 : Vec F S512x512 .fp8e4m3) (x9 : Vec F S1x512 .f32) (x10 : Vec F S1x512 .f32) (x11 : Vec F S1x512x512 .bf16) (x12 : Vec F S1x512x512 .bf16) (x13 : Vec F S1x512x512 .fp8e4m3) (x14 : Vec F S3x4096 .f32) (x15 : Vec F S512x4096 .f32) (x16 : Vec F S512x4096 .f32) (x17 : Vec F S512x512 .f32) (x18 : Vec F S512x128 .f32) (x19 : Vec F S512x128 .f32) (x20 : Vec F S512x128 .f32) (x21 : Vec F S512x128 .f32) (x22 : Vec F S512x128 .f32) :
    Σ' (L11 : List (View.Piece (Elt F) S1x512x512 .bf16)), Σ' (L12 : List (View.Piece (Elt F) S1x512x512 .bf16)), Σ' (L13 : List (View.Piece (Elt F) S1x512x512 .fp8e4m3)), Σ' (L14 : List (View.Piece (Elt F) S3x4096 .f32)), Σ' (L15 : List (View.Piece (Elt F) S512x4096 .f32)), Σ' (L16 : List (View.Piece (Elt F) S512x4096 .f32)), Σ' (L17 : List (View.Piece (Elt F) S512x512 .f32)), Σ' (L18 : List (View.Piece (Elt F) S512x128 .f32)), Σ' (L19 : List (View.Piece (Elt F) S512x128 .f32)), Σ' (L20 : List (View.Piece (Elt F) S512x128 .f32)), Σ' (L21 : List (View.Piece (Elt F) S512x128 .f32)), { L22 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22)) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, ?_, fun E K => ?run⟩
  case run =>
    simp only [cc0_attn_eq_skeleton]; unfold cc0_attn_skel
    simp only [k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | sl_exact hc0 | sl_exact hc1 | sl_exact hc2 | sl_exact hc3 | sl_exact hc4 | sl_exact hc5 | sl_exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.KernelIdeal.Gen

end
-- ==== Proof.KernelIdeal.RunE.lean ====
/- The run of the body of `KernelIdeal` at point 24. -/
module

public import proofs.«01_k».proof.Proof.KernelIdeal.RunBase

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large
set_option maxHeartbeats 4000000 in
/-- The body at point 24: on whole staging memrefs and scratch at the contents `x·`, it runs to the continuation
    holding what it does not store into as it was, and each buffer it stores into with its pieces `L·` (last first)
    written over its contents. The pieces are found by the run. -/
noncomputable def runE (c : Dev nD) (i : grid0.Coords) (arg1 : Memref sig .tc .vmem S1x512x512 .bf16) (harg1 : arg1.IsWhole) (arg2 : Memref sig .tc .vmem S1x512x512 .fp8e4m3) (harg2 : arg2.IsWhole) (arg3 : Memref sig .tc .vmem S1x4096x512 .fp8e4m3) (harg3 : arg3.IsWhole) (arg4 : Memref sig .tc .vmem S1x4096x512 .fp8e4m3) (harg4 : arg4.IsWhole) (arg5 : Memref sig .tc .vmem S3x4096 .f32) (harg5 : arg5.IsWhole) (arg6 : Memref sig .tc .vmem S3x4096 .f32) (harg6 : arg6.IsWhole) (arg7 : Memref sig .tc .vmem S3x512 .f32) (harg7 : arg7.IsWhole) (arg8 : Memref sig .tc .vmem S512x512 .fp8e4m3) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .fp8e4m3) (harg13 : arg13.IsWhole) (arg14 : Memref sig .tc .vmem S3x4096 .f32) (harg14 : arg14.IsWhole) (arg15 : Memref sig .tc .vmem S512x4096 .f32) (harg15 : arg15.IsWhole) (arg16 : Memref sig .tc .vmem S512x4096 .f32) (harg16 : arg16.IsWhole) (arg17 : Memref sig .tc .vmem S512x512 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole)
    (hc0 : ¬cond0_0 i) (hc1 : ¬cond0_1 i) (hc2 : ¬cond0_2 i) (hc3 : ¬cond0_3 i) (hc4 : cond0_4 i) (hc5 : ¬cond0_5 i) (hc6 : ¬cond0_6 i)
    (x1 : Vec F S1x512x512 .bf16) (x2 : Vec F S1x512x512 .fp8e4m3) (x3 : Vec F S1x4096x512 .fp8e4m3) (x4 : Vec F S1x4096x512 .fp8e4m3) (x5 : Vec F S3x4096 .f32) (x6 : Vec F S3x4096 .f32) (x7 : Vec F S3x512 .f32) (x8 : Vec F S512x512 .fp8e4m3) (x9 : Vec F S1x512 .f32) (x10 : Vec F S1x512 .f32) (x11 : Vec F S1x512x512 .bf16) (x12 : Vec F S1x512x512 .bf16) (x13 : Vec F S1x512x512 .fp8e4m3) (x14 : Vec F S3x4096 .f32) (x15 : Vec F S512x4096 .f32) (x16 : Vec F S512x4096 .f32) (x17 : Vec F S512x512 .f32) (x18 : Vec F S512x128 .f32) (x19 : Vec F S512x128 .f32) (x20 : Vec F S512x128 .f32) (x21 : Vec F S512x128 .f32) (x22 : Vec F S512x128 .f32) :
    Σ' (L11 : List (View.Piece (Elt F) S1x512x512 .bf16)), Σ' (L12 : List (View.Piece (Elt F) S1x512x512 .bf16)), Σ' (L13 : List (View.Piece (Elt F) S1x512x512 .fp8e4m3)), Σ' (L14 : List (View.Piece (Elt F) S3x4096 .f32)), Σ' (L16 : List (View.Piece (Elt F) S512x4096 .f32)), Σ' (L17 : List (View.Piece (Elt F) S512x512 .f32)), Σ' (L21 : List (View.Piece (Elt F) S512x128 .f32)), { L22 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ owns (c : Thread nD τ) arg15 fullShare x15 ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ owns (c : Thread nD τ) arg18 fullShare x18 ∗ owns (c : Thread nD τ) arg19 fullShare x19 ∗ owns (c : Thread nD τ) arg20 fullShare x20 ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22)) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun E K => ?run⟩
  case run =>
    simp only [cc0_attn_eq_skeleton]; unfold cc0_attn_skel
    simp only [k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | sl_exact hc0 | sl_exact hc1 | sl_exact hc2 | sl_exact hc3 | sl_exact hc4 | sl_exact hc5 | sl_exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]; · iexact H12
    isplitl [H13]; · iexact H13
    isplitl [H14]; · iexact H14
    isplitl [H15]
    · iexists _; isplitr; · ipureintro; exact harg15.read_unread _
      iexact H15
    isplitl [H16]; · iexact H16
    isplitl [H17]; · iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]; · iexact H21
    iexact H22

end Cert.KernelIdeal.Gen

end
-- ==== Proof.KernelIdeal.RunF.lean ====
/- The run of the body of `KernelIdeal` at point 25. -/
module

public import proofs.«01_k».proof.Proof.KernelIdeal.RunBase

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large
set_option maxHeartbeats 4000000 in
/-- The body at point 25: on whole staging memrefs and scratch at the contents `x·`, it runs to the continuation
    holding what it does not store into as it was, and each buffer it stores into with its pieces `L·` (last first)
    written over its contents. The pieces are found by the run. -/
noncomputable def runF (c : Dev nD) (i : grid0.Coords) (arg1 : Memref sig .tc .vmem S1x512x512 .bf16) (harg1 : arg1.IsWhole) (arg2 : Memref sig .tc .vmem S1x512x512 .fp8e4m3) (harg2 : arg2.IsWhole) (arg3 : Memref sig .tc .vmem S1x4096x512 .fp8e4m3) (harg3 : arg3.IsWhole) (arg4 : Memref sig .tc .vmem S1x4096x512 .fp8e4m3) (harg4 : arg4.IsWhole) (arg5 : Memref sig .tc .vmem S3x4096 .f32) (harg5 : arg5.IsWhole) (arg6 : Memref sig .tc .vmem S3x4096 .f32) (harg6 : arg6.IsWhole) (arg7 : Memref sig .tc .vmem S3x512 .f32) (harg7 : arg7.IsWhole) (arg8 : Memref sig .tc .vmem S512x512 .fp8e4m3) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .fp8e4m3) (harg13 : arg13.IsWhole) (arg14 : Memref sig .tc .vmem S3x4096 .f32) (harg14 : arg14.IsWhole) (arg15 : Memref sig .tc .vmem S512x4096 .f32) (harg15 : arg15.IsWhole) (arg16 : Memref sig .tc .vmem S512x4096 .f32) (harg16 : arg16.IsWhole) (arg17 : Memref sig .tc .vmem S512x512 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole)
    (hc0 : ¬cond0_0 i) (hc1 : ¬cond0_1 i) (hc2 : ¬cond0_2 i) (hc3 : ¬cond0_3 i) (hc4 : ¬cond0_4 i) (hc5 : cond0_5 i) (hc6 : ¬cond0_6 i)
    (x1 : Vec F S1x512x512 .bf16) (x2 : Vec F S1x512x512 .fp8e4m3) (x3 : Vec F S1x4096x512 .fp8e4m3) (x4 : Vec F S1x4096x512 .fp8e4m3) (x5 : Vec F S3x4096 .f32) (x6 : Vec F S3x4096 .f32) (x7 : Vec F S3x512 .f32) (x8 : Vec F S512x512 .fp8e4m3) (x9 : Vec F S1x512 .f32) (x10 : Vec F S1x512 .f32) (x11 : Vec F S1x512x512 .bf16) (x12 : Vec F S1x512x512 .bf16) (x13 : Vec F S1x512x512 .fp8e4m3) (x14 : Vec F S3x4096 .f32) (x15 : Vec F S512x4096 .f32) (x16 : Vec F S512x4096 .f32) (x17 : Vec F S512x512 .f32) (x18 : Vec F S512x128 .f32) (x19 : Vec F S512x128 .f32) (x20 : Vec F S512x128 .f32) (x21 : Vec F S512x128 .f32) (x22 : Vec F S512x128 .f32) :
    Σ' (L11 : List (View.Piece (Elt F) S1x512x512 .bf16)), Σ' (L12 : List (View.Piece (Elt F) S1x512x512 .bf16)), Σ' (L13 : List (View.Piece (Elt F) S1x512x512 .fp8e4m3)), Σ' (L14 : List (View.Piece (Elt F) S3x4096 .f32)), { L17 : List (View.Piece (Elt F) S512x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ owns (c : Thread nD τ) arg15 fullShare x15 ∗ owns (c : Thread nD τ) arg16 fullShare x16 ∗ (arg17.view.loc (c : Thread nD τ) ↦[arg17.view.set]{fullShare} arg17.view.writes (Elt F) (harg17.unread x17) L17) ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, fun E K => ?run⟩
  case run =>
    simp only [cc0_attn_eq_skeleton]; unfold cc0_attn_skel
    simp only [k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | sl_exact hc0 | sl_exact hc1 | sl_exact hc2 | sl_exact hc3 | sl_exact hc4 | sl_exact hc5 | sl_exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]; · iexact H12
    isplitl [H13]; · iexact H13
    isplitl [H14]; · iexact H14
    isplitl [H15]
    · iexists _; isplitr; · ipureintro; exact harg15.read_unread _
      iexact H15
    isplitl [H16]
    · iexists _; isplitr; · ipureintro; exact harg16.read_unread _
      iexact H16
    isplitl [H17]; · iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    iexists _; isplitr; · ipureintro; exact harg22.read_unread _
    iexact H22

end Cert.KernelIdeal.Gen

end
-- ==== Proof.KernelIdeal.RunG.lean ====
/- The run of the body of `KernelIdeal` at the last point. -/
module

public import proofs.«01_k».proof.Proof.KernelIdeal.RunBase

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large
set_option maxHeartbeats 4000000 in
/-- The body at the last point: on whole staging memrefs and scratch at the contents `x·`, it runs to the continuation
    holding what it does not store into as it was, and each buffer it stores into with its pieces `L·` (last first)
    written over its contents. The pieces are found by the run. -/
noncomputable def runG (c : Dev nD) (i : grid0.Coords) (arg1 : Memref sig .tc .vmem S1x512x512 .bf16) (harg1 : arg1.IsWhole) (arg2 : Memref sig .tc .vmem S1x512x512 .fp8e4m3) (harg2 : arg2.IsWhole) (arg3 : Memref sig .tc .vmem S1x4096x512 .fp8e4m3) (harg3 : arg3.IsWhole) (arg4 : Memref sig .tc .vmem S1x4096x512 .fp8e4m3) (harg4 : arg4.IsWhole) (arg5 : Memref sig .tc .vmem S3x4096 .f32) (harg5 : arg5.IsWhole) (arg6 : Memref sig .tc .vmem S3x4096 .f32) (harg6 : arg6.IsWhole) (arg7 : Memref sig .tc .vmem S3x512 .f32) (harg7 : arg7.IsWhole) (arg8 : Memref sig .tc .vmem S512x512 .fp8e4m3) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .fp8e4m3) (harg13 : arg13.IsWhole) (arg14 : Memref sig .tc .vmem S3x4096 .f32) (harg14 : arg14.IsWhole) (arg15 : Memref sig .tc .vmem S512x4096 .f32) (harg15 : arg15.IsWhole) (arg16 : Memref sig .tc .vmem S512x4096 .f32) (harg16 : arg16.IsWhole) (arg17 : Memref sig .tc .vmem S512x512 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S512x128 .f32) (harg22 : arg22.IsWhole)
    (hc0 : ¬cond0_0 i) (hc1 : ¬cond0_1 i) (hc2 : ¬cond0_2 i) (hc3 : ¬cond0_3 i) (hc4 : ¬cond0_4 i) (hc5 : ¬cond0_5 i) (hc6 : cond0_6 i)
    (x1 : Vec F S1x512x512 .bf16) (x2 : Vec F S1x512x512 .fp8e4m3) (x3 : Vec F S1x4096x512 .fp8e4m3) (x4 : Vec F S1x4096x512 .fp8e4m3) (x5 : Vec F S3x4096 .f32) (x6 : Vec F S3x4096 .f32) (x7 : Vec F S3x512 .f32) (x8 : Vec F S512x512 .fp8e4m3) (x9 : Vec F S1x512 .f32) (x10 : Vec F S1x512 .f32) (x11 : Vec F S1x512x512 .bf16) (x12 : Vec F S1x512x512 .bf16) (x13 : Vec F S1x512x512 .fp8e4m3) (x14 : Vec F S3x4096 .f32) (x15 : Vec F S512x4096 .f32) (x16 : Vec F S512x4096 .f32) (x17 : Vec F S512x512 .f32) (x18 : Vec F S512x128 .f32) (x19 : Vec F S512x128 .f32) (x20 : Vec F S512x128 .f32) (x21 : Vec F S512x128 .f32) (x22 : Vec F S512x128 .f32) :
    Σ' (L11 : List (View.Piece (Elt F) S1x512x512 .bf16)), Σ' (L12 : List (View.Piece (Elt F) S1x512x512 .bf16)), Σ' (L13 : List (View.Piece (Elt F) S1x512x512 .fp8e4m3)), { L14 : List (View.Piece (Elt F) S3x4096 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, fun E K => ?run⟩
  case run =>
    simp only [cc0_attn_eq_skeleton]; unfold cc0_attn_skel
    simp only [k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
    sl_exec (disch := first | sl_exact hc0 | sl_exact hc1 | sl_exact hc2 | sl_exact hc3 | sl_exact hc4 | sl_exact hc5 | sl_exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]; · iexact H12
    isplitl [H13]; · iexact H13
    isplitl [H14]; · iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    iexists _; isplitr; · ipureintro; exact harg22.read_unread _
    iexact H22

end Cert.KernelIdeal.Gen

end
-- ==== Proof.KernelIdeal.Sound.lean ====
/- The body obligation of `KernelIdeal` over relational proof data, from what each of the seven runs leaves, and the frame. -/
module

public import proofs.«01_k».proof.Proof.KernelIdeal.RunA
public import proofs.«01_k».proof.Proof.KernelIdeal.RunB
public import proofs.«01_k».proof.Proof.KernelIdeal.RunC
public import proofs.«01_k».proof.Proof.KernelIdeal.RunD
public import proofs.«01_k».proof.Proof.KernelIdeal.RunE
public import proofs.«01_k».proof.Proof.KernelIdeal.RunF
public import proofs.«01_k».proof.Proof.KernelIdeal.RunG
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging and scratch memrefs -/

abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x512 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S3x4096 .f32 := win0_13.stage (cfg0.slots t 13)
abbrev hs0_13 (t : Fin cfg0.N) : (ms0_13 t).IsWhole := hstage0_13 ((cfg0.slots t 13).cast nbuf0_13)
abbrev scM0_0 : Memref sig .tc .vmem S512x4096 .f32 := Memref.whole cc0_scratch0
abbrev scM0_1 : Memref sig .tc .vmem S512x4096 .f32 := Memref.whole cc0_scratch1
abbrev scM0_2 : Memref sig .tc .vmem S512x512 .f32 := Memref.whole cc0_scratch2
abbrev scM0_3 : Memref sig .tc .vmem S512x128 .f32 := Memref.whole cc0_scratch3
abbrev scM0_4 : Memref sig .tc .vmem S512x128 .f32 := Memref.whole cc0_scratch4
abbrev scM0_5 : Memref sig .tc .vmem S512x128 .f32 := Memref.whole cc0_scratch5
abbrev scM0_6 : Memref sig .tc .vmem S512x128 .f32 := Memref.whole cc0_scratch6
abbrev scM0_7 : Memref sig .tc .vmem S512x128 .f32 := Memref.whole cc0_scratch7

/-- The contents of the twenty-two buffers the body works on: ten inputs, four outputs, eight scratch buffers. -/
structure Bufs (F : FTy → Type) where
  x1 : Vec F S1x512x512 .bf16
  x2 : Vec F S1x512x512 .fp8e4m3
  x3 : Vec F S1x4096x512 .fp8e4m3
  x4 : Vec F S1x4096x512 .fp8e4m3
  x5 : Vec F S3x4096 .f32
  x6 : Vec F S3x4096 .f32
  x7 : Vec F S3x512 .f32
  x8 : Vec F S512x512 .fp8e4m3
  x9 : Vec F S1x512 .f32
  x10 : Vec F S1x512 .f32
  x11 : Vec F S1x512x512 .bf16
  x12 : Vec F S1x512x512 .bf16
  x13 : Vec F S1x512x512 .fp8e4m3
  x14 : Vec F S3x4096 .f32
  x15 : Vec F S512x4096 .f32
  x16 : Vec F S512x4096 .f32
  x17 : Vec F S512x512 .f32
  x18 : Vec F S512x128 .f32
  x19 : Vec F S512x128 .f32
  x20 : Vec F S512x128 .f32
  x21 : Vec F S512x128 .f32
  x22 : Vec F S512x128 .f32

/-- The outputs' buffers, held at their contents. -/
def heldOut (c : Dev nD) (t : Fin cfg0.N) (X : Bufs F) : sProp 𝕄 :=
  iprop(owns (c : Thread nD τ) (ms0_10 t) fullShare X.x11 ∗ owns (c : Thread nD τ) (ms0_11 t) fullShare X.x12 ∗ owns (c : Thread nD τ) (ms0_12 t) fullShare X.x13 ∗ owns (c : Thread nD τ) (ms0_13 t) fullShare X.x14)
/-- The scratch, held at its contents. -/
def heldScr (c : Dev nD) (X : Bufs F) : sProp 𝕄 :=
  iprop(owns (c : Thread nD τ) scM0_0 fullShare X.x15 ∗ owns (c : Thread nD τ) scM0_1 fullShare X.x16 ∗ owns (c : Thread nD τ) scM0_2 fullShare X.x17 ∗ owns (c : Thread nD τ) scM0_3 fullShare X.x18 ∗ owns (c : Thread nD τ) scM0_4 fullShare X.x19 ∗ owns (c : Thread nD τ) scM0_5 fullShare X.x20 ∗ owns (c : Thread nD τ) scM0_6 fullShare X.x21 ∗ owns (c : Thread nD τ) scM0_7 fullShare X.x22)
/-- The inputs' buffers, held at their contents. -/
def heldIn (c : Dev nD) (t : Fin cfg0.N) (X : Bufs F) : sProp 𝕄 :=
  iprop(owns (c : Thread nD τ) (ms0_0 t) fullShare X.x1 ∗ owns (c : Thread nD τ) (ms0_1 t) fullShare X.x2 ∗ owns (c : Thread nD τ) (ms0_2 t) fullShare X.x3 ∗ owns (c : Thread nD τ) (ms0_3 t) fullShare X.x4 ∗ owns (c : Thread nD τ) (ms0_4 t) fullShare X.x5 ∗ owns (c : Thread nD τ) (ms0_5 t) fullShare X.x6 ∗ owns (c : Thread nD τ) (ms0_6 t) fullShare X.x7 ∗ owns (c : Thread nD τ) (ms0_7 t) fullShare X.x8 ∗ owns (c : Thread nD τ) (ms0_8 t) fullShare X.x9 ∗ owns (c : Thread nD τ) (ms0_9 t) fullShare X.x10)

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- What a buffer reads back as after pieces are written over its contents. -/
def after {s : Shape} {e : EltTy} (M : Memref sig .tc .vmem s e) (hM : M.IsWhole) (x : Vec F s e) (L : List (View.Piece (Elt F) s e)) : Vec F s e :=
  M.view.read (Elt F) (M.view.writes (Elt F) (hM.unread x) L)

theorem owns_after (c : Dev nD) {s : Shape} {e : EltTy} (M : Memref sig .tc .vmem s e) (hM : M.IsWhole) (x : Vec F s e) (L : List (View.Piece (Elt F) s e)) :
    (iprop(M.view.loc (c : Thread nD τ) ↦[M.view.set]{fullShare} M.view.writes (Elt F) (hM.unread x) L) : sProp 𝕄) ⊢ owns (c : Thread nD τ) M fullShare (after M hM x L) := by
  unfold owns after
  iintro H
  iexists _; isplitr; swap; · iexact H
  ipureintro; rfl

/-! ## The runs on the pipeline's memrefs, and the contents they leave -/

/-- The run at the first point, on the pipeline's memrefs. -/
def atA (c : Dev nD) (t : Fin cfg0.N) (h : t.val = 0) (X : Bufs F) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
      ((hcond0_0 t).mpr h) (fun h' => by have := (hcond0_1 t).mp h'; omega) (fun h' => by have := (hcond0_2 t).mp h'; omega) (fun h' => by have := (hcond0_3 t).mp h'; omega) (fun h' => by have := (hcond0_4 t).mp h'; omega) (fun h' => by have := (hcond0_5 t).mp h'; omega) (fun h' => by have := (hcond0_6 t).mp h'; omega)
      X.x1 X.x2 X.x3 X.x4 X.x5 X.x6 X.x7 X.x8 X.x9 X.x10 X.x11 X.x12 X.x13 X.x14 X.x15 X.x16 X.x17 X.x18 X.x19 X.x20 X.x21 X.x22
/-- The contents it leaves. -/
def newA (c : Dev nD) (t : Fin cfg0.N) (h : t.val = 0) (X : Bufs F) : Bufs F :=
  { X with x15 := after scM0_0 (Memref.isWhole_whole _) X.x15 (atA c t h X).1,
           x18 := after scM0_3 (Memref.isWhole_whole _) X.x18 (atA c t h X).2.1,
           x19 := after scM0_4 (Memref.isWhole_whole _) X.x19 (atA c t h X).2.2.1,
           x20 := after scM0_5 (Memref.isWhole_whole _) X.x20 (atA c t h X).2.2.2.1 }
set_option maxHeartbeats 2000000 in
/-- The body there. -/
theorem stepA (c : Dev nD) (t : Fin cfg0.N) (h : t.val = 0) (X : Bufs F) (K : PUnit → sProp 𝕄) :
    iprop(heldIn c t X ∗ heldOut c t X ∗ heldScr c X ∗ (iprop(heldIn c t X ∗ heldOut c t (newA c t h X) ∗ heldScr c (newA c t h X)) -∗ K ⟨⟩))
      ⊢ wp frame (wpE (defs₀ (F := F)) Variants.none c none) Set.univ (bodyAt0 t) K := by
  unfold bodyAt0 heldIn heldOut heldScr
  dsimp only [newA]
  iintro ⟨⟨H1, H2, H3, H4, H5, H6, H7, H8, H9, H10⟩, ⟨H11, H12, H13, H14⟩, ⟨H15, H16, H17, H18, H19, H20, H21, H22⟩, Hk⟩
  iapply ((atA c t h X).2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H13, H14, H15, H16, H17, H18, H19, H20, H21, H22⟩
  iapply Hk
  isplitl [H1 H2 H3 H4 H5 H6 H7 H8 H9 H10]
  · isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [H11 H12 H13 H14]
  · isplitl [H11]
    · iexact H11
    isplitl [H12]
    · iexact H12
    isplitl [H13]
    · iexact H13
    · iexact H14
  isplitl [H15]
  · iapply (owns_after c scM0_0 (Memref.isWhole_whole _) X.x15 (atA c t h X).1); iexact H15
  isplitl [H16]
  · iexact H16
  isplitl [H17]
  · iexact H17
  isplitl [H18]
  · iapply (owns_after c scM0_3 (Memref.isWhole_whole _) X.x18 (atA c t h X).2.1); iexact H18
  isplitl [H19]
  · iapply (owns_after c scM0_4 (Memref.isWhole_whole _) X.x19 (atA c t h X).2.2.1); iexact H19
  isplitl [H20]
  · iapply (owns_after c scM0_5 (Memref.isWhole_whole _) X.x20 (atA c t h X).2.2.2.1); iexact H20
  isplitl [H21]
  · iexact H21
  · iexact H22

/-- The run at point 1, on the pipeline's memrefs. -/
def atB (c : Dev nD) (t : Fin cfg0.N) (h : t.val = 1) (X : Bufs F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
      (fun h' => by have := (hcond0_0 t).mp h'; omega) ((hcond0_1 t).mpr h) (fun h' => by have := (hcond0_2 t).mp h'; omega) (fun h' => by have := (hcond0_3 t).mp h'; omega) (fun h' => by have := (hcond0_4 t).mp h'; omega) (fun h' => by have := (hcond0_5 t).mp h'; omega) (fun h' => by have := (hcond0_6 t).mp h'; omega)
      X.x1 X.x2 X.x3 X.x4 X.x5 X.x6 X.x7 X.x8 X.x9 X.x10 X.x11 X.x12 X.x13 X.x14 X.x15 X.x16 X.x17 X.x18 X.x19 X.x20 X.x21 X.x22
/-- The contents it leaves. -/
def newB (c : Dev nD) (t : Fin cfg0.N) (h : t.val = 1) (X : Bufs F) : Bufs F :=
  { X with x15 := after scM0_0 (Memref.isWhole_whole _) X.x15 (atB c t h X).1,
           x16 := after scM0_1 (Memref.isWhole_whole _) X.x16 (atB c t h X).2.1,
           x18 := after scM0_3 (Memref.isWhole_whole _) X.x18 (atB c t h X).2.2.1,
           x19 := after scM0_4 (Memref.isWhole_whole _) X.x19 (atB c t h X).2.2.2.1,
           x20 := after scM0_5 (Memref.isWhole_whole _) X.x20 (atB c t h X).2.2.2.2.1,
           x21 := after scM0_6 (Memref.isWhole_whole _) X.x21 (atB c t h X).2.2.2.2.2.1,
           x22 := after scM0_7 (Memref.isWhole_whole _) X.x22 (atB c t h X).2.2.2.2.2.2.1 }
set_option maxHeartbeats 2000000 in
/-- The body there. -/
theorem stepB (c : Dev nD) (t : Fin cfg0.N) (h : t.val = 1) (X : Bufs F) (K : PUnit → sProp 𝕄) :
    iprop(heldIn c t X ∗ heldOut c t X ∗ heldScr c X ∗ (iprop(heldIn c t X ∗ heldOut c t (newB c t h X) ∗ heldScr c (newB c t h X)) -∗ K ⟨⟩))
      ⊢ wp frame (wpE (defs₀ (F := F)) Variants.none c none) Set.univ (bodyAt0 t) K := by
  unfold bodyAt0 heldIn heldOut heldScr
  dsimp only [newB]
  iintro ⟨⟨H1, H2, H3, H4, H5, H6, H7, H8, H9, H10⟩, ⟨H11, H12, H13, H14⟩, ⟨H15, H16, H17, H18, H19, H20, H21, H22⟩, Hk⟩
  iapply ((atB c t h X).2.2.2.2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H13, H14, H15, H16, H17, H18, H19, H20, H21, H22⟩
  iapply Hk
  isplitl [H1 H2 H3 H4 H5 H6 H7 H8 H9 H10]
  · isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [H11 H12 H13 H14]
  · isplitl [H11]
    · iexact H11
    isplitl [H12]
    · iexact H12
    isplitl [H13]
    · iexact H13
    · iexact H14
  isplitl [H15]
  · iapply (owns_after c scM0_0 (Memref.isWhole_whole _) X.x15 (atB c t h X).1); iexact H15
  isplitl [H16]
  · iapply (owns_after c scM0_1 (Memref.isWhole_whole _) X.x16 (atB c t h X).2.1); iexact H16
  isplitl [H17]
  · iexact H17
  isplitl [H18]
  · iapply (owns_after c scM0_3 (Memref.isWhole_whole _) X.x18 (atB c t h X).2.2.1); iexact H18
  isplitl [H19]
  · iapply (owns_after c scM0_4 (Memref.isWhole_whole _) X.x19 (atB c t h X).2.2.2.1); iexact H19
  isplitl [H20]
  · iapply (owns_after c scM0_5 (Memref.isWhole_whole _) X.x20 (atB c t h X).2.2.2.2.1); iexact H20
  isplitl [H21]
  · iapply (owns_after c scM0_6 (Memref.isWhole_whole _) X.x21 (atB c t h X).2.2.2.2.2.1); iexact H21
  · iapply (owns_after c scM0_7 (Memref.isWhole_whole _) X.x22 (atB c t h X).2.2.2.2.2.2.1); iexact H22

/-- The run at point 2, on the pipeline's memrefs. -/
def atC (c : Dev nD) (t : Fin cfg0.N) (h : t.val = 2) (X : Bufs F) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
      (fun h' => by have := (hcond0_0 t).mp h'; omega) (fun h' => by have := (hcond0_1 t).mp h'; omega) ((hcond0_2 t).mpr h) (fun h' => by have := (hcond0_3 t).mp h'; omega) (fun h' => by have := (hcond0_4 t).mp h'; omega) (fun h' => by have := (hcond0_5 t).mp h'; omega) (fun h' => by have := (hcond0_6 t).mp h'; omega)
      X.x1 X.x2 X.x3 X.x4 X.x5 X.x6 X.x7 X.x8 X.x9 X.x10 X.x11 X.x12 X.x13 X.x14 X.x15 X.x16 X.x17 X.x18 X.x19 X.x20 X.x21 X.x22
/-- The contents it leaves. -/
def newC (c : Dev nD) (t : Fin cfg0.N) (h : t.val = 2) (X : Bufs F) : Bufs F :=
  { X with x15 := after scM0_0 (Memref.isWhole_whole _) X.x15 (atC c t h X).1,
           x16 := after scM0_1 (Memref.isWhole_whole _) X.x16 (atC c t h X).2.1,
           x17 := after scM0_2 (Memref.isWhole_whole _) X.x17 (atC c t h X).2.2.1,
           x18 := after scM0_3 (Memref.isWhole_whole _) X.x18 (atC c t h X).2.2.2.1,
           x19 := after scM0_4 (Memref.isWhole_whole _) X.x19 (atC c t h X).2.2.2.2.1,
           x20 := after scM0_5 (Memref.isWhole_whole _) X.x20 (atC c t h X).2.2.2.2.2.1,
           x21 := after scM0_6 (Memref.isWhole_whole _) X.x21 (atC c t h X).2.2.2.2.2.2.1,
           x22 := after scM0_7 (Memref.isWhole_whole _) X.x22 (atC c t h X).2.2.2.2.2.2.2.1 }
set_option maxHeartbeats 2000000 in
/-- The body there. -/
theorem stepC (c : Dev nD) (t : Fin cfg0.N) (h : t.val = 2) (X : Bufs F) (K : PUnit → sProp 𝕄) :
    iprop(heldIn c t X ∗ heldOut c t X ∗ heldScr c X ∗ (iprop(heldIn c t X ∗ heldOut c t (newC c t h X) ∗ heldScr c (newC c t h X)) -∗ K ⟨⟩))
      ⊢ wp frame (wpE (defs₀ (F := F)) Variants.none c none) Set.univ (bodyAt0 t) K := by
  unfold bodyAt0 heldIn heldOut heldScr
  dsimp only [newC]
  iintro ⟨⟨H1, H2, H3, H4, H5, H6, H7, H8, H9, H10⟩, ⟨H11, H12, H13, H14⟩, ⟨H15, H16, H17, H18, H19, H20, H21, H22⟩, Hk⟩
  iapply ((atC c t h X).2.2.2.2.2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H13, H14, H15, H16, H17, H18, H19, H20, H21, H22⟩
  iapply Hk
  isplitl [H1 H2 H3 H4 H5 H6 H7 H8 H9 H10]
  · isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [H11 H12 H13 H14]
  · isplitl [H11]
    · iexact H11
    isplitl [H12]
    · iexact H12
    isplitl [H13]
    · iexact H13
    · iexact H14
  isplitl [H15]
  · iapply (owns_after c scM0_0 (Memref.isWhole_whole _) X.x15 (atC c t h X).1); iexact H15
  isplitl [H16]
  · iapply (owns_after c scM0_1 (Memref.isWhole_whole _) X.x16 (atC c t h X).2.1); iexact H16
  isplitl [H17]
  · iapply (owns_after c scM0_2 (Memref.isWhole_whole _) X.x17 (atC c t h X).2.2.1); iexact H17
  isplitl [H18]
  · iapply (owns_after c scM0_3 (Memref.isWhole_whole _) X.x18 (atC c t h X).2.2.2.1); iexact H18
  isplitl [H19]
  · iapply (owns_after c scM0_4 (Memref.isWhole_whole _) X.x19 (atC c t h X).2.2.2.2.1); iexact H19
  isplitl [H20]
  · iapply (owns_after c scM0_5 (Memref.isWhole_whole _) X.x20 (atC c t h X).2.2.2.2.2.1); iexact H20
  isplitl [H21]
  · iapply (owns_after c scM0_6 (Memref.isWhole_whole _) X.x21 (atC c t h X).2.2.2.2.2.2.1); iexact H21
  · iapply (owns_after c scM0_7 (Memref.isWhole_whole _) X.x22 (atC c t h X).2.2.2.2.2.2.2.1); iexact H22

/-- The run at points 3 to 23, on the pipeline's memrefs. -/
def atD (c : Dev nD) (t : Fin cfg0.N) (h : (3 ≤ t.val ∧ t.val ≤ 23)) (X : Bufs F) :=
  runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
      (fun h' => by have := (hcond0_0 t).mp h'; omega) (fun h' => by have := (hcond0_1 t).mp h'; omega) (fun h' => by have := (hcond0_2 t).mp h'; omega) ((hcond0_3 t).mpr h) (fun h' => by have := (hcond0_4 t).mp h'; omega) (fun h' => by have := (hcond0_5 t).mp h'; omega) (fun h' => by have := (hcond0_6 t).mp h'; omega)
      X.x1 X.x2 X.x3 X.x4 X.x5 X.x6 X.x7 X.x8 X.x9 X.x10 X.x11 X.x12 X.x13 X.x14 X.x15 X.x16 X.x17 X.x18 X.x19 X.x20 X.x21 X.x22
/-- The contents it leaves. -/
def newD (c : Dev nD) (t : Fin cfg0.N) (h : (3 ≤ t.val ∧ t.val ≤ 23)) (X : Bufs F) : Bufs F :=
  { X with x11 := after (ms0_10 t) (hs0_10 t) X.x11 (atD c t h X).1,
           x12 := after (ms0_11 t) (hs0_11 t) X.x12 (atD c t h X).2.1,
           x13 := after (ms0_12 t) (hs0_12 t) X.x13 (atD c t h X).2.2.1,
           x14 := after (ms0_13 t) (hs0_13 t) X.x14 (atD c t h X).2.2.2.1,
           x15 := after scM0_0 (Memref.isWhole_whole _) X.x15 (atD c t h X).2.2.2.2.1,
           x16 := after scM0_1 (Memref.isWhole_whole _) X.x16 (atD c t h X).2.2.2.2.2.1,
           x17 := after scM0_2 (Memref.isWhole_whole _) X.x17 (atD c t h X).2.2.2.2.2.2.1,
           x18 := after scM0_3 (Memref.isWhole_whole _) X.x18 (atD c t h X).2.2.2.2.2.2.2.1,
           x19 := after scM0_4 (Memref.isWhole_whole _) X.x19 (atD c t h X).2.2.2.2.2.2.2.2.1,
           x20 := after scM0_5 (Memref.isWhole_whole _) X.x20 (atD c t h X).2.2.2.2.2.2.2.2.2.1,
           x21 := after scM0_6 (Memref.isWhole_whole _) X.x21 (atD c t h X).2.2.2.2.2.2.2.2.2.2.1,
           x22 := after scM0_7 (Memref.isWhole_whole _) X.x22 (atD c t h X).2.2.2.2.2.2.2.2.2.2.2.1 }
set_option maxHeartbeats 2000000 in
/-- The body there. -/
theorem stepD (c : Dev nD) (t : Fin cfg0.N) (h : (3 ≤ t.val ∧ t.val ≤ 23)) (X : Bufs F) (K : PUnit → sProp 𝕄) :
    iprop(heldIn c t X ∗ heldOut c t X ∗ heldScr c X ∗ (iprop(heldIn c t X ∗ heldOut c t (newD c t h X) ∗ heldScr c (newD c t h X)) -∗ K ⟨⟩))
      ⊢ wp frame (wpE (defs₀ (F := F)) Variants.none c none) Set.univ (bodyAt0 t) K := by
  unfold bodyAt0 heldIn heldOut heldScr
  dsimp only [newD]
  iintro ⟨⟨H1, H2, H3, H4, H5, H6, H7, H8, H9, H10⟩, ⟨H11, H12, H13, H14⟩, ⟨H15, H16, H17, H18, H19, H20, H21, H22⟩, Hk⟩
  iapply ((atD c t h X).2.2.2.2.2.2.2.2.2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H13, H14, H15, H16, H17, H18, H19, H20, H21, H22⟩
  iapply Hk
  isplitl [H1 H2 H3 H4 H5 H6 H7 H8 H9 H10]
  · isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [H11 H12 H13 H14]
  · isplitl [H11]
    · iapply (owns_after c (ms0_10 t) (hs0_10 t) X.x11 (atD c t h X).1); iexact H11
    isplitl [H12]
    · iapply (owns_after c (ms0_11 t) (hs0_11 t) X.x12 (atD c t h X).2.1); iexact H12
    isplitl [H13]
    · iapply (owns_after c (ms0_12 t) (hs0_12 t) X.x13 (atD c t h X).2.2.1); iexact H13
    · iapply (owns_after c (ms0_13 t) (hs0_13 t) X.x14 (atD c t h X).2.2.2.1); iexact H14
  isplitl [H15]
  · iapply (owns_after c scM0_0 (Memref.isWhole_whole _) X.x15 (atD c t h X).2.2.2.2.1); iexact H15
  isplitl [H16]
  · iapply (owns_after c scM0_1 (Memref.isWhole_whole _) X.x16 (atD c t h X).2.2.2.2.2.1); iexact H16
  isplitl [H17]
  · iapply (owns_after c scM0_2 (Memref.isWhole_whole _) X.x17 (atD c t h X).2.2.2.2.2.2.1); iexact H17
  isplitl [H18]
  · iapply (owns_after c scM0_3 (Memref.isWhole_whole _) X.x18 (atD c t h X).2.2.2.2.2.2.2.1); iexact H18
  isplitl [H19]
  · iapply (owns_after c scM0_4 (Memref.isWhole_whole _) X.x19 (atD c t h X).2.2.2.2.2.2.2.2.1); iexact H19
  isplitl [H20]
  · iapply (owns_after c scM0_5 (Memref.isWhole_whole _) X.x20 (atD c t h X).2.2.2.2.2.2.2.2.2.1); iexact H20
  isplitl [H21]
  · iapply (owns_after c scM0_6 (Memref.isWhole_whole _) X.x21 (atD c t h X).2.2.2.2.2.2.2.2.2.2.1); iexact H21
  · iapply (owns_after c scM0_7 (Memref.isWhole_whole _) X.x22 (atD c t h X).2.2.2.2.2.2.2.2.2.2.2.1); iexact H22

/-- The run at point 24, on the pipeline's memrefs. -/
def atE (c : Dev nD) (t : Fin cfg0.N) (h : t.val = 24) (X : Bufs F) :=
  runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
      (fun h' => by have := (hcond0_0 t).mp h'; omega) (fun h' => by have := (hcond0_1 t).mp h'; omega) (fun h' => by have := (hcond0_2 t).mp h'; omega) (fun h' => by have := (hcond0_3 t).mp h'; omega) ((hcond0_4 t).mpr h) (fun h' => by have := (hcond0_5 t).mp h'; omega) (fun h' => by have := (hcond0_6 t).mp h'; omega)
      X.x1 X.x2 X.x3 X.x4 X.x5 X.x6 X.x7 X.x8 X.x9 X.x10 X.x11 X.x12 X.x13 X.x14 X.x15 X.x16 X.x17 X.x18 X.x19 X.x20 X.x21 X.x22
/-- The contents it leaves. -/
def newE (c : Dev nD) (t : Fin cfg0.N) (h : t.val = 24) (X : Bufs F) : Bufs F :=
  { X with x11 := after (ms0_10 t) (hs0_10 t) X.x11 (atE c t h X).1,
           x12 := after (ms0_11 t) (hs0_11 t) X.x12 (atE c t h X).2.1,
           x13 := after (ms0_12 t) (hs0_12 t) X.x13 (atE c t h X).2.2.1,
           x14 := after (ms0_13 t) (hs0_13 t) X.x14 (atE c t h X).2.2.2.1,
           x16 := after scM0_1 (Memref.isWhole_whole _) X.x16 (atE c t h X).2.2.2.2.1,
           x17 := after scM0_2 (Memref.isWhole_whole _) X.x17 (atE c t h X).2.2.2.2.2.1,
           x21 := after scM0_6 (Memref.isWhole_whole _) X.x21 (atE c t h X).2.2.2.2.2.2.1,
           x22 := after scM0_7 (Memref.isWhole_whole _) X.x22 (atE c t h X).2.2.2.2.2.2.2.1 }
set_option maxHeartbeats 2000000 in
/-- The body there. -/
theorem stepE (c : Dev nD) (t : Fin cfg0.N) (h : t.val = 24) (X : Bufs F) (K : PUnit → sProp 𝕄) :
    iprop(heldIn c t X ∗ heldOut c t X ∗ heldScr c X ∗ (iprop(heldIn c t X ∗ heldOut c t (newE c t h X) ∗ heldScr c (newE c t h X)) -∗ K ⟨⟩))
      ⊢ wp frame (wpE (defs₀ (F := F)) Variants.none c none) Set.univ (bodyAt0 t) K := by
  unfold bodyAt0 heldIn heldOut heldScr
  dsimp only [newE]
  iintro ⟨⟨H1, H2, H3, H4, H5, H6, H7, H8, H9, H10⟩, ⟨H11, H12, H13, H14⟩, ⟨H15, H16, H17, H18, H19, H20, H21, H22⟩, Hk⟩
  iapply ((atE c t h X).2.2.2.2.2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H13, H14, H15, H16, H17, H18, H19, H20, H21, H22⟩
  iapply Hk
  isplitl [H1 H2 H3 H4 H5 H6 H7 H8 H9 H10]
  · isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [H11 H12 H13 H14]
  · isplitl [H11]
    · iapply (owns_after c (ms0_10 t) (hs0_10 t) X.x11 (atE c t h X).1); iexact H11
    isplitl [H12]
    · iapply (owns_after c (ms0_11 t) (hs0_11 t) X.x12 (atE c t h X).2.1); iexact H12
    isplitl [H13]
    · iapply (owns_after c (ms0_12 t) (hs0_12 t) X.x13 (atE c t h X).2.2.1); iexact H13
    · iapply (owns_after c (ms0_13 t) (hs0_13 t) X.x14 (atE c t h X).2.2.2.1); iexact H14
  isplitl [H15]
  · iexact H15
  isplitl [H16]
  · iapply (owns_after c scM0_1 (Memref.isWhole_whole _) X.x16 (atE c t h X).2.2.2.2.1); iexact H16
  isplitl [H17]
  · iapply (owns_after c scM0_2 (Memref.isWhole_whole _) X.x17 (atE c t h X).2.2.2.2.2.1); iexact H17
  isplitl [H18]
  · iexact H18
  isplitl [H19]
  · iexact H19
  isplitl [H20]
  · iexact H20
  isplitl [H21]
  · iapply (owns_after c scM0_6 (Memref.isWhole_whole _) X.x21 (atE c t h X).2.2.2.2.2.2.1); iexact H21
  · iapply (owns_after c scM0_7 (Memref.isWhole_whole _) X.x22 (atE c t h X).2.2.2.2.2.2.2.1); iexact H22

/-- The run at point 25, on the pipeline's memrefs. -/
def atF (c : Dev nD) (t : Fin cfg0.N) (h : t.val = 25) (X : Bufs F) :=
  runF c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
      (fun h' => by have := (hcond0_0 t).mp h'; omega) (fun h' => by have := (hcond0_1 t).mp h'; omega) (fun h' => by have := (hcond0_2 t).mp h'; omega) (fun h' => by have := (hcond0_3 t).mp h'; omega) (fun h' => by have := (hcond0_4 t).mp h'; omega) ((hcond0_5 t).mpr h) (fun h' => by have := (hcond0_6 t).mp h'; omega)
      X.x1 X.x2 X.x3 X.x4 X.x5 X.x6 X.x7 X.x8 X.x9 X.x10 X.x11 X.x12 X.x13 X.x14 X.x15 X.x16 X.x17 X.x18 X.x19 X.x20 X.x21 X.x22
/-- The contents it leaves. -/
def newF (c : Dev nD) (t : Fin cfg0.N) (h : t.val = 25) (X : Bufs F) : Bufs F :=
  { X with x11 := after (ms0_10 t) (hs0_10 t) X.x11 (atF c t h X).1,
           x12 := after (ms0_11 t) (hs0_11 t) X.x12 (atF c t h X).2.1,
           x13 := after (ms0_12 t) (hs0_12 t) X.x13 (atF c t h X).2.2.1,
           x14 := after (ms0_13 t) (hs0_13 t) X.x14 (atF c t h X).2.2.2.1,
           x17 := after scM0_2 (Memref.isWhole_whole _) X.x17 (atF c t h X).2.2.2.2.1 }
set_option maxHeartbeats 2000000 in
/-- The body there. -/
theorem stepF (c : Dev nD) (t : Fin cfg0.N) (h : t.val = 25) (X : Bufs F) (K : PUnit → sProp 𝕄) :
    iprop(heldIn c t X ∗ heldOut c t X ∗ heldScr c X ∗ (iprop(heldIn c t X ∗ heldOut c t (newF c t h X) ∗ heldScr c (newF c t h X)) -∗ K ⟨⟩))
      ⊢ wp frame (wpE (defs₀ (F := F)) Variants.none c none) Set.univ (bodyAt0 t) K := by
  unfold bodyAt0 heldIn heldOut heldScr
  dsimp only [newF]
  iintro ⟨⟨H1, H2, H3, H4, H5, H6, H7, H8, H9, H10⟩, ⟨H11, H12, H13, H14⟩, ⟨H15, H16, H17, H18, H19, H20, H21, H22⟩, Hk⟩
  iapply ((atF c t h X).2.2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H13, H14, H15, H16, H17, H18, H19, H20, H21, H22⟩
  iapply Hk
  isplitl [H1 H2 H3 H4 H5 H6 H7 H8 H9 H10]
  · isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [H11 H12 H13 H14]
  · isplitl [H11]
    · iapply (owns_after c (ms0_10 t) (hs0_10 t) X.x11 (atF c t h X).1); iexact H11
    isplitl [H12]
    · iapply (owns_after c (ms0_11 t) (hs0_11 t) X.x12 (atF c t h X).2.1); iexact H12
    isplitl [H13]
    · iapply (owns_after c (ms0_12 t) (hs0_12 t) X.x13 (atF c t h X).2.2.1); iexact H13
    · iapply (owns_after c (ms0_13 t) (hs0_13 t) X.x14 (atF c t h X).2.2.2.1); iexact H14
  isplitl [H15]
  · iexact H15
  isplitl [H16]
  · iexact H16
  isplitl [H17]
  · iapply (owns_after c scM0_2 (Memref.isWhole_whole _) X.x17 (atF c t h X).2.2.2.2.1); iexact H17
  isplitl [H18]
  · iexact H18
  isplitl [H19]
  · iexact H19
  isplitl [H20]
  · iexact H20
  isplitl [H21]
  · iexact H21
  · iexact H22

/-- The run at the last point, on the pipeline's memrefs. -/
def atG (c : Dev nD) (t : Fin cfg0.N) (h : t.val = 26) (X : Bufs F) :=
  runG c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
      (fun h' => by have := (hcond0_0 t).mp h'; omega) (fun h' => by have := (hcond0_1 t).mp h'; omega) (fun h' => by have := (hcond0_2 t).mp h'; omega) (fun h' => by have := (hcond0_3 t).mp h'; omega) (fun h' => by have := (hcond0_4 t).mp h'; omega) (fun h' => by have := (hcond0_5 t).mp h'; omega) ((hcond0_6 t).mpr h)
      X.x1 X.x2 X.x3 X.x4 X.x5 X.x6 X.x7 X.x8 X.x9 X.x10 X.x11 X.x12 X.x13 X.x14 X.x15 X.x16 X.x17 X.x18 X.x19 X.x20 X.x21 X.x22
/-- The contents it leaves. -/
def newG (c : Dev nD) (t : Fin cfg0.N) (h : t.val = 26) (X : Bufs F) : Bufs F :=
  { X with x11 := after (ms0_10 t) (hs0_10 t) X.x11 (atG c t h X).1,
           x12 := after (ms0_11 t) (hs0_11 t) X.x12 (atG c t h X).2.1,
           x13 := after (ms0_12 t) (hs0_12 t) X.x13 (atG c t h X).2.2.1,
           x14 := after (ms0_13 t) (hs0_13 t) X.x14 (atG c t h X).2.2.2.1 }
set_option maxHeartbeats 2000000 in
/-- The body there. -/
theorem stepG (c : Dev nD) (t : Fin cfg0.N) (h : t.val = 26) (X : Bufs F) (K : PUnit → sProp 𝕄) :
    iprop(heldIn c t X ∗ heldOut c t X ∗ heldScr c X ∗ (iprop(heldIn c t X ∗ heldOut c t (newG c t h X) ∗ heldScr c (newG c t h X)) -∗ K ⟨⟩))
      ⊢ wp frame (wpE (defs₀ (F := F)) Variants.none c none) Set.univ (bodyAt0 t) K := by
  unfold bodyAt0 heldIn heldOut heldScr
  dsimp only [newG]
  iintro ⟨⟨H1, H2, H3, H4, H5, H6, H7, H8, H9, H10⟩, ⟨H11, H12, H13, H14⟩, ⟨H15, H16, H17, H18, H19, H20, H21, H22⟩, Hk⟩
  iapply ((atG c t h X).2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H13, H14, H15, H16, H17, H18, H19, H20, H21, H22⟩
  iapply Hk
  isplitl [H1 H2 H3 H4 H5 H6 H7 H8 H9 H10]
  · isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [H11 H12 H13 H14]
  · isplitl [H11]
    · iapply (owns_after c (ms0_10 t) (hs0_10 t) X.x11 (atG c t h X).1); iexact H11
    isplitl [H12]
    · iapply (owns_after c (ms0_11 t) (hs0_11 t) X.x12 (atG c t h X).2.1); iexact H12
    isplitl [H13]
    · iapply (owns_after c (ms0_12 t) (hs0_12 t) X.x13 (atG c t h X).2.2.1); iexact H13
    · iapply (owns_after c (ms0_13 t) (hs0_13 t) X.x14 (atG c t h X).2.2.2.1); iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  · iexact H22

/-! ## Relational proof data -/

/-- The inputs' buffers at point `t`: what their arrays have there. -/
def withIn (c : Dev nD) (t : Fin cfg0.N) (X : Bufs F) : Bufs F := { X with x1 := iblk m c 0 t, x2 := iblk m c 1 t, x3 := iblk m c 2 t, x4 := iblk m c 3 t, x5 := iblk m c 4 t, x6 := iblk m c 5 t, x7 := iblk m c 6 t, x8 := iblk m c 7 t, x9 := iblk m c 8 t, x10 := iblk m c 9 t }

/-- What a proof says of the body from point to point: of the scratch before a point (`inv`), of what the body leaves
    in the three output tiles' buffers at a point, and of what it leaves in the scales' buffer, given what it found. -/
structure Spec (F : FTy → Type) where
  inv : ℕ → Bufs F → Prop
  inv_scr : ∀ n X X', X.x15 = X'.x15 → X.x16 = X'.x16 → X.x17 = X'.x17 → X.x18 = X'.x18 → X.x19 = X'.x19 → X.x20 = X'.x20 → X.x21 = X'.x21 → X.x22 = X'.x22 → inv n X → inv n X'
  l10 : Fin cfg0.N → Vec F S1x512x512 .bf16 → Prop
  l11 : Fin cfg0.N → Vec F S1x512x512 .bf16 → Prop
  l12 : Fin cfg0.N → Vec F S1x512x512 .fp8e4m3 → Prop
  l13 : Fin cfg0.N → Vec F S3x4096 .f32 → Vec F S3x4096 .f32 → Prop

/-- What the body has to establish at point `t`, of what it finds and leaves. -/
def Spec.ok (sp : Spec F) (t : Fin cfg0.N) (X X' : Bufs F) : Prop :=
  sp.inv (t.val + 1) X' ∧ sp.l10 t X'.x11 ∧ sp.l11 t X'.x12 ∧ sp.l12 t X'.x13 ∧ sp.l13 t X.x14 X'.x14

/-- What the scales' buffer holds when the body finds it: what some run of the body left at the point before. -/
def Spec.found (sp : Spec F) (t : Fin cfg0.N) (x14 : Vec F S3x4096 .f32) : Prop :=
  t.val ≠ 0 → ∃ Y, sp.l13 ⟨t.val - 1, Nat.lt_of_le_of_lt (Nat.sub_le _ _) t.isLt⟩ Y x14

/-- That each of the body's seven runs establishes `ok`. -/
structure Spec.Steps (sp : Spec F) (c : Dev nD) : Prop where
  start : ∀ X, sp.inv 0 X
  atA : ∀ (t : Fin cfg0.N) (h : t.val = 0) X, sp.inv t.val X → sp.found t X.x14 → sp.ok t (withIn m c t X) (newA c t h (withIn m c t X))
  atB : ∀ (t : Fin cfg0.N) (h : t.val = 1) X, sp.inv t.val X → sp.found t X.x14 → sp.ok t (withIn m c t X) (newB c t h (withIn m c t X))
  atC : ∀ (t : Fin cfg0.N) (h : t.val = 2) X, sp.inv t.val X → sp.found t X.x14 → sp.ok t (withIn m c t X) (newC c t h (withIn m c t X))
  atD : ∀ (t : Fin cfg0.N) (h : (3 ≤ t.val ∧ t.val ≤ 23)) X, sp.inv t.val X → sp.found t X.x14 → sp.ok t (withIn m c t X) (newD c t h (withIn m c t X))
  atE : ∀ (t : Fin cfg0.N) (h : t.val = 24) X, sp.inv t.val X → sp.found t X.x14 → sp.ok t (withIn m c t X) (newE c t h (withIn m c t X))
  atF : ∀ (t : Fin cfg0.N) (h : t.val = 25) X, sp.inv t.val X → sp.found t X.x14 → sp.ok t (withIn m c t X) (newF c t h (withIn m c t X))
  atG : ∀ (t : Fin cfg0.N) (h : t.val = 26) X, sp.inv t.val X → sp.found t X.x14 → sp.ok t (withIn m c t X) (newG c t h (withIn m c t X))

/-- The invariant before point `n`: the scratch at some contents `inv` admits, and the generator register. -/
def PhiR (sp : Spec F) (c : Dev nD) (n : ℕ) : sProp 𝕄 :=
  iprop((∃ X, ⌜sp.inv n X⌝ ∗ heldScr c X) ∗ (∃ r, prngReg c r))

/-- The proof data: the arrays as the region finds them; each input's buffer left as found; the outputs' as `sp` says. -/
def rdat (sp : Dev nD → Spec F) (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun _ X => (sp c).l10 t X
    | ⟨11, _⟩ => fun _ X => (sp c).l11 t X
    | ⟨12, _⟩ => fun _ X => (sp c).l12 t X
    | ⟨13, _⟩ => fun Y X => (sp c).l13 t Y X
  Φ n := PhiR (sp c) c n.val
  q _ := fullShare
  owed _ := 0

theorem rdat_A (sp : Dev nD → Spec F) (c : Dev nD) (w : Fin cfg0.W) : (rdat m sp c).A w = V m c (Pipeline.arrRef spec0 w) := by
  dsimp only [rdat]

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body at any point: the point says which run. -/
theorem body_step (sp : Spec F) (c : Dev nD) (hs : sp.Steps m c) (t : Fin cfg0.N) (X : Bufs F)
    (hinv : sp.inv t.val X) (hf : sp.found t X.x14) (K : PUnit → sProp 𝕄) :
    iprop(heldIn c t (withIn m c t X) ∗ heldOut c t X ∗ heldScr c X
        ∗ (iprop(heldIn c t (withIn m c t X) ∗ ∃ X', ⌜sp.ok t X X'⌝ ∗ heldOut c t X' ∗ heldScr c X') -∗ K ⟨⟩))
      ⊢ wp frame (wpE (defs₀ (F := F)) Variants.none c none) Set.univ (bodyAt0 t) K := by
  have hN : t.val < 27 := lt_of_lt_of_eq t.isLt (show cfg0.N = 27 from N_0)
  have go : ∀ X' : Bufs F, sp.ok t (withIn m c t X) X' →
      (∀ K : PUnit → sProp 𝕄, iprop(heldIn c t (withIn m c t X) ∗ heldOut c t (withIn m c t X) ∗ heldScr c (withIn m c t X) ∗ (iprop(heldIn c t (withIn m c t X) ∗ heldOut c t X' ∗ heldScr c X') -∗ K ⟨⟩))
        ⊢ wp frame (wpE (defs₀ (F := F)) Variants.none c none) Set.univ (bodyAt0 t) K) →
      iprop(heldIn c t (withIn m c t X) ∗ heldOut c t X ∗ heldScr c X
        ∗ (iprop(heldIn c t (withIn m c t X) ∗ ∃ X', ⌜sp.ok t X X'⌝ ∗ heldOut c t X' ∗ heldScr c X') -∗ K ⟨⟩))
      ⊢ wp frame (wpE (defs₀ (F := F)) Variants.none c none) Set.univ (bodyAt0 t) K := by
    intro X' hok hrun
    iintro ⟨H1, H2, H3, Hk⟩
    iapply (hrun K)
    isplitl [H1]; · iexact H1
    isplitl [H2]; · iexact H2
    isplitl [H3]; · iexact H3
    iintro ⟨H1, H2, H3⟩
    iapply Hk
    isplitl [H1]; · iexact H1
    iexists X'
    isplitr; · ipureintro; exact hok
    isplitl [H2]; · iexact H2
    iexact H3
  by_cases h0 : t.val = 0
  · exact go _ (hs.atA t h0 X hinv hf) (stepA c t h0 _)
  by_cases h1 : t.val = 1
  · exact go _ (hs.atB t h1 X hinv hf) (stepB c t h1 _)
  by_cases h2 : t.val = 2
  · exact go _ (hs.atC t h2 X hinv hf) (stepC c t h2 _)
  by_cases h3 : (3 ≤ t.val ∧ t.val ≤ 23)
  · exact go _ (hs.atD t h3 X hinv hf) (stepD c t h3 _)
  by_cases h4 : t.val = 24
  · exact go _ (hs.atE t h4 X hinv hf) (stepE c t h4 _)
  by_cases h5 : t.val = 25
  · exact go _ (hs.atF t h5 X hinv hf) (stepF c t h5 _)
  have h6 : t.val = 26 := by omega
  exact go _ (hs.atG t h6 X hinv hf) (stepG c t h6 _)

/-- An input window's buffer holds its block at every point. -/
theorem finds_in (sp : Dev nD → Spec F) (c : Dev nD) (t : Fin cfg0.N) (Y : (w : Fin cfg0.W) → (cfg0.win w).block.Idx → Elt F (cfg0.win w).elt)
    (hY : ∀ w, (rdat m sp c).Finds w t (Y w)) :
    Y 0 = iblk m c 0 t ∧ Y 1 = iblk m c 1 t ∧ Y 2 = iblk m c 2 t ∧ Y 3 = iblk m c 3 t ∧ Y 4 = iblk m c 4 t ∧ Y 5 = iblk m c 5 t ∧ Y 6 = iblk m c 6 t ∧ Y 7 = iblk m c 7 t ∧ Y 8 = iblk m c 8 t ∧ Y 9 = iblk m c 9 t := by
  refine ⟨?_, ?_, ?_, ?_, ?_, ?_, ?_, ?_, ?_, ?_⟩
  · obtain ⟨d, hd⟩ := (rdat m sp c).finds_in_eq_fetched 0 rfl (fun _ _ _ => rfl) (fun _ _ _ h => h) t _ (hY 0)
    exact hd.trans (by unfold Pipeline.RDat.fetched Pipeline.RDat.blockOf iblk; rw [rdat_A]; try rfl)
  · obtain ⟨d, hd⟩ := (rdat m sp c).finds_in_eq_fetched 1 rfl (fun _ _ _ => rfl) (fun _ _ _ h => h) t _ (hY 1)
    exact hd.trans (by unfold Pipeline.RDat.fetched Pipeline.RDat.blockOf iblk; rw [rdat_A]; try rfl)
  · obtain ⟨d, hd⟩ := (rdat m sp c).finds_in_eq_fetched 2 rfl (fun _ _ _ => rfl) (fun _ _ _ h => h) t _ (hY 2)
    exact hd.trans (by unfold Pipeline.RDat.fetched Pipeline.RDat.blockOf iblk; rw [rdat_A]; try rfl)
  · obtain ⟨d, hd⟩ := (rdat m sp c).finds_in_eq_fetched 3 rfl (fun _ _ _ => rfl) (fun _ _ _ h => h) t _ (hY 3)
    exact hd.trans (by unfold Pipeline.RDat.fetched Pipeline.RDat.blockOf iblk; rw [rdat_A]; try rfl)
  · obtain ⟨d, hd⟩ := (rdat m sp c).finds_in_eq_fetched 4 rfl (fun _ _ _ => rfl) (fun _ _ _ h => h) t _ (hY 4)
    exact hd.trans (by unfold Pipeline.RDat.fetched Pipeline.RDat.blockOf iblk; rw [rdat_A]; try rfl)
  · obtain ⟨d, hd⟩ := (rdat m sp c).finds_in_eq_fetched 5 rfl (fun _ _ _ => rfl) (fun _ _ _ h => h) t _ (hY 5)
    exact hd.trans (by unfold Pipeline.RDat.fetched Pipeline.RDat.blockOf iblk; rw [rdat_A]; try rfl)
  · obtain ⟨d, hd⟩ := (rdat m sp c).finds_in_eq_fetched 6 rfl (fun _ _ _ => rfl) (fun _ _ _ h => h) t _ (hY 6)
    exact hd.trans (by unfold Pipeline.RDat.fetched Pipeline.RDat.blockOf iblk; rw [rdat_A]; try rfl)
  · obtain ⟨d, hd⟩ := (rdat m sp c).finds_in_eq_fetched 7 rfl (fun _ _ _ => rfl) (fun _ _ _ h => h) t _ (hY 7)
    exact hd.trans (by unfold Pipeline.RDat.fetched Pipeline.RDat.blockOf iblk; rw [rdat_A]; try rfl)
  · obtain ⟨d, hd⟩ := (rdat m sp c).finds_in_eq_fetched 8 rfl (fun _ _ _ => rfl) (fun _ _ _ h => h) t _ (hY 8)
    exact hd.trans (by unfold Pipeline.RDat.fetched Pipeline.RDat.blockOf iblk; rw [rdat_A]; try rfl)
  · obtain ⟨d, hd⟩ := (rdat m sp c).finds_in_eq_fetched 9 rfl (fun _ _ _ => rfl) (fun _ _ _ h => h) t _ (hY 9)
    exact hd.trans (by unfold Pipeline.RDat.fetched Pipeline.RDat.blockOf iblk; rw [rdat_A]; try rfl)

/-- The scales' window is written back at the last point only, and never fetched. -/
theorem flush13 : ∀ t : Fin cfg0.N, (cfg0.win 13).flush t = true → t.val = 26 :=
  (by decide +kernel : ∀ t : Fin grid0.N, (cfg0.win 13).flush t = true → t.val = 26)
theorem fetch13 : ∀ t : Fin cfg0.N, (cfg0.win 13).fetch t = false := fun t => (cfg0.win 13).fetch_out rfl t

/-- What the scales' window finds. -/
theorem finds13 (sp : Dev nD → Spec F) (c : Dev nD) (t : Fin cfg0.N) (Y : Vec F S3x4096 .f32)
    (hY : (rdat m sp c).Finds 13 t Y) : (sp c).found t Y := by
  intro h0
  have hN : t.val < 27 := lt_of_lt_of_eq t.isLt (show cfg0.N = 27 from N_0)
  rcases ((rdat m sp c).finds_of_pos (fetch13 t) h0 Y).mp hY with h | ⟨Z, -, h⟩
  · have := flush13 _ h; simp only at this; omega
  · exact ⟨Z, h⟩

set_option maxHeartbeats 2000000 in
/-- The library's body obligation. -/
theorem body_obligation (sp : Dev nD → Spec F) (c : Dev nD) (hs : (sp c).Steps m c) :
    (rdat m sp c).BodyObligation (defs₀ (F := F)) Variants.none () Set.univ := by
  intro t Y hY
  obtain ⟨e0, e1, e2, e3, e4, e5, e6, e7, e8, e9⟩ := finds_in m sp c t Y hY
  have hf := finds13 m sp c t (Y 13) (hY 13)
  rw [bigSep_W0, bigSep_W0, defs₀_row]
  rw [e0, e1, e2, e3, e4, e5, e6, e7, e8, e9]
  rw [show (rdat m sp c).owesAt () t.succ = (rdat m sp c).owesAt () t.castSucc from rfl]
  rw [show (rdat m sp c).Φ t.castSucc = PhiR (sp c) c t.val from rfl, show (rdat m sp c).Φ t.succ = PhiR (sp c) c (t.val + 1) from rfl]
  unfold PhiR
  iintro ⟨⟨⟨%X, %hinv, Hs⟩, Hg⟩, Ho, H1, H2, H3, H4, H5, H6, H7, H8, H9, H10, H11, H12, H13, H14⟩
  iapply (body_step m (sp c) c hs t { X with x11 := Y 10, x12 := Y 11, x13 := Y 12, x14 := Y 13 }
    ((sp c).inv_scr _ X _ rfl rfl rfl rfl rfl rfl rfl rfl hinv) hf _)
  unfold heldIn heldOut
  isplitl [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13 H14]
  · isplitl [H11]; · iexact H11
    isplitl [H12]; · iexact H12
    isplitl [H13]; · iexact H13
    iexact H14
  isplitl [Hs]; · iexact Hs
  iintro ⟨⟨H1, H2, H3, H4, H5, H6, H7, H8, H9, H10⟩, %X', %hok, ⟨H11, H12, H13, H14⟩, Hs⟩
  isplitl [Hs Hg]
  · isplitl [Hs]
    · iexists X'
      isplitr; · ipureintro; exact hok.1
      iexact Hs
    iexact Hg
  isplitl [Ho]; · iexact Ho
  isplitl [H1]
  · iexists (iblk m c 0 t); isplitr; · ipureintro; exact rfl
    iexact H1
  isplitl [H2]
  · iexists (iblk m c 1 t); isplitr; · ipureintro; exact rfl
    iexact H2
  isplitl [H3]
  · iexists (iblk m c 2 t); isplitr; · ipureintro; exact rfl
    iexact H3
  isplitl [H4]
  · iexists (iblk m c 3 t); isplitr; · ipureintro; exact rfl
    iexact H4
  isplitl [H5]
  · iexists (iblk m c 4 t); isplitr; · ipureintro; exact rfl
    iexact H5
  isplitl [H6]
  · iexists (iblk m c 5 t); isplitr; · ipureintro; exact rfl
    iexact H6
  isplitl [H7]
  · iexists (iblk m c 6 t); isplitr; · ipureintro; exact rfl
    iexact H7
  isplitl [H8]
  · iexists (iblk m c 7 t); isplitr; · ipureintro; exact rfl
    iexact H8
  isplitl [H9]
  · iexists (iblk m c 8 t); isplitr; · ipureintro; exact rfl
    iexact H9
  isplitl [H10]
  · iexists (iblk m c 9 t); isplitr; · ipureintro; exact rfl
    iexact H10
  isplitl [H11]
  · iexists X'.x11; isplitr; · ipureintro; exact hok.2.1
    iexact H11
  isplitl [H12]
  · iexists X'.x12; isplitr; · ipureintro; exact hok.2.2.1
    iexact H12
  isplitl [H13]
  · iexists X'.x13; isplitr; · ipureintro; exact hok.2.2.2.1
    iexact H13
  iexists X'.x14; isplitr; · ipureintro; exact hok.2.2.2.2
  iexact H14

/-- What the launch hands the region is the invariant before the first point. -/
theorem hin (sp : Dev nD → Spec F) (c : Dev nD) (hs : (sp c).Steps m c) : Pipeline.ΦA spec0 c ⊢ (rdat m sp c).Φ 0 := by
  rw [show (rdat m sp c).Φ 0 = PhiR (sp c) c 0 from rfl, PhiA0_eq]
  unfold PhiR
  iintro ⟨⟨⟨%x15, H15⟩, ⟨%x16, H16⟩, ⟨%x17, H17⟩, ⟨%x18, H18⟩, ⟨%x19, H19⟩, ⟨%x20, H20⟩, ⟨%x21, H21⟩, ⟨%x22, H22⟩⟩, Hg⟩
  have t0 : Fin cfg0.N := ⟨0, lt_of_lt_of_eq (by omega : 0 < 27) (show cfg0.N = 27 from N_0).symm⟩
  isplitl [H15 H16 H17 H18 H19 H20 H21 H22]
  · iexists ⟨iblk m c 0 t0, iblk m c 1 t0, iblk m c 2 t0, iblk m c 3 t0, iblk m c 4 t0, iblk m c 5 t0, iblk m c 6 t0, iblk m c 7 t0, iblk m c 8 t0, iblk m c 9 t0, iblk m c 0 t0, iblk m c 0 t0, iblk m c 1 t0, iblk m c 4 t0, x15, x16, x17, x18, x19, x20, x21, x22⟩
    isplitr; · ipureintro; exact hs.start _
    unfold heldScr
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  iexact Hg

/-- After the last point the invariant gives the launch's back: the contents are forgotten. -/
theorem hout (sp : Dev nD → Spec F) (c : Dev nD) : (rdat m sp c).Φ (Fin.last cfg0.N) ⊢ Pipeline.ΦA spec0 c := by
  rw [show (rdat m sp c).Φ (Fin.last cfg0.N) = PhiR (sp c) c (Fin.last cfg0.N).val from rfl, PhiA0_eq]
  unfold PhiR heldScr
  iintro ⟨⟨%X, -, H15, H16, H17, H18, H19, H20, H21, H22⟩, Hg⟩
  isplitl [H15 H16 H17 H18 H19 H20 H21 H22]
  · isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22
  iexact Hg

set_option backward.isDefEq.respectTransparency.types false in
/-- The launch: every weakly fair execution of @main terminates, at arrays the proof data admits and every counter at zero. -/
theorem run_main (sp : Dev nD → Spec F) (hs : ∀ c, (sp c).Steps m c) :
    θ_run defs (onTc (τ := τ) (main (F := F))) (s₀ m ρ) (fun r => Pipeline.RDat.FramePost (cfgs 0) (rdat m sp) (V m) r ∧ r.2.sem = fun _ => 0) :=
  Pipeline.RDat.θ_run_frame_track (Q' := _) cfgs (0 : Fin 1) launch0 defs₀ Variants.none (rdat m sp) m ρ main
    (hbody := fun c => body_obligation m sp c (hs c)) (hshare := fun c w => by unfold Pipeline.RDat.share; split <;> rfl)
    (howed := fun _ _ => rfl) (V := V m) (hmain := hmain m Variants.none) (hA := rdat_A m sp) (hin := fun c => hin m sp c (hs c)) (hout := hout m sp)

/-- The argument arrays after a run. -/
theorem kept (sp : Dev nD → Spec F) (r : PUnit × MemSt nD τ sig (Elt F)) (h : Pipeline.RDat.FramePost (cfgs 0) (rdat m sp) (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) :=
  ⟨(Pipeline.RDat.FramePost.arr_in h c 0 rfl).trans ((rdat_A m sp c 0).trans (V_main_arg0 m c)),
    (Pipeline.RDat.FramePost.arr_in h c 1 rfl).trans ((rdat_A m sp c 1).trans (V_main_arg1 m c)),
    (Pipeline.RDat.FramePost.arr_in h c 2 rfl).trans ((rdat_A m sp c 2).trans (V_main_arg2 m c)),
    (Pipeline.RDat.FramePost.arr_in h c 3 rfl).trans ((rdat_A m sp c 3).trans (V_main_arg3 m c)),
    (Pipeline.RDat.FramePost.arr_in h c 4 rfl).trans ((rdat_A m sp c 4).trans (V_main_arg4 m c)),
    (Pipeline.RDat.FramePost.arr_in h c 5 rfl).trans ((rdat_A m sp c 5).trans (V_main_arg5 m c)),
    (Pipeline.RDat.FramePost.arr_in h c 6 rfl).trans ((rdat_A m sp c 6).trans (V_main_arg6 m c)),
    (Pipeline.RDat.FramePost.arr_in h c 7 rfl).trans ((rdat_A m sp c 7).trans (V_main_arg7 m c)),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩

/-- The proof data that says nothing. -/
def nothing (_ : Dev nD) : Spec F where
  inv _ _ := True
  inv_scr := fun _ _ _ _ _ _ _ _ _ _ _ _ => trivial
  l10 _ _ := True
  l11 _ _ := True
  l12 _ _ := True
  l13 _ _ _ := True

theorem nothing_steps (c : Dev nD) : (nothing (F := F) c).Steps m c where
  start _ := trivial
  atA _ _ _ _ _ := ⟨trivial, trivial, trivial, trivial, trivial⟩
  atB _ _ _ _ _ := ⟨trivial, trivial, trivial, trivial, trivial⟩
  atC _ _ _ _ _ := ⟨trivial, trivial, trivial, trivial, trivial⟩
  atD _ _ _ _ _ := ⟨trivial, trivial, trivial, trivial, trivial⟩
  atE _ _ _ _ _ := ⟨trivial, trivial, trivial, trivial, trivial⟩
  atF _ _ _ _ _ := ⟨trivial, trivial, trivial, trivial, trivial⟩
  atG _ _ _ _ _ := ⟨trivial, trivial, trivial, trivial, trivial⟩

/-- The frame: the statement of the claim at any values. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)) ∧ r.2.sem = fun _ => 0) :=
  (θ_run defs _ _).mono (fun r h => ⟨fun c => kept m nothing r h.1 c, h.2⟩) (run_main m ρ nothing (fun c => nothing_steps m c))

end Cert.KernelIdeal.Gen

end
-- ==== Proof.KernelIdeal.Sem.lean ====
/- The attention body as vector expressions: what each of its four stages stores, in terms of what the stage loads. -/
module

public import proofs.«01_k».proof.Proof.KernelIdeal.RunBase
public import Idealize.ShloMosaic.Lib.VecWindow

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- The pieces of an accumulator that is stored whole, then read back and stored whole three times. -/
def acc4 {s : Shape} {e : EltTy} (M : Memref sig .tc .vmem s e) (off : Fin s.rank → ℕ) (inb : ∀ a, off a + s.size a ≤ s.size a)
    (w : s.Idx → Elt F e) (f1 f2 f3 : (s.Idx → Elt F e) → s.Idx → Elt F e) : List (View.Piece (Elt F) s e) :=
  let L1 : List (View.Piece (Elt F) s e) := [⟨Rect.unit off s.size inb, w⟩]
  let L2 : List (View.Piece (Elt F) s e) := ⟨Rect.unit off s.size inb, f1 (M.view.readCov L1 (Rect.unit off s.size inb).toLoadRect)⟩ :: L1
  let L3 : List (View.Piece (Elt F) s e) := ⟨Rect.unit off s.size inb, f2 (M.view.readCov L2 (Rect.unit off s.size inb).toLoadRect)⟩ :: L2
  ⟨Rect.unit off s.size inb, f3 (M.view.readCov L3 (Rect.unit off s.size inb).toLoadRect)⟩ :: L3

theorem readCov_acc4 {s : Shape} {e : EltTy} (M : Memref sig .tc .vmem s e) (off : Fin s.rank → ℕ) (inb : ∀ a, off a + s.size a ≤ s.size a)
    (w : s.Idx → Elt F e) (f1 f2 f3 : (s.Idx → Elt F e) → s.Idx → Elt F e) :
    M.view.readCov (acc4 M off inb w f1 f2 f3) (Rect.unit off s.size inb).toLoadRect = f3 (f2 (f1 w)) := by
  unfold acc4
  simp only [View.readCov_full]

theorem read_acc4 {s : Shape} {e : EltTy} (M : Memref sig .tc .vmem s e) (off : Fin s.rank → ℕ) (inb : ∀ a, off a + s.size a ≤ s.size a)
    (w : s.Idx → Elt F e) (f1 f2 f3 : (s.Idx → Elt F e) → s.Idx → Elt F e) (g : M.view.ty.Contents (Elt F)) :
    M.view.read (Elt F) (M.view.writes (Elt F) g (acc4 M off inb w f1 f2 f3)) = f3 (f2 (f1 w)) := by
  unfold acc4
  rw [View.read_writes_full]
  simp only [View.readCov_full]

/-! ## Scores -/

/-- A chunk of 1024 keys: the codes' products, by the keys' scales. -/
def scoreC (q : Vec F S1x512x512 .fp8e4m3) (k : Vec F S1x1024x512 .fp8e4m3) (s : Vec F S1x1024 .f32) : FVec F S512x1024 .f32 :=
  mulf (matmul dot_S512x512_S1024x512_S512x1024_1_1_0_0_n_n none (shapeCast S512x512 q shapeCasts_S1x512x512_S512x512)
    (shapeCast S1024x512 k shapeCasts_S1x1024x512_S1024x512) (constant S512x1024 .f32 0#32)) (broadcastTo S512x1024 s broadcasts_S1x1024_S512x1024)
/-- The chunk's maximum over its eight groups of 128 lanes. -/
def mx0 (v : FVec F S512x1024 .f32) : FVec F S512x128 .f32 :=
  (maximumf (maximumf (maximumf (maximumf (maximumf (maximumf (maximumf (extractStridedSlice S512x128 ![0, 0] v slices_S512x1024_o0_0_S512x128) (extractStridedSlice S512x128 ![0, 128] v slices_S512x1024_o0_128_S512x128)) (extractStridedSlice S512x128 ![0, 256] v slices_S512x1024_o0_256_S512x128)) (extractStridedSlice S512x128 ![0, 384] v slices_S512x1024_o0_384_S512x128)) (extractStridedSlice S512x128 ![0, 512] v slices_S512x1024_o0_512_S512x128)) (extractStridedSlice S512x128 ![0, 640] v slices_S512x1024_o0_640_S512x128)) (extractStridedSlice S512x128 ![0, 768] v slices_S512x1024_o0_768_S512x128)) (extractStridedSlice S512x128 ![0, 896] v slices_S512x1024_o0_896_S512x128))
/-- The same from the maximum so far. -/
def mxN (m : FVec F S512x128 .f32) (v : FVec F S512x1024 .f32) : FVec F S512x128 .f32 :=
  (maximumf (maximumf (maximumf (maximumf (maximumf (maximumf (maximumf (maximumf m (extractStridedSlice S512x128 ![0, 0] v slices_S512x1024_o0_0_S512x128)) (extractStridedSlice S512x128 ![0, 128] v slices_S512x1024_o0_128_S512x128)) (extractStridedSlice S512x128 ![0, 256] v slices_S512x1024_o0_256_S512x128)) (extractStridedSlice S512x128 ![0, 384] v slices_S512x1024_o0_384_S512x128)) (extractStridedSlice S512x128 ![0, 512] v slices_S512x1024_o0_512_S512x128)) (extractStridedSlice S512x128 ![0, 640] v slices_S512x1024_o0_640_S512x128)) (extractStridedSlice S512x128 ![0, 768] v slices_S512x1024_o0_768_S512x128)) (extractStridedSlice S512x128 ![0, 896] v slices_S512x1024_o0_896_S512x128))

def fl128 (v : FVec F S512x128 .f32) : FVec F S512x128 .f32 := shapeCast S512x128 v shapeCasts_S512x128_S512x128
def fl512 (v : FVec F S512x512 .f32) : FVec F S512x512 .f32 := shapeCast S512x512 v shapeCasts_S512x512_S512x512

/-- What the scores' buffer is stored. -/
def listS (q : Vec F S1x512x512 .fp8e4m3) (k0 k1 k2 k3 : Vec F S1x1024x512 .fp8e4m3) (s0 s1 s2 s3 : Vec F S1x1024 .f32) : List (View.Piece (Elt F) S512x4096 .f32) :=
  [⟨Rect.unit ![0, 3072] S512x1024.size inb_S512x4096_S512x1024_0_3072, shapeCast S512x1024 (scoreC q k3 s3) shapeCasts_S512x1024_S512x1024⟩, ⟨Rect.unit ![0, 2048] S512x1024.size inb_S512x4096_S512x1024_0_2048, shapeCast S512x1024 (scoreC q k2 s2) shapeCasts_S512x1024_S512x1024⟩, ⟨Rect.unit ![0, 1024] S512x1024.size inb_S512x4096_S512x1024_0_1024, shapeCast S512x1024 (scoreC q k1 s1) shapeCasts_S512x1024_S512x1024⟩, ⟨Rect.unit ![0, 0] S512x1024.size inb_S512x4096_S512x1024_0_0, shapeCast S512x1024 (scoreC q k0 s0) shapeCasts_S512x1024_S512x1024⟩]

/-- What the running maximum is stored. -/
def listMx (M : Memref sig .tc .vmem S512x128 .f32) (q : Vec F S1x512x512 .fp8e4m3) (k0 k1 k2 k3 : Vec F S1x1024x512 .fp8e4m3) (s0 s1 s2 s3 : Vec F S1x1024 .f32) : List (View.Piece (Elt F) S512x128 .f32) :=
  acc4 M ![0, 0] inb_S512x128_S512x128_0_0 (fl128 (mx0 (scoreC q k0 s0))) (fun m => fl128 (mxN m (scoreC q k1 s1)))
    (fun m => fl128 (mxN m (scoreC q k2 s2))) (fun m => fl128 (mxN m (scoreC q k3 s3)))

/-- The queries' scales in the softmax's units, one per row. -/
def rsV (qs : Vec F S1x512 .f32) : FVec F S512x128 .f32 := k0_pay456 (k0_pay212 qs) (Named.named κ "attn_log2e" 0x3D8293EE#32)
def mcV (qs : Vec F S1x512 .f32) (m : Vec F S512x128 .f32) : FVec F S512x128 .f32 := k0_pay457 (k0_pay212 qs) (Named.named κ "attn_log2e" 0x3D8293EE#32) m

def listRs (qs : Vec F S1x512 .f32) : List (View.Piece (Elt F) S512x128 .f32) := [⟨Rect.unit ![0, 0] S512x128.size inb_S512x128_S512x128_0_0, rsV qs⟩]
def listMc (M : Memref sig .tc .vmem S512x128 .f32) (q : Vec F S1x512x512 .fp8e4m3) (k0 k1 k2 k3 : Vec F S1x1024x512 .fp8e4m3) (s0 s1 s2 s3 : Vec F S1x1024 .f32) (qs : Vec F S1x512 .f32) : List (View.Piece (Elt F) S512x128 .f32) :=
  [⟨Rect.unit ![0, 0] S512x128.size inb_S512x128_S512x128_0_0, mcV qs (M.view.readCov (listMx M q k0 k1 k2 k3 s0 s1 s2 s3) (Rect.unit ![0, 0] S512x128.size inb_S512x128_S512x128_0_0).toLoadRect)⟩]

/-! ## Exponentials -/

theorem inbE (j : Fin 32) : ∀ a, (![0, 128 * j.val] : Fin 2 → ℕ) a + S512x128.size a ≤ S512x4096.size a :=
  (by decide +kernel : ∀ j : Fin 32, ∀ a, (![0, 128 * j.val] : Fin 2 → ℕ) a + S512x128.size a ≤ S512x4096.size a) j

def eT (s rs mc : Vec F S512x128 .f32) : FVec F S512x128 .f32 := exp2 (subf (mulf s rs) mc)

def listE (s : Fin 32 → Vec F S512x128 .f32) (rs mc : Vec F S512x128 .f32) : List (View.Piece (Elt F) S512x4096 .f32) :=
  List.map (fun j : Fin 32 => (⟨Rect.unit ![0, 128 * j.val] S512x128.size (inbE j), fl128 (eT (s j) rs mc)⟩ : View.Piece (Elt F) S512x4096 .f32))
    [31, 30, 29, 28, 27, 26, 25, 24, 23, 22, 21, 20, 19, 18, 17, 16, 15, 14, 13, 12, 11, 10, 9, 8, 7, 6, 5, 4, 3, 2, 1, 0]

def listL (M : Memref sig .tc .vmem S512x128 .f32) (s : Fin 32 → Vec F S512x128 .f32) (rs mc : Vec F S512x128 .f32) : List (View.Piece (Elt F) S512x128 .f32) :=
  acc4 M ![0, 0] inb_S512x128_S512x128_0_0
    (fl128 (addf (addf (addf (addf (addf (addf (addf (eT (s 0) rs mc) (eT (s 1) rs mc)) (eT (s 2) rs mc)) (eT (s 3) rs mc)) (eT (s 4) rs mc)) (eT (s 5) rs mc)) (eT (s 6) rs mc)) (eT (s 7) rs mc)))
    (fun l => fl128 (addf (addf (addf (addf (addf (addf (addf (addf l (eT (s 8) rs mc)) (eT (s 9) rs mc)) (eT (s 10) rs mc)) (eT (s 11) rs mc)) (eT (s 12) rs mc)) (eT (s 13) rs mc)) (eT (s 14) rs mc)) (eT (s 15) rs mc)))
    (fun l => fl128 (addf (addf (addf (addf (addf (addf (addf (addf l (eT (s 16) rs mc)) (eT (s 17) rs mc)) (eT (s 18) rs mc)) (eT (s 19) rs mc)) (eT (s 20) rs mc)) (eT (s 21) rs mc)) (eT (s 22) rs mc)) (eT (s 23) rs mc)))
    (fun l => fl128 (addf (addf (addf (addf (addf (addf (addf (addf l (eT (s 24) rs mc)) (eT (s 25) rs mc)) (eT (s 26) rs mc)) (eT (s 27) rs mc)) (eT (s 28) rs mc)) (eT (s 29) rs mc)) (eT (s 30) rs mc)) (eT (s 31) rs mc)))

def listIl (M : Memref sig .tc .vmem S512x128 .f32) (s : Fin 32 → Vec F S512x128 .f32) (rs mc : Vec F S512x128 .f32) : List (View.Piece (Elt F) S512x128 .f32) :=
  [⟨Rect.unit ![0, 0] S512x128.size inb_S512x128_S512x128_0_0, k0_pay211 (M.view.readCov (listL M s rs mc) (Rect.unit ![0, 0] S512x128.size inb_S512x128_S512x128_0_0).toLoadRect)⟩]

/-! ## Values -/

def pT (e il : Vec F S512x128 .f32) : FVec F S512x128 .bf16 := truncf .bf16 (mulf e il) bitsLt_bf16_f32

/-- A chunk of 1024 keys' probabilities by their values. -/
def oC (e0 e1 e2 e3 e4 e5 e6 e7 il : Vec F S512x128 .f32) (v : Vec F S1x1024x512 .fp8e4m3) : FVec F S512x512 .f32 :=
  matmul dot_S512x1024_S1024x512_S512x512_1_0_0_1_n_n none
    (concatenate S512x1024 1 [⟨S512x128, pT e0 il⟩, ⟨S512x128, pT e1 il⟩, ⟨S512x128, pT e2 il⟩, ⟨S512x128, pT e3 il⟩, ⟨S512x128, pT e4 il⟩, ⟨S512x128, pT e5 il⟩, ⟨S512x128, pT e6 il⟩, ⟨S512x128, pT e7 il⟩] concatenates_S512x128_S512x128_S512x128_S512x128_S512x128_S512x128_S512x128_S512x128_S512x1024_d1)
    (shapeCast S1024x512 v shapeCasts_S1x1024x512_S1024x512) (constant S512x512 .f32 0#32)

def listO (M : Memref sig .tc .vmem S512x512 .f32) (e : Fin 32 → Vec F S512x128 .f32) (il : Vec F S512x128 .f32) (v0 v1 v2 v3 : Vec F S1x1024x512 .fp8e4m3) (vs : Vec F S1x512 .f32) : List (View.Piece (Elt F) S512x512 .f32) :=
  acc4 M ![0, 0] inb_S512x512_S512x512_0_0
    (fl512 (oC (e 0) (e 1) (e 2) (e 3) (e 4) (e 5) (e 6) (e 7) il v0))
    (fun o => fl512 (addf o (oC (e 8) (e 9) (e 10) (e 11) (e 12) (e 13) (e 14) (e 15) il v1)))
    (fun o => fl512 (addf o (oC (e 16) (e 17) (e 18) (e 19) (e 20) (e 21) (e 22) (e 23) il v2)))
    (fun o => fl512 (mulf (addf o (oC (e 24) (e 25) (e 26) (e 27) (e 28) (e 29) (e 30) (e 31) il v3)) (broadcastTo S512x512 vs broadcasts_S1x512_S512x512)))

/-! ## Output -/

def acV (o : Vec F S512x512 .f32) : FVec F S512x512 .fp8e4m3 := k0_pay428 o (k0_pay427 o)

def projV (o : Vec F S512x512 .f32) (wo : Vec F S512x512 .fp8e4m3) (so bo : Vec F S1x512 .f32) : FVec F S512x512 .f32 :=
  addf (mulf (mulf (matmul dot_S512x512_S512x512_S512x512_1_0_0_1_n_n none (acV o) wo (constant S512x512 .f32 0#32)) (broadcastTo S512x512 (k0_pay426 o) broadcasts_S512x1_S512x512))
    (broadcastTo S512x512 (shapeCast S1x512 so shapeCasts_S1x512_S1x512) broadcasts_S1x512_S512x512)) (broadcastTo S512x512 (shapeCast S1x512 bo shapeCasts_S1x512_S1x512) broadcasts_S1x512_S512x512)

def listAc (o : Vec F S512x512 .f32) : List (View.Piece (Elt F) S1x512x512 .fp8e4m3) :=
  [⟨Rect.unit ![0, 0, 0] S1x512x512.size inb_S1x512x512_S1x512x512_0_0_0, shapeCast S1x512x512 (acV o) shapeCasts_S512x512_S1x512x512⟩]

def listY (x : Vec F S1x512x512 .bf16) (o : Vec F S512x512 .f32) (wo : Vec F S512x512 .fp8e4m3) (so bo : Vec F S1x512 .f32) : List (View.Piece (Elt F) S1x512x512 .bf16) :=
  [⟨Rect.unit ![0, 0, 0] S1x512x512.size inb_S1x512x512_S1x512x512_0_0_0,
    shapeCast S1x512x512 (truncf .bf16 (addf (extf .f32 (shapeCast S512x512 x shapeCasts_S1x512x512_S512x512) bitsLt_bf16_f32) (projV o wo so bo)) bitsLt_bf16_f32) shapeCasts_S512x512_S1x512x512⟩]

def listProj (o : Vec F S512x512 .f32) (wo : Vec F S512x512 .fp8e4m3) (so bo : Vec F S1x512 .f32) : List (View.Piece (Elt F) S1x512x512 .bf16) :=
  [⟨Rect.unit ![0, 0, 0] S1x512x512.size inb_S1x512x512_S1x512x512_0_0_0, shapeCast S1x512x512 (truncf .bf16 (projV o wo so bo) bitsLt_bf16_f32) shapeCasts_S512x512_S1x512x512⟩]

def asV (o : Vec F S512x512 .f32) : FVec F S1x512 .f32 :=
  extractStridedSlice S1x512 ![0, 0] (transpose S128x512 [1, 0] (broadcastTo S512x128 (shapeCast S512x1 (k0_pay426 o) shapeCasts_S512x1_S512x1) broadcasts_S512x1_S512x128) transposes_S512x128_p1_0_S128x512) slices_S128x512_o0_0_S1x512

def listAs (off : Fin 2 → ℕ) (inb : ∀ a, off a + S1x512.size a ≤ S3x4096.size a) (o : Vec F S512x512 .f32) : List (View.Piece (Elt F) S3x4096 .f32) :=
  [⟨Rect.unit off S1x512.size inb, asV o⟩]

end Cert.KernelIdeal.Gen

end
-- ==== Proof.KernelIdeal.Runs.lean ====
/- Which of the stages' lists of stores each of the seven runs leaves: every run is the stages it has. -/
module

public import proofs.«01_k».proof.Proof.KernelIdeal.Sem
public import proofs.«01_k».proof.Proof.KernelIdeal.Sound

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- A load of part of a buffer held at known contents. -/
abbrev rd {s : Shape} {e : EltTy} (M : Memref sig .tc .vmem s e) (hM : M.IsWhole) (x : Vec F s e) (r : Rect s) : r.shape.Idx → Elt F e :=
  View.readAt (Elt F) M.view r.toLoadRect (hM.unread x)

theorem condA (t : Fin cfg0.N) (h : t.val = 0) : k0_cond1 (grid0.coords t) = 1#1 := (hcond0_0 t).mpr h
theorem condB (t : Fin cfg0.N) (h : t.val = 1) : k0_cond2 (grid0.coords t) = 1#1 := (hcond0_1 t).mpr h
theorem condC (t : Fin cfg0.N) (h : t.val = 2) : k0_cond3 (grid0.coords t) = 1#1 := (hcond0_2 t).mpr h
theorem condD (t : Fin cfg0.N) (h : (3 ≤ t.val ∧ t.val ≤ 23)) : k0_cond4 (grid0.coords t) = 1#1 := (hcond0_3 t).mpr h
theorem condE (t : Fin cfg0.N) (h : t.val = 24) : k0_cond5 (grid0.coords t) = 1#1 := (hcond0_4 t).mpr h
theorem condF (t : Fin cfg0.N) (h : t.val = 25) : k0_cond6 (grid0.coords t) = 1#1 := (hcond0_5 t).mpr h
theorem condG (t : Fin cfg0.N) (h : t.val = 26) : k0_cond7 (grid0.coords t) = 1#1 := (hcond0_6 t).mpr h

variable (c : Dev nD) (t : Fin cfg0.N) (X : Bufs F)

/-! ### Run A -/

theorem atA_15 (h : t.val = 0) : (atA c t h X).1 =
    listS (rd (ms0_1 t) (hs0_1 t) X.x2 (Rect.unit ![0, 0, 0] S1x512x512.size inb_S1x512x512_S1x512x512_0_0_0)) (rd (ms0_2 t) (hs0_2 t) X.x3 (Rect.unit ![0, 0, 0] S1x1024x512.size inb_S1x4096x512_S1x1024x512_0_0_0)) (rd (ms0_2 t) (hs0_2 t) X.x3 (Rect.unit ![0, 1024, 0] S1x1024x512.size inb_S1x4096x512_S1x1024x512_0_1024_0)) (rd (ms0_2 t) (hs0_2 t) X.x3 (Rect.unit ![0, 2048, 0] S1x1024x512.size inb_S1x4096x512_S1x1024x512_0_2048_0)) (rd (ms0_2 t) (hs0_2 t) X.x3 (Rect.unit ![0, 3072, 0] S1x1024x512.size inb_S1x4096x512_S1x1024x512_0_3072_0)) (rd (ms0_5 t) (hs0_5 t) X.x6 (Rect.unit (k0_off1 (grid0.coords t)) S1x1024.size (k0_off1_inb _ (condA t h)))) (rd (ms0_5 t) (hs0_5 t) X.x6 (Rect.unit (k0_off2 (grid0.coords t)) S1x1024.size (k0_off2_inb _ (condA t h)))) (rd (ms0_5 t) (hs0_5 t) X.x6 (Rect.unit (k0_off3 (grid0.coords t)) S1x1024.size (k0_off3_inb _ (condA t h)))) (rd (ms0_5 t) (hs0_5 t) X.x6 (Rect.unit (k0_off4 (grid0.coords t)) S1x1024.size (k0_off4_inb _ (condA t h)))) := rfl
theorem atA_18 (h : t.val = 0) : (atA c t h X).2.1 =
    listRs (rd (ms0_4 t) (hs0_4 t) X.x5 (Rect.unit (k0_off5 (grid0.coords t)) S1x512.size (k0_off5_inb _ (condA t h)))) := rfl
theorem atA_20 (h : t.val = 0) : (atA c t h X).2.2.2.1 =
    listMc scM0_4 (rd (ms0_1 t) (hs0_1 t) X.x2 (Rect.unit ![0, 0, 0] S1x512x512.size inb_S1x512x512_S1x512x512_0_0_0)) (rd (ms0_2 t) (hs0_2 t) X.x3 (Rect.unit ![0, 0, 0] S1x1024x512.size inb_S1x4096x512_S1x1024x512_0_0_0)) (rd (ms0_2 t) (hs0_2 t) X.x3 (Rect.unit ![0, 1024, 0] S1x1024x512.size inb_S1x4096x512_S1x1024x512_0_1024_0)) (rd (ms0_2 t) (hs0_2 t) X.x3 (Rect.unit ![0, 2048, 0] S1x1024x512.size inb_S1x4096x512_S1x1024x512_0_2048_0)) (rd (ms0_2 t) (hs0_2 t) X.x3 (Rect.unit ![0, 3072, 0] S1x1024x512.size inb_S1x4096x512_S1x1024x512_0_3072_0)) (rd (ms0_5 t) (hs0_5 t) X.x6 (Rect.unit (k0_off1 (grid0.coords t)) S1x1024.size (k0_off1_inb _ (condA t h)))) (rd (ms0_5 t) (hs0_5 t) X.x6 (Rect.unit (k0_off2 (grid0.coords t)) S1x1024.size (k0_off2_inb _ (condA t h)))) (rd (ms0_5 t) (hs0_5 t) X.x6 (Rect.unit (k0_off3 (grid0.coords t)) S1x1024.size (k0_off3_inb _ (condA t h)))) (rd (ms0_5 t) (hs0_5 t) X.x6 (Rect.unit (k0_off4 (grid0.coords t)) S1x1024.size (k0_off4_inb _ (condA t h)))) (rd (ms0_4 t) (hs0_4 t) X.x5 (Rect.unit (k0_off5 (grid0.coords t)) S1x512.size (k0_off5_inb _ (condA t h)))) := rfl

/-! ### Run B -/

theorem atB_15 (h : t.val = 1) : (atB c t h X).1 =
    listS (rd (ms0_1 t) (hs0_1 t) X.x2 (Rect.unit ![0, 0, 0] S1x512x512.size inb_S1x512x512_S1x512x512_0_0_0)) (rd (ms0_2 t) (hs0_2 t) X.x3 (Rect.unit ![0, 0, 0] S1x1024x512.size inb_S1x4096x512_S1x1024x512_0_0_0)) (rd (ms0_2 t) (hs0_2 t) X.x3 (Rect.unit ![0, 1024, 0] S1x1024x512.size inb_S1x4096x512_S1x1024x512_0_1024_0)) (rd (ms0_2 t) (hs0_2 t) X.x3 (Rect.unit ![0, 2048, 0] S1x1024x512.size inb_S1x4096x512_S1x1024x512_0_2048_0)) (rd (ms0_2 t) (hs0_2 t) X.x3 (Rect.unit ![0, 3072, 0] S1x1024x512.size inb_S1x4096x512_S1x1024x512_0_3072_0)) (rd (ms0_5 t) (hs0_5 t) X.x6 (Rect.unit (k0_off6 (grid0.coords t)) S1x1024.size (k0_off6_inb _ (condB t h)))) (rd (ms0_5 t) (hs0_5 t) X.x6 (Rect.unit (k0_off7 (grid0.coords t)) S1x1024.size (k0_off7_inb _ (condB t h)))) (rd (ms0_5 t) (hs0_5 t) X.x6 (Rect.unit (k0_off8 (grid0.coords t)) S1x1024.size (k0_off8_inb _ (condB t h)))) (rd (ms0_5 t) (hs0_5 t) X.x6 (Rect.unit (k0_off9 (grid0.coords t)) S1x1024.size (k0_off9_inb _ (condB t h)))) := rfl
theorem atB_16 (h : t.val = 1) : (atB c t h X).2.1 =
    listE (fun j => (rd scM0_0 (Memref.isWhole_whole _) X.x15 (Rect.unit ![0, 128 * j.val] S512x128.size (inbE j)))) (rd scM0_3 (Memref.isWhole_whole _) X.x18 (Rect.unit ![0, 0] S512x128.size inb_S512x128_S512x128_0_0)) (rd scM0_5 (Memref.isWhole_whole _) X.x20 (Rect.unit ![0, 0] S512x128.size inb_S512x128_S512x128_0_0)) := rfl
theorem atB_18 (h : t.val = 1) : (atB c t h X).2.2.1 =
    listRs (rd (ms0_4 t) (hs0_4 t) X.x5 (Rect.unit (k0_off10 (grid0.coords t)) S1x512.size (k0_off10_inb _ (condB t h)))) := rfl
theorem atB_20 (h : t.val = 1) : (atB c t h X).2.2.2.2.1 =
    listMc scM0_4 (rd (ms0_1 t) (hs0_1 t) X.x2 (Rect.unit ![0, 0, 0] S1x512x512.size inb_S1x512x512_S1x512x512_0_0_0)) (rd (ms0_2 t) (hs0_2 t) X.x3 (Rect.unit ![0, 0, 0] S1x1024x512.size inb_S1x4096x512_S1x1024x512_0_0_0)) (rd (ms0_2 t) (hs0_2 t) X.x3 (Rect.unit ![0, 1024, 0] S1x1024x512.size inb_S1x4096x512_S1x1024x512_0_1024_0)) (rd (ms0_2 t) (hs0_2 t) X.x3 (Rect.unit ![0, 2048, 0] S1x1024x512.size inb_S1x4096x512_S1x1024x512_0_2048_0)) (rd (ms0_2 t) (hs0_2 t) X.x3 (Rect.unit ![0, 3072, 0] S1x1024x512.size inb_S1x4096x512_S1x1024x512_0_3072_0)) (rd (ms0_5 t) (hs0_5 t) X.x6 (Rect.unit (k0_off6 (grid0.coords t)) S1x1024.size (k0_off6_inb _ (condB t h)))) (rd (ms0_5 t) (hs0_5 t) X.x6 (Rect.unit (k0_off7 (grid0.coords t)) S1x1024.size (k0_off7_inb _ (condB t h)))) (rd (ms0_5 t) (hs0_5 t) X.x6 (Rect.unit (k0_off8 (grid0.coords t)) S1x1024.size (k0_off8_inb _ (condB t h)))) (rd (ms0_5 t) (hs0_5 t) X.x6 (Rect.unit (k0_off9 (grid0.coords t)) S1x1024.size (k0_off9_inb _ (condB t h)))) (rd (ms0_4 t) (hs0_4 t) X.x5 (Rect.unit (k0_off10 (grid0.coords t)) S1x512.size (k0_off10_inb _ (condB t h)))) := rfl
theorem atB_22 (h : t.val = 1) : (atB c t h X).2.2.2.2.2.2.1 =
    listIl scM0_6 (fun j => (rd scM0_0 (Memref.isWhole_whole _) X.x15 (Rect.unit ![0, 128 * j.val] S512x128.size (inbE j)))) (rd scM0_3 (Memref.isWhole_whole _) X.x18 (Rect.unit ![0, 0] S512x128.size inb_S512x128_S512x128_0_0)) (rd scM0_5 (Memref.isWhole_whole _) X.x20 (Rect.unit ![0, 0] S512x128.size inb_S512x128_S512x128_0_0)) := rfl

/-! ### Run C -/

theorem atC_15 (h : t.val = 2) : (atC c t h X).1 =
    listS (rd (ms0_1 t) (hs0_1 t) X.x2 (Rect.unit ![0, 0, 0] S1x512x512.size inb_S1x512x512_S1x512x512_0_0_0)) (rd (ms0_2 t) (hs0_2 t) X.x3 (Rect.unit ![0, 0, 0] S1x1024x512.size inb_S1x4096x512_S1x1024x512_0_0_0)) (rd (ms0_2 t) (hs0_2 t) X.x3 (Rect.unit ![0, 1024, 0] S1x1024x512.size inb_S1x4096x512_S1x1024x512_0_1024_0)) (rd (ms0_2 t) (hs0_2 t) X.x3 (Rect.unit ![0, 2048, 0] S1x1024x512.size inb_S1x4096x512_S1x1024x512_0_2048_0)) (rd (ms0_2 t) (hs0_2 t) X.x3 (Rect.unit ![0, 3072, 0] S1x1024x512.size inb_S1x4096x512_S1x1024x512_0_3072_0)) (rd (ms0_5 t) (hs0_5 t) X.x6 (Rect.unit (k0_off11 (grid0.coords t)) S1x1024.size (k0_off11_inb _ (condC t h)))) (rd (ms0_5 t) (hs0_5 t) X.x6 (Rect.unit (k0_off12 (grid0.coords t)) S1x1024.size (k0_off12_inb _ (condC t h)))) (rd (ms0_5 t) (hs0_5 t) X.x6 (Rect.unit (k0_off13 (grid0.coords t)) S1x1024.size (k0_off13_inb _ (condC t h)))) (rd (ms0_5 t) (hs0_5 t) X.x6 (Rect.unit (k0_off15 (grid0.coords t)) S1x1024.size (k0_off15_inb _ (condC t h)))) := rfl
theorem atC_16 (h : t.val = 2) : (atC c t h X).2.1 =
    listE (fun j => (rd scM0_0 (Memref.isWhole_whole _) X.x15 (Rect.unit ![0, 128 * j.val] S512x128.size (inbE j)))) (rd scM0_3 (Memref.isWhole_whole _) X.x18 (Rect.unit ![0, 0] S512x128.size inb_S512x128_S512x128_0_0)) (rd scM0_5 (Memref.isWhole_whole _) X.x20 (Rect.unit ![0, 0] S512x128.size inb_S512x128_S512x128_0_0)) := rfl
theorem atC_17 (h : t.val = 2) : (atC c t h X).2.2.1 =
    listO scM0_2 (fun j => (rd scM0_1 (Memref.isWhole_whole _) X.x16 (Rect.unit ![0, 128 * j.val] S512x128.size (inbE j)))) (rd scM0_7 (Memref.isWhole_whole _) X.x22 (Rect.unit ![0, 0] S512x128.size inb_S512x128_S512x128_0_0)) (rd (ms0_3 t) (hs0_3 t) X.x4 (Rect.unit ![0, 0, 0] S1x1024x512.size inb_S1x4096x512_S1x1024x512_0_0_0)) (rd (ms0_3 t) (hs0_3 t) X.x4 (Rect.unit ![0, 1024, 0] S1x1024x512.size inb_S1x4096x512_S1x1024x512_0_1024_0)) (rd (ms0_3 t) (hs0_3 t) X.x4 (Rect.unit ![0, 2048, 0] S1x1024x512.size inb_S1x4096x512_S1x1024x512_0_2048_0)) (rd (ms0_3 t) (hs0_3 t) X.x4 (Rect.unit ![0, 3072, 0] S1x1024x512.size inb_S1x4096x512_S1x1024x512_0_3072_0)) (rd (ms0_6 t) (hs0_6 t) X.x7 (Rect.unit (k0_off14 (grid0.coords t)) S1x512.size (k0_off14_inb _ (condC t h)))) := rfl
theorem atC_18 (h : t.val = 2) : (atC c t h X).2.2.2.1 =
    listRs (rd (ms0_4 t) (hs0_4 t) X.x5 (Rect.unit (k0_off16 (grid0.coords t)) S1x512.size (k0_off16_inb _ (condC t h)))) := rfl
theorem atC_20 (h : t.val = 2) : (atC c t h X).2.2.2.2.2.1 =
    listMc scM0_4 (rd (ms0_1 t) (hs0_1 t) X.x2 (Rect.unit ![0, 0, 0] S1x512x512.size inb_S1x512x512_S1x512x512_0_0_0)) (rd (ms0_2 t) (hs0_2 t) X.x3 (Rect.unit ![0, 0, 0] S1x1024x512.size inb_S1x4096x512_S1x1024x512_0_0_0)) (rd (ms0_2 t) (hs0_2 t) X.x3 (Rect.unit ![0, 1024, 0] S1x1024x512.size inb_S1x4096x512_S1x1024x512_0_1024_0)) (rd (ms0_2 t) (hs0_2 t) X.x3 (Rect.unit ![0, 2048, 0] S1x1024x512.size inb_S1x4096x512_S1x1024x512_0_2048_0)) (rd (ms0_2 t) (hs0_2 t) X.x3 (Rect.unit ![0, 3072, 0] S1x1024x512.size inb_S1x4096x512_S1x1024x512_0_3072_0)) (rd (ms0_5 t) (hs0_5 t) X.x6 (Rect.unit (k0_off11 (grid0.coords t)) S1x1024.size (k0_off11_inb _ (condC t h)))) (rd (ms0_5 t) (hs0_5 t) X.x6 (Rect.unit (k0_off12 (grid0.coords t)) S1x1024.size (k0_off12_inb _ (condC t h)))) (rd (ms0_5 t) (hs0_5 t) X.x6 (Rect.unit (k0_off13 (grid0.coords t)) S1x1024.size (k0_off13_inb _ (condC t h)))) (rd (ms0_5 t) (hs0_5 t) X.x6 (Rect.unit (k0_off15 (grid0.coords t)) S1x1024.size (k0_off15_inb _ (condC t h)))) (rd (ms0_4 t) (hs0_4 t) X.x5 (Rect.unit (k0_off16 (grid0.coords t)) S1x512.size (k0_off16_inb _ (condC t h)))) := rfl
theorem atC_22 (h : t.val = 2) : (atC c t h X).2.2.2.2.2.2.2.1 =
    listIl scM0_6 (fun j => (rd scM0_0 (Memref.isWhole_whole _) X.x15 (Rect.unit ![0, 128 * j.val] S512x128.size (inbE j)))) (rd scM0_3 (Memref.isWhole_whole _) X.x18 (Rect.unit ![0, 0] S512x128.size inb_S512x128_S512x128_0_0)) (rd scM0_5 (Memref.isWhole_whole _) X.x20 (Rect.unit ![0, 0] S512x128.size inb_S512x128_S512x128_0_0)) := rfl

/-! ### Run D -/

theorem atD_11 (h : (3 ≤ t.val ∧ t.val ≤ 23)) : (atD c t h X).1 =
    listY (rd (ms0_0 t) (hs0_0 t) X.x1 (Rect.unit ![0, 0, 0] S1x512x512.size inb_S1x512x512_S1x512x512_0_0_0)) (rd scM0_2 (Memref.isWhole_whole _) X.x17 (Rect.unit ![0, 0] S512x512.size inb_S512x512_S512x512_0_0)) (rd (ms0_7 t) (hs0_7 t) X.x8 (Rect.unit ![0, 0] S512x512.size inb_S512x512_S512x512_0_0)) (rd (ms0_8 t) (hs0_8 t) X.x9 (Rect.unit ![0, 0] S1x512.size inb_S1x512_S1x512_0_0)) (rd (ms0_9 t) (hs0_9 t) X.x10 (Rect.unit ![0, 0] S1x512.size inb_S1x512_S1x512_0_0)) := rfl
theorem atD_12 (h : (3 ≤ t.val ∧ t.val ≤ 23)) : (atD c t h X).2.1 =
    listProj (rd scM0_2 (Memref.isWhole_whole _) X.x17 (Rect.unit ![0, 0] S512x512.size inb_S512x512_S512x512_0_0)) (rd (ms0_7 t) (hs0_7 t) X.x8 (Rect.unit ![0, 0] S512x512.size inb_S512x512_S512x512_0_0)) (rd (ms0_8 t) (hs0_8 t) X.x9 (Rect.unit ![0, 0] S1x512.size inb_S1x512_S1x512_0_0)) (rd (ms0_9 t) (hs0_9 t) X.x10 (Rect.unit ![0, 0] S1x512.size inb_S1x512_S1x512_0_0)) := rfl
theorem atD_13 (h : (3 ≤ t.val ∧ t.val ≤ 23)) : (atD c t h X).2.2.1 =
    listAc (rd scM0_2 (Memref.isWhole_whole _) X.x17 (Rect.unit ![0, 0] S512x512.size inb_S512x512_S512x512_0_0)) := rfl
theorem atD_14 (h : (3 ≤ t.val ∧ t.val ≤ 23)) : (atD c t h X).2.2.2.1 =
    listAs (k0_off17 (grid0.coords t)) (k0_off17_inb _ (condD t h)) (rd scM0_2 (Memref.isWhole_whole _) X.x17 (Rect.unit ![0, 0] S512x512.size inb_S512x512_S512x512_0_0)) := rfl
theorem atD_15 (h : (3 ≤ t.val ∧ t.val ≤ 23)) : (atD c t h X).2.2.2.2.1 =
    listS (rd (ms0_1 t) (hs0_1 t) X.x2 (Rect.unit ![0, 0, 0] S1x512x512.size inb_S1x512x512_S1x512x512_0_0_0)) (rd (ms0_2 t) (hs0_2 t) X.x3 (Rect.unit ![0, 0, 0] S1x1024x512.size inb_S1x4096x512_S1x1024x512_0_0_0)) (rd (ms0_2 t) (hs0_2 t) X.x3 (Rect.unit ![0, 1024, 0] S1x1024x512.size inb_S1x4096x512_S1x1024x512_0_1024_0)) (rd (ms0_2 t) (hs0_2 t) X.x3 (Rect.unit ![0, 2048, 0] S1x1024x512.size inb_S1x4096x512_S1x1024x512_0_2048_0)) (rd (ms0_2 t) (hs0_2 t) X.x3 (Rect.unit ![0, 3072, 0] S1x1024x512.size inb_S1x4096x512_S1x1024x512_0_3072_0)) (rd (ms0_5 t) (hs0_5 t) X.x6 (Rect.unit (k0_off18 (grid0.coords t)) S1x1024.size (k0_off18_inb _ (condD t h)))) (rd (ms0_5 t) (hs0_5 t) X.x6 (Rect.unit (k0_off19 (grid0.coords t)) S1x1024.size (k0_off19_inb _ (condD t h)))) (rd (ms0_5 t) (hs0_5 t) X.x6 (Rect.unit (k0_off20 (grid0.coords t)) S1x1024.size (k0_off20_inb _ (condD t h)))) (rd (ms0_5 t) (hs0_5 t) X.x6 (Rect.unit (k0_off22 (grid0.coords t)) S1x1024.size (k0_off22_inb _ (condD t h)))) := rfl
theorem atD_16 (h : (3 ≤ t.val ∧ t.val ≤ 23)) : (atD c t h X).2.2.2.2.2.1 =
    listE (fun j => (rd scM0_0 (Memref.isWhole_whole _) X.x15 (Rect.unit ![0, 128 * j.val] S512x128.size (inbE j)))) (rd scM0_3 (Memref.isWhole_whole _) X.x18 (Rect.unit ![0, 0] S512x128.size inb_S512x128_S512x128_0_0)) (rd scM0_5 (Memref.isWhole_whole _) X.x20 (Rect.unit ![0, 0] S512x128.size inb_S512x128_S512x128_0_0)) := rfl
theorem atD_17 (h : (3 ≤ t.val ∧ t.val ≤ 23)) : (atD c t h X).2.2.2.2.2.2.1 =
    listO scM0_2 (fun j => (rd scM0_1 (Memref.isWhole_whole _) X.x16 (Rect.unit ![0, 128 * j.val] S512x128.size (inbE j)))) (rd scM0_7 (Memref.isWhole_whole _) X.x22 (Rect.unit ![0, 0] S512x128.size inb_S512x128_S512x128_0_0)) (rd (ms0_3 t) (hs0_3 t) X.x4 (Rect.unit ![0, 0, 0] S1x1024x512.size inb_S1x4096x512_S1x1024x512_0_0_0)) (rd (ms0_3 t) (hs0_3 t) X.x4 (Rect.unit ![0, 1024, 0] S1x1024x512.size inb_S1x4096x512_S1x1024x512_0_1024_0)) (rd (ms0_3 t) (hs0_3 t) X.x4 (Rect.unit ![0, 2048, 0] S1x1024x512.size inb_S1x4096x512_S1x1024x512_0_2048_0)) (rd (ms0_3 t) (hs0_3 t) X.x4 (Rect.unit ![0, 3072, 0] S1x1024x512.size inb_S1x4096x512_S1x1024x512_0_3072_0)) (rd (ms0_6 t) (hs0_6 t) X.x7 (Rect.unit (k0_off21 (grid0.coords t)) S1x512.size (k0_off21_inb _ (condD t h)))) := rfl
theorem atD_18 (h : (3 ≤ t.val ∧ t.val ≤ 23)) : (atD c t h X).2.2.2.2.2.2.2.1 =
    listRs (rd (ms0_4 t) (hs0_4 t) X.x5 (Rect.unit (k0_off23 (grid0.coords t)) S1x512.size (k0_off23_inb _ (condD t h)))) := rfl
theorem atD_20 (h : (3 ≤ t.val ∧ t.val ≤ 23)) : (atD c t h X).2.2.2.2.2.2.2.2.2.1 =
    listMc scM0_4 (rd (ms0_1 t) (hs0_1 t) X.x2 (Rect.unit ![0, 0, 0] S1x512x512.size inb_S1x512x512_S1x512x512_0_0_0)) (rd (ms0_2 t) (hs0_2 t) X.x3 (Rect.unit ![0, 0, 0] S1x1024x512.size inb_S1x4096x512_S1x1024x512_0_0_0)) (rd (ms0_2 t) (hs0_2 t) X.x3 (Rect.unit ![0, 1024, 0] S1x1024x512.size inb_S1x4096x512_S1x1024x512_0_1024_0)) (rd (ms0_2 t) (hs0_2 t) X.x3 (Rect.unit ![0, 2048, 0] S1x1024x512.size inb_S1x4096x512_S1x1024x512_0_2048_0)) (rd (ms0_2 t) (hs0_2 t) X.x3 (Rect.unit ![0, 3072, 0] S1x1024x512.size inb_S1x4096x512_S1x1024x512_0_3072_0)) (rd (ms0_5 t) (hs0_5 t) X.x6 (Rect.unit (k0_off18 (grid0.coords t)) S1x1024.size (k0_off18_inb _ (condD t h)))) (rd (ms0_5 t) (hs0_5 t) X.x6 (Rect.unit (k0_off19 (grid0.coords t)) S1x1024.size (k0_off19_inb _ (condD t h)))) (rd (ms0_5 t) (hs0_5 t) X.x6 (Rect.unit (k0_off20 (grid0.coords t)) S1x1024.size (k0_off20_inb _ (condD t h)))) (rd (ms0_5 t) (hs0_5 t) X.x6 (Rect.unit (k0_off22 (grid0.coords t)) S1x1024.size (k0_off22_inb _ (condD t h)))) (rd (ms0_4 t) (hs0_4 t) X.x5 (Rect.unit (k0_off23 (grid0.coords t)) S1x512.size (k0_off23_inb _ (condD t h)))) := rfl
theorem atD_22 (h : (3 ≤ t.val ∧ t.val ≤ 23)) : (atD c t h X).2.2.2.2.2.2.2.2.2.2.2.1 =
    listIl scM0_6 (fun j => (rd scM0_0 (Memref.isWhole_whole _) X.x15 (Rect.unit ![0, 128 * j.val] S512x128.size (inbE j)))) (rd scM0_3 (Memref.isWhole_whole _) X.x18 (Rect.unit ![0, 0] S512x128.size inb_S512x128_S512x128_0_0)) (rd scM0_5 (Memref.isWhole_whole _) X.x20 (Rect.unit ![0, 0] S512x128.size inb_S512x128_S512x128_0_0)) := rfl

/-! ### Run E -/

theorem atE_11 (h : t.val = 24) : (atE c t h X).1 =
    listY (rd (ms0_0 t) (hs0_0 t) X.x1 (Rect.unit ![0, 0, 0] S1x512x512.size inb_S1x512x512_S1x512x512_0_0_0)) (rd scM0_2 (Memref.isWhole_whole _) X.x17 (Rect.unit ![0, 0] S512x512.size inb_S512x512_S512x512_0_0)) (rd (ms0_7 t) (hs0_7 t) X.x8 (Rect.unit ![0, 0] S512x512.size inb_S512x512_S512x512_0_0)) (rd (ms0_8 t) (hs0_8 t) X.x9 (Rect.unit ![0, 0] S1x512.size inb_S1x512_S1x512_0_0)) (rd (ms0_9 t) (hs0_9 t) X.x10 (Rect.unit ![0, 0] S1x512.size inb_S1x512_S1x512_0_0)) := rfl
theorem atE_12 (h : t.val = 24) : (atE c t h X).2.1 =
    listProj (rd scM0_2 (Memref.isWhole_whole _) X.x17 (Rect.unit ![0, 0] S512x512.size inb_S512x512_S512x512_0_0)) (rd (ms0_7 t) (hs0_7 t) X.x8 (Rect.unit ![0, 0] S512x512.size inb_S512x512_S512x512_0_0)) (rd (ms0_8 t) (hs0_8 t) X.x9 (Rect.unit ![0, 0] S1x512.size inb_S1x512_S1x512_0_0)) (rd (ms0_9 t) (hs0_9 t) X.x10 (Rect.unit ![0, 0] S1x512.size inb_S1x512_S1x512_0_0)) := rfl
theorem atE_13 (h : t.val = 24) : (atE c t h X).2.2.1 =
    listAc (rd scM0_2 (Memref.isWhole_whole _) X.x17 (Rect.unit ![0, 0] S512x512.size inb_S512x512_S512x512_0_0)) := rfl
theorem atE_14 (h : t.val = 24) : (atE c t h X).2.2.2.1 =
    listAs (k0_off24 (grid0.coords t)) (k0_off24_inb _ (condE t h)) (rd scM0_2 (Memref.isWhole_whole _) X.x17 (Rect.unit ![0, 0] S512x512.size inb_S512x512_S512x512_0_0)) := rfl
theorem atE_16 (h : t.val = 24) : (atE c t h X).2.2.2.2.1 =
    listE (fun j => (rd scM0_0 (Memref.isWhole_whole _) X.x15 (Rect.unit ![0, 128 * j.val] S512x128.size (inbE j)))) (rd scM0_3 (Memref.isWhole_whole _) X.x18 (Rect.unit ![0, 0] S512x128.size inb_S512x128_S512x128_0_0)) (rd scM0_5 (Memref.isWhole_whole _) X.x20 (Rect.unit ![0, 0] S512x128.size inb_S512x128_S512x128_0_0)) := rfl
theorem atE_17 (h : t.val = 24) : (atE c t h X).2.2.2.2.2.1 =
    listO scM0_2 (fun j => (rd scM0_1 (Memref.isWhole_whole _) X.x16 (Rect.unit ![0, 128 * j.val] S512x128.size (inbE j)))) (rd scM0_7 (Memref.isWhole_whole _) X.x22 (Rect.unit ![0, 0] S512x128.size inb_S512x128_S512x128_0_0)) (rd (ms0_3 t) (hs0_3 t) X.x4 (Rect.unit ![0, 0, 0] S1x1024x512.size inb_S1x4096x512_S1x1024x512_0_0_0)) (rd (ms0_3 t) (hs0_3 t) X.x4 (Rect.unit ![0, 1024, 0] S1x1024x512.size inb_S1x4096x512_S1x1024x512_0_1024_0)) (rd (ms0_3 t) (hs0_3 t) X.x4 (Rect.unit ![0, 2048, 0] S1x1024x512.size inb_S1x4096x512_S1x1024x512_0_2048_0)) (rd (ms0_3 t) (hs0_3 t) X.x4 (Rect.unit ![0, 3072, 0] S1x1024x512.size inb_S1x4096x512_S1x1024x512_0_3072_0)) (rd (ms0_6 t) (hs0_6 t) X.x7 (Rect.unit (k0_off25 (grid0.coords t)) S1x512.size (k0_off25_inb _ (condE t h)))) := rfl
theorem atE_22 (h : t.val = 24) : (atE c t h X).2.2.2.2.2.2.2.1 =
    listIl scM0_6 (fun j => (rd scM0_0 (Memref.isWhole_whole _) X.x15 (Rect.unit ![0, 128 * j.val] S512x128.size (inbE j)))) (rd scM0_3 (Memref.isWhole_whole _) X.x18 (Rect.unit ![0, 0] S512x128.size inb_S512x128_S512x128_0_0)) (rd scM0_5 (Memref.isWhole_whole _) X.x20 (Rect.unit ![0, 0] S512x128.size inb_S512x128_S512x128_0_0)) := rfl

/-! ### Run F -/

theorem atF_11 (h : t.val = 25) : (atF c t h X).1 =
    listY (rd (ms0_0 t) (hs0_0 t) X.x1 (Rect.unit ![0, 0, 0] S1x512x512.size inb_S1x512x512_S1x512x512_0_0_0)) (rd scM0_2 (Memref.isWhole_whole _) X.x17 (Rect.unit ![0, 0] S512x512.size inb_S512x512_S512x512_0_0)) (rd (ms0_7 t) (hs0_7 t) X.x8 (Rect.unit ![0, 0] S512x512.size inb_S512x512_S512x512_0_0)) (rd (ms0_8 t) (hs0_8 t) X.x9 (Rect.unit ![0, 0] S1x512.size inb_S1x512_S1x512_0_0)) (rd (ms0_9 t) (hs0_9 t) X.x10 (Rect.unit ![0, 0] S1x512.size inb_S1x512_S1x512_0_0)) := rfl
theorem atF_12 (h : t.val = 25) : (atF c t h X).2.1 =
    listProj (rd scM0_2 (Memref.isWhole_whole _) X.x17 (Rect.unit ![0, 0] S512x512.size inb_S512x512_S512x512_0_0)) (rd (ms0_7 t) (hs0_7 t) X.x8 (Rect.unit ![0, 0] S512x512.size inb_S512x512_S512x512_0_0)) (rd (ms0_8 t) (hs0_8 t) X.x9 (Rect.unit ![0, 0] S1x512.size inb_S1x512_S1x512_0_0)) (rd (ms0_9 t) (hs0_9 t) X.x10 (Rect.unit ![0, 0] S1x512.size inb_S1x512_S1x512_0_0)) := rfl
theorem atF_13 (h : t.val = 25) : (atF c t h X).2.2.1 =
    listAc (rd scM0_2 (Memref.isWhole_whole _) X.x17 (Rect.unit ![0, 0] S512x512.size inb_S512x512_S512x512_0_0)) := rfl
theorem atF_14 (h : t.val = 25) : (atF c t h X).2.2.2.1 =
    listAs (k0_off26 (grid0.coords t)) (k0_off26_inb _ (condF t h)) (rd scM0_2 (Memref.isWhole_whole _) X.x17 (Rect.unit ![0, 0] S512x512.size inb_S512x512_S512x512_0_0)) := rfl
theorem atF_17 (h : t.val = 25) : (atF c t h X).2.2.2.2.1 =
    listO scM0_2 (fun j => (rd scM0_1 (Memref.isWhole_whole _) X.x16 (Rect.unit ![0, 128 * j.val] S512x128.size (inbE j)))) (rd scM0_7 (Memref.isWhole_whole _) X.x22 (Rect.unit ![0, 0] S512x128.size inb_S512x128_S512x128_0_0)) (rd (ms0_3 t) (hs0_3 t) X.x4 (Rect.unit ![0, 0, 0] S1x1024x512.size inb_S1x4096x512_S1x1024x512_0_0_0)) (rd (ms0_3 t) (hs0_3 t) X.x4 (Rect.unit ![0, 1024, 0] S1x1024x512.size inb_S1x4096x512_S1x1024x512_0_1024_0)) (rd (ms0_3 t) (hs0_3 t) X.x4 (Rect.unit ![0, 2048, 0] S1x1024x512.size inb_S1x4096x512_S1x1024x512_0_2048_0)) (rd (ms0_3 t) (hs0_3 t) X.x4 (Rect.unit ![0, 3072, 0] S1x1024x512.size inb_S1x4096x512_S1x1024x512_0_3072_0)) (rd (ms0_6 t) (hs0_6 t) X.x7 (Rect.unit (k0_off27 (grid0.coords t)) S1x512.size (k0_off27_inb _ (condF t h)))) := rfl

/-! ### Run G -/

theorem atG_11 (h : t.val = 26) : (atG c t h X).1 =
    listY (rd (ms0_0 t) (hs0_0 t) X.x1 (Rect.unit ![0, 0, 0] S1x512x512.size inb_S1x512x512_S1x512x512_0_0_0)) (rd scM0_2 (Memref.isWhole_whole _) X.x17 (Rect.unit ![0, 0] S512x512.size inb_S512x512_S512x512_0_0)) (rd (ms0_7 t) (hs0_7 t) X.x8 (Rect.unit ![0, 0] S512x512.size inb_S512x512_S512x512_0_0)) (rd (ms0_8 t) (hs0_8 t) X.x9 (Rect.unit ![0, 0] S1x512.size inb_S1x512_S1x512_0_0)) (rd (ms0_9 t) (hs0_9 t) X.x10 (Rect.unit ![0, 0] S1x512.size inb_S1x512_S1x512_0_0)) := rfl
theorem atG_12 (h : t.val = 26) : (atG c t h X).2.1 =
    listProj (rd scM0_2 (Memref.isWhole_whole _) X.x17 (Rect.unit ![0, 0] S512x512.size inb_S512x512_S512x512_0_0)) (rd (ms0_7 t) (hs0_7 t) X.x8 (Rect.unit ![0, 0] S512x512.size inb_S512x512_S512x512_0_0)) (rd (ms0_8 t) (hs0_8 t) X.x9 (Rect.unit ![0, 0] S1x512.size inb_S1x512_S1x512_0_0)) (rd (ms0_9 t) (hs0_9 t) X.x10 (Rect.unit ![0, 0] S1x512.size inb_S1x512_S1x512_0_0)) := rfl
theorem atG_13 (h : t.val = 26) : (atG c t h X).2.2.1 =
    listAc (rd scM0_2 (Memref.isWhole_whole _) X.x17 (Rect.unit ![0, 0] S512x512.size inb_S512x512_S512x512_0_0)) := rfl
theorem atG_14 (h : t.val = 26) : (atG c t h X).2.2.2.1 =
    listAs (k0_off28 (grid0.coords t)) (k0_off28_inb _ (condG t h)) (rd scM0_2 (Memref.isWhole_whole _) X.x17 (Rect.unit ![0, 0] S512x512.size inb_S512x512_S512x512_0_0)) := rfl

end Cert.KernelIdeal.Gen

end
-- ==== Proof.Attn.Sums.lean ====
/- Sums and maxima over keys taken group by group, and the softmax's two ways of exponentiating. -/
module

public import Idealize.ShloMosaic.PureOps.Ideal
public import Idealize.ShloMosaic.PureOps.IdealRules
public import Idealize.ShloMosaic.Lib.Pipeline.ValueKit
public import Idealize.ShloMosaic.Lib.Pointwise

@[expose] public section

noncomputable section

namespace Cert.Attn

open Idealize.ShloMosaic

/-- The greatest of finitely many values. -/
def supf {n : ℕ} (f : Fin n → EReal) : EReal := Finset.fold max (Ideal.ofBits .f32 4286578688#32) f Finset.univ

theorem ofBits_ninf : Ideal.ofBits .f32 4286578688#32 = (⊥ : EReal) := by
  simp [Ideal.ofBits, Ideal.ieee]

theorem supf_eq {n : ℕ} (f : Fin n → EReal) : supf f = Finset.univ.sup f := by
  unfold supf
  rw [ofBits_ninf]
  rfl

/-- Key `128 j + l`. -/
def col (j : Fin 32) (l : Fin 128) : Fin 4096 := ⟨128 * j.val + l.val, by omega⟩
/-- Key `1024 c + x`. -/
def key (c : Fin 4) (x : Fin 1024) : Fin 4096 := ⟨1024 * c.val + x.val, by omega⟩

theorem sum_groups (f : Fin 4096 → EReal) : ∑ l : Fin 128, ∑ j : Fin 32, f (col j l) = ∑ k, f k := by
  rw [Finset.sum_comm, ← Fintype.sum_prod_type']
  refine Fintype.sum_equiv (finProdFinEquiv (m := 32) (n := 128)) _ _ fun x => congrArg f (Fin.ext ?_)
  simp [col, finProdFinEquiv]
  omega

theorem sum_chunks (f : Fin 4096 → EReal) : ∑ c : Fin 4, ∑ x : Fin 1024, f (key c x) = ∑ k, f k := by
  rw [← Fintype.sum_prod_type']
  refine Fintype.sum_equiv (finProdFinEquiv (m := 4) (n := 1024)) _ _ fun x => congrArg f (Fin.ext ?_)
  simp [key, finProdFinEquiv]
  omega

theorem sum4 (g : Fin 4 → EReal) : ∑ c, g c = g 0 + g 1 + g 2 + g 3 := by
  simp only [Fin.sum_univ_castSucc, Finset.univ_eq_empty, Finset.sum_empty, zero_add]; rfl

theorem sum32 (g : Fin 32 → EReal) : ∑ j, g j =
    g 0 + g 1 + g 2 + g 3 + g 4 + g 5 + g 6 + g 7 + g 8 + g 9 + g 10 + g 11 + g 12 + g 13 + g 14 + g 15
      + g 16 + g 17 + g 18 + g 19 + g 20 + g 21 + g 22 + g 23 + g 24 + g 25 + g 26 + g 27 + g 28 + g 29 + g 30 + g 31 := by
  simp only [Fin.sum_univ_castSucc, Finset.univ_eq_empty, Finset.sum_empty, zero_add]; rfl

/-- The greatest of the first `n + 1` values, taken in order. -/
def maxTo (g : ℕ → EReal) : ℕ → EReal
  | 0 => g 0
  | n + 1 => max (maxTo g n) (g (n + 1))

theorem le_maxTo (g : ℕ → EReal) (n j : ℕ) (h : j ≤ n) : g j ≤ maxTo g n := by
  induction n with
  | zero => obtain rfl : j = 0 := by omega
            exact le_rfl
  | succ n ih =>
    rcases Nat.lt_or_ge j (n + 1) with h' | h'
    · exact (ih (by omega)).trans (le_max_left _ _)
    · obtain rfl : j = n + 1 := by omega
      exact le_max_right _ _

theorem maxTo_le (g : ℕ → EReal) (M : EReal) (n : ℕ) (h : ∀ j, j ≤ n → g j ≤ M) : maxTo g n ≤ M := by
  induction n with
  | zero => exact h 0 le_rfl
  | succ n ih => exact max_le (ih fun j hj => h j (by omega)) (h _ le_rfl)

/-- The greatest of the 32 values of a lane, in the order the kernel takes them. -/
def max32 (g : Fin 32 → EReal) : EReal := maxTo (fun j => g ⟨min j 31, by omega⟩) 31

theorem max32_eq (g : Fin 32 → EReal) : max32 g =
    max (max (max (max (max (max (max (max (max (max (max (max (max (max (max (max (max (max (max (max (max (max (max (max (max (max (max (max (max (max (max (g 0) (g 1)) (g 2)) (g 3)) (g 4)) (g 5)) (g 6)) (g 7)) (g 8)) (g 9)) (g 10)) (g 11)) (g 12)) (g 13)) (g 14)) (g 15)) (g 16)) (g 17)) (g 18)) (g 19)) (g 20)) (g 21)) (g 22)) (g 23)) (g 24)) (g 25)) (g 26)) (g 27)) (g 28)) (g 29)) (g 30)) (g 31) := rfl

theorem le_max32 (g : Fin 32 → EReal) (j : Fin 32) : g j ≤ max32 g := by
  have h := le_maxTo (fun j => g ⟨min j 31, by omega⟩) 31 j.val (by omega)
  have e : (⟨min j.val 31, by omega⟩ : Fin 32) = j := Fin.ext (by simp; omega)
  simp only [e] at h
  exact h

theorem max32_le (g : Fin 32 → EReal) (M : EReal) (h : ∀ j, g j ≤ M) : max32 g ≤ M :=
  maxTo_le _ _ _ fun j _ => h _

theorem sup_groups (f : Fin 4096 → EReal) : supf (fun l : Fin 128 => max32 fun j => f (col j l)) = supf f := by
  rw [supf_eq, supf_eq]
  apply le_antisymm
  · exact Finset.sup_le fun l _ => max32_le _ _ fun j => Finset.le_sup (f := f) (Finset.mem_univ (col j l))
  · refine Finset.sup_le fun k _ => ?_
    have hk : f k = f (col ⟨k.val / 128, by omega⟩ ⟨k.val % 128, by omega⟩) := congrArg f (Fin.ext (by simp [col]; omega))
    rw [hk]
    exact (le_max32 (fun j => f (col j ⟨k.val % 128, by omega⟩)) ⟨k.val / 128, by omega⟩).trans
      (Finset.le_sup (f := fun l : Fin 128 => max32 fun j => f (col j l)) (Finset.mem_univ _))

theorem supf_mul {n : ℕ} (hn : 0 < n) (f : Fin n → EReal) (r : EReal) (hr : 0 ≤ r) : supf f * r = supf fun k => f k * r := by
  rw [supf_eq, supf_eq]
  haveI : Nonempty (Fin n) := ⟨⟨0, hn⟩⟩
  obtain ⟨k, -, hk⟩ := Finset.exists_max_image Finset.univ f Finset.univ_nonempty
  have h1 : Finset.univ.sup f = f k := le_antisymm (Finset.sup_le fun i hi => hk i hi) (Finset.le_sup (Finset.mem_univ k))
  have h2 : (Finset.univ.sup fun i => f i * r) = f k * r :=
    le_antisymm (Finset.sup_le fun i hi => mul_le_mul_of_nonneg_right (hk i hi) hr) (Finset.le_sup (f := fun i => f i * r) (Finset.mem_univ k))
  rw [h1, h2]

theorem sub_mul_pos (a b : EReal) (L : ℝ) (hL : 0 < L) : a * (L : EReal) - b * (L : EReal) = (a - b) * (L : EReal) := by
  induction a with
  | bot => simp [EReal.bot_mul_coe_of_pos hL, sub_eq_add_neg]
  | top =>
    induction b with
    | bot => simp [EReal.bot_mul_coe_of_pos hL, EReal.top_mul_coe_of_pos hL]
    | top => simp [EReal.bot_mul_coe_of_pos hL, EReal.top_mul_coe_of_pos hL, sub_eq_add_neg]
    | coe b => rw [EReal.top_mul_coe_of_pos hL, ← EReal.coe_mul, EReal.top_sub_coe, EReal.top_sub_coe, EReal.top_mul_coe_of_pos hL]
  | coe a =>
    induction b with
    | bot => simp [EReal.bot_mul_coe_of_pos hL, EReal.top_mul_coe_of_pos hL, ← EReal.coe_mul]
    | top => simp [EReal.bot_mul_coe_of_pos hL, EReal.top_mul_coe_of_pos hL, ← EReal.coe_mul]
    | coe b => rw [← EReal.coe_mul, ← EReal.coe_mul, ← EReal.coe_sub, ← EReal.coe_sub, ← EReal.coe_mul, sub_mul]

theorem exp2_mul (z : EReal) : Ideal.exp2 (z * (((Real.log 2)⁻¹ : ℝ) : EReal)) = Ideal.exp z := by
  have hL : (0 : ℝ) < (Real.log 2)⁻¹ := inv_pos.mpr (Real.log_pos (by norm_num))
  induction z with
  | bot => rw [EReal.bot_mul_coe_of_pos hL]; rfl
  | top => rw [EReal.top_mul_coe_of_pos hL]; rfl
  | coe z =>
    rw [← EReal.coe_mul]
    show ((Real.rpow 2 (z * (Real.log 2)⁻¹) : ℝ) : EReal) = ((Real.exp z : ℝ) : EReal)
    congr 1
    show (2 : ℝ) ^ (z * (Real.log 2)⁻¹) = _
    rw [Real.rpow_def_of_pos (by norm_num)]
    congr 1
    have : Real.log 2 ≠ 0 := (Real.log_pos (by norm_num)).ne'
    field_simp

/-- The kernel's exponentials, of scores scaled after their maximum is taken and in powers of two, are the reference's. -/
theorem exp_eq {n : ℕ} (hn : 0 < n) (dot ks : Fin n → EReal) (q A σ : EReal) (s l : ℝ) (hq : 0 ≤ q) (hs : 0 ≤ s) (hσ : σ = (s : EReal))
    (hl : l = (Real.log 2)⁻¹) (hA : A = ((s * l : ℝ) : EReal)) (k : Fin n) :
    Ideal.exp2 (dot k * ks k * (q * A) - supf (fun i => dot i * ks i) * (q * A))
      = Ideal.exp (dot k * (q * σ) * ks k - supf fun i => dot i * (q * σ) * ks i) := by
  have hL : (0 : ℝ) < (Real.log 2)⁻¹ := inv_pos.mpr (Real.log_pos (by norm_num))
  subst hσ hl hA
  have e : q * ((s * (Real.log 2)⁻¹ : ℝ) : EReal) = (q * (s : EReal)) * (((Real.log 2)⁻¹ : ℝ) : EReal) := by
    rw [EReal.coe_mul, mul_assoc]
  have hr : 0 ≤ q * (s : EReal) := mul_nonneg hq (EReal.coe_nonneg.mpr hs)
  rw [e, ← mul_assoc (dot k * ks k), ← mul_assoc (supf _), sub_mul_pos _ _ _ hL, exp2_mul, supf_mul hn _ _ hr]
  simp only [mul_right_comm]

end Cert.Attn

end
-- ==== Proof.Attn.Quant.lean ====
/- A row's quantiser and the row's projection, over the extended reals. -/
module

public import proofs.«01_k».proof.Proof.Attn.Sums

@[expose] public section

noncomputable section

namespace Cert.Attn

open Idealize.ShloMosaic

/-- The exponent of a row's power-of-two scale; `L` is the base-two logarithm of e. -/
def qexp (L : EReal) (row : Fin 512 → EReal) : EReal :=
  if supf (fun x => (FloatOps.absf (F := Ideal) (φ := .f32) (row x) : EReal)) * Ideal.ofBits .f32 991054117#32 = 0 then 0
  else Ideal.liftRound Int.floor (Ideal.log (supf (fun x => (FloatOps.absf (F := Ideal) (φ := .f32) (row x) : EReal)) * Ideal.ofBits .f32 991054117#32) * L) + 1

theorem scale_ne_zero : Ideal.ofBits .f32 991054117#32 ≠ (0 : EReal) := by
  simp [Ideal.ofBits, Ideal.ieee]

/-- Testing the greatest magnitude for zero is testing its quotient by 448. -/
theorem qexp_eq (L : EReal) (row : Fin 512 → EReal) : qexp L row =
    if supf (fun x => (FloatOps.absf (F := Ideal) (φ := .f32) (row x) : EReal)) = 0 then 0
    else Ideal.liftRound Int.floor (Ideal.log (supf (fun x => (FloatOps.absf (F := Ideal) (φ := .f32) (row x) : EReal)) * Ideal.ofBits .f32 991054117#32) * L) + 1 := by
  unfold qexp
  simp only [mul_eq_zero, scale_ne_zero, or_false]

/-- A row's codes. -/
def code (L : EReal) (row : Fin 512 → EReal) (x : Fin 512) : EReal :=
  min (Ideal.ofBits .f32 1138753536#32) (max (Ideal.ofBits .f32 3286237184#32) (row x * Ideal.exp2 (0 - qexp L row)))

/-- One entry of a row's projection. -/
def outp (L : EReal) (row : Fin 512 → EReal) (w : Fin 512 → EReal) (s b : EReal) : EReal :=
  (∑ x : Fin 512, code L row x * w x) * Ideal.exp2 (qexp L row) * s + b

end Cert.Attn

end
-- ==== Proof.KernelIdeal.Vals.lean ====
/- What each list of stores leaves, index by index, in terms of what the stage loads. -/
module

public import proofs.«01_k».proof.Proof.KernelIdeal.Sem
public import proofs.«01_k».proof.Proof.Attn.Quant
public import Idealize.ShloMosaic.Lib.Pipeline.ValueKit
public import Idealize.ShloMosaic.Lib.Pointwise

@[expose] public section

set_option maxRecDepth 16384
set_option maxHeartbeats 1000000

noncomputable section

namespace Cert.KernelIdeal.Gen

open Idealize.ShloMosaic Idealize.ShloMosaic.TcCoe Idealize.ShloMosaic.Tactic Cert.Attn

/-- Pieces that cover a buffer and agree with an array leave the array. -/
theorem read_of_pieces {Val : EltTy → Type} {s : Shape} {e : EltTy} (M : Memref sig .tc .vmem s e) (g : M.view.ty.Contents Val)
    (G : s.Idx → Val e) (L : List (View.Piece Val s e)) (hL : ∀ p ∈ L, ∀ x : p.1.shape.Idx, p.2 x = G (p.1.emb x)) (hc : ∀ y, ∃ p ∈ L, y ∈ p.1.set) :
    M.view.read Val (M.view.writes Val g L) = G :=
  funext fun y => View.read_writes_apply_of_pieces M.view g G L hL y (hc y)

/-! ## The stages' arrays -/

/-- The softmax's scale. -/
abbrev cA : EReal := Named.named (F := Ideal) (φ := .f32) κ "attn_log2e" 0x3D8293EE#32

/-- The scores of a tile of queries against all keys. -/
def Sc (q : Vec Ideal S1x512x512 .fp8e4m3) (k : Vec Ideal S1x4096x512 .fp8e4m3) (s : Fin 4096 → EReal) : Vec Ideal S512x4096 .f32 :=
  fun y => (∑ d : Fin 512, q (ix3 0 (y 0) d) * k (ix3 0 (y 1) d)) * s (y 1)
def Rs (v : Fin 512 → EReal) : Vec Ideal S512x128 .f32 := fun y => v (y 0) * cA
def Mc (S : Vec Ideal S512x4096 .f32) (v : Fin 512 → EReal) : Vec Ideal S512x128 .f32 := fun y => supf (fun k => S (ix2 (y 0) k)) * (v (y 0) * cA)
def Ex (S : Vec Ideal S512x4096 .f32) (v : Fin 512 → EReal) : Vec Ideal S512x4096 .f32 :=
  fun y => Ideal.exp2 (S y * (v (y 0) * cA) - supf (fun k => S (ix2 (y 0) k)) * (v (y 0) * cA))
def Il (E : Vec Ideal S512x4096 .f32) : Vec Ideal S512x128 .f32 := fun y => Ideal.div 1 (∑ k : Fin 4096, E (ix2 (y 0) k))
def Oo (E : Vec Ideal S512x4096 .f32) (kv : Vec Ideal S1x4096x512 .fp8e4m3) (vs : Fin 512 → EReal) : Vec Ideal S512x512 .f32 :=
  fun y => (∑ k : Fin 4096, (E (ix2 (y 0) k) * Ideal.div 1 (∑ k : Fin 4096, E (ix2 (y 0) k))) * kv (ix3 0 k (y 1))) * vs (y 1)

theorem ext2 {n k : ℕ} {x y : (⟨2, ![n, k]⟩ : Shape).Idx} (h0 : (x 0).val = (y 0).val) (h1 : (x 1).val = (y 1).val) : x = y := by
  funext d
  fin_cases d
  · exact Fin.ext h0
  · exact Fin.ext h1

/-! ## Scores -/

theorem scoreC_0 (q : Vec Ideal S1x512x512 .fp8e4m3) (k : Vec Ideal S1x4096x512 .fp8e4m3) (s : Vec Ideal S3x4096 .f32) (b : Fin 3)
    (inb : ∀ a, (![0, 0, 0] : Fin 3 → ℕ) a + S1x1024x512.size a ≤ S1x4096x512.size a)
    (inb' : ∀ a, (![b.val, 0] : Fin 2 → ℕ) a + S1x1024.size a ≤ S3x4096.size a) (a : Fin 512) (x : Fin 1024) :
    scoreC (F := Ideal) q (View.ld k (Rect.unit ![0, 0, 0] S1x1024x512.size inb)) (View.ld s (Rect.unit ![b.val, 0] S1x1024.size inb')) (ix2 a x) =
      Sc q k (fun k => s (ix2 b k)) (ix2 a (key 0 x)) := by
  pointwise [scoreC, Sc, key]

theorem scoreC_1 (q : Vec Ideal S1x512x512 .fp8e4m3) (k : Vec Ideal S1x4096x512 .fp8e4m3) (s : Vec Ideal S3x4096 .f32) (b : Fin 3)
    (inb : ∀ a, (![0, 1024, 0] : Fin 3 → ℕ) a + S1x1024x512.size a ≤ S1x4096x512.size a)
    (inb' : ∀ a, (![b.val, 1024] : Fin 2 → ℕ) a + S1x1024.size a ≤ S3x4096.size a) (a : Fin 512) (x : Fin 1024) :
    scoreC (F := Ideal) q (View.ld k (Rect.unit ![0, 1024, 0] S1x1024x512.size inb)) (View.ld s (Rect.unit ![b.val, 1024] S1x1024.size inb')) (ix2 a x) =
      Sc q k (fun k => s (ix2 b k)) (ix2 a (key 1 x)) := by
  pointwise [scoreC, Sc, key]

theorem scoreC_2 (q : Vec Ideal S1x512x512 .fp8e4m3) (k : Vec Ideal S1x4096x512 .fp8e4m3) (s : Vec Ideal S3x4096 .f32) (b : Fin 3)
    (inb : ∀ a, (![0, 2048, 0] : Fin 3 → ℕ) a + S1x1024x512.size a ≤ S1x4096x512.size a)
    (inb' : ∀ a, (![b.val, 2048] : Fin 2 → ℕ) a + S1x1024.size a ≤ S3x4096.size a) (a : Fin 512) (x : Fin 1024) :
    scoreC (F := Ideal) q (View.ld k (Rect.unit ![0, 2048, 0] S1x1024x512.size inb)) (View.ld s (Rect.unit ![b.val, 2048] S1x1024.size inb')) (ix2 a x) =
      Sc q k (fun k => s (ix2 b k)) (ix2 a (key 2 x)) := by
  pointwise [scoreC, Sc, key]

theorem scoreC_3 (q : Vec Ideal S1x512x512 .fp8e4m3) (k : Vec Ideal S1x4096x512 .fp8e4m3) (s : Vec Ideal S3x4096 .f32) (b : Fin 3)
    (inb : ∀ a, (![0, 3072, 0] : Fin 3 → ℕ) a + S1x1024x512.size a ≤ S1x4096x512.size a)
    (inb' : ∀ a, (![b.val, 3072] : Fin 2 → ℕ) a + S1x1024.size a ≤ S3x4096.size a) (a : Fin 512) (x : Fin 1024) :
    scoreC (F := Ideal) q (View.ld k (Rect.unit ![0, 3072, 0] S1x1024x512.size inb)) (View.ld s (Rect.unit ![b.val, 3072] S1x1024.size inb')) (ix2 a x) =
      Sc q k (fun k => s (ix2 b k)) (ix2 a (key 3 x)) := by
  pointwise [scoreC, Sc, key]

theorem fl1024 (v : FVec Ideal S512x1024 .f32) (h) : shapeCast S512x1024 v h = v := by
  funext y
  idx_vars y
  pointwise []

theorem fl128_eq (v : FVec Ideal S512x128 .f32) : fl128 v = v := by
  funext y
  idx_vars y
  pointwise [fl128]

theorem fl512_eq (v : FVec Ideal S512x512 .f32) : fl512 v = v := by
  funext y
  idx_vars y
  pointwise [fl512]

theorem read_listS (M : Memref sig .tc .vmem S512x4096 .f32) (g) (q : Vec Ideal S1x512x512 .fp8e4m3) (k : Vec Ideal S1x4096x512 .fp8e4m3) (s : Vec Ideal S3x4096 .f32) (b : Fin 3)
    (i0 : ∀ a, (![0, 0, 0] : Fin 3 → ℕ) a + S1x1024x512.size a ≤ S1x4096x512.size a) (i1 : ∀ a, (![0, 1024, 0] : Fin 3 → ℕ) a + S1x1024x512.size a ≤ S1x4096x512.size a) (i2 : ∀ a, (![0, 2048, 0] : Fin 3 → ℕ) a + S1x1024x512.size a ≤ S1x4096x512.size a) (i3 : ∀ a, (![0, 3072, 0] : Fin 3 → ℕ) a + S1x1024x512.size a ≤ S1x4096x512.size a)
    (j0 : ∀ a, (![b.val, 0] : Fin 2 → ℕ) a + S1x1024.size a ≤ S3x4096.size a) (j1 : ∀ a, (![b.val, 1024] : Fin 2 → ℕ) a + S1x1024.size a ≤ S3x4096.size a) (j2 : ∀ a, (![b.val, 2048] : Fin 2 → ℕ) a + S1x1024.size a ≤ S3x4096.size a) (j3 : ∀ a, (![b.val, 3072] : Fin 2 → ℕ) a + S1x1024.size a ≤ S3x4096.size a) :
    M.view.read (Elt Ideal) (M.view.writes (Elt Ideal) g (listS q (View.ld k (Rect.unit ![0, 0, 0] S1x1024x512.size i0)) (View.ld k (Rect.unit ![0, 1024, 0] S1x1024x512.size i1)) (View.ld k (Rect.unit ![0, 2048, 0] S1x1024x512.size i2)) (View.ld k (Rect.unit ![0, 3072, 0] S1x1024x512.size i3)) (View.ld s (Rect.unit ![b.val, 0] S1x1024.size j0)) (View.ld s (Rect.unit ![b.val, 1024] S1x1024.size j1)) (View.ld s (Rect.unit ![b.val, 2048] S1x1024.size j2)) (View.ld s (Rect.unit ![b.val, 3072] S1x1024.size j3)))) = Sc q k (fun k => s (ix2 b k)) := by
  refine read_of_pieces M g _ _ ?_ (View.cover_of_tiled _ S512x1024.size (by rfl))
  unfold listS
  simp only [List.forall_mem_cons, fl1024]
  refine ⟨?_, ?_, ?_, ?_, fun p hp => absurd hp List.not_mem_nil⟩
  · intro x
    idx_vars x
    refine (scoreC_3 q k s b i3 j3 x0 x1).trans (congrArg _ ?_)
    exact ext2 (by rw [ValueKit.rect_emb_unit_val]; simp [key]) (by rw [ValueKit.rect_emb_unit_val]; simp [key])
  · intro x
    idx_vars x
    refine (scoreC_2 q k s b i2 j2 x0 x1).trans (congrArg _ ?_)
    exact ext2 (by rw [ValueKit.rect_emb_unit_val]; simp [key]) (by rw [ValueKit.rect_emb_unit_val]; simp [key])
  · intro x
    idx_vars x
    refine (scoreC_1 q k s b i1 j1 x0 x1).trans (congrArg _ ?_)
    exact ext2 (by rw [ValueKit.rect_emb_unit_val]; simp [key]) (by rw [ValueKit.rect_emb_unit_val]; simp [key])
  · intro x
    idx_vars x
    refine (scoreC_0 q k s b i0 j0 x0 x1).trans (congrArg _ ?_)
    exact ext2 (by rw [ValueKit.rect_emb_unit_val]; simp [key]) (by rw [ValueKit.rect_emb_unit_val]; simp [key])

theorem mx_val (v0 v1 v2 v3 : FVec Ideal S512x1024 .f32) (S : Vec Ideal S512x4096 .f32) (h0 : ∀ a x, v0 (ix2 a x) = S (ix2 a (key 0 x))) (h1 : ∀ a x, v1 (ix2 a x) = S (ix2 a (key 1 x)))
    (h2 : ∀ a x, v2 (ix2 a x) = S (ix2 a (key 2 x))) (h3 : ∀ a x, v3 (ix2 a x) = S (ix2 a (key 3 x))) (a : Fin 512) (l : Fin 128) :
    mxN (mxN (mxN (mx0 v0) v1) v2) v3 (ix2 a l) = max32 (fun j => S (ix2 a (col j l))) := by
  pointwise [mxN, mx0]
  simp only [h0, h1, h2, h3, max32_eq]
  repeat' refine congrArg₂ max ?_ ?_
  all_goals exact congrArg S (congrArg (ix2 a) (Fin.ext (by simp [key, col] <;> omega)))

theorem mc_val (v : FVec Ideal S1x512 .f32) (m : FVec Ideal S512x128 .f32) (y : S512x128.Idx) :
    (mcV (F := Ideal) v m y : EReal) = supf (fun l => m (ix2 (y 0) l)) * (v (ix2 0 (y 0)) * cA) := by
  idx_vars y
  pointwise [mcV, k0_pay457, k0_pay212, k0_pay455]
  all_goals rfl

theorem rs_val (v : FVec Ideal S1x512 .f32) (y : S512x128.Idx) : (rsV (F := Ideal) v y : EReal) = v (ix2 0 (y 0)) * cA := by
  idx_vars y
  pointwise [rsV, k0_pay456, k0_pay212, k0_pay455]
  all_goals rfl

theorem ld_whole {s : Shape} {e : EltTy} (X : Vec Ideal s e) (off : Fin s.rank → ℕ) (h : off = fun _ => 0) (inb) : View.ld X (Rect.unit off s.size inb) = X := by
  subst h
  exact View.ld_unit_zero rfl inb X

theorem hz2 : (![0, 0] : Fin 2 → ℕ) = fun _ => 0 := by decide
theorem hz3 : (![0, 0, 0] : Fin 3 → ℕ) = fun _ => 0 := by decide

theorem read_whole {s : Shape} {e : EltTy} (M : Memref sig .tc .vmem s e) (g) (off : Fin s.rank → ℕ) (inb) (w : s.Idx → Elt Ideal e) :
    M.view.read (Elt Ideal) (M.view.writes (Elt Ideal) g [⟨Rect.unit off s.size inb, w⟩]) = w := View.read_writes_full ..

theorem mx_read (M : Memref sig .tc .vmem S512x128 .f32) (q : Vec Ideal S1x512x512 .fp8e4m3) (k : Vec Ideal S1x4096x512 .fp8e4m3) (s : Vec Ideal S3x4096 .f32) (b : Fin 3)
    (i0 : ∀ a, (![0, 0, 0] : Fin 3 → ℕ) a + S1x1024x512.size a ≤ S1x4096x512.size a) (i1 : ∀ a, (![0, 1024, 0] : Fin 3 → ℕ) a + S1x1024x512.size a ≤ S1x4096x512.size a) (i2 : ∀ a, (![0, 2048, 0] : Fin 3 → ℕ) a + S1x1024x512.size a ≤ S1x4096x512.size a) (i3 : ∀ a, (![0, 3072, 0] : Fin 3 → ℕ) a + S1x1024x512.size a ≤ S1x4096x512.size a)
    (j0 : ∀ a, (![b.val, 0] : Fin 2 → ℕ) a + S1x1024.size a ≤ S3x4096.size a) (j1 : ∀ a, (![b.val, 1024] : Fin 2 → ℕ) a + S1x1024.size a ≤ S3x4096.size a) (j2 : ∀ a, (![b.val, 2048] : Fin 2 → ℕ) a + S1x1024.size a ≤ S3x4096.size a) (j3 : ∀ a, (![b.val, 3072] : Fin 2 → ℕ) a + S1x1024.size a ≤ S3x4096.size a) :
    (fun y => max32 (fun j => Sc q k (fun k => s (ix2 b k)) (ix2 (y 0) (col j (y 1))))) =
    M.view.readCov (Val := Elt Ideal) (listMx M q (View.ld k (Rect.unit ![0, 0, 0] S1x1024x512.size i0)) (View.ld k (Rect.unit ![0, 1024, 0] S1x1024x512.size i1)) (View.ld k (Rect.unit ![0, 2048, 0] S1x1024x512.size i2)) (View.ld k (Rect.unit ![0, 3072, 0] S1x1024x512.size i3)) (View.ld s (Rect.unit ![b.val, 0] S1x1024.size j0)) (View.ld s (Rect.unit ![b.val, 1024] S1x1024.size j1)) (View.ld s (Rect.unit ![b.val, 2048] S1x1024.size j2)) (View.ld s (Rect.unit ![b.val, 3072] S1x1024.size j3))) (Rect.unit ![0, 0] S512x128.size inb_S512x128_S512x128_0_0).toLoadRect := by
  unfold listMx
  rw [readCov_acc4]
  simp only [fl128_eq]
  funext y
  idx_vars y
  exact (mx_val _ _ _ _ _ (scoreC_0 q k s b i0 j0) (scoreC_1 q k s b i1 j1) (scoreC_2 q k s b i2 j2) (scoreC_3 q k s b i3 j3) y0 y1).symm

theorem mc_read (M : Memref sig .tc .vmem S512x128 .f32) (q : Vec Ideal S1x512x512 .fp8e4m3) (k : Vec Ideal S1x4096x512 .fp8e4m3) (s : Vec Ideal S3x4096 .f32) (b : Fin 3)
    (i0 : ∀ a, (![0, 0, 0] : Fin 3 → ℕ) a + S1x1024x512.size a ≤ S1x4096x512.size a) (i1 : ∀ a, (![0, 1024, 0] : Fin 3 → ℕ) a + S1x1024x512.size a ≤ S1x4096x512.size a) (i2 : ∀ a, (![0, 2048, 0] : Fin 3 → ℕ) a + S1x1024x512.size a ≤ S1x4096x512.size a) (i3 : ∀ a, (![0, 3072, 0] : Fin 3 → ℕ) a + S1x1024x512.size a ≤ S1x4096x512.size a)
    (j0 : ∀ a, (![b.val, 0] : Fin 2 → ℕ) a + S1x1024.size a ≤ S3x4096.size a) (j1 : ∀ a, (![b.val, 1024] : Fin 2 → ℕ) a + S1x1024.size a ≤ S3x4096.size a) (j2 : ∀ a, (![b.val, 2048] : Fin 2 → ℕ) a + S1x1024.size a ≤ S3x4096.size a) (j3 : ∀ a, (![b.val, 3072] : Fin 2 → ℕ) a + S1x1024.size a ≤ S3x4096.size a) (v : FVec Ideal S1x512 .f32) :
    mcV v (M.view.readCov (Val := Elt Ideal) (listMx M q (View.ld k (Rect.unit ![0, 0, 0] S1x1024x512.size i0)) (View.ld k (Rect.unit ![0, 1024, 0] S1x1024x512.size i1)) (View.ld k (Rect.unit ![0, 2048, 0] S1x1024x512.size i2)) (View.ld k (Rect.unit ![0, 3072, 0] S1x1024x512.size i3)) (View.ld s (Rect.unit ![b.val, 0] S1x1024.size j0)) (View.ld s (Rect.unit ![b.val, 1024] S1x1024.size j1)) (View.ld s (Rect.unit ![b.val, 2048] S1x1024.size j2)) (View.ld s (Rect.unit ![b.val, 3072] S1x1024.size j3))) (Rect.unit ![0, 0] S512x128.size inb_S512x128_S512x128_0_0).toLoadRect) =
      Mc (Sc q k (fun k => s (ix2 b k))) (fun a => v (ix2 0 a)) := by
  rw [← mx_read]
  funext y
  rw [mc_val]
  exact congrArg (· * _) (sup_groups fun k_1 => Sc q k (fun k => s (ix2 b k)) (ix2 (y 0) k_1))

theorem rs_eq (v : FVec Ideal S1x512 .f32) : rsV (F := Ideal) v = Rs (fun a => v (ix2 0 a)) := funext fun y => rs_val v y

/-! ## Exponentials -/

/-- Group `j` of 128 lanes. -/
def grp (S : Vec Ideal S512x4096 .f32) (j : Fin 32) : Vec Ideal S512x128 .f32 := fun y => S (ix2 (y 0) (col j (y 1)))

theorem eT_val (S : Vec Ideal S512x4096 .f32) (v : Fin 512 → EReal) (j : Fin 32) : eT (F := Ideal) (grp S j) (Rs v) (Mc S v) = grp (Ex S v) j := by
  funext y
  idx_vars y
  pointwise [eT, grp, Rs, Mc, Ex]
  all_goals rfl

theorem ex_read (M : Memref sig .tc .vmem S512x4096 .f32) (g) (S : Vec Ideal S512x4096 .f32) (v : Fin 512 → EReal) :
    M.view.read (Elt Ideal) (M.view.writes (Elt Ideal) g (listE (F := Ideal) (grp S) (Rs v) (Mc S v))) = Ex S v := by
  refine read_of_pieces M g _ _ ?_ (View.cover_of_tiled _ S512x128.size (by rfl))
  unfold listE
  intro p hp
  obtain ⟨j, -, rfl⟩ := List.mem_map.mp hp
  intro x
  rw [fl128_eq, eT_val]
  exact congrArg (Ex S v) (ext2 (by rw [ValueKit.rect_emb_unit_val]; simp) (by rw [ValueKit.rect_emb_unit_val]; simp [col]))

theorem il_val (s : FVec Ideal S512x128 .f32) (y : S512x128.Idx) : (k0_pay211 (F := Ideal) s y : EReal) = Ideal.div 1 (∑ x : Fin 128, s (ix2 (y 0) x)) := by
  idx_vars y
  pointwise [k0_pay211]
  all_goals rfl

theorem il_read (M : Memref sig .tc .vmem S512x128 .f32) (S : Vec Ideal S512x4096 .f32) (v : Fin 512 → EReal) :
    k0_pay211 (M.view.readCov (Val := Elt Ideal) (listL M (grp S) (Rs v) (Mc S v)) (Rect.unit ![0, 0] S512x128.size inb_S512x128_S512x128_0_0).toLoadRect) = Il (Ex S v) := by
  unfold listL
  rw [readCov_acc4]
  simp only [fl128_eq, eT_val]
  funext y
  rw [il_val]
  refine congrArg (Ideal.div 1) (Eq.trans ?_ (sum_groups fun k => Ex S v (ix2 (y 0) k)))
  refine Finset.sum_congr rfl fun l _ => ?_
  rw [sum32]
  rfl

/-! ## Values -/

theorem oC_0 (E : Vec Ideal S512x4096 .f32) (v : Vec Ideal S1x4096x512 .fp8e4m3) (i : ∀ a, (![0, 0, 0] : Fin 3 → ℕ) a + S1x1024x512.size a ≤ S1x4096x512.size a) (y : S512x512.Idx) :
    (oC (F := Ideal) (grp E 0) (grp E 1) (grp E 2) (grp E 3) (grp E 4) (grp E 5) (grp E 6) (grp E 7) (Il E) (View.ld v (Rect.unit ![0, 0, 0] S1x1024x512.size i)) y : EReal) =
      ∑ x : Fin 1024, (E (ix2 (y 0) (key 0 x)) * Ideal.div 1 (∑ k : Fin 4096, E (ix2 (y 0) k))) * v (ix3 0 (key 0 x) (y 1)) := by
  idx_vars y
  pointwise [oC, pT, Il, grp]
  refine Finset.sum_congr rfl fun x _ => ?_
  refine congrArg₂ (· * ·) ?_ (congrArg (fun i => v (ix3 0 i y1)) (Fin.ext (by simp [key])))
  split_ifs <;> exact congrArg (fun i => E (ix2 y0 i) * _) (Fin.ext (by simp [key, col] <;> omega))

theorem oC_1 (E : Vec Ideal S512x4096 .f32) (v : Vec Ideal S1x4096x512 .fp8e4m3) (i : ∀ a, (![0, 1024, 0] : Fin 3 → ℕ) a + S1x1024x512.size a ≤ S1x4096x512.size a) (y : S512x512.Idx) :
    (oC (F := Ideal) (grp E 8) (grp E 9) (grp E 10) (grp E 11) (grp E 12) (grp E 13) (grp E 14) (grp E 15) (Il E) (View.ld v (Rect.unit ![0, 1024, 0] S1x1024x512.size i)) y : EReal) =
      ∑ x : Fin 1024, (E (ix2 (y 0) (key 1 x)) * Ideal.div 1 (∑ k : Fin 4096, E (ix2 (y 0) k))) * v (ix3 0 (key 1 x) (y 1)) := by
  idx_vars y
  pointwise [oC, pT, Il, grp]
  refine Finset.sum_congr rfl fun x _ => ?_
  refine congrArg₂ (· * ·) ?_ (congrArg (fun i => v (ix3 0 i y1)) (Fin.ext (by simp [key])))
  split_ifs <;> exact congrArg (fun i => E (ix2 y0 i) * _) (Fin.ext (by simp [key, col] <;> omega))

theorem oC_2 (E : Vec Ideal S512x4096 .f32) (v : Vec Ideal S1x4096x512 .fp8e4m3) (i : ∀ a, (![0, 2048, 0] : Fin 3 → ℕ) a + S1x1024x512.size a ≤ S1x4096x512.size a) (y : S512x512.Idx) :
    (oC (F := Ideal) (grp E 16) (grp E 17) (grp E 18) (grp E 19) (grp E 20) (grp E 21) (grp E 22) (grp E 23) (Il E) (View.ld v (Rect.unit ![0, 2048, 0] S1x1024x512.size i)) y : EReal) =
      ∑ x : Fin 1024, (E (ix2 (y 0) (key 2 x)) * Ideal.div 1 (∑ k : Fin 4096, E (ix2 (y 0) k))) * v (ix3 0 (key 2 x) (y 1)) := by
  idx_vars y
  pointwise [oC, pT, Il, grp]
  refine Finset.sum_congr rfl fun x _ => ?_
  refine congrArg₂ (· * ·) ?_ (congrArg (fun i => v (ix3 0 i y1)) (Fin.ext (by simp [key])))
  split_ifs <;> exact congrArg (fun i => E (ix2 y0 i) * _) (Fin.ext (by simp [key, col] <;> omega))

theorem oC_3 (E : Vec Ideal S512x4096 .f32) (v : Vec Ideal S1x4096x512 .fp8e4m3) (i : ∀ a, (![0, 3072, 0] : Fin 3 → ℕ) a + S1x1024x512.size a ≤ S1x4096x512.size a) (y : S512x512.Idx) :
    (oC (F := Ideal) (grp E 24) (grp E 25) (grp E 26) (grp E 27) (grp E 28) (grp E 29) (grp E 30) (grp E 31) (Il E) (View.ld v (Rect.unit ![0, 3072, 0] S1x1024x512.size i)) y : EReal) =
      ∑ x : Fin 1024, (E (ix2 (y 0) (key 3 x)) * Ideal.div 1 (∑ k : Fin 4096, E (ix2 (y 0) k))) * v (ix3 0 (key 3 x) (y 1)) := by
  idx_vars y
  pointwise [oC, pT, Il, grp]
  refine Finset.sum_congr rfl fun x _ => ?_
  refine congrArg₂ (· * ·) ?_ (congrArg (fun i => v (ix3 0 i y1)) (Fin.ext (by simp [key])))
  split_ifs <;> exact congrArg (fun i => E (ix2 y0 i) * _) (Fin.ext (by simp [key, col] <;> omega))

theorem o_read (M : Memref sig .tc .vmem S512x512 .f32) (g) (E : Vec Ideal S512x4096 .f32) (v : Vec Ideal S1x4096x512 .fp8e4m3) (vs : Vec Ideal S1x512 .f32)
    (i0 : ∀ a, (![0, 0, 0] : Fin 3 → ℕ) a + S1x1024x512.size a ≤ S1x4096x512.size a) (i1 : ∀ a, (![0, 1024, 0] : Fin 3 → ℕ) a + S1x1024x512.size a ≤ S1x4096x512.size a) (i2 : ∀ a, (![0, 2048, 0] : Fin 3 → ℕ) a + S1x1024x512.size a ≤ S1x4096x512.size a) (i3 : ∀ a, (![0, 3072, 0] : Fin 3 → ℕ) a + S1x1024x512.size a ≤ S1x4096x512.size a) :
    M.view.read (Elt Ideal) (M.view.writes (Elt Ideal) g (listO M (grp E) (Il E) (View.ld v (Rect.unit ![0, 0, 0] S1x1024x512.size i0)) (View.ld v (Rect.unit ![0, 1024, 0] S1x1024x512.size i1)) (View.ld v (Rect.unit ![0, 2048, 0] S1x1024x512.size i2)) (View.ld v (Rect.unit ![0, 3072, 0] S1x1024x512.size i3)) vs)) = Oo E v (fun b => vs (ix2 0 b)) := by
  unfold listO
  rw [read_acc4]
  simp only [fl512_eq]
  funext y
  have h : ∀ (a b : FVec Ideal S512x512 .f32) , (mulf (F := Ideal) (addf a b) (broadcastTo S512x512 vs broadcasts_S1x512_S512x512) y : EReal) = (a y + b y) * vs (ix2 0 (y 1)) := by
    intro a b
    idx_vars y
    pointwise []
    all_goals rfl
  have ha : ∀ (a b : FVec Ideal S512x512 .f32) , (addf (F := Ideal) a b y : EReal) = a y + b y := fun a b => rfl
  rw [h, ha, ha, oC_0, oC_1, oC_2, oC_3]
  refine congrArg (· * _) (Eq.trans ?_ (sum_chunks fun k => (E (ix2 (y 0) k) * Ideal.div 1 (∑ k : Fin 4096, E (ix2 (y 0) k))) * v (ix3 0 k (y 1))))
  rw [sum4]

/-! ## Output -/

/-- The base-two logarithm of e, as the quantiser writes it. -/
abbrev cL : EReal := Named.named (F := Ideal) (φ := .f32) κ "log2e" 0x3FB8AA3B#32

theorem as_val (o : Vec Ideal S512x512 .f32) (y : S1x512.Idx) : (asV (F := Ideal) o y : EReal) = Ideal.exp2 (qexp cL fun x => o (ix2 (y 1) x)) := by
  idx_vars y
  pointwise [asV, k0_pay425, k0_pay426, k0_pay427]
  all_goals rfl

theorem ac_val (o : Vec Ideal S512x512 .f32) (y : S512x512.Idx) : (acV (F := Ideal) o y : EReal) = code cL (fun x => o (ix2 (y 0) x)) (y 1) := by
  idx_vars y
  pointwise [acV, k0_pay428, k0_pay425, k0_pay426, k0_pay427]
  all_goals rfl

theorem proj_val (o : Vec Ideal S512x512 .f32) (wo : Vec Ideal S512x512 .fp8e4m3) (so bo : Vec Ideal S1x512 .f32) (y : S512x512.Idx) :
    (projV (F := Ideal) o wo so bo y : EReal) = outp cL (fun x => o (ix2 (y 0) x)) (fun x => wo (ix2 x (y 1))) (so (ix2 0 (y 1))) (bo (ix2 0 (y 1))) := by
  have h : ∀ (ac : FVec Ideal S512x512 .fp8e4m3) (e : FVec Ideal S512x1 .f32), (addf (F := Ideal) (mulf (mulf (matmul (φ₂ := .fp8e4m3) dot_S512x512_S512x512_S512x512_1_0_0_1_n_n none ac wo (constant S512x512 .f32 0#32)) (broadcastTo S512x512 e broadcasts_S512x1_S512x512))
    (broadcastTo S512x512 (shapeCast S1x512 so shapeCasts_S1x512_S1x512) broadcasts_S1x512_S512x512)) (broadcastTo S512x512 (shapeCast S1x512 bo shapeCasts_S1x512_S1x512) broadcasts_S1x512_S512x512) y : EReal)
      = (∑ x : Fin 512, ac (ix2 (y 0) x) * wo (ix2 x (y 1))) * e (ix2 (y 0) 0) * so (ix2 0 (y 1)) + bo (ix2 0 (y 1)) := by
    intro ac e
    idx_vars y
    pointwise []
    all_goals rfl
  have he : ∀ a : Fin 512, (k0_pay426 (F := Ideal) o (ix2 a 0) : EReal) = Ideal.exp2 (qexp cL fun x => o (ix2 a x)) := by
    intro a
    pointwise [k0_pay425, k0_pay426, k0_pay427]
    all_goals rfl
  refine (h (acV o) (k0_pay426 o)).trans ?_
  exact congrArg (fun z : EReal => z * so (ix2 0 (y 1)) + bo (ix2 0 (y 1)))
    (congrArg₂ (· * ·) (Finset.sum_congr rfl fun x _ => congrArg (· * _) (ac_val o _)) (he (y 0)))

end Cert.KernelIdeal.Gen

end
-- ==== Proof.KernelIdeal.Stages.lean ====
/- What each stage of the attention body leaves in a buffer, from what its input buffers hold. -/
module

public import proofs.«01_k».proof.Proof.KernelIdeal.Runs
public import proofs.«01_k».proof.Proof.KernelIdeal.Vals
public import Idealize.ShloMosaic.Lib.WholeRead

@[expose] public section

set_option maxRecDepth 16384
set_option maxHeartbeats 1000000

noncomputable section

namespace Cert.KernelIdeal.Gen

open Idealize.ShloMosaic Idealize.ShloMosaic.TcCoe Idealize.ShloMosaic.Tactic Cert.Attn

theorem rd_ld {s : Shape} {e : EltTy} (M : Memref sig .tc .vmem s e) (hM : M.IsWhole) (x : Vec Ideal s e) (r : Rect s) : rd M hM x r = View.ld x r :=
  funext fun y => Memref.IsWhole.readAt_unread hM x r.toLoadRect y

/-- A tile's row of per-query values: 512 entries of row `b`, at `512 r`. -/
def rowv (v : Vec Ideal S3x4096 .f32) (b : Fin 3) (r : Fin 8) : Fin 512 → EReal := fun a => v (ix2 b ⟨512 * r.val + a.val, by omega⟩)

theorem ld_row (v : Vec Ideal S3x4096 .f32) (b : Fin 3) (r : Fin 8) (e) (a : Fin 512) :
    View.ld v (Rect.unit ![b.val, 512 * r.val] S1x512.size e) (ix2 0 a) = rowv v b r a := by
  refine congrArg v (ext2 ?_ ?_) <;> refine (ValueKit.rect_emb_unit_val _ _ _ _ _).trans ?_ <;> simp

theorem ld_row3 (v : Vec Ideal S3x512 .f32) (b : Fin 3) (e) (a : Fin 512) :
    View.ld v (Rect.unit ![b.val, 0] S1x512.size e) (ix2 0 a) = v (ix2 b a) := by
  refine congrArg v (ext2 ?_ ?_) <;> refine (ValueKit.rect_emb_unit_val _ _ _ _ _).trans ?_ <;> simp

theorem ld_grp (S : Vec Ideal S512x4096 .f32) (j : Fin 32) (e) : View.ld S (Rect.unit ![0, 128 * j.val] S512x128.size e) = grp S j := by
  funext y
  refine congrArg S (ext2 ?_ ?_) <;> refine (ValueKit.rect_emb_unit_val _ _ _ _ _).trans ?_ <;> simp [col]

theorem rd_grp (M : Memref sig .tc .vmem S512x4096 .f32) (hM : M.IsWhole) (S : Vec Ideal S512x4096 .f32) :
    (fun j : Fin 32 => rd M hM S (Rect.unit ![0, 128 * j.val] S512x128.size (inbE j))) = grp S := funext fun j => (rd_ld ..).trans (ld_grp ..)

theorem rd_whole {s : Shape} {e : EltTy} (M : Memref sig .tc .vmem s e) (hM : M.IsWhole) (X : Vec Ideal s e) (off : Fin s.rank → ℕ) (inb) (h : off = fun _ => 0) :
    rd M hM X (Rect.unit off s.size inb) = X := (rd_ld ..).trans (ld_whole X off h inb)

section
variable (M : Memref sig .tc .vmem S512x4096 .f32) (hM : M.IsWhole) (N : Memref sig .tc .vmem S512x128 .f32) (hN : N.IsWhole) (N' : Memref sig .tc .vmem S512x128 .f32)
  (Mq : Memref sig .tc .vmem S1x512x512 .fp8e4m3) (hq : Mq.IsWhole) (Mk : Memref sig .tc .vmem S1x4096x512 .fp8e4m3) (hk : Mk.IsWhole)
  (Ms : Memref sig .tc .vmem S3x4096 .f32) (hs : Ms.IsWhole) (Mv : Memref sig .tc .vmem S3x4096 .f32) (hv : Mv.IsWhole)
  (q : Vec Ideal S1x512x512 .fp8e4m3) (k : Vec Ideal S1x4096x512 .fp8e4m3) (s v : Vec Ideal S3x4096 .f32) (b : Fin 3) (r : Fin 8)
  (o0 o1 o2 o3 o : Fin 2 → ℕ) (h0 : o0 = ![b.val, 0]) (h1 : o1 = ![b.val, 1024]) (h2 : o2 = ![b.val, 2048]) (h3 : o3 = ![b.val, 3072]) (ho : o = ![b.val, 512 * r.val])
  (iq : ∀ a, (![0, 0, 0] : Fin 3 → ℕ) a + S1x512x512.size a ≤ S1x512x512.size a)
  (i0 : ∀ a, (![0, 0, 0] : Fin 3 → ℕ) a + S1x1024x512.size a ≤ S1x4096x512.size a) (i1 : ∀ a, (![0, 1024, 0] : Fin 3 → ℕ) a + S1x1024x512.size a ≤ S1x4096x512.size a)
  (i2 : ∀ a, (![0, 2048, 0] : Fin 3 → ℕ) a + S1x1024x512.size a ≤ S1x4096x512.size a) (i3 : ∀ a, (![0, 3072, 0] : Fin 3 → ℕ) a + S1x1024x512.size a ≤ S1x4096x512.size a)
  (j0 : ∀ a, o0 a + S1x1024.size a ≤ S3x4096.size a) (j1 : ∀ a, o1 a + S1x1024.size a ≤ S3x4096.size a) (j2 : ∀ a, o2 a + S1x1024.size a ≤ S3x4096.size a) (j3 : ∀ a, o3 a + S1x1024.size a ≤ S3x4096.size a)
  (jo : ∀ a, o a + S1x512.size a ≤ S3x4096.size a)

include h0 h1 h2 h3 in
theorem stS (g : Vec Ideal S512x4096 .f32) : after M hM g (listS (rd Mq hq q (Rect.unit ![0, 0, 0] S1x512x512.size iq))
      (rd Mk hk k (Rect.unit ![0, 0, 0] S1x1024x512.size i0)) (rd Mk hk k (Rect.unit ![0, 1024, 0] S1x1024x512.size i1)) (rd Mk hk k (Rect.unit ![0, 2048, 0] S1x1024x512.size i2)) (rd Mk hk k (Rect.unit ![0, 3072, 0] S1x1024x512.size i3))
      (rd Ms hs s (Rect.unit o0 S1x1024.size j0)) (rd Ms hs s (Rect.unit o1 S1x1024.size j1)) (rd Ms hs s (Rect.unit o2 S1x1024.size j2)) (rd Ms hs s (Rect.unit o3 S1x1024.size j3)))
    = Sc q k (fun k => s (ix2 b k)) := by
  subst h0 h1 h2 h3
  unfold after
  rw [rd_whole Mq hq _ _ _ hz3]
  simp only [rd_ld]
  exact read_listS ..

include ho in
theorem stRs (g : Vec Ideal S512x128 .f32) : after N hN g (listRs (rd Mv hv v (Rect.unit o S1x512.size jo))) = Rs (rowv v b r) := by
  subst ho
  unfold after listRs
  rw [read_whole, rs_eq, rd_ld]
  exact congrArg Rs (funext fun a => ld_row ..)

include h0 h1 h2 h3 ho in
theorem stMc (g : Vec Ideal S512x128 .f32) : after N hN g (listMc N' (rd Mq hq q (Rect.unit ![0, 0, 0] S1x512x512.size iq))
      (rd Mk hk k (Rect.unit ![0, 0, 0] S1x1024x512.size i0)) (rd Mk hk k (Rect.unit ![0, 1024, 0] S1x1024x512.size i1)) (rd Mk hk k (Rect.unit ![0, 2048, 0] S1x1024x512.size i2)) (rd Mk hk k (Rect.unit ![0, 3072, 0] S1x1024x512.size i3))
      (rd Ms hs s (Rect.unit o0 S1x1024.size j0)) (rd Ms hs s (Rect.unit o1 S1x1024.size j1)) (rd Ms hs s (Rect.unit o2 S1x1024.size j2)) (rd Ms hs s (Rect.unit o3 S1x1024.size j3)) (rd Mv hv v (Rect.unit o S1x512.size jo)))
    = Mc (Sc q k (fun k => s (ix2 b k))) (rowv v b r) := by
  subst h0 h1 h2 h3 ho
  unfold after listMc
  rw [rd_whole Mq hq _ _ _ hz3, read_whole]
  simp only [rd_ld]
  refine (mc_read ..).trans ?_
  exact congrArg (Mc _) (funext fun a => ld_row ..)

end

section
variable (M M0 : Memref sig .tc .vmem S512x4096 .f32) (hM : M.IsWhole) (hM0 : M0.IsWhole) (N N3 N5 N6 N7 : Memref sig .tc .vmem S512x128 .f32) (hN : N.IsWhole) (hN3 : N3.IsWhole) (hN5 : N5.IsWhole) (hN7 : N7.IsWhole)
  (S : Vec Ideal S512x4096 .f32) (v : Fin 512 → EReal) (x15 : Vec Ideal S512x4096 .f32) (x18 x20 : Vec Ideal S512x128 .f32) (e15 : x15 = S) (e18 : x18 = Rs v) (e20 : x20 = Mc S v)
  (i : ∀ a, (![0, 0] : Fin 2 → ℕ) a + S512x128.size a ≤ S512x128.size a)

include e15 e18 e20 in
theorem stE (g : Vec Ideal S512x4096 .f32) : after M hM g (listE (fun j => rd M0 hM0 x15 (Rect.unit ![0, 128 * j.val] S512x128.size (inbE j))) (rd N3 hN3 x18 (Rect.unit ![0, 0] S512x128.size i)) (rd N5 hN5 x20 (Rect.unit ![0, 0] S512x128.size i)))
    = Ex S v := by
  subst e15 e18 e20
  unfold after
  rw [rd_grp M0 hM0 x15, rd_whole N3 hN3 _ _ _ hz2, rd_whole N5 hN5 _ _ _ hz2]
  exact ex_read ..

include e15 e18 e20 in
theorem stIl (g : Vec Ideal S512x128 .f32) : after N hN g (listIl N6 (fun j => rd M0 hM0 x15 (Rect.unit ![0, 128 * j.val] S512x128.size (inbE j))) (rd N3 hN3 x18 (Rect.unit ![0, 0] S512x128.size i)) (rd N5 hN5 x20 (Rect.unit ![0, 0] S512x128.size i)))
    = Il (Ex S v) := by
  subst e15 e18 e20
  unfold after listIl
  rw [rd_grp M0 hM0 x15, rd_whole N3 hN3 _ _ _ hz2, rd_whole N5 hN5 _ _ _ hz2, read_whole]
  exact il_read ..

variable (P : Memref sig .tc .vmem S512x512 .f32) (hP : P.IsWhole) (Mv : Memref sig .tc .vmem S1x4096x512 .fp8e4m3) (hv : Mv.IsWhole) (Ms : Memref sig .tc .vmem S3x512 .f32) (hs : Ms.IsWhole)
  (E : Vec Ideal S512x4096 .f32) (x16 : Vec Ideal S512x4096 .f32) (x22 : Vec Ideal S512x128 .f32) (e16 : x16 = E) (e22 : x22 = Il E) (kv : Vec Ideal S1x4096x512 .fp8e4m3) (vs : Vec Ideal S3x512 .f32) (b : Fin 3) (o : Fin 2 → ℕ) (ho : o = ![b.val, 0])
  (i0 : ∀ a, (![0, 0, 0] : Fin 3 → ℕ) a + S1x1024x512.size a ≤ S1x4096x512.size a) (i1 : ∀ a, (![0, 1024, 0] : Fin 3 → ℕ) a + S1x1024x512.size a ≤ S1x4096x512.size a)
  (i2 : ∀ a, (![0, 2048, 0] : Fin 3 → ℕ) a + S1x1024x512.size a ≤ S1x4096x512.size a) (i3 : ∀ a, (![0, 3072, 0] : Fin 3 → ℕ) a + S1x1024x512.size a ≤ S1x4096x512.size a)
  (jo : ∀ a, o a + S1x512.size a ≤ S3x512.size a)

include e16 e22 ho in
theorem stO (g : Vec Ideal S512x512 .f32) : after P hP g (listO P (fun j => rd M hM x16 (Rect.unit ![0, 128 * j.val] S512x128.size (inbE j))) (rd N7 hN7 x22 (Rect.unit ![0, 0] S512x128.size i))
      (rd Mv hv kv (Rect.unit ![0, 0, 0] S1x1024x512.size i0)) (rd Mv hv kv (Rect.unit ![0, 1024, 0] S1x1024x512.size i1)) (rd Mv hv kv (Rect.unit ![0, 2048, 0] S1x1024x512.size i2)) (rd Mv hv kv (Rect.unit ![0, 3072, 0] S1x1024x512.size i3))
      (rd Ms hs vs (Rect.unit o S1x512.size jo))) = Oo E kv (fun d => vs (ix2 b d)) := by
  subst e16 e22 ho
  unfold after
  rw [rd_grp M hM x16, rd_whole N7 hN7 _ _ _ hz2]
  simp only [rd_ld]
  refine (o_read ..).trans ?_
  exact congrArg (Oo _ _) (funext fun a => ld_row3 ..)

end

/-! ## Output -/

/-- A tile's codes. -/
def Cv (o : Vec Ideal S512x512 .f32) : Vec Ideal S1x512x512 .fp8e4m3 := fun y => code cL (fun x => o (ix2 (y 1) x)) (y 2)
/-- A tile's projection. -/
def Pv (o : Vec Ideal S512x512 .f32) (wo : Vec Ideal S512x512 .fp8e4m3) (so bo : Vec Ideal S1x512 .f32) : Vec Ideal S1x512x512 .bf16 :=
  fun y => outp cL (fun x => o (ix2 (y 1) x)) (fun x => wo (ix2 x (y 2))) (so (ix2 0 (y 2))) (bo (ix2 0 (y 2)))
/-- A tile's result. -/
def Yv (x : Vec Ideal S1x512x512 .bf16) (o : Vec Ideal S512x512 .f32) (wo : Vec Ideal S512x512 .fp8e4m3) (so bo : Vec Ideal S1x512 .f32) : Vec Ideal S1x512x512 .bf16 :=
  fun y => x (ix3 0 (y 1) (y 2)) + outp cL (fun x => o (ix2 (y 1) x)) (fun x => wo (ix2 x (y 2))) (so (ix2 0 (y 2))) (bo (ix2 0 (y 2)))

theorem y_at (x : Vec Ideal S1x512x512 .bf16) (p : FVec Ideal S512x512 .f32) (y : S1x512x512.Idx) :
    (shapeCast S1x512x512 (truncf (F := Ideal) .bf16 (addf (extf .f32 (shapeCast S512x512 x shapeCasts_S1x512x512_S512x512) bitsLt_bf16_f32) p) bitsLt_bf16_f32) shapeCasts_S512x512_S1x512x512 y : EReal)
      = x (ix3 0 (y 1) (y 2)) + p (ix2 (y 1) (y 2)) := by
  idx_vars y
  pointwise []
  all_goals rfl
theorem p_at (p : FVec Ideal S512x512 .f32) (y : S1x512x512.Idx) :
    (shapeCast S1x512x512 (truncf (F := Ideal) .bf16 p bitsLt_bf16_f32) shapeCasts_S512x512_S1x512x512 y : EReal) = p (ix2 (y 1) (y 2)) := by
  idx_vars y
  pointwise []
  all_goals rfl
theorem c_at (p : FVec Ideal S512x512 .fp8e4m3) (y : S1x512x512.Idx) :
    (shapeCast S1x512x512 p shapeCasts_S512x512_S1x512x512 y : EReal) = p (ix2 (y 1) (y 2)) := by
  idx_vars y
  pointwise []
  all_goals rfl

section
variable (MY : Memref sig .tc .vmem S1x512x512 .bf16) (hMY : MY.IsWhole) (MC : Memref sig .tc .vmem S1x512x512 .fp8e4m3) (hMC : MC.IsWhole) (MS : Memref sig .tc .vmem S3x4096 .f32) (hMS : MS.IsWhole)
  (Mx : Memref sig .tc .vmem S1x512x512 .bf16) (hx : Mx.IsWhole) (Mo : Memref sig .tc .vmem S512x512 .f32) (hMo : Mo.IsWhole) (Mw : Memref sig .tc .vmem S512x512 .fp8e4m3) (hw : Mw.IsWhole)
  (Ma : Memref sig .tc .vmem S1x512 .f32) (ha : Ma.IsWhole) (Mb : Memref sig .tc .vmem S1x512 .f32) (hb : Mb.IsWhole)
  (x : Vec Ideal S1x512x512 .bf16) (O x17 : Vec Ideal S512x512 .f32) (e17 : x17 = O) (wo : Vec Ideal S512x512 .fp8e4m3) (so bo : Vec Ideal S1x512 .f32)
  (i3 : ∀ a, (![0, 0, 0] : Fin 3 → ℕ) a + S1x512x512.size a ≤ S1x512x512.size a) (i2 : ∀ a, (![0, 0] : Fin 2 → ℕ) a + S512x512.size a ≤ S512x512.size a) (i1 : ∀ a, (![0, 0] : Fin 2 → ℕ) a + S1x512.size a ≤ S1x512.size a)

include e17 in
theorem stY (g : Vec Ideal S1x512x512 .bf16) : after MY hMY g (listY (rd Mx hx x (Rect.unit ![0, 0, 0] S1x512x512.size i3)) (rd Mo hMo x17 (Rect.unit ![0, 0] S512x512.size i2)) (rd Mw hw wo (Rect.unit ![0, 0] S512x512.size i2)) (rd Ma ha so (Rect.unit ![0, 0] S1x512.size i1)) (rd Mb hb bo (Rect.unit ![0, 0] S1x512.size i1)))
    = Yv x O wo so bo := by
  subst e17
  unfold after listY
  rw [rd_whole Mx hx _ _ _ hz3, rd_whole Mo hMo _ _ _ hz2, rd_whole Mw hw _ _ _ hz2, rd_whole Ma ha _ _ _ hz2, rd_whole Mb hb _ _ _ hz2, read_whole]
  exact funext fun y => (y_at _ _ y).trans (congrArg (fun z : EReal => x (ix3 0 (y 1) (y 2)) + z) (proj_val _ _ _ _ (ix2 (y 1) (y 2))))

include e17 in
theorem stP (g : Vec Ideal S1x512x512 .bf16) : after MY hMY g (listProj (rd Mo hMo x17 (Rect.unit ![0, 0] S512x512.size i2)) (rd Mw hw wo (Rect.unit ![0, 0] S512x512.size i2)) (rd Ma ha so (Rect.unit ![0, 0] S1x512.size i1)) (rd Mb hb bo (Rect.unit ![0, 0] S1x512.size i1)))
    = Pv O wo so bo := by
  subst e17
  unfold after listProj
  rw [rd_whole Mo hMo _ _ _ hz2, rd_whole Mw hw _ _ _ hz2, rd_whole Ma ha _ _ _ hz2, rd_whole Mb hb _ _ _ hz2, read_whole]
  exact funext fun y => (p_at _ y).trans (proj_val _ _ _ _ (ix2 (y 1) (y 2)))

include e17 in
theorem stC (g : Vec Ideal S1x512x512 .fp8e4m3) : after MC hMC g (listAc (rd Mo hMo x17 (Rect.unit ![0, 0] S512x512.size i2))) = Cv O := by
  subst e17
  unfold after listAc
  rw [rd_whole Mo hMo _ _ _ hz2, read_whole]
  exact funext fun y => (c_at _ y).trans (ac_val _ (ix2 (y 1) (y 2)))

variable (b : Fin 3) (r : Fin 8) (o : Fin 2 → ℕ) (ho : o = ![b.val, 512 * r.val]) (jo : ∀ a, o a + S1x512.size a ≤ S3x4096.size a)

include e17 ho in
theorem stAs_hit (g : Vec Ideal S3x4096 .f32) (b' : Fin 3) (k : Fin 4096) (hb' : b'.val = b.val) (hk : k.val / 512 = r.val) :
    (after MS hMS g (listAs o jo (rd Mo hMo x17 (Rect.unit ![0, 0] S512x512.size i2))) (ix2 b' k) : EReal) =
      Ideal.exp2 (qexp cL fun x => O (ix2 ⟨k.val % 512, Nat.mod_lt _ (by decide)⟩ x)) := by
  subst e17 ho
  unfold after listAs
  rw [rd_whole Mo hMo _ _ _ hz2]
  refine (View.read_writes_cons_hit_of_coords MS.view _ (Rect.unit ![b.val, 512 * r.val] S1x512.size jo) _ [] (ix2 0 ⟨k.val % 512, Nat.mod_lt _ (by decide)⟩) (ix2 b' k) ?_).trans (as_val _ _)
  intro a
  fin_cases a
  · simp [hb']
  · simp; omega

include ho in
theorem stAs_miss (g : Vec Ideal S3x4096 .f32) (b' : Fin 3) (k : Fin 4096) (hne : ¬ (b'.val = b.val ∧ k.val / 512 = r.val)) :
    after MS hMS g (listAs o jo (rd Mo hMo x17 (Rect.unit ![0, 0] S512x512.size i2))) (ix2 b' k) = g (ix2 b' k) := by
  subst ho
  unfold after listAs
  have hr := congrFun (hMS.read_unread (Val := Elt Ideal) g) (ix2 b' k)
  by_cases h : b'.val = b.val
  · have h' : k.val / 512 ≠ r.val := fun e => hne ⟨h, e⟩
    exact (View.read_writes_cons_miss_of_axis MS.view _ ⟨Rect.unit ![b.val, 512 * r.val] S1x512.size jo, _⟩ [] (ix2 b' k) 1 (512 * r.val) 512 rfl rfl rfl (by show k.val < _ ∨ _ ≤ k.val; omega)).trans hr
  · exact (View.read_writes_cons_miss_of_axis MS.view _ ⟨Rect.unit ![b.val, 512 * r.val] S1x512.size jo, _⟩ [] (ix2 b' k) 0 b.val 1 rfl rfl rfl (by show b'.val < _ ∨ _ ≤ b'.val; omega)).trans hr

end

end Cert.KernelIdeal.Gen

end
-- ==== Proof.KernelIdeal.Steps.lean ====
/- The attention body's runs, point by point, over the extended reals: what the scratch and the output buffers hold. -/
module

public import proofs.«01_k».proof.Proof.KernelIdeal.Stages

@[expose] public section

set_option maxRecDepth 16384
set_option maxHeartbeats 1000000

noncomputable section

namespace Cert.KernelIdeal.Gen

open Idealize.ShloMosaic Idealize.ShloMosaic.TcCoe Idealize.ShloMosaic.Tactic Cert.Attn

variable (m : (ℓ : Loc nD τ sig) → Buf (Elt Ideal) ℓ) (c : Dev nD)

/-- The batch of tile `n`. -/
def bt (n : ℕ) : Fin 3 := ⟨min (n / 8) 2, by omega⟩
/-- The tile's place in its batch. -/
def rt (n : ℕ) : Fin 8 := ⟨n % 8, Nat.mod_lt _ (by decide)⟩
/-- Grid point `n`. -/
def pt (n : ℕ) : Fin cfg0.N := ⟨min n 26, lt_of_le_of_lt (Nat.min_le_right _ _) (lt_of_lt_of_eq (by decide : 26 < 27) (show 27 = cfg0.N from N_0.symm))⟩

theorem pt_eq (t : Fin cfg0.N) (n : ℕ) (h : n = t.val) : pt n = t := by
  subst h
  have : t.val < 27 := lt_of_lt_of_eq t.isLt (show cfg0.N = 27 from N_0)
  exact Fin.ext (by show min t.val 26 = t.val; omega)

/-- A tile's scores. -/
def tS (t : Fin cfg0.N) : Vec Ideal S512x4096 .f32 := Sc (iblk m c 1 t) (iblk m c 2 t) (fun k => iblk m c 5 t (ix2 (bt t.val) k))
/-- A tile's query scales. -/
def tv (t : Fin cfg0.N) : Fin 512 → EReal := rowv (iblk m c 4 t) (bt t.val) (rt t.val)
/-- A tile's exponentials. -/
def tE (t : Fin cfg0.N) : Vec Ideal S512x4096 .f32 := Ex (tS m c t) (tv m c t)
/-- A tile's attention output. -/
def tO (n : ℕ) : Vec Ideal S512x512 .f32 := Oo (tE m c (pt n)) (iblk m c 3 (pt (n + 2))) (fun d => iblk m c 6 (pt (n + 2)) (ix2 (bt n) d))
/-- A query's output scale. -/
def tA (b : Fin 3) (k : Fin 4096) : EReal := Ideal.exp2 (qexp cL fun x => tO m c (8 * b.val + k.val / 512) (ix2 ⟨k.val % 512, Nat.mod_lt _ (by decide)⟩ x))

/-- The scratch before point `n`. -/
def Inv (n : ℕ) (X : Bufs Ideal) : Prop :=
  (1 ≤ n ∧ n ≤ 24 → X.x15 = tS m c (pt (n - 1)) ∧ X.x18 = Rs (tv m c (pt (n - 1))) ∧ X.x20 = Mc (tS m c (pt (n - 1))) (tv m c (pt (n - 1)))) ∧
  (2 ≤ n ∧ n ≤ 25 → X.x16 = tE m c (pt (n - 2)) ∧ X.x22 = Il (tE m c (pt (n - 2)))) ∧
  (3 ≤ n ∧ n ≤ 26 → X.x17 = tO m c (n - 3))
def L10 (t : Fin cfg0.N) (X : Vec Ideal S1x512x512 .bf16) : Prop := 3 ≤ t.val → X = Yv (iblk m c 0 t) (tO m c (t.val - 3)) (iblk m c 7 t) (iblk m c 8 t) (iblk m c 9 t)
def L11 (t : Fin cfg0.N) (X : Vec Ideal S1x512x512 .bf16) : Prop := 3 ≤ t.val → X = Pv (tO m c (t.val - 3)) (iblk m c 7 t) (iblk m c 8 t) (iblk m c 9 t)
def L12 (t : Fin cfg0.N) (X : Vec Ideal S1x512x512 .fp8e4m3) : Prop := 3 ≤ t.val → X = Cv (tO m c (t.val - 3))
def L13 (t : Fin cfg0.N) (X : Vec Ideal S3x4096 .f32) : Prop := ∀ (b : Fin 3) (k : Fin 4096), 8 * b.val + k.val / 512 + 3 ≤ t.val → X (ix2 b k) = tA m c b k

/-- What the proof says of the body from point to point. -/
def spec (c : Dev nD) : Spec Ideal where
  inv := Inv m c
  inv_scr := by
    intro n X X' h15 h16 h17 h18 h19 h20 h21 h22 h
    unfold Inv at h ⊢
    rw [← h15, ← h16, ← h17, ← h18, ← h20, ← h22]
    exact h
  l10 := L10 m c
  l11 := L11 m c
  l12 := L12 m c
  l13 t _ X := L13 m c t X

theorem found_le (t : Fin cfg0.N) (x : Vec Ideal S3x4096 .f32) (h : (spec m c).found t x) (h0 : t.val ≠ 0) (b : Fin 3) (k : Fin 4096)
    (hk : 8 * b.val + k.val / 512 + 4 ≤ t.val) : x (ix2 b k) = tA m c b k := by
  obtain ⟨Y, hY⟩ := h h0
  exact hY b k (by show _ ≤ t.val - 1; omega)

/-! ### Offsets -/

theorem off1 : ∀ t : Fin cfg0.N, t.val = 0 → k0_off1 (grid0.coords t) = ![(bt t.val).val, 0] :=
  (by decide +kernel : ∀ t : Fin grid0.N, t.val = 0 → k0_off1 (grid0.coords t) = ![(bt t.val).val, 0])
theorem off2 : ∀ t : Fin cfg0.N, t.val = 0 → k0_off2 (grid0.coords t) = ![(bt t.val).val, 1024] :=
  (by decide +kernel : ∀ t : Fin grid0.N, t.val = 0 → k0_off2 (grid0.coords t) = ![(bt t.val).val, 1024])
theorem off3 : ∀ t : Fin cfg0.N, t.val = 0 → k0_off3 (grid0.coords t) = ![(bt t.val).val, 2048] :=
  (by decide +kernel : ∀ t : Fin grid0.N, t.val = 0 → k0_off3 (grid0.coords t) = ![(bt t.val).val, 2048])
theorem off4 : ∀ t : Fin cfg0.N, t.val = 0 → k0_off4 (grid0.coords t) = ![(bt t.val).val, 3072] :=
  (by decide +kernel : ∀ t : Fin grid0.N, t.val = 0 → k0_off4 (grid0.coords t) = ![(bt t.val).val, 3072])
theorem off6 : ∀ t : Fin cfg0.N, t.val = 1 → k0_off6 (grid0.coords t) = ![(bt t.val).val, 0] :=
  (by decide +kernel : ∀ t : Fin grid0.N, t.val = 1 → k0_off6 (grid0.coords t) = ![(bt t.val).val, 0])
theorem off7 : ∀ t : Fin cfg0.N, t.val = 1 → k0_off7 (grid0.coords t) = ![(bt t.val).val, 1024] :=
  (by decide +kernel : ∀ t : Fin grid0.N, t.val = 1 → k0_off7 (grid0.coords t) = ![(bt t.val).val, 1024])
theorem off8 : ∀ t : Fin cfg0.N, t.val = 1 → k0_off8 (grid0.coords t) = ![(bt t.val).val, 2048] :=
  (by decide +kernel : ∀ t : Fin grid0.N, t.val = 1 → k0_off8 (grid0.coords t) = ![(bt t.val).val, 2048])
theorem off9 : ∀ t : Fin cfg0.N, t.val = 1 → k0_off9 (grid0.coords t) = ![(bt t.val).val, 3072] :=
  (by decide +kernel : ∀ t : Fin grid0.N, t.val = 1 → k0_off9 (grid0.coords t) = ![(bt t.val).val, 3072])
theorem off11 : ∀ t : Fin cfg0.N, t.val = 2 → k0_off11 (grid0.coords t) = ![(bt t.val).val, 0] :=
  (by decide +kernel : ∀ t : Fin grid0.N, t.val = 2 → k0_off11 (grid0.coords t) = ![(bt t.val).val, 0])
theorem off12 : ∀ t : Fin cfg0.N, t.val = 2 → k0_off12 (grid0.coords t) = ![(bt t.val).val, 1024] :=
  (by decide +kernel : ∀ t : Fin grid0.N, t.val = 2 → k0_off12 (grid0.coords t) = ![(bt t.val).val, 1024])
theorem off13 : ∀ t : Fin cfg0.N, t.val = 2 → k0_off13 (grid0.coords t) = ![(bt t.val).val, 2048] :=
  (by decide +kernel : ∀ t : Fin grid0.N, t.val = 2 → k0_off13 (grid0.coords t) = ![(bt t.val).val, 2048])
theorem off15 : ∀ t : Fin cfg0.N, t.val = 2 → k0_off15 (grid0.coords t) = ![(bt t.val).val, 3072] :=
  (by decide +kernel : ∀ t : Fin grid0.N, t.val = 2 → k0_off15 (grid0.coords t) = ![(bt t.val).val, 3072])
theorem off18 : ∀ t : Fin cfg0.N, (3 ≤ t.val ∧ t.val ≤ 23) → k0_off18 (grid0.coords t) = ![(bt t.val).val, 0] :=
  (by decide +kernel : ∀ t : Fin grid0.N, (3 ≤ t.val ∧ t.val ≤ 23) → k0_off18 (grid0.coords t) = ![(bt t.val).val, 0])
theorem off19 : ∀ t : Fin cfg0.N, (3 ≤ t.val ∧ t.val ≤ 23) → k0_off19 (grid0.coords t) = ![(bt t.val).val, 1024] :=
  (by decide +kernel : ∀ t : Fin grid0.N, (3 ≤ t.val ∧ t.val ≤ 23) → k0_off19 (grid0.coords t) = ![(bt t.val).val, 1024])
theorem off20 : ∀ t : Fin cfg0.N, (3 ≤ t.val ∧ t.val ≤ 23) → k0_off20 (grid0.coords t) = ![(bt t.val).val, 2048] :=
  (by decide +kernel : ∀ t : Fin grid0.N, (3 ≤ t.val ∧ t.val ≤ 23) → k0_off20 (grid0.coords t) = ![(bt t.val).val, 2048])
theorem off22 : ∀ t : Fin cfg0.N, (3 ≤ t.val ∧ t.val ≤ 23) → k0_off22 (grid0.coords t) = ![(bt t.val).val, 3072] :=
  (by decide +kernel : ∀ t : Fin grid0.N, (3 ≤ t.val ∧ t.val ≤ 23) → k0_off22 (grid0.coords t) = ![(bt t.val).val, 3072])
theorem off5 : ∀ t : Fin cfg0.N, t.val = 0 → k0_off5 (grid0.coords t) = ![(bt t.val).val, 512 * (rt t.val).val] :=
  (by decide +kernel : ∀ t : Fin grid0.N, t.val = 0 → k0_off5 (grid0.coords t) = ![(bt t.val).val, 512 * (rt t.val).val])
theorem off10 : ∀ t : Fin cfg0.N, t.val = 1 → k0_off10 (grid0.coords t) = ![(bt t.val).val, 512 * (rt t.val).val] :=
  (by decide +kernel : ∀ t : Fin grid0.N, t.val = 1 → k0_off10 (grid0.coords t) = ![(bt t.val).val, 512 * (rt t.val).val])
theorem off16 : ∀ t : Fin cfg0.N, t.val = 2 → k0_off16 (grid0.coords t) = ![(bt t.val).val, 512 * (rt t.val).val] :=
  (by decide +kernel : ∀ t : Fin grid0.N, t.val = 2 → k0_off16 (grid0.coords t) = ![(bt t.val).val, 512 * (rt t.val).val])
theorem off23 : ∀ t : Fin cfg0.N, (3 ≤ t.val ∧ t.val ≤ 23) → k0_off23 (grid0.coords t) = ![(bt t.val).val, 512 * (rt t.val).val] :=
  (by decide +kernel : ∀ t : Fin grid0.N, (3 ≤ t.val ∧ t.val ≤ 23) → k0_off23 (grid0.coords t) = ![(bt t.val).val, 512 * (rt t.val).val])
theorem off14 : ∀ t : Fin cfg0.N, t.val = 2 → k0_off14 (grid0.coords t) = ![(bt (t.val - 2)).val, 0] :=
  (by decide +kernel : ∀ t : Fin grid0.N, t.val = 2 → k0_off14 (grid0.coords t) = ![(bt (t.val - 2)).val, 0])
theorem off21 : ∀ t : Fin cfg0.N, (3 ≤ t.val ∧ t.val ≤ 23) → k0_off21 (grid0.coords t) = ![(bt (t.val - 2)).val, 0] :=
  (by decide +kernel : ∀ t : Fin grid0.N, (3 ≤ t.val ∧ t.val ≤ 23) → k0_off21 (grid0.coords t) = ![(bt (t.val - 2)).val, 0])
theorem off25 : ∀ t : Fin cfg0.N, t.val = 24 → k0_off25 (grid0.coords t) = ![(bt (t.val - 2)).val, 0] :=
  (by decide +kernel : ∀ t : Fin grid0.N, t.val = 24 → k0_off25 (grid0.coords t) = ![(bt (t.val - 2)).val, 0])
theorem off27 : ∀ t : Fin cfg0.N, t.val = 25 → k0_off27 (grid0.coords t) = ![(bt (t.val - 2)).val, 0] :=
  (by decide +kernel : ∀ t : Fin grid0.N, t.val = 25 → k0_off27 (grid0.coords t) = ![(bt (t.val - 2)).val, 0])
theorem off17 : ∀ t : Fin cfg0.N, (3 ≤ t.val ∧ t.val ≤ 23) → k0_off17 (grid0.coords t) = ![(bt (t.val - 3)).val, 512 * (rt (t.val - 3)).val] :=
  (by decide +kernel : ∀ t : Fin grid0.N, (3 ≤ t.val ∧ t.val ≤ 23) → k0_off17 (grid0.coords t) = ![(bt (t.val - 3)).val, 512 * (rt (t.val - 3)).val])
theorem off24 : ∀ t : Fin cfg0.N, t.val = 24 → k0_off24 (grid0.coords t) = ![(bt (t.val - 3)).val, 512 * (rt (t.val - 3)).val] :=
  (by decide +kernel : ∀ t : Fin grid0.N, t.val = 24 → k0_off24 (grid0.coords t) = ![(bt (t.val - 3)).val, 512 * (rt (t.val - 3)).val])
theorem off26 : ∀ t : Fin cfg0.N, t.val = 25 → k0_off26 (grid0.coords t) = ![(bt (t.val - 3)).val, 512 * (rt (t.val - 3)).val] :=
  (by decide +kernel : ∀ t : Fin grid0.N, t.val = 25 → k0_off26 (grid0.coords t) = ![(bt (t.val - 3)).val, 512 * (rt (t.val - 3)).val])
theorem off28 : ∀ t : Fin cfg0.N, t.val = 26 → k0_off28 (grid0.coords t) = ![(bt (t.val - 3)).val, 512 * (rt (t.val - 3)).val] :=
  (by decide +kernel : ∀ t : Fin grid0.N, t.val = 26 → k0_off28 (grid0.coords t) = ![(bt (t.val - 3)).val, 512 * (rt (t.val - 3)).val])

/-! ### Run A -/

section
variable (t : Fin cfg0.N) (h : t.val = 0) (X : Bufs Ideal)

theorem s15A  : (newA c t h X).x15 = Sc X.x2 X.x3 (fun k => X.x6 (ix2 (bt t.val) k)) :=
  (show (newA c t h X).x15 = after scM0_0 (Memref.isWhole_whole _) X.x15 (atA c t h X).1 from (by unfold newA; with_reducible rfl)).trans ((congrArg (after scM0_0 (Memref.isWhole_whole _) X.x15) (atA_15 c t X h)).trans (stS (h0 := off1 t h) (h1 := off2 t h) (h2 := off3 t h) (h3 := off4 t h) ..))
theorem s18A  : (newA c t h X).x18 = Rs (rowv X.x5 (bt t.val) (rt t.val)) :=
  (show (newA c t h X).x18 = after scM0_3 (Memref.isWhole_whole _) X.x18 (atA c t h X).2.1 from (by unfold newA; with_reducible rfl)).trans ((congrArg (after scM0_3 (Memref.isWhole_whole _) X.x18) (atA_18 c t X h)).trans (stRs (ho := off5 t h) ..))
theorem s20A  : (newA c t h X).x20 = Mc (Sc X.x2 X.x3 (fun k => X.x6 (ix2 (bt t.val) k))) (rowv X.x5 (bt t.val) (rt t.val)) :=
  (show (newA c t h X).x20 = after scM0_5 (Memref.isWhole_whole _) X.x20 (atA c t h X).2.2.2.1 from (by unfold newA; with_reducible rfl)).trans ((congrArg (after scM0_5 (Memref.isWhole_whole _) X.x20) (atA_20 c t X h)).trans (stMc (h0 := off1 t h) (h1 := off2 t h) (h2 := off3 t h) (h3 := off4 t h) (ho := off5 t h) ..))

theorem okA (hi : Inv m c t.val X) (hf : (spec m c).found t X.x14) : (spec m c).ok t (withIn m c t X) (newA c t h (withIn m c t X)) := by
  have i1 : 1 ≤ t.val + 1 ∧ t.val + 1 ≤ 24 → (newA c t h (withIn m c t X)).x15 = tS m c (pt (t.val + 1 - 1)) ∧ (newA c t h (withIn m c t X)).x18 = Rs (tv m c (pt (t.val + 1 - 1))) ∧ (newA c t h (withIn m c t X)).x20 = Mc (tS m c (pt (t.val + 1 - 1))) (tv m c (pt (t.val + 1 - 1))) := fun hn => by
    rw [pt_eq t (t.val + 1 - 1) (by omega)]
    exact ⟨s15A c t h (withIn m c t X), s18A c t h (withIn m c t X), s20A c t h (withIn m c t X)⟩
  have i2 : 2 ≤ t.val + 1 ∧ t.val + 1 ≤ 25 → (newA c t h (withIn m c t X)).x16 = tE m c (pt (t.val + 1 - 2)) ∧ (newA c t h (withIn m c t X)).x22 = Il (tE m c (pt (t.val + 1 - 2))) := fun hn => absurd hn (by omega)
  have i3 : 3 ≤ t.val + 1 ∧ t.val + 1 ≤ 26 → (newA c t h (withIn m c t X)).x17 = tO m c (t.val + 1 - 3) := fun hn => absurd hn (by omega)
  exact ⟨⟨i1, i2, i3⟩, fun hn => absurd hn (by omega), fun hn => absurd hn (by omega), fun hn => absurd hn (by omega), fun b k hn => absurd hn (by omega)⟩

end

/-! ### Run B -/

section
variable (t : Fin cfg0.N) (h : t.val = 1) (X : Bufs Ideal)

theorem s15B  : (newB c t h X).x15 = Sc X.x2 X.x3 (fun k => X.x6 (ix2 (bt t.val) k)) :=
  (show (newB c t h X).x15 = after scM0_0 (Memref.isWhole_whole _) X.x15 (atB c t h X).1 from (by unfold newB; with_reducible rfl)).trans ((congrArg (after scM0_0 (Memref.isWhole_whole _) X.x15) (atB_15 c t X h)).trans (stS (h0 := off6 t h) (h1 := off7 t h) (h2 := off8 t h) (h3 := off9 t h) ..))
theorem s18B  : (newB c t h X).x18 = Rs (rowv X.x5 (bt t.val) (rt t.val)) :=
  (show (newB c t h X).x18 = after scM0_3 (Memref.isWhole_whole _) X.x18 (atB c t h X).2.2.1 from (by unfold newB; with_reducible rfl)).trans ((congrArg (after scM0_3 (Memref.isWhole_whole _) X.x18) (atB_18 c t X h)).trans (stRs (ho := off10 t h) ..))
theorem s20B  : (newB c t h X).x20 = Mc (Sc X.x2 X.x3 (fun k => X.x6 (ix2 (bt t.val) k))) (rowv X.x5 (bt t.val) (rt t.val)) :=
  (show (newB c t h X).x20 = after scM0_5 (Memref.isWhole_whole _) X.x20 (atB c t h X).2.2.2.2.1 from (by unfold newB; with_reducible rfl)).trans ((congrArg (after scM0_5 (Memref.isWhole_whole _) X.x20) (atB_20 c t X h)).trans (stMc (h0 := off6 t h) (h1 := off7 t h) (h2 := off8 t h) (h3 := off9 t h) (ho := off10 t h) ..))
theorem s16B (S : Vec Ideal S512x4096 .f32) (v : Fin 512 → EReal) (e15 : X.x15 = S) (e18 : X.x18 = Rs v) (e20 : X.x20 = Mc S v) : (newB c t h X).x16 = Ex S v :=
  (show (newB c t h X).x16 = after scM0_1 (Memref.isWhole_whole _) X.x16 (atB c t h X).2.1 from (by unfold newB; with_reducible rfl)).trans ((congrArg (after scM0_1 (Memref.isWhole_whole _) X.x16) (atB_16 c t X h)).trans (stE (e15 := e15) (e18 := e18) (e20 := e20) ..))
theorem s22B (S : Vec Ideal S512x4096 .f32) (v : Fin 512 → EReal) (e15 : X.x15 = S) (e18 : X.x18 = Rs v) (e20 : X.x20 = Mc S v) : (newB c t h X).x22 = Il (Ex S v) :=
  (show (newB c t h X).x22 = after scM0_7 (Memref.isWhole_whole _) X.x22 (atB c t h X).2.2.2.2.2.2.1 from (by unfold newB; with_reducible rfl)).trans ((congrArg (after scM0_7 (Memref.isWhole_whole _) X.x22) (atB_22 c t X h)).trans (stIl (e15 := e15) (e18 := e18) (e20 := e20) ..))

theorem okB (hi : Inv m c t.val X) (hf : (spec m c).found t X.x14) : (spec m c).ok t (withIn m c t X) (newB c t h (withIn m c t X)) := by
  have q1 := hi.1 (by omega)
  have i1 : 1 ≤ t.val + 1 ∧ t.val + 1 ≤ 24 → (newB c t h (withIn m c t X)).x15 = tS m c (pt (t.val + 1 - 1)) ∧ (newB c t h (withIn m c t X)).x18 = Rs (tv m c (pt (t.val + 1 - 1))) ∧ (newB c t h (withIn m c t X)).x20 = Mc (tS m c (pt (t.val + 1 - 1))) (tv m c (pt (t.val + 1 - 1))) := fun hn => by
    rw [pt_eq t (t.val + 1 - 1) (by omega)]
    exact ⟨s15B c t h (withIn m c t X), s18B c t h (withIn m c t X), s20B c t h (withIn m c t X)⟩
  have i2 : 2 ≤ t.val + 1 ∧ t.val + 1 ≤ 25 → (newB c t h (withIn m c t X)).x16 = tE m c (pt (t.val + 1 - 2)) ∧ (newB c t h (withIn m c t X)).x22 = Il (tE m c (pt (t.val + 1 - 2))) := fun hn => by
    rw [show t.val + 1 - 2 = t.val - 1 by omega]
    exact ⟨s16B c t h (withIn m c t X) _ _ q1.1 q1.2.1 q1.2.2, s22B c t h (withIn m c t X) _ _ q1.1 q1.2.1 q1.2.2⟩
  have i3 : 3 ≤ t.val + 1 ∧ t.val + 1 ≤ 26 → (newB c t h (withIn m c t X)).x17 = tO m c (t.val + 1 - 3) := fun hn => absurd hn (by omega)
  exact ⟨⟨i1, i2, i3⟩, fun hn => absurd hn (by omega), fun hn => absurd hn (by omega), fun hn => absurd hn (by omega), fun b k hn => absurd hn (by omega)⟩

end

/-! ### Run C -/

section
variable (t : Fin cfg0.N) (h : t.val = 2) (X : Bufs Ideal)

theorem s15C  : (newC c t h X).x15 = Sc X.x2 X.x3 (fun k => X.x6 (ix2 (bt t.val) k)) :=
  (show (newC c t h X).x15 = after scM0_0 (Memref.isWhole_whole _) X.x15 (atC c t h X).1 from (by unfold newC; with_reducible rfl)).trans ((congrArg (after scM0_0 (Memref.isWhole_whole _) X.x15) (atC_15 c t X h)).trans (stS (h0 := off11 t h) (h1 := off12 t h) (h2 := off13 t h) (h3 := off15 t h) ..))
theorem s18C  : (newC c t h X).x18 = Rs (rowv X.x5 (bt t.val) (rt t.val)) :=
  (show (newC c t h X).x18 = after scM0_3 (Memref.isWhole_whole _) X.x18 (atC c t h X).2.2.2.1 from (by unfold newC; with_reducible rfl)).trans ((congrArg (after scM0_3 (Memref.isWhole_whole _) X.x18) (atC_18 c t X h)).trans (stRs (ho := off16 t h) ..))
theorem s20C  : (newC c t h X).x20 = Mc (Sc X.x2 X.x3 (fun k => X.x6 (ix2 (bt t.val) k))) (rowv X.x5 (bt t.val) (rt t.val)) :=
  (show (newC c t h X).x20 = after scM0_5 (Memref.isWhole_whole _) X.x20 (atC c t h X).2.2.2.2.2.1 from (by unfold newC; with_reducible rfl)).trans ((congrArg (after scM0_5 (Memref.isWhole_whole _) X.x20) (atC_20 c t X h)).trans (stMc (h0 := off11 t h) (h1 := off12 t h) (h2 := off13 t h) (h3 := off15 t h) (ho := off16 t h) ..))
theorem s16C (S : Vec Ideal S512x4096 .f32) (v : Fin 512 → EReal) (e15 : X.x15 = S) (e18 : X.x18 = Rs v) (e20 : X.x20 = Mc S v) : (newC c t h X).x16 = Ex S v :=
  (show (newC c t h X).x16 = after scM0_1 (Memref.isWhole_whole _) X.x16 (atC c t h X).2.1 from (by unfold newC; with_reducible rfl)).trans ((congrArg (after scM0_1 (Memref.isWhole_whole _) X.x16) (atC_16 c t X h)).trans (stE (e15 := e15) (e18 := e18) (e20 := e20) ..))
theorem s22C (S : Vec Ideal S512x4096 .f32) (v : Fin 512 → EReal) (e15 : X.x15 = S) (e18 : X.x18 = Rs v) (e20 : X.x20 = Mc S v) : (newC c t h X).x22 = Il (Ex S v) :=
  (show (newC c t h X).x22 = after scM0_7 (Memref.isWhole_whole _) X.x22 (atC c t h X).2.2.2.2.2.2.2.1 from (by unfold newC; with_reducible rfl)).trans ((congrArg (after scM0_7 (Memref.isWhole_whole _) X.x22) (atC_22 c t X h)).trans (stIl (e15 := e15) (e18 := e18) (e20 := e20) ..))
theorem s17C (E : Vec Ideal S512x4096 .f32) (e16 : X.x16 = E) (e22 : X.x22 = Il E) : (newC c t h X).x17 = Oo E X.x4 (fun d => X.x7 (ix2 (bt (t.val - 2)) d)) :=
  (show (newC c t h X).x17 = after scM0_2 (Memref.isWhole_whole _) X.x17 (atC c t h X).2.2.1 from (by unfold newC; with_reducible rfl)).trans ((congrArg (after scM0_2 (Memref.isWhole_whole _) X.x17) (atC_17 c t X h)).trans (stO (e16 := e16) (e22 := e22) (ho := off14 t h) ..))

theorem okC (hi : Inv m c t.val X) (hf : (spec m c).found t X.x14) : (spec m c).ok t (withIn m c t X) (newC c t h (withIn m c t X)) := by
  have q1 := hi.1 (by omega)
  have q2 := hi.2.1 (by omega)
  have i1 : 1 ≤ t.val + 1 ∧ t.val + 1 ≤ 24 → (newC c t h (withIn m c t X)).x15 = tS m c (pt (t.val + 1 - 1)) ∧ (newC c t h (withIn m c t X)).x18 = Rs (tv m c (pt (t.val + 1 - 1))) ∧ (newC c t h (withIn m c t X)).x20 = Mc (tS m c (pt (t.val + 1 - 1))) (tv m c (pt (t.val + 1 - 1))) := fun hn => by
    rw [pt_eq t (t.val + 1 - 1) (by omega)]
    exact ⟨s15C c t h (withIn m c t X), s18C c t h (withIn m c t X), s20C c t h (withIn m c t X)⟩
  have i2 : 2 ≤ t.val + 1 ∧ t.val + 1 ≤ 25 → (newC c t h (withIn m c t X)).x16 = tE m c (pt (t.val + 1 - 2)) ∧ (newC c t h (withIn m c t X)).x22 = Il (tE m c (pt (t.val + 1 - 2))) := fun hn => by
    rw [show t.val + 1 - 2 = t.val - 1 by omega]
    exact ⟨s16C c t h (withIn m c t X) _ _ q1.1 q1.2.1 q1.2.2, s22C c t h (withIn m c t X) _ _ q1.1 q1.2.1 q1.2.2⟩
  have i3 : 3 ≤ t.val + 1 ∧ t.val + 1 ≤ 26 → (newC c t h (withIn m c t X)).x17 = tO m c (t.val + 1 - 3) := fun hn => by
    rw [show t.val + 1 - 3 = t.val - 2 by omega]
    unfold tO
    rw [pt_eq t (t.val - 2 + 2) (by omega)]
    exact s17C c t h (withIn m c t X) _ q2.1 q2.2
  exact ⟨⟨i1, i2, i3⟩, fun hn => absurd hn (by omega), fun hn => absurd hn (by omega), fun hn => absurd hn (by omega), fun b k hn => absurd hn (by omega)⟩

end

/-! ### Run D -/

section
variable (t : Fin cfg0.N) (h : (3 ≤ t.val ∧ t.val ≤ 23)) (X : Bufs Ideal)

theorem s15D  : (newD c t h X).x15 = Sc X.x2 X.x3 (fun k => X.x6 (ix2 (bt t.val) k)) :=
  (show (newD c t h X).x15 = after scM0_0 (Memref.isWhole_whole _) X.x15 (atD c t h X).2.2.2.2.1 from (by unfold newD; with_reducible rfl)).trans ((congrArg (after scM0_0 (Memref.isWhole_whole _) X.x15) (atD_15 c t X h)).trans (stS (h0 := off18 t h) (h1 := off19 t h) (h2 := off20 t h) (h3 := off22 t h) ..))
theorem s18D  : (newD c t h X).x18 = Rs (rowv X.x5 (bt t.val) (rt t.val)) :=
  (show (newD c t h X).x18 = after scM0_3 (Memref.isWhole_whole _) X.x18 (atD c t h X).2.2.2.2.2.2.2.1 from (by unfold newD; with_reducible rfl)).trans ((congrArg (after scM0_3 (Memref.isWhole_whole _) X.x18) (atD_18 c t X h)).trans (stRs (ho := off23 t h) ..))
theorem s20D  : (newD c t h X).x20 = Mc (Sc X.x2 X.x3 (fun k => X.x6 (ix2 (bt t.val) k))) (rowv X.x5 (bt t.val) (rt t.val)) :=
  (show (newD c t h X).x20 = after scM0_5 (Memref.isWhole_whole _) X.x20 (atD c t h X).2.2.2.2.2.2.2.2.2.1 from (by unfold newD; with_reducible rfl)).trans ((congrArg (after scM0_5 (Memref.isWhole_whole _) X.x20) (atD_20 c t X h)).trans (stMc (h0 := off18 t h) (h1 := off19 t h) (h2 := off20 t h) (h3 := off22 t h) (ho := off23 t h) ..))
theorem s16D (S : Vec Ideal S512x4096 .f32) (v : Fin 512 → EReal) (e15 : X.x15 = S) (e18 : X.x18 = Rs v) (e20 : X.x20 = Mc S v) : (newD c t h X).x16 = Ex S v :=
  (show (newD c t h X).x16 = after scM0_1 (Memref.isWhole_whole _) X.x16 (atD c t h X).2.2.2.2.2.1 from (by unfold newD; with_reducible rfl)).trans ((congrArg (after scM0_1 (Memref.isWhole_whole _) X.x16) (atD_16 c t X h)).trans (stE (e15 := e15) (e18 := e18) (e20 := e20) ..))
theorem s22D (S : Vec Ideal S512x4096 .f32) (v : Fin 512 → EReal) (e15 : X.x15 = S) (e18 : X.x18 = Rs v) (e20 : X.x20 = Mc S v) : (newD c t h X).x22 = Il (Ex S v) :=
  (show (newD c t h X).x22 = after scM0_7 (Memref.isWhole_whole _) X.x22 (atD c t h X).2.2.2.2.2.2.2.2.2.2.2.1 from (by unfold newD; with_reducible rfl)).trans ((congrArg (after scM0_7 (Memref.isWhole_whole _) X.x22) (atD_22 c t X h)).trans (stIl (e15 := e15) (e18 := e18) (e20 := e20) ..))
theorem s17D (E : Vec Ideal S512x4096 .f32) (e16 : X.x16 = E) (e22 : X.x22 = Il E) : (newD c t h X).x17 = Oo E X.x4 (fun d => X.x7 (ix2 (bt (t.val - 2)) d)) :=
  (show (newD c t h X).x17 = after scM0_2 (Memref.isWhole_whole _) X.x17 (atD c t h X).2.2.2.2.2.2.1 from (by unfold newD; with_reducible rfl)).trans ((congrArg (after scM0_2 (Memref.isWhole_whole _) X.x17) (atD_17 c t X h)).trans (stO (e16 := e16) (e22 := e22) (ho := off21 t h) ..))
theorem s11D (O : Vec Ideal S512x512 .f32) (e17 : X.x17 = O) : (newD c t h X).x11 = Yv X.x1 O X.x8 X.x9 X.x10 :=
  (show (newD c t h X).x11 = after (ms0_10 t) (hs0_10 t) X.x11 (atD c t h X).1 from (by unfold newD; with_reducible rfl)).trans ((congrArg (after (ms0_10 t) (hs0_10 t) X.x11) (atD_11 c t X h)).trans (stY (e17 := e17) ..))
theorem s12D (O : Vec Ideal S512x512 .f32) (e17 : X.x17 = O) : (newD c t h X).x12 = Pv O X.x8 X.x9 X.x10 :=
  (show (newD c t h X).x12 = after (ms0_11 t) (hs0_11 t) X.x12 (atD c t h X).2.1 from (by unfold newD; with_reducible rfl)).trans ((congrArg (after (ms0_11 t) (hs0_11 t) X.x12) (atD_12 c t X h)).trans (stP (e17 := e17) ..))
theorem s13D (O : Vec Ideal S512x512 .f32) (e17 : X.x17 = O) : (newD c t h X).x13 = Cv O :=
  (show (newD c t h X).x13 = after (ms0_12 t) (hs0_12 t) X.x13 (atD c t h X).2.2.1 from (by unfold newD; with_reducible rfl)).trans ((congrArg (after (ms0_12 t) (hs0_12 t) X.x13) (atD_13 c t X h)).trans (stC (e17 := e17) ..))
theorem s14D (O : Vec Ideal S512x512 .f32) (e17 : X.x17 = O) (b : Fin 3) (k : Fin 4096) (h' : 8 * b.val + k.val / 512 + 3 = t.val) :
    (newD c t h X).x14 (ix2 b k) = (Ideal.exp2 (qexp cL fun x => O (ix2 ⟨k.val % 512, Nat.mod_lt _ (by decide)⟩ x)) : EReal) := by
  have hb := b.isLt
  have hk' := k.isLt
  refine (congrFun ((show (newD c t h X).x14 = after (ms0_13 t) (hs0_13 t) X.x14 (atD c t h X).2.2.2.1 from (by unfold newD; with_reducible rfl)).trans ((congrArg (after (ms0_13 t) (hs0_13 t) X.x14) (atD_14 c t X h)))) (ix2 b k)).trans (stAs_hit (e17 := e17) (ho := off17 t h) (hb' := ?_) (hk := ?_) ..)
  · show b.val = min ((t.val - 3) / 8) 2; omega
  · show k.val / 512 = (t.val - 3) % 8; omega
theorem k14D (b : Fin 3) (k : Fin 4096) (h' : ¬ 8 * b.val + k.val / 512 + 3 = t.val) : (newD c t h X).x14 (ix2 b k) = X.x14 (ix2 b k) := by
  have hb := b.isLt
  have hk' := k.isLt
  refine (congrFun ((show (newD c t h X).x14 = after (ms0_13 t) (hs0_13 t) X.x14 (atD c t h X).2.2.2.1 from (by unfold newD; with_reducible rfl)).trans ((congrArg (after (ms0_13 t) (hs0_13 t) X.x14) (atD_14 c t X h)))) (ix2 b k)).trans (stAs_miss (ho := off17 t h) (hne := ?_) ..)
  rintro ⟨h1, h2⟩
  have h1 : b.val = min ((t.val - 3) / 8) 2 := h1
  have h2 : k.val / 512 = (t.val - 3) % 8 := h2
  omega

theorem okD (hi : Inv m c t.val X) (hf : (spec m c).found t X.x14) : (spec m c).ok t (withIn m c t X) (newD c t h (withIn m c t X)) := by
  have q1 := hi.1 (by omega)
  have q2 := hi.2.1 (by omega)
  have q3 := hi.2.2 (by omega)
  have i1 : 1 ≤ t.val + 1 ∧ t.val + 1 ≤ 24 → (newD c t h (withIn m c t X)).x15 = tS m c (pt (t.val + 1 - 1)) ∧ (newD c t h (withIn m c t X)).x18 = Rs (tv m c (pt (t.val + 1 - 1))) ∧ (newD c t h (withIn m c t X)).x20 = Mc (tS m c (pt (t.val + 1 - 1))) (tv m c (pt (t.val + 1 - 1))) := fun hn => by
    rw [pt_eq t (t.val + 1 - 1) (by omega)]
    exact ⟨s15D c t h (withIn m c t X), s18D c t h (withIn m c t X), s20D c t h (withIn m c t X)⟩
  have i2 : 2 ≤ t.val + 1 ∧ t.val + 1 ≤ 25 → (newD c t h (withIn m c t X)).x16 = tE m c (pt (t.val + 1 - 2)) ∧ (newD c t h (withIn m c t X)).x22 = Il (tE m c (pt (t.val + 1 - 2))) := fun hn => by
    rw [show t.val + 1 - 2 = t.val - 1 by omega]
    exact ⟨s16D c t h (withIn m c t X) _ _ q1.1 q1.2.1 q1.2.2, s22D c t h (withIn m c t X) _ _ q1.1 q1.2.1 q1.2.2⟩
  have i3 : 3 ≤ t.val + 1 ∧ t.val + 1 ≤ 26 → (newD c t h (withIn m c t X)).x17 = tO m c (t.val + 1 - 3) := fun hn => by
    rw [show t.val + 1 - 3 = t.val - 2 by omega]
    unfold tO
    rw [pt_eq t (t.val - 2 + 2) (by omega)]
    exact s17D c t h (withIn m c t X) _ q2.1 q2.2
  have i4 : L13 m c t (newD c t h (withIn m c t X)).x14 := by
    intro b k hk
    by_cases h' : 8 * b.val + k.val / 512 + 3 = t.val
    · refine (s14D c t h (withIn m c t X) _ q3 b k h').trans ?_
      unfold tA
      rw [show t.val - 3 = 8 * b.val + k.val / 512 by omega]
    · exact (k14D c t h (withIn m c t X) b k h').trans (found_le m c t _ hf (by omega) b k (by omega))
  exact ⟨⟨i1, i2, i3⟩, fun _ => s11D c t h (withIn m c t X) _ q3, fun _ => s12D c t h (withIn m c t X) _ q3, fun _ => s13D c t h (withIn m c t X) _ q3, i4⟩

end

/-! ### Run E -/

section
variable (t : Fin cfg0.N) (h : t.val = 24) (X : Bufs Ideal)

theorem s16E (S : Vec Ideal S512x4096 .f32) (v : Fin 512 → EReal) (e15 : X.x15 = S) (e18 : X.x18 = Rs v) (e20 : X.x20 = Mc S v) : (newE c t h X).x16 = Ex S v :=
  (show (newE c t h X).x16 = after scM0_1 (Memref.isWhole_whole _) X.x16 (atE c t h X).2.2.2.2.1 from (by unfold newE; with_reducible rfl)).trans ((congrArg (after scM0_1 (Memref.isWhole_whole _) X.x16) (atE_16 c t X h)).trans (stE (e15 := e15) (e18 := e18) (e20 := e20) ..))
theorem s22E (S : Vec Ideal S512x4096 .f32) (v : Fin 512 → EReal) (e15 : X.x15 = S) (e18 : X.x18 = Rs v) (e20 : X.x20 = Mc S v) : (newE c t h X).x22 = Il (Ex S v) :=
  (show (newE c t h X).x22 = after scM0_7 (Memref.isWhole_whole _) X.x22 (atE c t h X).2.2.2.2.2.2.2.1 from (by unfold newE; with_reducible rfl)).trans ((congrArg (after scM0_7 (Memref.isWhole_whole _) X.x22) (atE_22 c t X h)).trans (stIl (e15 := e15) (e18 := e18) (e20 := e20) ..))
theorem s17E (E : Vec Ideal S512x4096 .f32) (e16 : X.x16 = E) (e22 : X.x22 = Il E) : (newE c t h X).x17 = Oo E X.x4 (fun d => X.x7 (ix2 (bt (t.val - 2)) d)) :=
  (show (newE c t h X).x17 = after scM0_2 (Memref.isWhole_whole _) X.x17 (atE c t h X).2.2.2.2.2.1 from (by unfold newE; with_reducible rfl)).trans ((congrArg (after scM0_2 (Memref.isWhole_whole _) X.x17) (atE_17 c t X h)).trans (stO (e16 := e16) (e22 := e22) (ho := off25 t h) ..))
theorem s11E (O : Vec Ideal S512x512 .f32) (e17 : X.x17 = O) : (newE c t h X).x11 = Yv X.x1 O X.x8 X.x9 X.x10 :=
  (show (newE c t h X).x11 = after (ms0_10 t) (hs0_10 t) X.x11 (atE c t h X).1 from (by unfold newE; with_reducible rfl)).trans ((congrArg (after (ms0_10 t) (hs0_10 t) X.x11) (atE_11 c t X h)).trans (stY (e17 := e17) ..))
theorem s12E (O : Vec Ideal S512x512 .f32) (e17 : X.x17 = O) : (newE c t h X).x12 = Pv O X.x8 X.x9 X.x10 :=
  (show (newE c t h X).x12 = after (ms0_11 t) (hs0_11 t) X.x12 (atE c t h X).2.1 from (by unfold newE; with_reducible rfl)).trans ((congrArg (after (ms0_11 t) (hs0_11 t) X.x12) (atE_12 c t X h)).trans (stP (e17 := e17) ..))
theorem s13E (O : Vec Ideal S512x512 .f32) (e17 : X.x17 = O) : (newE c t h X).x13 = Cv O :=
  (show (newE c t h X).x13 = after (ms0_12 t) (hs0_12 t) X.x13 (atE c t h X).2.2.1 from (by unfold newE; with_reducible rfl)).trans ((congrArg (after (ms0_12 t) (hs0_12 t) X.x13) (atE_13 c t X h)).trans (stC (e17 := e17) ..))
theorem s14E (O : Vec Ideal S512x512 .f32) (e17 : X.x17 = O) (b : Fin 3) (k : Fin 4096) (h' : 8 * b.val + k.val / 512 + 3 = t.val) :
    (newE c t h X).x14 (ix2 b k) = (Ideal.exp2 (qexp cL fun x => O (ix2 ⟨k.val % 512, Nat.mod_lt _ (by decide)⟩ x)) : EReal) := by
  have hb := b.isLt
  have hk' := k.isLt
  refine (congrFun ((show (newE c t h X).x14 = after (ms0_13 t) (hs0_13 t) X.x14 (atE c t h X).2.2.2.1 from (by unfold newE; with_reducible rfl)).trans ((congrArg (after (ms0_13 t) (hs0_13 t) X.x14) (atE_14 c t X h)))) (ix2 b k)).trans (stAs_hit (e17 := e17) (ho := off24 t h) (hb' := ?_) (hk := ?_) ..)
  · show b.val = min ((t.val - 3) / 8) 2; omega
  · show k.val / 512 = (t.val - 3) % 8; omega
theorem k14E (b : Fin 3) (k : Fin 4096) (h' : ¬ 8 * b.val + k.val / 512 + 3 = t.val) : (newE c t h X).x14 (ix2 b k) = X.x14 (ix2 b k) := by
  have hb := b.isLt
  have hk' := k.isLt
  refine (congrFun ((show (newE c t h X).x14 = after (ms0_13 t) (hs0_13 t) X.x14 (atE c t h X).2.2.2.1 from (by unfold newE; with_reducible rfl)).trans ((congrArg (after (ms0_13 t) (hs0_13 t) X.x14) (atE_14 c t X h)))) (ix2 b k)).trans (stAs_miss (ho := off24 t h) (hne := ?_) ..)
  rintro ⟨h1, h2⟩
  have h1 : b.val = min ((t.val - 3) / 8) 2 := h1
  have h2 : k.val / 512 = (t.val - 3) % 8 := h2
  omega

theorem okE (hi : Inv m c t.val X) (hf : (spec m c).found t X.x14) : (spec m c).ok t (withIn m c t X) (newE c t h (withIn m c t X)) := by
  have q1 := hi.1 (by omega)
  have q2 := hi.2.1 (by omega)
  have q3 := hi.2.2 (by omega)
  have i1 : 1 ≤ t.val + 1 ∧ t.val + 1 ≤ 24 → (newE c t h (withIn m c t X)).x15 = tS m c (pt (t.val + 1 - 1)) ∧ (newE c t h (withIn m c t X)).x18 = Rs (tv m c (pt (t.val + 1 - 1))) ∧ (newE c t h (withIn m c t X)).x20 = Mc (tS m c (pt (t.val + 1 - 1))) (tv m c (pt (t.val + 1 - 1))) := fun hn => absurd hn (by omega)
  have i2 : 2 ≤ t.val + 1 ∧ t.val + 1 ≤ 25 → (newE c t h (withIn m c t X)).x16 = tE m c (pt (t.val + 1 - 2)) ∧ (newE c t h (withIn m c t X)).x22 = Il (tE m c (pt (t.val + 1 - 2))) := fun hn => by
    rw [show t.val + 1 - 2 = t.val - 1 by omega]
    exact ⟨s16E c t h (withIn m c t X) _ _ q1.1 q1.2.1 q1.2.2, s22E c t h (withIn m c t X) _ _ q1.1 q1.2.1 q1.2.2⟩
  have i3 : 3 ≤ t.val + 1 ∧ t.val + 1 ≤ 26 → (newE c t h (withIn m c t X)).x17 = tO m c (t.val + 1 - 3) := fun hn => by
    rw [show t.val + 1 - 3 = t.val - 2 by omega]
    unfold tO
    rw [pt_eq t (t.val - 2 + 2) (by omega)]
    exact s17E c t h (withIn m c t X) _ q2.1 q2.2
  have i4 : L13 m c t (newE c t h (withIn m c t X)).x14 := by
    intro b k hk
    by_cases h' : 8 * b.val + k.val / 512 + 3 = t.val
    · refine (s14E c t h (withIn m c t X) _ q3 b k h').trans ?_
      unfold tA
      rw [show t.val - 3 = 8 * b.val + k.val / 512 by omega]
    · exact (k14E c t h (withIn m c t X) b k h').trans (found_le m c t _ hf (by omega) b k (by omega))
  exact ⟨⟨i1, i2, i3⟩, fun _ => s11E c t h (withIn m c t X) _ q3, fun _ => s12E c t h (withIn m c t X) _ q3, fun _ => s13E c t h (withIn m c t X) _ q3, i4⟩

end

/-! ### Run F -/

section
variable (t : Fin cfg0.N) (h : t.val = 25) (X : Bufs Ideal)

theorem s17F (E : Vec Ideal S512x4096 .f32) (e16 : X.x16 = E) (e22 : X.x22 = Il E) : (newF c t h X).x17 = Oo E X.x4 (fun d => X.x7 (ix2 (bt (t.val - 2)) d)) :=
  (show (newF c t h X).x17 = after scM0_2 (Memref.isWhole_whole _) X.x17 (atF c t h X).2.2.2.2.1 from (by unfold newF; with_reducible rfl)).trans ((congrArg (after scM0_2 (Memref.isWhole_whole _) X.x17) (atF_17 c t X h)).trans (stO (e16 := e16) (e22 := e22) (ho := off27 t h) ..))
theorem s11F (O : Vec Ideal S512x512 .f32) (e17 : X.x17 = O) : (newF c t h X).x11 = Yv X.x1 O X.x8 X.x9 X.x10 :=
  (show (newF c t h X).x11 = after (ms0_10 t) (hs0_10 t) X.x11 (atF c t h X).1 from (by unfold newF; with_reducible rfl)).trans ((congrArg (after (ms0_10 t) (hs0_10 t) X.x11) (atF_11 c t X h)).trans (stY (e17 := e17) ..))
theorem s12F (O : Vec Ideal S512x512 .f32) (e17 : X.x17 = O) : (newF c t h X).x12 = Pv O X.x8 X.x9 X.x10 :=
  (show (newF c t h X).x12 = after (ms0_11 t) (hs0_11 t) X.x12 (atF c t h X).2.1 from (by unfold newF; with_reducible rfl)).trans ((congrArg (after (ms0_11 t) (hs0_11 t) X.x12) (atF_12 c t X h)).trans (stP (e17 := e17) ..))
theorem s13F (O : Vec Ideal S512x512 .f32) (e17 : X.x17 = O) : (newF c t h X).x13 = Cv O :=
  (show (newF c t h X).x13 = after (ms0_12 t) (hs0_12 t) X.x13 (atF c t h X).2.2.1 from (by unfold newF; with_reducible rfl)).trans ((congrArg (after (ms0_12 t) (hs0_12 t) X.x13) (atF_13 c t X h)).trans (stC (e17 := e17) ..))
theorem s14F (O : Vec Ideal S512x512 .f32) (e17 : X.x17 = O) (b : Fin 3) (k : Fin 4096) (h' : 8 * b.val + k.val / 512 + 3 = t.val) :
    (newF c t h X).x14 (ix2 b k) = (Ideal.exp2 (qexp cL fun x => O (ix2 ⟨k.val % 512, Nat.mod_lt _ (by decide)⟩ x)) : EReal) := by
  have hb := b.isLt
  have hk' := k.isLt
  refine (congrFun ((show (newF c t h X).x14 = after (ms0_13 t) (hs0_13 t) X.x14 (atF c t h X).2.2.2.1 from (by unfold newF; with_reducible rfl)).trans ((congrArg (after (ms0_13 t) (hs0_13 t) X.x14) (atF_14 c t X h)))) (ix2 b k)).trans (stAs_hit (e17 := e17) (ho := off26 t h) (hb' := ?_) (hk := ?_) ..)
  · show b.val = min ((t.val - 3) / 8) 2; omega
  · show k.val / 512 = (t.val - 3) % 8; omega
theorem k14F (b : Fin 3) (k : Fin 4096) (h' : ¬ 8 * b.val + k.val / 512 + 3 = t.val) : (newF c t h X).x14 (ix2 b k) = X.x14 (ix2 b k) := by
  have hb := b.isLt
  have hk' := k.isLt
  refine (congrFun ((show (newF c t h X).x14 = after (ms0_13 t) (hs0_13 t) X.x14 (atF c t h X).2.2.2.1 from (by unfold newF; with_reducible rfl)).trans ((congrArg (after (ms0_13 t) (hs0_13 t) X.x14) (atF_14 c t X h)))) (ix2 b k)).trans (stAs_miss (ho := off26 t h) (hne := ?_) ..)
  rintro ⟨h1, h2⟩
  have h1 : b.val = min ((t.val - 3) / 8) 2 := h1
  have h2 : k.val / 512 = (t.val - 3) % 8 := h2
  omega

theorem okF (hi : Inv m c t.val X) (hf : (spec m c).found t X.x14) : (spec m c).ok t (withIn m c t X) (newF c t h (withIn m c t X)) := by
  have q2 := hi.2.1 (by omega)
  have q3 := hi.2.2 (by omega)
  have i1 : 1 ≤ t.val + 1 ∧ t.val + 1 ≤ 24 → (newF c t h (withIn m c t X)).x15 = tS m c (pt (t.val + 1 - 1)) ∧ (newF c t h (withIn m c t X)).x18 = Rs (tv m c (pt (t.val + 1 - 1))) ∧ (newF c t h (withIn m c t X)).x20 = Mc (tS m c (pt (t.val + 1 - 1))) (tv m c (pt (t.val + 1 - 1))) := fun hn => absurd hn (by omega)
  have i2 : 2 ≤ t.val + 1 ∧ t.val + 1 ≤ 25 → (newF c t h (withIn m c t X)).x16 = tE m c (pt (t.val + 1 - 2)) ∧ (newF c t h (withIn m c t X)).x22 = Il (tE m c (pt (t.val + 1 - 2))) := fun hn => absurd hn (by omega)
  have i3 : 3 ≤ t.val + 1 ∧ t.val + 1 ≤ 26 → (newF c t h (withIn m c t X)).x17 = tO m c (t.val + 1 - 3) := fun hn => by
    rw [show t.val + 1 - 3 = t.val - 2 by omega]
    unfold tO
    rw [pt_eq t (t.val - 2 + 2) (by omega)]
    exact s17F c t h (withIn m c t X) _ q2.1 q2.2
  have i4 : L13 m c t (newF c t h (withIn m c t X)).x14 := by
    intro b k hk
    by_cases h' : 8 * b.val + k.val / 512 + 3 = t.val
    · refine (s14F c t h (withIn m c t X) _ q3 b k h').trans ?_
      unfold tA
      rw [show t.val - 3 = 8 * b.val + k.val / 512 by omega]
    · exact (k14F c t h (withIn m c t X) b k h').trans (found_le m c t _ hf (by omega) b k (by omega))
  exact ⟨⟨i1, i2, i3⟩, fun _ => s11F c t h (withIn m c t X) _ q3, fun _ => s12F c t h (withIn m c t X) _ q3, fun _ => s13F c t h (withIn m c t X) _ q3, i4⟩

end

/-! ### Run G -/

section
variable (t : Fin cfg0.N) (h : t.val = 26) (X : Bufs Ideal)

theorem s11G (O : Vec Ideal S512x512 .f32) (e17 : X.x17 = O) : (newG c t h X).x11 = Yv X.x1 O X.x8 X.x9 X.x10 :=
  (show (newG c t h X).x11 = after (ms0_10 t) (hs0_10 t) X.x11 (atG c t h X).1 from (by unfold newG; with_reducible rfl)).trans ((congrArg (after (ms0_10 t) (hs0_10 t) X.x11) (atG_11 c t X h)).trans (stY (e17 := e17) ..))
theorem s12G (O : Vec Ideal S512x512 .f32) (e17 : X.x17 = O) : (newG c t h X).x12 = Pv O X.x8 X.x9 X.x10 :=
  (show (newG c t h X).x12 = after (ms0_11 t) (hs0_11 t) X.x12 (atG c t h X).2.1 from (by unfold newG; with_reducible rfl)).trans ((congrArg (after (ms0_11 t) (hs0_11 t) X.x12) (atG_12 c t X h)).trans (stP (e17 := e17) ..))
theorem s13G (O : Vec Ideal S512x512 .f32) (e17 : X.x17 = O) : (newG c t h X).x13 = Cv O :=
  (show (newG c t h X).x13 = after (ms0_12 t) (hs0_12 t) X.x13 (atG c t h X).2.2.1 from (by unfold newG; with_reducible rfl)).trans ((congrArg (after (ms0_12 t) (hs0_12 t) X.x13) (atG_13 c t X h)).trans (stC (e17 := e17) ..))
theorem s14G (O : Vec Ideal S512x512 .f32) (e17 : X.x17 = O) (b : Fin 3) (k : Fin 4096) (h' : 8 * b.val + k.val / 512 + 3 = t.val) :
    (newG c t h X).x14 (ix2 b k) = (Ideal.exp2 (qexp cL fun x => O (ix2 ⟨k.val % 512, Nat.mod_lt _ (by decide)⟩ x)) : EReal) := by
  have hb := b.isLt
  have hk' := k.isLt
  refine (congrFun ((show (newG c t h X).x14 = after (ms0_13 t) (hs0_13 t) X.x14 (atG c t h X).2.2.2.1 from (by unfold newG; with_reducible rfl)).trans ((congrArg (after (ms0_13 t) (hs0_13 t) X.x14) (atG_14 c t X h)))) (ix2 b k)).trans (stAs_hit (e17 := e17) (ho := off28 t h) (hb' := ?_) (hk := ?_) ..)
  · show b.val = min ((t.val - 3) / 8) 2; omega
  · show k.val / 512 = (t.val - 3) % 8; omega
theorem k14G (b : Fin 3) (k : Fin 4096) (h' : ¬ 8 * b.val + k.val / 512 + 3 = t.val) : (newG c t h X).x14 (ix2 b k) = X.x14 (ix2 b k) := by
  have hb := b.isLt
  have hk' := k.isLt
  refine (congrFun ((show (newG c t h X).x14 = after (ms0_13 t) (hs0_13 t) X.x14 (atG c t h X).2.2.2.1 from (by unfold newG; with_reducible rfl)).trans ((congrArg (after (ms0_13 t) (hs0_13 t) X.x14) (atG_14 c t X h)))) (ix2 b k)).trans (stAs_miss (ho := off28 t h) (hne := ?_) ..)
  rintro ⟨h1, h2⟩
  have h1 : b.val = min ((t.val - 3) / 8) 2 := h1
  have h2 : k.val / 512 = (t.val - 3) % 8 := h2
  omega

theorem okG (hi : Inv m c t.val X) (hf : (spec m c).found t X.x14) : (spec m c).ok t (withIn m c t X) (newG c t h (withIn m c t X)) := by
  have q3 := hi.2.2 (by omega)
  have i1 : 1 ≤ t.val + 1 ∧ t.val + 1 ≤ 24 → (newG c t h (withIn m c t X)).x15 = tS m c (pt (t.val + 1 - 1)) ∧ (newG c t h (withIn m c t X)).x18 = Rs (tv m c (pt (t.val + 1 - 1))) ∧ (newG c t h (withIn m c t X)).x20 = Mc (tS m c (pt (t.val + 1 - 1))) (tv m c (pt (t.val + 1 - 1))) := fun hn => absurd hn (by omega)
  have i2 : 2 ≤ t.val + 1 ∧ t.val + 1 ≤ 25 → (newG c t h (withIn m c t X)).x16 = tE m c (pt (t.val + 1 - 2)) ∧ (newG c t h (withIn m c t X)).x22 = Il (tE m c (pt (t.val + 1 - 2))) := fun hn => absurd hn (by omega)
  have i3 : 3 ≤ t.val + 1 ∧ t.val + 1 ≤ 26 → (newG c t h (withIn m c t X)).x17 = tO m c (t.val + 1 - 3) := fun hn => absurd hn (by omega)
  have i4 : L13 m c t (newG c t h (withIn m c t X)).x14 := by
    intro b k hk
    by_cases h' : 8 * b.val + k.val / 512 + 3 = t.val
    · refine (s14G c t h (withIn m c t X) _ q3 b k h').trans ?_
      unfold tA
      rw [show t.val - 3 = 8 * b.val + k.val / 512 by omega]
    · exact (k14G c t h (withIn m c t X) b k h').trans (found_le m c t _ hf (by omega) b k (by omega))
  exact ⟨⟨i1, i2, i3⟩, fun _ => s11G c t h (withIn m c t X) _ q3, fun _ => s12G c t h (withIn m c t X) _ q3, fun _ => s13G c t h (withIn m c t X) _ q3, i4⟩

end

/-- Every run establishes what the proof says of it. -/
theorem steps : (spec m c).Steps m c where
  start X := ⟨fun h => absurd h (by omega), fun h => absurd h (by omega), fun h => absurd h (by omega)⟩
  atA t h X hi hf := okA m c t h X hi hf
  atB t h X hi hf := okB m c t h X hi hf
  atC t h X hi hf := okC m c t h X hi hf
  atD t h X hi hf := okD m c t h X hi hf
  atE t h X hi hf := okE m c t h X hi hf
  atF t h X hi hf := okF m c t h X hi hf
  atG t h X hi hf := okG m c t h X hi hf

end Cert.KernelIdeal.Gen

end
-- ==== Proof.Attn.Closed.lean ====
/- The attention of one query, as the kernel and as the reference compute it, over the extended reals, and that they agree. -/
module

public import proofs.«01_k».proof.Proof.Attn.Quant

@[expose] public section

noncomputable section

namespace Cert.Attn

open Idealize.ShloMosaic

variable (q k v : Fin 3 → Fin 4096 → Fin 512 → EReal) (qs ks : Fin 3 → Fin 4096 → EReal) (vs : Fin 3 → Fin 512 → EReal)

/-- A weighted sum of the values with the weights normalised, scaled channel by channel. -/
def mix (E : Fin 4096 → EReal) (w : Fin 4096 → EReal) (s : EReal) : EReal :=
  (∑ i : Fin 4096, (E i * Ideal.div 1 (∑ i : Fin 4096, E i)) * w i) * s

/-- The kernel's exponentials. -/
def kE (A : EReal) (b : Fin 3) (a i : Fin 4096) : EReal :=
  Ideal.exp2 ((∑ d : Fin 512, q b a d * k b i d) * ks b i * (qs b a * A) - supf (fun i => (∑ d : Fin 512, q b a d * k b i d) * ks b i) * (qs b a * A))
/-- The reference's exponentials. -/
def rE (σ : EReal) (b : Fin 3) (a i : Fin 4096) : EReal :=
  Ideal.exp ((∑ d : Fin 512, q b a d * k b i d) * (qs b a * σ) * ks b i - supf (fun i => (∑ d : Fin 512, q b a d * k b i d) * (qs b a * σ) * ks b i))
/-- The kernel's attention. -/
def kO (A : EReal) (b : Fin 3) (a : Fin 4096) (d : Fin 512) : EReal := mix (kE q k qs ks A b a) (fun i => v b i d) (vs b d)
/-- The reference's attention. -/
def rO (σ : EReal) (b : Fin 3) (a : Fin 4096) (d : Fin 512) : EReal := mix (rE q k qs ks σ b a) (fun i => v b i d) (vs b d)

/-- With query scales that are not negative the two agree. -/
theorem kO_eq (A σ : EReal) (s : ℝ) (hq : ∀ b a, 0 ≤ qs b a) (hs : 0 ≤ s) (hσ : σ = (s : EReal)) (hA : A = ((s * (Real.log 2)⁻¹ : ℝ) : EReal)) :
    kO q k v qs ks vs A = rO q k v qs ks vs σ := by
  funext b a d
  unfold kO rO
  exact congrArg (fun E => mix E _ _) (funext fun i =>
    exp_eq (by decide) (fun i => ∑ d : Fin 512, q b a d * k b i d) (fun i => ks b i) (qs b a) A σ s _ (hq b a) hs hσ rfl hA i)

/-! ### The four results, entry by entry -/

variable (L : EReal) (O x : Fin 3 → Fin 4096 → Fin 512 → EReal) (wo : Fin 512 → Fin 512 → EReal) (so bo : Fin 512 → EReal)

/-- The projection of the quantised attention. -/
def outP (b : Fin 3) (a : Fin 4096) (d : Fin 512) : EReal := outp L (O b a) (fun x => wo x d) (so d) (bo d)
/-- The block's output. -/
def outY (b : Fin 3) (a : Fin 4096) (d : Fin 512) : EReal := x b a d + outP L O wo so bo b a d
/-- The attention's codes. -/
def outC (b : Fin 3) (a : Fin 4096) (d : Fin 512) : EReal := code L (O b a) d
/-- The attention's scales. -/
def outS (b : Fin 3) (a : Fin 4096) : EReal := Ideal.exp2 (qexp L (O b a))

end Cert.Attn

end
-- ==== Proof.KernelIdeal.Blocks.lean ====
/- The kernel's input blocks as entries of the argument arrays, and a tile's attention output in closed form. -/
module

public import proofs.«01_k».proof.Proof.KernelIdeal.Steps
public import proofs.«01_k».proof.Proof.Attn.Closed

@[expose] public section

set_option maxRecDepth 16384
set_option maxHeartbeats 1000000

noncomputable section

namespace Cert.KernelIdeal.Gen

open Idealize.ShloMosaic Idealize.ShloMosaic.TcCoe Idealize.ShloMosaic.Tactic Cert.Attn

variable (m : (ℓ : Loc nD τ sig) → Buf (Elt Ideal) ℓ) (c : Dev nD)

/-! ### The arguments -/

def ax (b : Fin 3) (a : Fin 4096) (d : Fin 512) : EReal := m ((c.tc : Thread nD τ).loc main_arg0) (ix3 b a d)
def aq (b : Fin 3) (a : Fin 4096) (d : Fin 512) : EReal := m ((c.tc : Thread nD τ).loc main_arg1) (ix3 b a d)
def ak (b : Fin 3) (a : Fin 4096) (d : Fin 512) : EReal := m ((c.tc : Thread nD τ).loc main_arg2) (ix3 b a d)
def av (b : Fin 3) (a : Fin 4096) (d : Fin 512) : EReal := m ((c.tc : Thread nD τ).loc main_arg3) (ix3 b a d)
def aqs (b : Fin 3) (a : Fin 4096) : EReal := m ((c.tc : Thread nD τ).loc main_arg4) (ix2 b a)
def aks (b : Fin 3) (a : Fin 4096) : EReal := m ((c.tc : Thread nD τ).loc main_arg5) (ix2 b a)
def avs (b : Fin 3) (d : Fin 512) : EReal := m ((c.tc : Thread nD τ).loc main_arg6) (ix2 b d)
def awo (x d : Fin 512) : EReal := m ((c.tc : Thread nD τ).loc main_arg7) (ix2 x d)
def aso (d : Fin 512) : EReal := m ((c.tc : Thread nD τ).loc main_arg8) (ix1 d)
def abo (d : Fin 512) : EReal := m ((c.tc : Thread nD τ).loc main_arg9) (ix1 d)

/-- The query at place `al` of tile `n`, in its batch. -/
def gr (n : ℕ) (al : Fin 512) : Fin 4096 := ⟨512 * (rt n).val + al.val, by have := (rt n).isLt; have := al.isLt; omega⟩

/-! ### Index maps -/

theorem ix0 : ∀ t : Fin cfg0.N, 3 ≤ t.val → win0_0.index t = ![(bt (t.val - 3)).val, (rt (t.val - 3)).val, 0] :=
  (by decide +kernel : ∀ t : Fin grid0.N, 3 ≤ t.val → win0_0.index t = ![(bt (t.val - 3)).val, (rt (t.val - 3)).val, 0])
theorem ix1' : ∀ t : Fin cfg0.N, t.val ≤ 23 → win0_1.index t = ![(bt t.val).val, (rt t.val).val, 0] :=
  (by decide +kernel : ∀ t : Fin grid0.N, t.val ≤ 23 → win0_1.index t = ![(bt t.val).val, (rt t.val).val, 0])
theorem ix2' : ∀ t : Fin cfg0.N, t.val ≤ 23 → win0_2.index t = ![(bt t.val).val, 0, 0] :=
  (by decide +kernel : ∀ t : Fin grid0.N, t.val ≤ 23 → win0_2.index t = ![(bt t.val).val, 0, 0])
theorem ix3' : ∀ t : Fin cfg0.N, 2 ≤ t.val ∧ t.val ≤ 25 → win0_3.index t = ![(bt (t.val - 2)).val, 0, 0] :=
  (by decide +kernel : ∀ t : Fin grid0.N, 2 ≤ t.val ∧ t.val ≤ 25 → win0_3.index t = ![(bt (t.val - 2)).val, 0, 0])
theorem ix4' : ∀ t : Fin cfg0.N, win0_4.index t = ![0, 0] := (by decide +kernel : ∀ t : Fin grid0.N, win0_4.index t = ![0, 0])
theorem ix5' : ∀ t : Fin cfg0.N, win0_5.index t = ![0, 0] := (by decide +kernel : ∀ t : Fin grid0.N, win0_5.index t = ![0, 0])
theorem ix6' : ∀ t : Fin cfg0.N, win0_6.index t = ![0, 0] := (by decide +kernel : ∀ t : Fin grid0.N, win0_6.index t = ![0, 0])
theorem ix7' : ∀ t : Fin cfg0.N, win0_7.index t = ![0, 0] := (by decide +kernel : ∀ t : Fin grid0.N, win0_7.index t = ![0, 0])
theorem ix8' : ∀ t : Fin cfg0.N, win0_8.index t = ![0, 0] := (by decide +kernel : ∀ t : Fin grid0.N, win0_8.index t = ![0, 0])
theorem ix9' : ∀ t : Fin cfg0.N, win0_9.index t = ![0, 0] := (by decide +kernel : ∀ t : Fin grid0.N, win0_9.index t = ![0, 0])
theorem ix10 : ∀ t : Fin cfg0.N, 3 ≤ t.val → win0_10.index t = ![(bt (t.val - 3)).val, (rt (t.val - 3)).val, 0] :=
  (by decide +kernel : ∀ t : Fin grid0.N, 3 ≤ t.val → win0_10.index t = ![(bt (t.val - 3)).val, (rt (t.val - 3)).val, 0])
theorem ix11 : ∀ t : Fin cfg0.N, 3 ≤ t.val → win0_11.index t = ![(bt (t.val - 3)).val, (rt (t.val - 3)).val, 0] :=
  (by decide +kernel : ∀ t : Fin grid0.N, 3 ≤ t.val → win0_11.index t = ![(bt (t.val - 3)).val, (rt (t.val - 3)).val, 0])
theorem ix12 : ∀ t : Fin cfg0.N, 3 ≤ t.val → win0_12.index t = ![(bt (t.val - 3)).val, (rt (t.val - 3)).val, 0] :=
  (by decide +kernel : ∀ t : Fin grid0.N, 3 ≤ t.val → win0_12.index t = ![(bt (t.val - 3)).val, (rt (t.val - 3)).val, 0])

/-! ### The blocks -/

theorem ib0 (t : Fin cfg0.N) (h : 3 ≤ t.val) (al d : Fin 512) : (iblk m c 0 t (ix3 0 al d) : EReal) = ax m c (bt (t.val - 3)) (gr (t.val - 3) al) d := by
  have e := ix0 t h
  refine Eq.trans ?_ (congrFun (V_main_arg0 m c) (ix3 (bt (t.val - 3)) (gr (t.val - 3) al) d))
  blk_simp [iblk]
  blk_ext [e, gr]
theorem ib1 (t : Fin cfg0.N) (h : t.val ≤ 23) (al d : Fin 512) : (iblk m c 1 t (ix3 0 al d) : EReal) = aq m c (bt t.val) (gr t.val al) d := by
  have e := ix1' t h
  refine Eq.trans ?_ (congrFun (V_main_arg1 m c) (ix3 (bt t.val) (gr t.val al) d))
  blk_simp [iblk]
  blk_ext [e, gr]
theorem ib2 (t : Fin cfg0.N) (h : t.val ≤ 23) (i : Fin 4096) (d : Fin 512) : (iblk m c 2 t (ix3 0 i d) : EReal) = ak m c (bt t.val) i d := by
  have e := ix2' t h
  refine Eq.trans ?_ (congrFun (V_main_arg2 m c) (ix3 (bt t.val) i d))
  blk_simp [iblk]
  blk_ext [e]
theorem ib3 (t : Fin cfg0.N) (h : 2 ≤ t.val ∧ t.val ≤ 25) (i : Fin 4096) (d : Fin 512) : (iblk m c 3 t (ix3 0 i d) : EReal) = av m c (bt (t.val - 2)) i d := by
  have e := ix3' t h
  refine Eq.trans ?_ (congrFun (V_main_arg3 m c) (ix3 (bt (t.val - 2)) i d))
  blk_simp [iblk]
  blk_ext [e]
theorem ib4 (t : Fin cfg0.N) (b : Fin 3) (i : Fin 4096) : (iblk m c 4 t (ix2 b i) : EReal) = aqs m c b i := by
  have e := ix4' t
  refine Eq.trans ?_ (congrFun (V_main_arg4 m c) (ix2 b i))
  blk_simp [iblk]
  blk_ext [e]
theorem ib5 (t : Fin cfg0.N) (b : Fin 3) (i : Fin 4096) : (iblk m c 5 t (ix2 b i) : EReal) = aks m c b i := by
  have e := ix5' t
  refine Eq.trans ?_ (congrFun (V_main_arg5 m c) (ix2 b i))
  blk_simp [iblk]
  blk_ext [e]
theorem ib6 (t : Fin cfg0.N) (b : Fin 3) (d : Fin 512) : (iblk m c 6 t (ix2 b d) : EReal) = avs m c b d := by
  have e := ix6' t
  refine Eq.trans ?_ (congrFun (V_main_arg6 m c) (ix2 b d))
  blk_simp [iblk]
  blk_ext [e]
theorem ib7 (t : Fin cfg0.N) (x d : Fin 512) : (iblk m c 7 t (ix2 x d) : EReal) = awo m c x d := by
  have e := ix7' t
  refine Eq.trans ?_ (congrFun (V_main_arg7 m c) (ix2 x d))
  blk_simp [iblk]
  blk_ext [e]
theorem v0_val (d : Fin 512) : (V m c main_v0 (ix2 0 d) : EReal) = aso m c d := by
  unfold aso
  entry_read
  pointwise
  all_goals rfl
theorem v1_val (d : Fin 512) : (V m c main_v1 (ix2 0 d) : EReal) = abo m c d := by
  unfold abo
  entry_read
  pointwise
  all_goals rfl
theorem ib8 (t : Fin cfg0.N) (d : Fin 512) : (iblk m c 8 t (ix2 0 d) : EReal) = aso m c d := by
  have e := ix8' t
  refine Eq.trans ?_ (v0_val m c d)
  blk_simp [iblk]
  blk_ext [e]
theorem ib9 (t : Fin cfg0.N) (d : Fin 512) : (iblk m c 9 t (ix2 0 d) : EReal) = abo m c d := by
  have e := ix9' t
  refine Eq.trans ?_ (v1_val m c d)
  blk_simp [iblk]
  blk_ext [e]

/-! ### A tile's attention -/

/-- The attention of every query. -/
def aO : Fin 3 → Fin 4096 → Fin 512 → EReal := kO (aq m c) (ak m c) (av m c) (aqs m c) (aks m c) (avs m c) cA

theorem pt_val (n : ℕ) (h : n ≤ 26) : (pt n).val = n := Nat.min_eq_left h

theorem tS_val (t : Fin cfg0.N) (h : t.val ≤ 23) (al : Fin 512) (i : Fin 4096) :
    (tS m c t (ix2 al i) : EReal) = (∑ d : Fin 512, aq m c (bt t.val) (gr t.val al) d * ak m c (bt t.val) i d) * aks m c (bt t.val) i :=
  congrArg₂ (fun a b : EReal => a * b)
    (Finset.sum_congr rfl fun d _ => congrArg₂ (fun a b : EReal => a * b) (ib1 m c t h al d) (ib2 m c t h i d))
    (ib5 m c t (bt t.val) i)

theorem tv_val (t : Fin cfg0.N) (al : Fin 512) : tv m c t al = aqs m c (bt t.val) (gr t.val al) :=
  ib4 m c t (bt t.val) (gr t.val al)

theorem tE_val (t : Fin cfg0.N) (h : t.val ≤ 23) (al : Fin 512) (i : Fin 4096) :
    (tE m c t (ix2 al i) : EReal) = kE (aq m c) (ak m c) (aqs m c) (aks m c) cA (bt t.val) (gr t.val al) i := by
  have hv := tv_val m c t al
  have hS := fun i => tS_val m c t h al i
  show Ideal.exp2 ((tS m c t (ix2 al i) : EReal) * (tv m c t al * cA) - supf (fun k => (tS m c t (ix2 al k) : EReal)) * (tv m c t al * cA)) = _
  simp only [hv, hS]
  rfl

theorem tO_val (n : ℕ) (h : n ≤ 23) (al d : Fin 512) : (tO m c n (ix2 al d) : EReal) = aO m c (bt n) (gr n al) d := by
  have e1 := pt_val n (by omega)
  have e2 := pt_val (n + 2) (by omega)
  have hE : ∀ i, (tE m c (pt n) (ix2 al i) : EReal) = kE (aq m c) (ak m c) (aqs m c) (aks m c) cA (bt n) (gr n al) i := fun i => by
    have := tE_val m c (pt n) (by omega) al i
    rwa [e1] at this
  have hv : ∀ i, (iblk m c 3 (pt (n + 2)) (ix3 0 i d) : EReal) = av m c (bt n) i d := fun i => by
    have := ib3 m c (pt (n + 2)) (by omega) i d
    rwa [e2, Nat.add_sub_cancel] at this
  have hs := ib6 m c (pt (n + 2)) (bt n) d
  show mix (fun i => (tE m c (pt n) (ix2 al i) : EReal)) (fun i => (iblk m c 3 (pt (n + 2)) (ix3 0 i d) : EReal)) (iblk m c 6 (pt (n + 2)) (ix2 (bt n) d)) = _
  rw [hs, funext hE, funext hv]
  rfl

end Cert.KernelIdeal.Gen

end
-- ==== Proof.KernelIdeal.Final.lean ====
/- The kernel's four result arrays after a run, entry by entry. -/
module

public import proofs.«01_k».proof.Proof.KernelIdeal.Blocks
public import Idealize.ShloMosaic.Lib.Pipeline.ArrRel

@[expose] public section

set_option maxRecDepth 16384
set_option maxHeartbeats 1000000

noncomputable section

namespace Cert.KernelIdeal.Gen

open Idealize.ShloMosaic Idealize.ShloMosaic.TcCoe Idealize.ShloMosaic.Tactic Idealize.SL.Sem Cert.Attn

variable (m : (ℓ : Loc nD τ sig) → Buf (Elt Ideal) ℓ) (ρ : Dev nD → PrngReg) (c : Dev nD)

def GY : Vec Ideal S3x4096x512 .bf16 := fun i => outY cL (aO m c) (ax m c) (awo m c) (aso m c) (abo m c) (i 0) (i 1) (i 2)
def GP : Vec Ideal S3x4096x512 .bf16 := fun i => outP cL (aO m c) (awo m c) (aso m c) (abo m c) (i 0) (i 1) (i 2)
def GC : Vec Ideal S3x4096x512 .fp8e4m3 := fun i => outC cL (aO m c) (i 0) (i 1) (i 2)
def GS : Vec Ideal S3x4096 .f32 := fun i => outS cL (aO m c) (i 0) (i 1)

theorem flush10 : ∀ t : Fin cfg0.N, (cfg0.win 10).flush t = true → 3 ≤ t.val :=
  (by decide +kernel : ∀ t : Fin grid0.N, (cfg0.win 10).flush t = true → 3 ≤ t.val)
theorem flush11 : ∀ t : Fin cfg0.N, (cfg0.win 11).flush t = true → 3 ≤ t.val :=
  (by decide +kernel : ∀ t : Fin grid0.N, (cfg0.win 11).flush t = true → 3 ≤ t.val)
theorem flush12 : ∀ t : Fin cfg0.N, (cfg0.win 12).flush t = true → 3 ≤ t.val :=
  (by decide +kernel : ∀ t : Fin grid0.N, (cfg0.win 12).flush t = true → 3 ≤ t.val)

theorem ix13 : ∀ t : Fin cfg0.N, win0_13.index t = ![0, 0] := (by decide +kernel : ∀ t : Fin grid0.N, win0_13.index t = ![0, 0])

theorem t_le (t : Fin cfg0.N) : t.val - 3 ≤ 23 := by
  have : t.val < 27 := lt_of_lt_of_eq t.isLt (show cfg0.N = 27 from N_0)
  omega

theorem tO_row (t : Fin cfg0.N) (al : Fin 512) :
    (fun x => (tO m c (t.val - 3) (ix2 al x) : EReal)) = aO m c (bt (t.val - 3)) (gr (t.val - 3) al) :=
  funext fun x => tO_val m c (t.val - 3) (t_le t) al x

theorem pv_val (t : Fin cfg0.N) (y : S1x512x512.Idx) :
    (Pv (tO m c (t.val - 3)) (iblk m c 7 t) (iblk m c 8 t) (iblk m c 9 t) y : EReal)
      = outP cL (aO m c) (awo m c) (aso m c) (abo m c) (bt (t.val - 3)) (gr (t.val - 3) (y 1)) (y 2) := by
  show outp cL (fun x => (tO m c (t.val - 3) (ix2 (y 1) x) : EReal)) (fun x => (iblk m c 7 t (ix2 x (y 2)) : EReal)) (iblk m c 8 t (ix2 0 (y 2))) (iblk m c 9 t (ix2 0 (y 2))) = _
  rw [tO_row m c t (y 1), ib8 m c t (y 2), ib9 m c t (y 2), funext fun x => ib7 m c t x (y 2)]
  rfl

theorem cv_val (t : Fin cfg0.N) (y : S1x512x512.Idx) :
    (Cv (tO m c (t.val - 3)) y : EReal) = outC cL (aO m c) (bt (t.val - 3)) (gr (t.val - 3) (y 1)) (y 2) := by
  show code cL (fun x => (tO m c (t.val - 3) (ix2 (y 1) x) : EReal)) (y 2) = _
  rw [tO_row m c t (y 1)]
  rfl

theorem yv_val (t : Fin cfg0.N) (h : 3 ≤ t.val) (y : S1x512x512.Idx) :
    (Yv (iblk m c 0 t) (tO m c (t.val - 3)) (iblk m c 7 t) (iblk m c 8 t) (iblk m c 9 t) y : EReal)
      = outY cL (aO m c) (ax m c) (awo m c) (aso m c) (abo m c) (bt (t.val - 3)) (gr (t.val - 3) (y 1)) (y 2) :=
  congrArg₂ (fun a b : EReal => a + b) (ib0 m c t h (y 1) (y 2)) (pv_val m c t y)

theorem tA_val (b : Fin 3) (k : Fin 4096) : (tA m c b k : EReal) = outS cL (aO m c) b k := by
  have hb : bt (8 * b.val + k.val / 512) = b := Fin.ext (by show min _ 2 = _; have := b.isLt; have := k.isLt; omega)
  have hk : gr (8 * b.val + k.val / 512) ⟨k.val % 512, Nat.mod_lt _ (by decide)⟩ = k :=
    Fin.ext (by show 512 * ((8 * b.val + k.val / 512) % 8) + k.val % 512 = _; have := k.isLt; omega)
  have h : (fun x => (tO m c (8 * b.val + k.val / 512) (ix2 ⟨k.val % 512, Nat.mod_lt _ (by decide)⟩ x) : EReal)) = aO m c b k := by
    funext x
    have := tO_val m c (8 * b.val + k.val / 512) (by have := b.isLt; have := k.isLt; omega) ⟨k.val % 512, Nat.mod_lt _ (by decide)⟩ x
    rwa [hb, hk] at this
  show Ideal.exp2 (qexp cL fun x => (tO m c (8 * b.val + k.val / 512) (ix2 ⟨k.val % 512, Nat.mod_lt _ (by decide)⟩ x) : EReal)) = _
  rw [h]
  rfl

section
variable (after : (w' : Fin cfg0.W) → Fin cfg0.N → (cfg0.win w').block.Idx → Elt Ideal (cfg0.win w').elt)
  (hL : ∀ (w : Fin cfg0.W) (u : Fin cfg0.N), (cfg0.win w).flush u = true → (rdat m (spec m) c).Leaves w u (after w u))

include hL

theorem arr10 : ((rdat m (spec m) c).withAfter after).arrAt 10 cfg0.N = GY m c := by
  refine Pipeline.Dat.arrAt_eq_of_covers ((rdat m (spec m) c).withAfter after) 10 (GY m c) (by decide +kernel) fun t hf y => ?_
  obtain ⟨Y, -, hX⟩ := hL 10 t hf
  have h3 := flush10 t hf
  have hX : after 10 t = Yv (iblk m c 0 t) (tO m c (t.val - 3)) (iblk m c 7 t) (iblk m c 8 t) (iblk m c 9 t) := hX h3
  have e := ix10 t h3
  rw [Pipeline.RDat.withAfter_after, hX]
  have he : ((cfg0.win 10).blk t).view.emb y = (ix3 (bt (t.val - 3)) (gr (t.val - 3) (y 1)) (y 2) : S3x4096x512.Idx) := by
    blk_ext [e, gr]
  rw [he]
  blk_simp
  exact yv_val m c t h3 y
theorem arr11 : ((rdat m (spec m) c).withAfter after).arrAt 11 cfg0.N = GP m c := by
  refine Pipeline.Dat.arrAt_eq_of_covers ((rdat m (spec m) c).withAfter after) 11 (GP m c) (by decide +kernel) fun t hf y => ?_
  obtain ⟨Y, -, hX⟩ := hL 11 t hf
  have h3 := flush11 t hf
  have hX : after 11 t = Pv (tO m c (t.val - 3)) (iblk m c 7 t) (iblk m c 8 t) (iblk m c 9 t) := hX h3
  have e := ix11 t h3
  rw [Pipeline.RDat.withAfter_after, hX]
  have he : ((cfg0.win 11).blk t).view.emb y = (ix3 (bt (t.val - 3)) (gr (t.val - 3) (y 1)) (y 2) : S3x4096x512.Idx) := by
    blk_ext [e, gr]
  rw [he]
  blk_simp
  exact pv_val m c t y
theorem arr12 : ((rdat m (spec m) c).withAfter after).arrAt 12 cfg0.N = GC m c := by
  refine Pipeline.Dat.arrAt_eq_of_covers ((rdat m (spec m) c).withAfter after) 12 (GC m c) (by decide +kernel) fun t hf y => ?_
  obtain ⟨Y, -, hX⟩ := hL 12 t hf
  have h3 := flush12 t hf
  have hX : after 12 t = Cv (tO m c (t.val - 3)) := hX h3
  have e := ix12 t h3
  rw [Pipeline.RDat.withAfter_after, hX]
  have he : ((cfg0.win 12).blk t).view.emb y = (ix3 (bt (t.val - 3)) (gr (t.val - 3) (y 1)) (y 2) : S3x4096x512.Idx) := by
    blk_ext [e, gr]
  rw [he]
  blk_simp
  exact cv_val m c t y
theorem arr13 : ((rdat m (spec m) c).withAfter after).arrAt 13 cfg0.N = GS m c := by
  refine Pipeline.Dat.arrAt_eq_of_covers ((rdat m (spec m) c).withAfter after) 13 (GS m c) (by decide +kernel) fun t hf y => ?_
  obtain ⟨Y, -, hX⟩ := hL 13 t hf
  have h26 := flush13 t hf
  have hX : L13 m c t (after 13 t) := hX
  have e := ix13 t
  have he : ((cfg0.win 13).blk t).view.emb y = (ix2 (y 0) (y 1) : S3x4096.Idx) := by
    blk_ext [e]
  rw [Pipeline.RDat.withAfter_after, he]
  blk_simp
  have h1 : after 13 t y = tA m c (y 0) (y 1) :=
    (congrArg (after 13 t) (show y = ix2 (y 0) (y 1) by blk_ext)).trans
      (hX (y 0) (y 1) (by have := (show (y 0).val < 3 from (y 0).isLt); have := (show (y 1).val < 4096 from (y 1).isLt); omega))
  exact h1.trans (tA_val m c (y 0) (y 1))
end

/-- The kernel's run: what its four result arrays hold, and that the arguments are kept. -/
theorem results : θ_run defs (onTc (τ := τ) (main (F := Ideal))) (s₀ m ρ) fun r => ∀ c : Dev nD,
    (r.2.mem ((c.tc : Thread nD τ).loc main_v2_0) = GY m c ∧ r.2.mem ((c.tc : Thread nD τ).loc main_v2_1) = GP m c
      ∧ r.2.mem ((c.tc : Thread nD τ).loc main_v2_2) = GC m c ∧ r.2.mem ((c.tc : Thread nD τ).loc main_v2_3) = GS m c)
    ∧ Pipeline.RDat.FramePost (cfgs 0) (rdat m (spec m)) (V m) r := by
  refine (θ_run defs _ _).mono (fun r h c => ?_) (run_main m ρ (spec m) (fun c => steps m c))
  obtain ⟨after, hL, hA⟩ := Pipeline.RDat.FramePost.exists_exact h.1 c
  exact ⟨⟨(hA 10).trans (arr10 m c after hL), (hA 11).trans (arr11 m c after hL), (hA 12).trans (arr12 m c after hL), (hA 13).trans (arr13 m c after hL)⟩, h.1⟩

end Cert.KernelIdeal.Gen

end
-- ==== Proof.ReferenceIdeal.Vals.lean ====
/- What each batch of the reference stores, index by index. -/
module

public import proofs.«01_k».proof.Proof.Gen.ReferenceIdeal.Frame
public import proofs.«01_k».proof.Proof.Attn.Quant
public import Idealize.ShloMosaic.Lib.Pipeline.ValueKit
public import Idealize.ShloMosaic.Lib.Pointwise

@[expose] public section

set_option maxRecDepth 16384
set_option maxHeartbeats 2000000

noncomputable section

namespace Cert.ReferenceIdeal.Gen

open Idealize.ShloMosaic Idealize.ShloMosaic.TcCoe Idealize.ShloMosaic.Tactic Cert.Attn

abbrev cS : EReal := Named.named (F := Ideal) (φ := .f32) κ "attn_scale" 0x3D3504F3#32
abbrev cL : EReal := Named.named (F := Ideal) (φ := .f32) κ "log2e" 0x3FB8AA3B#32

/-- A query's score against a key. -/
def RS (q k : Vec Ideal S1x4096x512 .fp8e4m3) (qs ks : Vec Ideal S1x4096 .f32) (a i : Fin 4096) : EReal :=
  (∑ d : Fin 512, q (ix3 0 a d) * k (ix3 0 i d)) * (qs (ix2 0 a) * cS) * ks (ix2 0 i)
def RE (q k : Vec Ideal S1x4096x512 .fp8e4m3) (qs ks : Vec Ideal S1x4096 .f32) (a i : Fin 4096) : EReal :=
  Ideal.exp (RS q k qs ks a i - supf (RS q k qs ks a))
/-- A query's attention output. -/
def RO (q k : Vec Ideal S1x4096x512 .fp8e4m3) (qs ks : Vec Ideal S1x4096 .f32) (v : Vec Ideal S1x4096x512 .fp8e4m3) (vs : Vec Ideal S1x512 .f32) (a : Fin 4096) (d : Fin 512) : EReal :=
  (∑ i : Fin 4096, RE q k qs ks a i * Ideal.div 1 (∑ i : Fin 4096, RE q k qs ks a i) * v (ix3 0 i d)) * vs (ix2 0 d)

theorem pay4_val (q k : Vec Ideal S1x4096x512 .fp8e4m3) (qs ks : Vec Ideal S1x4096 .f32) (v : Vec Ideal S1x4096x512 .fp8e4m3) (vs : Vec Ideal S1x512 .f32) (a : Fin 4096) (d : Fin 512) : (k0_pay4 (F := Ideal) q k qs ks v vs (ix2 a d) : EReal) = RO q k qs ks v vs a d := by
  pointwise [k0_pay4]
  all_goals rfl

theorem pay15_val (q k : Vec Ideal S1x4096x512 .fp8e4m3) (qs ks : Vec Ideal S1x4096 .f32) (a i : Fin 4096) : (k0_pay15 (F := Ideal) q k qs ks (ix2 a i) : EReal) = RE q k qs ks a i := by
  pointwise [k0_pay15]
  all_goals rfl

theorem pay16_val (e : FVec Ideal S4096x4096 .f32) (v : Vec Ideal S1x4096x512 .fp8e4m3) (vs : Vec Ideal S1x512 .f32) (a : Fin 4096) (d : Fin 512) : (k0_pay16 (F := Ideal) e v vs (ix2 a d) : EReal) =
    (∑ i : Fin 4096, e (ix2 a i) * Ideal.div 1 (∑ i : Fin 4096, e (ix2 a i)) * v (ix3 0 i d)) * vs (ix2 0 d) := by
  pointwise [k0_pay16]
  all_goals rfl

theorem pay26_val (q k : Vec Ideal S1x4096x512 .fp8e4m3) (qs ks : Vec Ideal S1x4096 .f32) (v : Vec Ideal S1x4096x512 .fp8e4m3) (vs : Vec Ideal S1x512 .f32) (a : Fin 4096) (d : Fin 512) : (k0_pay26 (F := Ideal) (k0_pay25 q) k qs ks v vs (ix2 a d) : EReal) = RO q k qs ks v vs a d := by
  pointwise [k0_pay26, k0_pay25]
  all_goals rfl

/-- The greatest magnitude of each row. -/
def amaxV (O : FVec Ideal S4096x512 .f32) : FVec Ideal S4096x1 .f32 :=
  shapeCast S4096x1 (multiReduction .maximumf [1] S4096 (absf O) 0xFF800000#32 reduces_S4096x512_S4096 (.inl rfl) rfl) shapeCasts_S4096_S4096x1
/-- The quotient of a greatest magnitude by 448. -/
abbrev cQ : Ideal .f32 := Scalar.ofBits .f32 0x3B124925#32

theorem amaxV_val (O : FVec Ideal S4096x512 .f32) (a : Fin 4096) : (amaxV O (ix2 a 0) : EReal) =
    supf fun x => (FloatOps.absf (F := Ideal) (φ := .f32) (O (ix2 a x)) : EReal) := by
  pointwise [amaxV]
  all_goals rfl

theorem pay6_h (am : FVec Ideal S4096x1 .f32) (O : Fin 4096 → Fin 512 → EReal) (h : ∀ a, (am (ix2 a 0) : EReal) = supf fun x => (FloatOps.absf (F := Ideal) (φ := .f32) (O a x) : EReal)) (a : Fin 4096) :
    (k0_pay6 (F := Ideal) am (Scalar.ofBits .f32 0x3B124925#32) (ix2 a 0) : EReal) = qexp cL (O a) := by
  rw [qexp_eq, ← h]
  pointwise [k0_pay6]

theorem pay6_val (O : FVec Ideal S4096x512 .f32) (a : Fin 4096) :
    (k0_pay6 (F := Ideal) (amaxV O) cQ (ix2 a 0) : EReal) = qexp cL fun x => O (ix2 a x) :=
  pay6_h (amaxV O) (fun a x => O (ix2 a x)) (amaxV_val O) a

theorem clip_val (O : FVec Ideal S4096x512 .f32) (e : FVec Ideal S4096x1 .f32) (a : Fin 4096) (d : Fin 512) :
    (minimumf (F := Ideal) (broadcast S4096x512 (Scalar.ofBits .f32 0x43E00000#32)) (maximumf (broadcast S4096x512 (Scalar.ofBits .f32 0xC3E00000#32)) (mulf O (broadcastTo S4096x512 (exp2 (subf (broadcast S4096x1 (Scalar.ofBits .f32 0x00000000#32)) e)) broadcasts_S4096x1_S4096x512))) (ix2 a d) : EReal)
      = min (Ideal.ofBits .f32 1138753536#32) (max (Ideal.ofBits .f32 3286237184#32) (O (ix2 a d) * Ideal.exp2 (0 - e (ix2 a 0)))) := by
  pointwise []
  all_goals rfl

theorem pay7_val (O : FVec Ideal S4096x512 .f32) (a : Fin 4096) (d : Fin 512) :
    (k0_pay7 (F := Ideal) O (amaxV O) cQ (ix2 a d) : EReal) = code cL (fun x => O (ix2 a x)) d :=
  (clip_val O (k0_pay6 (F := Ideal) (amaxV O) cQ) a d).trans
    (congrArg (fun z : EReal => min (Ideal.ofBits .f32 1138753536#32) (max (Ideal.ofBits .f32 3286237184#32) (O (ix2 a d) * Ideal.exp2 (0 - z)))) (pay6_val O a))

theorem exp2_at (e : FVec Ideal S4096x1 .f32) (a : Fin 4096) : (exp2 (F := Ideal) e (ix2 a 0) : EReal) = Ideal.exp2 (e (ix2 a 0)) := rfl

theorem pay8_val (O : FVec Ideal S4096x512 .f32) (a : Fin 4096) :
    (k0_pay8 (F := Ideal) (amaxV O) cQ (ix2 a 0) : EReal) = Ideal.exp2 (qexp cL fun x => O (ix2 a x)) := by
  unfold k0_pay8
  exact (exp2_at (k0_pay6 (F := Ideal) (amaxV O) cQ) a).trans (congrArg Ideal.exp2 (pay6_val O a))

theorem pay5_eq (q k : Vec Ideal S1x4096x512 .fp8e4m3) (qs ks : Vec Ideal S1x4096 .f32) (v : Vec Ideal S1x4096x512 .fp8e4m3) (vs : Vec Ideal S1x512 .f32) : k0_pay5 (F := Ideal) q k qs ks v vs = amaxV (k0_pay4 q k qs ks v vs) := rfl
theorem pay18_eq (e : FVec Ideal S4096x4096 .f32) (v : Vec Ideal S1x4096x512 .fp8e4m3) (vs : Vec Ideal S1x512 .f32) : k0_pay18 (F := Ideal) e v vs = k0_pay7 (k0_pay16 e v vs) (amaxV (k0_pay16 e v vs)) cQ := rfl
theorem pay19_eq (e : FVec Ideal S4096x4096 .f32) (v : Vec Ideal S1x4096x512 .fp8e4m3) (vs : Vec Ideal S1x512 .f32) : k0_pay19 (F := Ideal) e v vs = k0_pay8 (amaxV (k0_pay16 e v vs)) cQ := rfl
theorem pay31_eq (q : FVec Ideal S4096x512 .fp8e4m3) (k : Vec Ideal S1x4096x512 .fp8e4m3) (qs ks : Vec Ideal S1x4096 .f32) (v : Vec Ideal S1x4096x512 .fp8e4m3) (vs : Vec Ideal S1x512 .f32) :
    k0_pay31 (F := Ideal) (k0_pay28 q k qs ks v vs) (k0_pay29 q k qs ks v vs) k0_pay30 = k0_pay6 (amaxV (k0_pay26 q k qs ks v vs)) cQ := rfl
theorem pay32_eq (O : FVec Ideal S4096x512 .f32) (x1 : IVec S4096x1 1) (x2 x3 am : FVec Ideal S4096x1 .f32) (h : k0_pay31 x1 x2 x3 = k0_pay6 am cQ) :
    k0_pay32 (F := Ideal) O x1 x2 x3 = k0_pay7 O am cQ := by
  unfold k0_pay32 k0_pay7
  rw [h]
theorem pay33_eq (x1 : IVec S4096x1 1) (x2 x3 am : FVec Ideal S4096x1 .f32) (h : k0_pay31 x1 x2 x3 = k0_pay6 am cQ) :
    k0_pay33 (F := Ideal) x1 x2 x3 = k0_pay8 am cQ := by
  unfold k0_pay33 k0_pay8
  rw [h]

theorem pay20_val (wo : Vec Ideal S512x512 .fp8e4m3) (so bo : Vec Ideal S1x512 .f32) (O : FVec Ideal S4096x512 .f32) (a : Fin 4096) (d : Fin 512) :
    (k0_pay20 (F := Ideal) (k0_pay7 O (amaxV O) cQ) (k0_pay8 (amaxV O) cQ) wo (constant S4096x512 .f32 0x00000000#32) so bo (ix2 a d) : EReal)
      = outp cL (fun x => O (ix2 a x)) (fun x => wo (ix2 x d)) (so (ix2 0 d)) (bo (ix2 0 d)) := by
  have h : ∀ (ac : FVec Ideal S4096x512 .fp8e4m3) (e : FVec Ideal S4096x1 .f32),
      (k0_pay20 (F := Ideal) ac e wo (constant S4096x512 .f32 0x00000000#32) so bo (ix2 a d) : EReal) = (∑ x : Fin 512, ac (ix2 a x) * wo (ix2 x d)) * e (ix2 a 0) * so (ix2 0 d) + bo (ix2 0 d) := by
    intro ac e
    pointwise [k0_pay20]
    all_goals rfl
  refine (h _ _).trans ?_
  exact congrArg (fun z : EReal => z * so (ix2 0 d) + bo (ix2 0 d))
    (congrArg₂ (· * ·) (Finset.sum_congr rfl fun x _ => congrArg (· * _) (pay7_val O a x)) (pay8_val O a))

theorem pay9_eq (O : FVec Ideal S4096x512 .f32) (am : FVec Ideal S4096x1 .f32) (cc : Ideal .f32) (wo : Vec Ideal S512x512 .fp8e4m3) (so bo : Vec Ideal S1x512 .f32) :
    k0_pay9 (F := Ideal) O am cc wo so bo = k0_pay20 (k0_pay7 O am cc) (k0_pay8 am cc) wo (constant S4096x512 .f32 0x00000000#32) so bo := rfl
theorem pay34_eq (O : FVec Ideal S4096x512 .f32) (x1 : IVec S4096x1 1) (x2 x3 : FVec Ideal S4096x1 .f32) (wo : Vec Ideal S512x512 .fp8e4m3) (so bo : Vec Ideal S1x512 .f32) :
    k0_pay34 (F := Ideal) O x1 x2 x3 wo so bo = k0_pay20 (k0_pay32 O x1 x2 x3) (k0_pay33 x1 x2 x3) wo (constant S4096x512 .f32 0x00000000#32) so bo := rfl

theorem y_cast (x : Vec Ideal S1x4096x512 .bf16) (p : FVec Ideal S4096x512 .f32) (a : Fin 4096) (d : Fin 512) :
    (shapeCast S1x4096x512 (truncf (F := Ideal) .bf16 (addf (extf .f32 (shapeCast S4096x512 x shapeCasts_S1x4096x512_S4096x512) bitsLt_bf16_f32) p) bitsLt_bf16_f32) shapeCasts_S4096x512_S1x4096x512 (ix3 0 a d) : EReal)
      = x (ix3 0 a d) + p (ix2 a d) := by
  pointwise []
  all_goals rfl
theorem p_cast (p : FVec Ideal S4096x512 .f32) (a : Fin 4096) (d : Fin 512) :
    (shapeCast S1x4096x512 (truncf (F := Ideal) .bf16 p bitsLt_bf16_f32) shapeCasts_S4096x512_S1x4096x512 (ix3 0 a d) : EReal) = p (ix2 a d) := by
  pointwise []
  all_goals rfl
theorem c_cast (p : FVec Ideal S4096x512 .fp8e4m3) (a : Fin 4096) (d : Fin 512) :
    (shapeCast S1x4096x512 p shapeCasts_S4096x512_S1x4096x512 (ix3 0 a d) : EReal) = p (ix2 a d) := by
  pointwise []
  all_goals rfl
theorem s_cast (p : FVec Ideal S4096x1 .f32) (a : Fin 4096) :
    (shapeCast S1x4096 (shapeCast S4096 p shapeCasts_S4096x1_S4096) shapeCasts_S4096_S1x4096 (ix2 0 a) : EReal) = p (ix2 a 0) := by
  pointwise []
  all_goals rfl

end Cert.ReferenceIdeal.Gen

end
-- ==== Proof.ReferenceIdeal.Outs.lean ====
/- The reference's four result arrays, entry by entry. -/
module

public import proofs.«01_k».proof.Proof.ReferenceIdeal.Vals
public import proofs.«01_k».proof.Proof.Gen.ReferenceIdeal.Value
public import proofs.«01_k».proof.Proof.Attn.Closed

@[expose] public section

set_option maxRecDepth 16384
set_option maxHeartbeats 1000000

noncomputable section

namespace Cert.ReferenceIdeal.Gen

open Idealize.ShloMosaic Idealize.ShloMosaic.TcCoe Idealize.ShloMosaic.Tactic Idealize.SL.Sem Cert.Attn

theorem ext1x3 (y : S1x4096x512.Idx) : y = ix3 0 (y 1) (y 2) := by blk_ext
theorem ext1x2 (y : S1x4096.Idx) : y = ix2 0 (y 1) := by blk_ext

/-! ### A batch's slices -/

theorem ld3_0 {e : EltTy} (x : Vec Ideal S3x4096x512 e) (a : Fin 4096) (d : Fin 512) : View.ld x r0_0 (ix3 0 a d) = x (ix3 0 a d) := by
  refine congrArg x (funext fun i => Fin.ext ((ValueKit.rect_emb_unit_val _ _ _ _ _).trans ?_))
  fin_cases i <;> simp
theorem ld2_0 (x : Vec Ideal S3x4096 .f32) (a : Fin 4096) : View.ld x r0_1 (ix2 0 a) = x (ix2 0 a) := by
  refine congrArg x (funext fun i => Fin.ext ((ValueKit.rect_emb_unit_val _ _ _ _ _).trans ?_))
  fin_cases i <;> simp
theorem ldv_0 (x : Vec Ideal S3x512 .f32) (a : Fin 512) : View.ld x r0_2 (ix2 0 a) = x (ix2 0 a) := by
  refine congrArg x (funext fun i => Fin.ext ((ValueKit.rect_emb_unit_val _ _ _ _ _).trans ?_))
  fin_cases i <;> simp
theorem em3_0 (a : Fin 4096) (d : Fin 512) : r0_0.emb (ix3 0 a d) = (ix3 0 a d : S3x4096x512.Idx) := by
  refine funext fun i => Fin.ext ((ValueKit.rect_emb_unit_val _ _ _ _ _).trans ?_)
  fin_cases i <;> simp
theorem em2_0 (a : Fin 4096) : r0_1.emb (ix2 0 a) = (ix2 0 a : S3x4096.Idx) := by
  refine funext fun i => Fin.ext ((ValueKit.rect_emb_unit_val _ _ _ _ _).trans ?_)
  fin_cases i <;> simp
theorem lift3_0 (p : S1x4096x512.Idx → EReal) (G : Fin 3 → Fin 4096 → Fin 512 → EReal) (h : ∀ a d, p (ix3 0 a d) = G 0 a d) (y : S1x4096x512.Idx) :
    p y = (fun i : S3x4096x512.Idx => G (i 0) (i 1) (i 2)) (r0_0.emb y) :=
  (congrArg p (ext1x3 y)).trans ((h (y 1) (y 2)).trans
    (congrArg (fun i : S3x4096x512.Idx => G (i 0) (i 1) (i 2)) ((em3_0 (y 1) (y 2)).symm.trans (congrArg r0_0.emb (ext1x3 y).symm))))
theorem lift2_0 (p : S1x4096.Idx → EReal) (G : Fin 3 → Fin 4096 → EReal) (h : ∀ a, p (ix2 0 a) = G 0 a) (y : S1x4096.Idx) :
    p y = (fun i : S3x4096.Idx => G (i 0) (i 1)) (r0_1.emb y) :=
  (congrArg p (ext1x2 y)).trans ((h (y 1)).trans
    (congrArg (fun i : S3x4096.Idx => G (i 0) (i 1)) ((em2_0 (y 1)).symm.trans (congrArg r0_1.emb (ext1x2 y).symm))))

theorem ld3_1 {e : EltTy} (x : Vec Ideal S3x4096x512 e) (a : Fin 4096) (d : Fin 512) : View.ld x r0_5 (ix3 0 a d) = x (ix3 1 a d) := by
  refine congrArg x (funext fun i => Fin.ext ((ValueKit.rect_emb_unit_val _ _ _ _ _).trans ?_))
  fin_cases i <;> simp
theorem ld2_1 (x : Vec Ideal S3x4096 .f32) (a : Fin 4096) : View.ld x r0_6 (ix2 0 a) = x (ix2 1 a) := by
  refine congrArg x (funext fun i => Fin.ext ((ValueKit.rect_emb_unit_val _ _ _ _ _).trans ?_))
  fin_cases i <;> simp
theorem ldv_1 (x : Vec Ideal S3x512 .f32) (a : Fin 512) : View.ld x r0_7 (ix2 0 a) = x (ix2 1 a) := by
  refine congrArg x (funext fun i => Fin.ext ((ValueKit.rect_emb_unit_val _ _ _ _ _).trans ?_))
  fin_cases i <;> simp
theorem em3_1 (a : Fin 4096) (d : Fin 512) : r0_5.emb (ix3 0 a d) = (ix3 1 a d : S3x4096x512.Idx) := by
  refine funext fun i => Fin.ext ((ValueKit.rect_emb_unit_val _ _ _ _ _).trans ?_)
  fin_cases i <;> simp
theorem em2_1 (a : Fin 4096) : r0_6.emb (ix2 0 a) = (ix2 1 a : S3x4096.Idx) := by
  refine funext fun i => Fin.ext ((ValueKit.rect_emb_unit_val _ _ _ _ _).trans ?_)
  fin_cases i <;> simp
theorem lift3_1 (p : S1x4096x512.Idx → EReal) (G : Fin 3 → Fin 4096 → Fin 512 → EReal) (h : ∀ a d, p (ix3 0 a d) = G 1 a d) (y : S1x4096x512.Idx) :
    p y = (fun i : S3x4096x512.Idx => G (i 0) (i 1) (i 2)) (r0_5.emb y) :=
  (congrArg p (ext1x3 y)).trans ((h (y 1) (y 2)).trans
    (congrArg (fun i : S3x4096x512.Idx => G (i 0) (i 1) (i 2)) ((em3_1 (y 1) (y 2)).symm.trans (congrArg r0_5.emb (ext1x3 y).symm))))
theorem lift2_1 (p : S1x4096.Idx → EReal) (G : Fin 3 → Fin 4096 → EReal) (h : ∀ a, p (ix2 0 a) = G 1 a) (y : S1x4096.Idx) :
    p y = (fun i : S3x4096.Idx => G (i 0) (i 1)) (r0_6.emb y) :=
  (congrArg p (ext1x2 y)).trans ((h (y 1)).trans
    (congrArg (fun i : S3x4096.Idx => G (i 0) (i 1)) ((em2_1 (y 1)).symm.trans (congrArg r0_6.emb (ext1x2 y).symm))))

theorem ld3_2 {e : EltTy} (x : Vec Ideal S3x4096x512 e) (a : Fin 4096) (d : Fin 512) : View.ld x r0_8 (ix3 0 a d) = x (ix3 2 a d) := by
  refine congrArg x (funext fun i => Fin.ext ((ValueKit.rect_emb_unit_val _ _ _ _ _).trans ?_))
  fin_cases i <;> simp
theorem ld2_2 (x : Vec Ideal S3x4096 .f32) (a : Fin 4096) : View.ld x r0_9 (ix2 0 a) = x (ix2 2 a) := by
  refine congrArg x (funext fun i => Fin.ext ((ValueKit.rect_emb_unit_val _ _ _ _ _).trans ?_))
  fin_cases i <;> simp
theorem ldv_2 (x : Vec Ideal S3x512 .f32) (a : Fin 512) : View.ld x r0_10 (ix2 0 a) = x (ix2 2 a) := by
  refine congrArg x (funext fun i => Fin.ext ((ValueKit.rect_emb_unit_val _ _ _ _ _).trans ?_))
  fin_cases i <;> simp
theorem em3_2 (a : Fin 4096) (d : Fin 512) : r0_8.emb (ix3 0 a d) = (ix3 2 a d : S3x4096x512.Idx) := by
  refine funext fun i => Fin.ext ((ValueKit.rect_emb_unit_val _ _ _ _ _).trans ?_)
  fin_cases i <;> simp
theorem em2_2 (a : Fin 4096) : r0_9.emb (ix2 0 a) = (ix2 2 a : S3x4096.Idx) := by
  refine funext fun i => Fin.ext ((ValueKit.rect_emb_unit_val _ _ _ _ _).trans ?_)
  fin_cases i <;> simp
theorem lift3_2 (p : S1x4096x512.Idx → EReal) (G : Fin 3 → Fin 4096 → Fin 512 → EReal) (h : ∀ a d, p (ix3 0 a d) = G 2 a d) (y : S1x4096x512.Idx) :
    p y = (fun i : S3x4096x512.Idx => G (i 0) (i 1) (i 2)) (r0_8.emb y) :=
  (congrArg p (ext1x3 y)).trans ((h (y 1) (y 2)).trans
    (congrArg (fun i : S3x4096x512.Idx => G (i 0) (i 1) (i 2)) ((em3_2 (y 1) (y 2)).symm.trans (congrArg r0_8.emb (ext1x3 y).symm))))
theorem lift2_2 (p : S1x4096.Idx → EReal) (G : Fin 3 → Fin 4096 → EReal) (h : ∀ a, p (ix2 0 a) = G 2 a) (y : S1x4096.Idx) :
    p y = (fun i : S3x4096.Idx => G (i 0) (i 1)) (r0_9.emb y) :=
  (congrArg p (ext1x2 y)).trans ((h (y 1)).trans
    (congrArg (fun i : S3x4096.Idx => G (i 0) (i 1)) ((em2_2 (y 1)).symm.trans (congrArg r0_9.emb (ext1x2 y).symm))))

theorem ldw (x : Vec Ideal S512x512 .fp8e4m3) (a d : Fin 512) : View.ld x r0_3 (ix2 a d) = x (ix2 a d) := by
  refine congrArg x (funext fun i => Fin.ext ((ValueKit.rect_emb_unit_val _ _ _ _ _).trans ?_))
  fin_cases i <;> simp
theorem ldb (x : Vec Ideal S1x512 .f32) (d : Fin 512) : View.ld x r0_4 (ix2 0 d) = x (ix2 0 d) := by
  refine congrArg x (funext fun i => Fin.ext ((ValueKit.rect_emb_unit_val _ _ _ _ _).trans ?_))
  fin_cases i <;> simp

/-- A batch's attention, of slices that read as the batch's entries. -/
theorem RO_of (q k v : Vec Ideal S1x4096x512 .fp8e4m3) (qs ks : Vec Ideal S1x4096 .f32) (vs : Vec Ideal S1x512 .f32)
    (fq fk fv : Fin 3 → Fin 4096 → Fin 512 → EReal) (fqs fks : Fin 3 → Fin 4096 → EReal) (fvs : Fin 3 → Fin 512 → EReal) (b : Fin 3)
    (hq : ∀ a d, (q (ix3 0 a d) : EReal) = fq b a d) (hk : ∀ a d, (k (ix3 0 a d) : EReal) = fk b a d) (hv : ∀ a d, (v (ix3 0 a d) : EReal) = fv b a d)
    (hqs : ∀ a, (qs (ix2 0 a) : EReal) = fqs b a) (hks : ∀ a, (ks (ix2 0 a) : EReal) = fks b a) (hvs : ∀ d, (vs (ix2 0 d) : EReal) = fvs b d) (a : Fin 4096) (d : Fin 512) :
    RO q k qs ks v vs a d = rO fq fk fv fqs fks fvs cS b a d := by
  have h1 : RS q k qs ks a = fun i => (∑ d : Fin 512, fq b a d * fk b i d) * (fqs b a * cS) * fks b i := by
    funext i
    unfold RS
    simp only [hq, hk, hqs, hks]
  have h2 : RE q k qs ks a = rE fq fk fqs fks cS b a := by
    funext i
    unfold RE
    rw [h1]
    rfl
  unfold RO
  rw [h2]
  simp only [hv, hvs]
  rfl

/-! ### From a batch's attention to its results -/

section
variable (O : FVec Ideal S4096x512 .f32) (f : Fin 4096 → Fin 512 → EReal) (hO : ∀ a d, (O (ix2 a d) : EReal) = f a d)
  (wo : Vec Ideal S512x512 .fp8e4m3) (so bo : Vec Ideal S1x512 .f32) (fw : Fin 512 → Fin 512 → EReal) (fs fb : Fin 512 → EReal)

include hO

theorem gP (hw : ∀ x d, (wo (ix2 x d) : EReal) = fw x d) (hs : ∀ d, (so (ix2 0 d) : EReal) = fs d) (hb : ∀ d, (bo (ix2 0 d) : EReal) = fb d) (a : Fin 4096) (d : Fin 512) :
    (k0_pay20 (F := Ideal) (k0_pay7 O (amaxV O) cQ) (k0_pay8 (amaxV O) cQ) wo (constant S4096x512 .f32 0x00000000#32) so bo (ix2 a d) : EReal)
      = outp cL (f a) (fun x => fw x d) (fs d) (fb d) := by
  refine (pay20_val wo so bo O a d).trans ?_
  simp only [hO, hw, hs, hb]
theorem gC (a : Fin 4096) (d : Fin 512) : (k0_pay7 (F := Ideal) O (amaxV O) cQ (ix2 a d) : EReal) = code cL (f a) d :=
  (pay7_val O a d).trans (congrArg (fun g => code cL g d) (funext fun x => hO a x))
theorem gS (a : Fin 4096) : (k0_pay8 (F := Ideal) (amaxV O) cQ (ix2 a 0) : EReal) = Ideal.exp2 (qexp cL (f a)) :=
  (pay8_val O a).trans (congrArg (fun g => Ideal.exp2 (qexp cL g)) (funext fun x => hO a x))
end

/-! ### The results -/

section
variable (x0 : Vec Ideal S3x4096x512 .bf16) (x1 x2 x3 : Vec Ideal S3x4096x512 .fp8e4m3) (x4 x5 : Vec Ideal S3x4096 .f32) (x6 : Vec Ideal S3x512 .f32)
  (x7 : Vec Ideal S512x512 .fp8e4m3) (x8 x9 : Vec Ideal S1x512 .f32)

/-- The attention of every query. -/
def bO : Fin 3 → Fin 4096 → Fin 512 → EReal :=
  rO (fun b a d => x1 (ix3 b a d)) (fun b a d => x2 (ix3 b a d)) (fun b a d => x3 (ix3 b a d)) (fun b a => x4 (ix2 b a)) (fun b a => x5 (ix2 b a)) (fun b d => x6 (ix2 b d)) cS
def bP : Fin 3 → Fin 4096 → Fin 512 → EReal := outP cL (bO x1 x2 x3 x4 x5 x6) (fun x d => x7 (ix2 x d)) (fun d => x8 (ix2 0 d)) (fun d => x9 (ix2 0 d))
def bY : Fin 3 → Fin 4096 → Fin 512 → EReal := outY cL (bO x1 x2 x3 x4 x5 x6) (fun b a d => x0 (ix3 b a d)) (fun x d => x7 (ix2 x d)) (fun d => x8 (ix2 0 d)) (fun d => x9 (ix2 0 d))
def bC : Fin 3 → Fin 4096 → Fin 512 → EReal := outC cL (bO x1 x2 x3 x4 x5 x6)
def bS : Fin 3 → Fin 4096 → EReal := outS cL (bO x1 x2 x3 x4 x5 x6)

theorem ro_0 (a : Fin 4096) (d : Fin 512) : RO (View.ld x1 r0_0) (View.ld x2 r0_0) (View.ld x4 r0_1) (View.ld x5 r0_1) (View.ld x3 r0_0) (View.ld x6 r0_2) a d = bO x1 x2 x3 x4 x5 x6 0 a d :=
  RO_of _ _ _ _ _ _ (fun b a d => x1 (ix3 b a d)) (fun b a d => x2 (ix3 b a d)) (fun b a d => x3 (ix3 b a d)) (fun b a => x4 (ix2 b a)) (fun b a => x5 (ix2 b a)) (fun b d => x6 (ix2 b d)) 0
    (ld3_0 x1) (ld3_0 x2) (ld3_0 x3) (ld2_0 x4) (ld2_0 x5) (ldv_0 x6) a d

theorem ro_1 (a : Fin 4096) (d : Fin 512) : RO (View.ld x1 r0_5) (View.ld x2 r0_5) (View.ld x4 r0_6) (View.ld x5 r0_6) (View.ld x3 r0_5) (View.ld x6 r0_7) a d = bO x1 x2 x3 x4 x5 x6 1 a d :=
  RO_of _ _ _ _ _ _ (fun b a d => x1 (ix3 b a d)) (fun b a d => x2 (ix3 b a d)) (fun b a d => x3 (ix3 b a d)) (fun b a => x4 (ix2 b a)) (fun b a => x5 (ix2 b a)) (fun b d => x6 (ix2 b d)) 1
    (ld3_1 x1) (ld3_1 x2) (ld3_1 x3) (ld2_1 x4) (ld2_1 x5) (ldv_1 x6) a d

theorem ro_2 (a : Fin 4096) (d : Fin 512) : RO (View.ld x1 r0_8) (View.ld x2 r0_8) (View.ld x4 r0_9) (View.ld x5 r0_9) (View.ld x3 r0_8) (View.ld x6 r0_10) a d = bO x1 x2 x3 x4 x5 x6 2 a d :=
  RO_of _ _ _ _ _ _ (fun b a d => x1 (ix3 b a d)) (fun b a d => x2 (ix3 b a d)) (fun b a d => x3 (ix3 b a d)) (fun b a => x4 (ix2 b a)) (fun b a => x5 (ix2 b a)) (fun b d => x6 (ix2 b d)) 2
    (ld3_2 x1) (ld3_2 x2) (ld3_2 x3) (ld2_2 x4) (ld2_2 x5) (ldv_2 x6) a d

theorem O_0 (a : Fin 4096) (d : Fin 512) : ((k0_pay37 x0 x1 x2 x3 x4 x5 x6 x7 x8 x9 : FVec Ideal S4096x512 .f32) (ix2 a d) : EReal) = bO x1 x2 x3 x4 x5 x6 0 a d := by
  unfold k0_pay37
  exact (pay4_val ..).trans (ro_0 ..)

theorem O_1 (a : Fin 4096) (d : Fin 512) : (((k0_pay16 (k0_pay39 x0 x1 x2 x3 x4 x5 x6 x7 x8 x9) (View.ld x3 r0_5) (View.ld x6 r0_7)) : FVec Ideal S4096x512 .f32) (ix2 a d) : EReal) = bO x1 x2 x3 x4 x5 x6 1 a d := by
  have h : ∀ i, (k0_pay39 x0 x1 x2 x3 x4 x5 x6 x7 x8 x9 (ix2 a i) : EReal) = RE (View.ld x1 r0_5) (View.ld x2 r0_5) (View.ld x4 r0_6) (View.ld x5 r0_6) a i := fun i => pay15_val ..
  refine (pay16_val ..).trans (Eq.trans ?_ (ro_1 x1 x2 x3 x4 x5 x6 a d))
  simp only [h]
  rfl

theorem O_2 (a : Fin 4096) (d : Fin 512) : ((k0_pay44 x0 x1 x2 x3 x4 x5 x6 x7 x8 x9 : FVec Ideal S4096x512 .f32) (ix2 a d) : EReal) = bO x1 x2 x3 x4 x5 x6 2 a d := by
  unfold k0_pay44 k0_pay43
  exact (pay26_val ..).trans (ro_2 ..)

theorem am_0 : k0_pay38 (F := Ideal) x0 x1 x2 x3 x4 x5 x6 x7 x8 x9 = amaxV (k0_pay37 x0 x1 x2 x3 x4 x5 x6 x7 x8 x9) := pay5_eq ..
theorem c_1 : k0_pay41 (F := Ideal) x0 x1 x2 x3 x4 x5 x6 x7 x8 x9 = k0_pay7 (k0_pay16 (k0_pay39 x0 x1 x2 x3 x4 x5 x6 x7 x8 x9) (View.ld x3 r0_5) (View.ld x6 r0_7)) (amaxV (k0_pay16 (k0_pay39 x0 x1 x2 x3 x4 x5 x6 x7 x8 x9) (View.ld x3 r0_5) (View.ld x6 r0_7))) cQ := pay18_eq ..
theorem s_1 : k0_pay42 (F := Ideal) x0 x1 x2 x3 x4 x5 x6 x7 x8 x9 = k0_pay8 (amaxV (k0_pay16 (k0_pay39 x0 x1 x2 x3 x4 x5 x6 x7 x8 x9) (View.ld x3 r0_5) (View.ld x6 r0_7))) cQ := pay19_eq ..
theorem e_2 : k0_pay31 (F := Ideal) (k0_pay45 x0 x1 x2 x3 x4 x5 x6 x7 x8 x9) (k0_pay46 x0 x1 x2 x3 x4 x5 x6 x7 x8 x9) (k0_pay47 x0 x1 x2 x3 x4 x5 x6 x7 x8 x9) = k0_pay6 (amaxV (k0_pay44 x0 x1 x2 x3 x4 x5 x6 x7 x8 x9)) cQ := pay31_eq ..
theorem c_2 : k0_pay32 (F := Ideal) (k0_pay44 x0 x1 x2 x3 x4 x5 x6 x7 x8 x9) (k0_pay45 x0 x1 x2 x3 x4 x5 x6 x7 x8 x9) (k0_pay46 x0 x1 x2 x3 x4 x5 x6 x7 x8 x9) (k0_pay47 x0 x1 x2 x3 x4 x5 x6 x7 x8 x9) = k0_pay7 (k0_pay44 x0 x1 x2 x3 x4 x5 x6 x7 x8 x9) (amaxV (k0_pay44 x0 x1 x2 x3 x4 x5 x6 x7 x8 x9)) cQ := pay32_eq _ _ _ _ _ (e_2 ..)
theorem s_2 : k0_pay33 (F := Ideal) (k0_pay45 x0 x1 x2 x3 x4 x5 x6 x7 x8 x9) (k0_pay46 x0 x1 x2 x3 x4 x5 x6 x7 x8 x9) (k0_pay47 x0 x1 x2 x3 x4 x5 x6 x7 x8 x9) = k0_pay8 (amaxV (k0_pay44 x0 x1 x2 x3 x4 x5 x6 x7 x8 x9)) cQ := pay33_eq _ _ _ _ (e_2 ..)

theorem P_0 (a : Fin 4096) (d : Fin 512) : (((k0_pay9 (k0_pay37 x0 x1 x2 x3 x4 x5 x6 x7 x8 x9) (k0_pay38 x0 x1 x2 x3 x4 x5 x6 x7 x8 x9) (Scalar.ofBits .f32 0x3B124925#32) (View.ld x7 r0_3) (View.ld x8 r0_4) (View.ld x9 r0_4)) : FVec Ideal S4096x512 .f32) (ix2 a d) : EReal) = bP x1 x2 x3 x4 x5 x6 x7 x8 x9 0 a d := by
  rw [am_0, pay9_eq]
  exact gP _ _ (O_0 x0 x1 x2 x3 x4 x5 x6 x7 x8 x9) _ _ _ (fun x d => x7 (ix2 x d)) (fun d => x8 (ix2 0 d)) (fun d => x9 (ix2 0 d)) (ldw x7) (ldb x8) (ldb x9) a d

theorem P_1 (a : Fin 4096) (d : Fin 512) : (((k0_pay20 (k0_pay41 x0 x1 x2 x3 x4 x5 x6 x7 x8 x9) (k0_pay42 x0 x1 x2 x3 x4 x5 x6 x7 x8 x9) (View.ld x7 r0_3) (k0_pay40 x0 x1 x2 x3 x4 x5 x6 x7 x8 x9) (View.ld x8 r0_4) (View.ld x9 r0_4)) : FVec Ideal S4096x512 .f32) (ix2 a d) : EReal) = bP x1 x2 x3 x4 x5 x6 x7 x8 x9 1 a d := by
  rw [c_1, s_1, k0_pay40]
  exact gP _ _ (O_1 x0 x1 x2 x3 x4 x5 x6 x7 x8 x9) _ _ _ (fun x d => x7 (ix2 x d)) (fun d => x8 (ix2 0 d)) (fun d => x9 (ix2 0 d)) (ldw x7) (ldb x8) (ldb x9) a d

theorem P_2 (a : Fin 4096) (d : Fin 512) : (((k0_pay34 (k0_pay44 x0 x1 x2 x3 x4 x5 x6 x7 x8 x9) (k0_pay45 x0 x1 x2 x3 x4 x5 x6 x7 x8 x9) (k0_pay46 x0 x1 x2 x3 x4 x5 x6 x7 x8 x9) (k0_pay47 x0 x1 x2 x3 x4 x5 x6 x7 x8 x9) (View.ld x7 r0_3) (View.ld x8 r0_4) (View.ld x9 r0_4)) : FVec Ideal S4096x512 .f32) (ix2 a d) : EReal) = bP x1 x2 x3 x4 x5 x6 x7 x8 x9 2 a d := by
  rw [pay34_eq, c_2, s_2]
  exact gP _ _ (O_2 x0 x1 x2 x3 x4 x5 x6 x7 x8 x9) _ _ _ (fun x d => x7 (ix2 x d)) (fun d => x8 (ix2 0 d)) (fun d => x9 (ix2 0 d)) (ldw x7) (ldb x8) (ldb x9) a d

theorem C_0 (a : Fin 4096) (d : Fin 512) : (((k0_pay7 (k0_pay37 x0 x1 x2 x3 x4 x5 x6 x7 x8 x9) (k0_pay38 x0 x1 x2 x3 x4 x5 x6 x7 x8 x9) (Scalar.ofBits .f32 0x3B124925#32)) : FVec Ideal S4096x512 .fp8e4m3) (ix2 a d) : EReal) = bC x1 x2 x3 x4 x5 x6 0 a d := by
  rw [am_0]
  exact gC _ _ (O_0 x0 x1 x2 x3 x4 x5 x6 x7 x8 x9) a d
theorem S_0 (a : Fin 4096) : (((k0_pay8 (k0_pay38 x0 x1 x2 x3 x4 x5 x6 x7 x8 x9) (Scalar.ofBits .f32 0x3B124925#32)) : FVec Ideal S4096x1 .f32) (ix2 a 0) : EReal) = bS x1 x2 x3 x4 x5 x6 0 a := by
  rw [am_0]
  exact gS _ _ (O_0 x0 x1 x2 x3 x4 x5 x6 x7 x8 x9) a

theorem C_1 (a : Fin 4096) (d : Fin 512) : (((k0_pay41 x0 x1 x2 x3 x4 x5 x6 x7 x8 x9) : FVec Ideal S4096x512 .fp8e4m3) (ix2 a d) : EReal) = bC x1 x2 x3 x4 x5 x6 1 a d := by
  rw [c_1]
  exact gC _ _ (O_1 x0 x1 x2 x3 x4 x5 x6 x7 x8 x9) a d
theorem S_1 (a : Fin 4096) : (((k0_pay42 x0 x1 x2 x3 x4 x5 x6 x7 x8 x9) : FVec Ideal S4096x1 .f32) (ix2 a 0) : EReal) = bS x1 x2 x3 x4 x5 x6 1 a := by
  rw [s_1]
  exact gS _ _ (O_1 x0 x1 x2 x3 x4 x5 x6 x7 x8 x9) a

theorem C_2 (a : Fin 4096) (d : Fin 512) : (((k0_pay32 (k0_pay44 x0 x1 x2 x3 x4 x5 x6 x7 x8 x9) (k0_pay45 x0 x1 x2 x3 x4 x5 x6 x7 x8 x9) (k0_pay46 x0 x1 x2 x3 x4 x5 x6 x7 x8 x9) (k0_pay47 x0 x1 x2 x3 x4 x5 x6 x7 x8 x9)) : FVec Ideal S4096x512 .fp8e4m3) (ix2 a d) : EReal) = bC x1 x2 x3 x4 x5 x6 2 a d := by
  rw [c_2]
  exact gC _ _ (O_2 x0 x1 x2 x3 x4 x5 x6 x7 x8 x9) a d
theorem S_2 (a : Fin 4096) : (((k0_pay33 (k0_pay45 x0 x1 x2 x3 x4 x5 x6 x7 x8 x9) (k0_pay46 x0 x1 x2 x3 x4 x5 x6 x7 x8 x9) (k0_pay47 x0 x1 x2 x3 x4 x5 x6 x7 x8 x9)) : FVec Ideal S4096x1 .f32) (ix2 a 0) : EReal) = bS x1 x2 x3 x4 x5 x6 2 a := by
  rw [s_2]
  exact gS _ _ (O_2 x0 x1 x2 x3 x4 x5 x6 x7 x8 x9) a

theorem yq_0 (a : Fin 4096) (d : Fin 512) : ((k0_pay11 (k0_pay10 (k0_pay37 x0 x1 x2 x3 x4 x5 x6 x7 x8 x9) (k0_pay38 x0 x1 x2 x3 x4 x5 x6 x7 x8 x9) (Scalar.ofBits .f32 0x3B124925#32) (View.ld x7 r0_3) (View.ld x8 r0_4) (View.ld x9 r0_4) (View.ld x0 r0_0)) : FVec Ideal S1x4096x512 .bf16) (ix3 0 a d) : EReal) = bY x0 x1 x2 x3 x4 x5 x6 x7 x8 x9 0 a d := by
  unfold k0_pay11 k0_pay10
  exact (y_cast _ _ a d).trans (congrArg₂ (fun a b : EReal => a + b) (ld3_0 x0 a d) (P_0 x0 x1 x2 x3 x4 x5 x6 x7 x8 x9 a d))
theorem yp_0 (y : S1x4096x512.Idx) : ((k0_pay11 (k0_pay10 (k0_pay37 x0 x1 x2 x3 x4 x5 x6 x7 x8 x9) (k0_pay38 x0 x1 x2 x3 x4 x5 x6 x7 x8 x9) (Scalar.ofBits .f32 0x3B124925#32) (View.ld x7 r0_3) (View.ld x8 r0_4) (View.ld x9 r0_4) (View.ld x0 r0_0)) : FVec Ideal S1x4096x512 .bf16) y : EReal) = (fun i : S3x4096x512.Idx => bY x0 x1 x2 x3 x4 x5 x6 x7 x8 x9 (i 0) (i 1) (i 2)) (r0_0.emb y) :=
  lift3_0 (k0_pay11 (k0_pay10 (k0_pay37 x0 x1 x2 x3 x4 x5 x6 x7 x8 x9) (k0_pay38 x0 x1 x2 x3 x4 x5 x6 x7 x8 x9) (Scalar.ofBits .f32 0x3B124925#32) (View.ld x7 r0_3) (View.ld x8 r0_4) (View.ld x9 r0_4) (View.ld x0 r0_0)) : FVec Ideal S1x4096x512 .bf16) (bY x0 x1 x2 x3 x4 x5 x6 x7 x8 x9) (yq_0 x0 x1 x2 x3 x4 x5 x6 x7 x8 x9) y

theorem pq_0 (a : Fin 4096) (d : Fin 512) : ((k0_pay12 (k0_pay9 (k0_pay37 x0 x1 x2 x3 x4 x5 x6 x7 x8 x9) (k0_pay38 x0 x1 x2 x3 x4 x5 x6 x7 x8 x9) (Scalar.ofBits .f32 0x3B124925#32) (View.ld x7 r0_3) (View.ld x8 r0_4) (View.ld x9 r0_4)) : FVec Ideal S1x4096x512 .bf16) (ix3 0 a d) : EReal) = bP x1 x2 x3 x4 x5 x6 x7 x8 x9 0 a d := by
  unfold k0_pay12
  exact (p_cast (k0_pay9 (k0_pay37 x0 x1 x2 x3 x4 x5 x6 x7 x8 x9) (k0_pay38 x0 x1 x2 x3 x4 x5 x6 x7 x8 x9) (Scalar.ofBits .f32 0x3B124925#32) (View.ld x7 r0_3) (View.ld x8 r0_4) (View.ld x9 r0_4)) a d).trans (P_0 x0 x1 x2 x3 x4 x5 x6 x7 x8 x9 a d)
theorem pp_0 (y : S1x4096x512.Idx) : ((k0_pay12 (k0_pay9 (k0_pay37 x0 x1 x2 x3 x4 x5 x6 x7 x8 x9) (k0_pay38 x0 x1 x2 x3 x4 x5 x6 x7 x8 x9) (Scalar.ofBits .f32 0x3B124925#32) (View.ld x7 r0_3) (View.ld x8 r0_4) (View.ld x9 r0_4)) : FVec Ideal S1x4096x512 .bf16) y : EReal) = (fun i : S3x4096x512.Idx => bP x1 x2 x3 x4 x5 x6 x7 x8 x9 (i 0) (i 1) (i 2)) (r0_0.emb y) :=
  lift3_0 (k0_pay12 (k0_pay9 (k0_pay37 x0 x1 x2 x3 x4 x5 x6 x7 x8 x9) (k0_pay38 x0 x1 x2 x3 x4 x5 x6 x7 x8 x9) (Scalar.ofBits .f32 0x3B124925#32) (View.ld x7 r0_3) (View.ld x8 r0_4) (View.ld x9 r0_4)) : FVec Ideal S1x4096x512 .bf16) (bP x1 x2 x3 x4 x5 x6 x7 x8 x9) (pq_0 x0 x1 x2 x3 x4 x5 x6 x7 x8 x9) y

theorem cq_0 (a : Fin 4096) (d : Fin 512) : ((k0_pay13 (k0_pay7 (k0_pay37 x0 x1 x2 x3 x4 x5 x6 x7 x8 x9) (k0_pay38 x0 x1 x2 x3 x4 x5 x6 x7 x8 x9) (Scalar.ofBits .f32 0x3B124925#32)) : FVec Ideal S1x4096x512 .fp8e4m3) (ix3 0 a d) : EReal) = bC x1 x2 x3 x4 x5 x6 0 a d := by
  unfold k0_pay13
  exact (c_cast (k0_pay7 (k0_pay37 x0 x1 x2 x3 x4 x5 x6 x7 x8 x9) (k0_pay38 x0 x1 x2 x3 x4 x5 x6 x7 x8 x9) (Scalar.ofBits .f32 0x3B124925#32)) a d).trans (C_0 x0 x1 x2 x3 x4 x5 x6 x7 x8 x9 a d)
theorem cp_0 (y : S1x4096x512.Idx) : ((k0_pay13 (k0_pay7 (k0_pay37 x0 x1 x2 x3 x4 x5 x6 x7 x8 x9) (k0_pay38 x0 x1 x2 x3 x4 x5 x6 x7 x8 x9) (Scalar.ofBits .f32 0x3B124925#32)) : FVec Ideal S1x4096x512 .fp8e4m3) y : EReal) = (fun i : S3x4096x512.Idx => bC x1 x2 x3 x4 x5 x6 (i 0) (i 1) (i 2)) (r0_0.emb y) :=
  lift3_0 (k0_pay13 (k0_pay7 (k0_pay37 x0 x1 x2 x3 x4 x5 x6 x7 x8 x9) (k0_pay38 x0 x1 x2 x3 x4 x5 x6 x7 x8 x9) (Scalar.ofBits .f32 0x3B124925#32)) : FVec Ideal S1x4096x512 .fp8e4m3) (bC x1 x2 x3 x4 x5 x6) (cq_0 x0 x1 x2 x3 x4 x5 x6 x7 x8 x9) y

theorem sq_0 (a : Fin 4096) : ((k0_pay14 (k0_pay8 (k0_pay38 x0 x1 x2 x3 x4 x5 x6 x7 x8 x9) (Scalar.ofBits .f32 0x3B124925#32)) : FVec Ideal S1x4096 .f32) (ix2 0 a) : EReal) = bS x1 x2 x3 x4 x5 x6 0 a := by
  unfold k0_pay14
  exact (s_cast (k0_pay8 (k0_pay38 x0 x1 x2 x3 x4 x5 x6 x7 x8 x9) (Scalar.ofBits .f32 0x3B124925#32)) a).trans (S_0 x0 x1 x2 x3 x4 x5 x6 x7 x8 x9 a)
theorem sp_0 (y : S1x4096.Idx) : ((k0_pay14 (k0_pay8 (k0_pay38 x0 x1 x2 x3 x4 x5 x6 x7 x8 x9) (Scalar.ofBits .f32 0x3B124925#32)) : FVec Ideal S1x4096 .f32) y : EReal) = (fun i : S3x4096.Idx => bS x1 x2 x3 x4 x5 x6 (i 0) (i 1)) (r0_1.emb y) :=
  lift2_0 (k0_pay14 (k0_pay8 (k0_pay38 x0 x1 x2 x3 x4 x5 x6 x7 x8 x9) (Scalar.ofBits .f32 0x3B124925#32)) : FVec Ideal S1x4096 .f32) (bS x1 x2 x3 x4 x5 x6) (sq_0 x0 x1 x2 x3 x4 x5 x6 x7 x8 x9) y

theorem yq_1 (a : Fin 4096) (d : Fin 512) : ((k0_pay21 (k0_pay41 x0 x1 x2 x3 x4 x5 x6 x7 x8 x9) (k0_pay42 x0 x1 x2 x3 x4 x5 x6 x7 x8 x9) (View.ld x7 r0_3) (k0_pay40 x0 x1 x2 x3 x4 x5 x6 x7 x8 x9) (View.ld x8 r0_4) (View.ld x9 r0_4) (View.ld x0 r0_5) : FVec Ideal S1x4096x512 .bf16) (ix3 0 a d) : EReal) = bY x0 x1 x2 x3 x4 x5 x6 x7 x8 x9 1 a d := by
  unfold k0_pay21
  exact (y_cast _ _ a d).trans (congrArg₂ (fun a b : EReal => a + b) (ld3_1 x0 a d) (P_1 x0 x1 x2 x3 x4 x5 x6 x7 x8 x9 a d))
theorem yp_1 (y : S1x4096x512.Idx) : ((k0_pay21 (k0_pay41 x0 x1 x2 x3 x4 x5 x6 x7 x8 x9) (k0_pay42 x0 x1 x2 x3 x4 x5 x6 x7 x8 x9) (View.ld x7 r0_3) (k0_pay40 x0 x1 x2 x3 x4 x5 x6 x7 x8 x9) (View.ld x8 r0_4) (View.ld x9 r0_4) (View.ld x0 r0_5) : FVec Ideal S1x4096x512 .bf16) y : EReal) = (fun i : S3x4096x512.Idx => bY x0 x1 x2 x3 x4 x5 x6 x7 x8 x9 (i 0) (i 1) (i 2)) (r0_5.emb y) :=
  lift3_1 (k0_pay21 (k0_pay41 x0 x1 x2 x3 x4 x5 x6 x7 x8 x9) (k0_pay42 x0 x1 x2 x3 x4 x5 x6 x7 x8 x9) (View.ld x7 r0_3) (k0_pay40 x0 x1 x2 x3 x4 x5 x6 x7 x8 x9) (View.ld x8 r0_4) (View.ld x9 r0_4) (View.ld x0 r0_5) : FVec Ideal S1x4096x512 .bf16) (bY x0 x1 x2 x3 x4 x5 x6 x7 x8 x9) (yq_1 x0 x1 x2 x3 x4 x5 x6 x7 x8 x9) y

theorem pq_1 (a : Fin 4096) (d : Fin 512) : ((k0_pay22 (k0_pay41 x0 x1 x2 x3 x4 x5 x6 x7 x8 x9) (k0_pay42 x0 x1 x2 x3 x4 x5 x6 x7 x8 x9) (View.ld x7 r0_3) (k0_pay40 x0 x1 x2 x3 x4 x5 x6 x7 x8 x9) (View.ld x8 r0_4) (View.ld x9 r0_4) : FVec Ideal S1x4096x512 .bf16) (ix3 0 a d) : EReal) = bP x1 x2 x3 x4 x5 x6 x7 x8 x9 1 a d := by
  unfold k0_pay22
  exact (p_cast (k0_pay20 (k0_pay41 x0 x1 x2 x3 x4 x5 x6 x7 x8 x9) (k0_pay42 x0 x1 x2 x3 x4 x5 x6 x7 x8 x9) (View.ld x7 r0_3) (k0_pay40 x0 x1 x2 x3 x4 x5 x6 x7 x8 x9) (View.ld x8 r0_4) (View.ld x9 r0_4)) a d).trans (P_1 x0 x1 x2 x3 x4 x5 x6 x7 x8 x9 a d)
theorem pp_1 (y : S1x4096x512.Idx) : ((k0_pay22 (k0_pay41 x0 x1 x2 x3 x4 x5 x6 x7 x8 x9) (k0_pay42 x0 x1 x2 x3 x4 x5 x6 x7 x8 x9) (View.ld x7 r0_3) (k0_pay40 x0 x1 x2 x3 x4 x5 x6 x7 x8 x9) (View.ld x8 r0_4) (View.ld x9 r0_4) : FVec Ideal S1x4096x512 .bf16) y : EReal) = (fun i : S3x4096x512.Idx => bP x1 x2 x3 x4 x5 x6 x7 x8 x9 (i 0) (i 1) (i 2)) (r0_5.emb y) :=
  lift3_1 (k0_pay22 (k0_pay41 x0 x1 x2 x3 x4 x5 x6 x7 x8 x9) (k0_pay42 x0 x1 x2 x3 x4 x5 x6 x7 x8 x9) (View.ld x7 r0_3) (k0_pay40 x0 x1 x2 x3 x4 x5 x6 x7 x8 x9) (View.ld x8 r0_4) (View.ld x9 r0_4) : FVec Ideal S1x4096x512 .bf16) (bP x1 x2 x3 x4 x5 x6 x7 x8 x9) (pq_1 x0 x1 x2 x3 x4 x5 x6 x7 x8 x9) y

theorem cq_1 (a : Fin 4096) (d : Fin 512) : ((k0_pay23 (k0_pay41 x0 x1 x2 x3 x4 x5 x6 x7 x8 x9) : FVec Ideal S1x4096x512 .fp8e4m3) (ix3 0 a d) : EReal) = bC x1 x2 x3 x4 x5 x6 1 a d := by
  unfold k0_pay23
  exact (c_cast (k0_pay41 x0 x1 x2 x3 x4 x5 x6 x7 x8 x9) a d).trans (C_1 x0 x1 x2 x3 x4 x5 x6 x7 x8 x9 a d)
theorem cp_1 (y : S1x4096x512.Idx) : ((k0_pay23 (k0_pay41 x0 x1 x2 x3 x4 x5 x6 x7 x8 x9) : FVec Ideal S1x4096x512 .fp8e4m3) y : EReal) = (fun i : S3x4096x512.Idx => bC x1 x2 x3 x4 x5 x6 (i 0) (i 1) (i 2)) (r0_5.emb y) :=
  lift3_1 (k0_pay23 (k0_pay41 x0 x1 x2 x3 x4 x5 x6 x7 x8 x9) : FVec Ideal S1x4096x512 .fp8e4m3) (bC x1 x2 x3 x4 x5 x6) (cq_1 x0 x1 x2 x3 x4 x5 x6 x7 x8 x9) y

theorem sq_1 (a : Fin 4096) : ((k0_pay24 (k0_pay42 x0 x1 x2 x3 x4 x5 x6 x7 x8 x9) : FVec Ideal S1x4096 .f32) (ix2 0 a) : EReal) = bS x1 x2 x3 x4 x5 x6 1 a := by
  unfold k0_pay24
  exact (s_cast (k0_pay42 x0 x1 x2 x3 x4 x5 x6 x7 x8 x9) a).trans (S_1 x0 x1 x2 x3 x4 x5 x6 x7 x8 x9 a)
theorem sp_1 (y : S1x4096.Idx) : ((k0_pay24 (k0_pay42 x0 x1 x2 x3 x4 x5 x6 x7 x8 x9) : FVec Ideal S1x4096 .f32) y : EReal) = (fun i : S3x4096.Idx => bS x1 x2 x3 x4 x5 x6 (i 0) (i 1)) (r0_6.emb y) :=
  lift2_1 (k0_pay24 (k0_pay42 x0 x1 x2 x3 x4 x5 x6 x7 x8 x9) : FVec Ideal S1x4096 .f32) (bS x1 x2 x3 x4 x5 x6) (sq_1 x0 x1 x2 x3 x4 x5 x6 x7 x8 x9) y

theorem yq_2 (a : Fin 4096) (d : Fin 512) : ((k0_pay35 (k0_pay44 x0 x1 x2 x3 x4 x5 x6 x7 x8 x9) (k0_pay45 x0 x1 x2 x3 x4 x5 x6 x7 x8 x9) (k0_pay46 x0 x1 x2 x3 x4 x5 x6 x7 x8 x9) (k0_pay47 x0 x1 x2 x3 x4 x5 x6 x7 x8 x9) (View.ld x7 r0_3) (View.ld x8 r0_4) (View.ld x9 r0_4) (View.ld x0 r0_8) : FVec Ideal S1x4096x512 .bf16) (ix3 0 a d) : EReal) = bY x0 x1 x2 x3 x4 x5 x6 x7 x8 x9 2 a d := by
  unfold k0_pay35
  exact (y_cast _ _ a d).trans (congrArg₂ (fun a b : EReal => a + b) (ld3_2 x0 a d) (P_2 x0 x1 x2 x3 x4 x5 x6 x7 x8 x9 a d))
theorem yp_2 (y : S1x4096x512.Idx) : ((k0_pay35 (k0_pay44 x0 x1 x2 x3 x4 x5 x6 x7 x8 x9) (k0_pay45 x0 x1 x2 x3 x4 x5 x6 x7 x8 x9) (k0_pay46 x0 x1 x2 x3 x4 x5 x6 x7 x8 x9) (k0_pay47 x0 x1 x2 x3 x4 x5 x6 x7 x8 x9) (View.ld x7 r0_3) (View.ld x8 r0_4) (View.ld x9 r0_4) (View.ld x0 r0_8) : FVec Ideal S1x4096x512 .bf16) y : EReal) = (fun i : S3x4096x512.Idx => bY x0 x1 x2 x3 x4 x5 x6 x7 x8 x9 (i 0) (i 1) (i 2)) (r0_8.emb y) :=
  lift3_2 (k0_pay35 (k0_pay44 x0 x1 x2 x3 x4 x5 x6 x7 x8 x9) (k0_pay45 x0 x1 x2 x3 x4 x5 x6 x7 x8 x9) (k0_pay46 x0 x1 x2 x3 x4 x5 x6 x7 x8 x9) (k0_pay47 x0 x1 x2 x3 x4 x5 x6 x7 x8 x9) (View.ld x7 r0_3) (View.ld x8 r0_4) (View.ld x9 r0_4) (View.ld x0 r0_8) : FVec Ideal S1x4096x512 .bf16) (bY x0 x1 x2 x3 x4 x5 x6 x7 x8 x9) (yq_2 x0 x1 x2 x3 x4 x5 x6 x7 x8 x9) y

theorem pq_2 (a : Fin 4096) (d : Fin 512) : ((k0_pay1 (k0_pay36 (k0_pay44 x0 x1 x2 x3 x4 x5 x6 x7 x8 x9) (k0_pay45 x0 x1 x2 x3 x4 x5 x6 x7 x8 x9) (k0_pay46 x0 x1 x2 x3 x4 x5 x6 x7 x8 x9) (k0_pay47 x0 x1 x2 x3 x4 x5 x6 x7 x8 x9) (View.ld x7 r0_3) (View.ld x8 r0_4) (View.ld x9 r0_4)) : FVec Ideal S1x4096x512 .bf16) (ix3 0 a d) : EReal) = bP x1 x2 x3 x4 x5 x6 x7 x8 x9 2 a d := by
  unfold k0_pay1 k0_pay36
  exact (p_cast (k0_pay34 (k0_pay44 x0 x1 x2 x3 x4 x5 x6 x7 x8 x9) (k0_pay45 x0 x1 x2 x3 x4 x5 x6 x7 x8 x9) (k0_pay46 x0 x1 x2 x3 x4 x5 x6 x7 x8 x9) (k0_pay47 x0 x1 x2 x3 x4 x5 x6 x7 x8 x9) (View.ld x7 r0_3) (View.ld x8 r0_4) (View.ld x9 r0_4)) a d).trans (P_2 x0 x1 x2 x3 x4 x5 x6 x7 x8 x9 a d)
theorem pp_2 (y : S1x4096x512.Idx) : ((k0_pay1 (k0_pay36 (k0_pay44 x0 x1 x2 x3 x4 x5 x6 x7 x8 x9) (k0_pay45 x0 x1 x2 x3 x4 x5 x6 x7 x8 x9) (k0_pay46 x0 x1 x2 x3 x4 x5 x6 x7 x8 x9) (k0_pay47 x0 x1 x2 x3 x4 x5 x6 x7 x8 x9) (View.ld x7 r0_3) (View.ld x8 r0_4) (View.ld x9 r0_4)) : FVec Ideal S1x4096x512 .bf16) y : EReal) = (fun i : S3x4096x512.Idx => bP x1 x2 x3 x4 x5 x6 x7 x8 x9 (i 0) (i 1) (i 2)) (r0_8.emb y) :=
  lift3_2 (k0_pay1 (k0_pay36 (k0_pay44 x0 x1 x2 x3 x4 x5 x6 x7 x8 x9) (k0_pay45 x0 x1 x2 x3 x4 x5 x6 x7 x8 x9) (k0_pay46 x0 x1 x2 x3 x4 x5 x6 x7 x8 x9) (k0_pay47 x0 x1 x2 x3 x4 x5 x6 x7 x8 x9) (View.ld x7 r0_3) (View.ld x8 r0_4) (View.ld x9 r0_4)) : FVec Ideal S1x4096x512 .bf16) (bP x1 x2 x3 x4 x5 x6 x7 x8 x9) (pq_2 x0 x1 x2 x3 x4 x5 x6 x7 x8 x9) y

theorem cq_2 (a : Fin 4096) (d : Fin 512) : ((k0_pay2 (k0_pay32 (k0_pay44 x0 x1 x2 x3 x4 x5 x6 x7 x8 x9) (k0_pay45 x0 x1 x2 x3 x4 x5 x6 x7 x8 x9) (k0_pay46 x0 x1 x2 x3 x4 x5 x6 x7 x8 x9) (k0_pay47 x0 x1 x2 x3 x4 x5 x6 x7 x8 x9)) : FVec Ideal S1x4096x512 .fp8e4m3) (ix3 0 a d) : EReal) = bC x1 x2 x3 x4 x5 x6 2 a d := by
  unfold k0_pay2
  exact (c_cast (k0_pay32 (k0_pay44 x0 x1 x2 x3 x4 x5 x6 x7 x8 x9) (k0_pay45 x0 x1 x2 x3 x4 x5 x6 x7 x8 x9) (k0_pay46 x0 x1 x2 x3 x4 x5 x6 x7 x8 x9) (k0_pay47 x0 x1 x2 x3 x4 x5 x6 x7 x8 x9)) a d).trans (C_2 x0 x1 x2 x3 x4 x5 x6 x7 x8 x9 a d)
theorem cp_2 (y : S1x4096x512.Idx) : ((k0_pay2 (k0_pay32 (k0_pay44 x0 x1 x2 x3 x4 x5 x6 x7 x8 x9) (k0_pay45 x0 x1 x2 x3 x4 x5 x6 x7 x8 x9) (k0_pay46 x0 x1 x2 x3 x4 x5 x6 x7 x8 x9) (k0_pay47 x0 x1 x2 x3 x4 x5 x6 x7 x8 x9)) : FVec Ideal S1x4096x512 .fp8e4m3) y : EReal) = (fun i : S3x4096x512.Idx => bC x1 x2 x3 x4 x5 x6 (i 0) (i 1) (i 2)) (r0_8.emb y) :=
  lift3_2 (k0_pay2 (k0_pay32 (k0_pay44 x0 x1 x2 x3 x4 x5 x6 x7 x8 x9) (k0_pay45 x0 x1 x2 x3 x4 x5 x6 x7 x8 x9) (k0_pay46 x0 x1 x2 x3 x4 x5 x6 x7 x8 x9) (k0_pay47 x0 x1 x2 x3 x4 x5 x6 x7 x8 x9)) : FVec Ideal S1x4096x512 .fp8e4m3) (bC x1 x2 x3 x4 x5 x6) (cq_2 x0 x1 x2 x3 x4 x5 x6 x7 x8 x9) y

theorem sq_2 (a : Fin 4096) : ((k0_pay3 (k0_pay33 (k0_pay45 x0 x1 x2 x3 x4 x5 x6 x7 x8 x9) (k0_pay46 x0 x1 x2 x3 x4 x5 x6 x7 x8 x9) (k0_pay47 x0 x1 x2 x3 x4 x5 x6 x7 x8 x9)) : FVec Ideal S1x4096 .f32) (ix2 0 a) : EReal) = bS x1 x2 x3 x4 x5 x6 2 a := by
  unfold k0_pay3
  exact (s_cast (k0_pay33 (k0_pay45 x0 x1 x2 x3 x4 x5 x6 x7 x8 x9) (k0_pay46 x0 x1 x2 x3 x4 x5 x6 x7 x8 x9) (k0_pay47 x0 x1 x2 x3 x4 x5 x6 x7 x8 x9)) a).trans (S_2 x0 x1 x2 x3 x4 x5 x6 x7 x8 x9 a)
theorem sp_2 (y : S1x4096.Idx) : ((k0_pay3 (k0_pay33 (k0_pay45 x0 x1 x2 x3 x4 x5 x6 x7 x8 x9) (k0_pay46 x0 x1 x2 x3 x4 x5 x6 x7 x8 x9) (k0_pay47 x0 x1 x2 x3 x4 x5 x6 x7 x8 x9)) : FVec Ideal S1x4096 .f32) y : EReal) = (fun i : S3x4096.Idx => bS x1 x2 x3 x4 x5 x6 (i 0) (i 1)) (r0_9.emb y) :=
  lift2_2 (k0_pay3 (k0_pay33 (k0_pay45 x0 x1 x2 x3 x4 x5 x6 x7 x8 x9) (k0_pay46 x0 x1 x2 x3 x4 x5 x6 x7 x8 x9) (k0_pay47 x0 x1 x2 x3 x4 x5 x6 x7 x8 x9)) : FVec Ideal S1x4096 .f32) (bS x1 x2 x3 x4 x5 x6) (sq_2 x0 x1 x2 x3 x4 x5 x6 x7 x8 x9) y

theorem out10_val (y : S3x4096x512.Idx) : (out0_10 x0 x1 x2 x3 x4 x5 x6 x7 x8 x9 y : EReal) = (fun i : S3x4096x512.Idx => bY x0 x1 x2 x3 x4 x5 x6 x7 x8 x9 (i 0) (i 1) (i 2)) y := by
  unfold out0_10
  refine View.canon_apply_of_pieces (Val := Elt Ideal) (fun i : S3x4096x512.Idx => bY x0 x1 x2 x3 x4 x5 x6 x7 x8 x9 (i 0) (i 1) (i 2)) _ ?_ y (cover0_10 _ _ _ y)
  intro p hp x
  simp only [List.mem_cons, List.not_mem_nil, or_false] at hp
  rcases hp with rfl | rfl | rfl
  · exact yp_2 x0 x1 x2 x3 x4 x5 x6 x7 x8 x9 x
  · exact yp_1 x0 x1 x2 x3 x4 x5 x6 x7 x8 x9 x
  · exact yp_0 x0 x1 x2 x3 x4 x5 x6 x7 x8 x9 x

theorem out11_val (y : S3x4096x512.Idx) : (out0_11 x0 x1 x2 x3 x4 x5 x6 x7 x8 x9 y : EReal) = (fun i : S3x4096x512.Idx => bP x1 x2 x3 x4 x5 x6 x7 x8 x9 (i 0) (i 1) (i 2)) y := by
  unfold out0_11
  refine View.canon_apply_of_pieces (Val := Elt Ideal) (fun i : S3x4096x512.Idx => bP x1 x2 x3 x4 x5 x6 x7 x8 x9 (i 0) (i 1) (i 2)) _ ?_ y (cover0_11 _ _ _ y)
  intro p hp x
  simp only [List.mem_cons, List.not_mem_nil, or_false] at hp
  rcases hp with rfl | rfl | rfl
  · exact pp_2 x0 x1 x2 x3 x4 x5 x6 x7 x8 x9 x
  · exact pp_1 x0 x1 x2 x3 x4 x5 x6 x7 x8 x9 x
  · exact pp_0 x0 x1 x2 x3 x4 x5 x6 x7 x8 x9 x

theorem out12_val (y : S3x4096x512.Idx) : (out0_12 x0 x1 x2 x3 x4 x5 x6 x7 x8 x9 y : EReal) = (fun i : S3x4096x512.Idx => bC x1 x2 x3 x4 x5 x6 (i 0) (i 1) (i 2)) y := by
  unfold out0_12
  refine View.canon_apply_of_pieces (Val := Elt Ideal) (fun i : S3x4096x512.Idx => bC x1 x2 x3 x4 x5 x6 (i 0) (i 1) (i 2)) _ ?_ y (cover0_12 _ _ _ y)
  intro p hp x
  simp only [List.mem_cons, List.not_mem_nil, or_false] at hp
  rcases hp with rfl | rfl | rfl
  · exact cp_2 x0 x1 x2 x3 x4 x5 x6 x7 x8 x9 x
  · exact cp_1 x0 x1 x2 x3 x4 x5 x6 x7 x8 x9 x
  · exact cp_0 x0 x1 x2 x3 x4 x5 x6 x7 x8 x9 x

theorem out13_val (y : S3x4096.Idx) : (out0_13 x0 x1 x2 x3 x4 x5 x6 x7 x8 x9 y : EReal) = (fun i : S3x4096.Idx => bS x1 x2 x3 x4 x5 x6 (i 0) (i 1)) y := by
  unfold out0_13
  refine View.canon_apply_of_pieces (Val := Elt Ideal) (fun i : S3x4096.Idx => bS x1 x2 x3 x4 x5 x6 (i 0) (i 1)) _ ?_ y (cover0_13 _ _ _ y)
  intro p hp x
  simp only [List.mem_cons, List.not_mem_nil, or_false] at hp
  rcases hp with rfl | rfl | rfl
  · exact sp_2 x0 x1 x2 x3 x4 x5 x6 x7 x8 x9 x
  · exact sp_1 x0 x1 x2 x3 x4 x5 x6 x7 x8 x9 x
  · exact sp_0 x0 x1 x2 x3 x4 x5 x6 x7 x8 x9 x
end

end Cert.ReferenceIdeal.Gen

end
-- ==== Proof.ReferenceIdeal.Final.lean ====
/- The reference's four result arrays after a run, entry by entry of the argument arrays. -/
module

public import proofs.«01_k».proof.Proof.ReferenceIdeal.Outs

@[expose] public section

set_option maxRecDepth 16384
set_option maxHeartbeats 1000000

noncomputable section

namespace Cert.ReferenceIdeal.Gen

open Idealize.ShloMosaic Idealize.ShloMosaic.TcCoe Idealize.ShloMosaic.Tactic Idealize.SL.Sem Cert.Attn

variable (m : (ℓ : Loc nD τ sig) → Buf (Elt Ideal) ℓ) (ρ : Dev nD → PrngReg) (c : Dev nD)

/-! ### Index maps: each window is its whole array -/

theorem wi0 : ∀ t : Fin cfg0.N, win0_0.index t = ![0, 0, 0] := (by decide +kernel : ∀ t : Fin grid0.N, win0_0.index t = ![0, 0, 0])
theorem wi1 : ∀ t : Fin cfg0.N, win0_1.index t = ![0, 0, 0] := (by decide +kernel : ∀ t : Fin grid0.N, win0_1.index t = ![0, 0, 0])
theorem wi2 : ∀ t : Fin cfg0.N, win0_2.index t = ![0, 0, 0] := (by decide +kernel : ∀ t : Fin grid0.N, win0_2.index t = ![0, 0, 0])
theorem wi3 : ∀ t : Fin cfg0.N, win0_3.index t = ![0, 0, 0] := (by decide +kernel : ∀ t : Fin grid0.N, win0_3.index t = ![0, 0, 0])
theorem wi4 : ∀ t : Fin cfg0.N, win0_4.index t = ![0, 0] := (by decide +kernel : ∀ t : Fin grid0.N, win0_4.index t = ![0, 0])
theorem wi5 : ∀ t : Fin cfg0.N, win0_5.index t = ![0, 0] := (by decide +kernel : ∀ t : Fin grid0.N, win0_5.index t = ![0, 0])
theorem wi6 : ∀ t : Fin cfg0.N, win0_6.index t = ![0, 0] := (by decide +kernel : ∀ t : Fin grid0.N, win0_6.index t = ![0, 0])
theorem wi7 : ∀ t : Fin cfg0.N, win0_7.index t = ![0, 0] := (by decide +kernel : ∀ t : Fin grid0.N, win0_7.index t = ![0, 0])
theorem wi8 : ∀ t : Fin cfg0.N, win0_8.index t = ![0, 0] := (by decide +kernel : ∀ t : Fin grid0.N, win0_8.index t = ![0, 0])
theorem wi9 : ∀ t : Fin cfg0.N, win0_9.index t = ![0, 0] := (by decide +kernel : ∀ t : Fin grid0.N, win0_9.index t = ![0, 0])
theorem wi10 : ∀ t : Fin cfg0.N, win0_10.index t = ![0, 0, 0] := (by decide +kernel : ∀ t : Fin grid0.N, win0_10.index t = ![0, 0, 0])
theorem wi11 : ∀ t : Fin cfg0.N, win0_11.index t = ![0, 0, 0] := (by decide +kernel : ∀ t : Fin grid0.N, win0_11.index t = ![0, 0, 0])
theorem wi12 : ∀ t : Fin cfg0.N, win0_12.index t = ![0, 0, 0] := (by decide +kernel : ∀ t : Fin grid0.N, win0_12.index t = ![0, 0, 0])
theorem wi13 : ∀ t : Fin cfg0.N, win0_13.index t = ![0, 0] := (by decide +kernel : ∀ t : Fin grid0.N, win0_13.index t = ![0, 0])

/-! ### The blocks -/

theorem rb0 (t : Fin cfg0.N) : (iblk m c 0 t : Vec Ideal S3x4096x512 .bf16) = m ((c.tc : Thread nD τ).loc main_arg0) := by
  funext y
  have e := wi0 t
  refine Eq.trans ?_ (congrFun (V_main_arg0 m c) y)
  blk_simp [iblk]
  blk_ext [e]
theorem rb1 (t : Fin cfg0.N) : (iblk m c 1 t : Vec Ideal S3x4096x512 .fp8e4m3) = m ((c.tc : Thread nD τ).loc main_arg1) := by
  funext y
  have e := wi1 t
  refine Eq.trans ?_ (congrFun (V_main_arg1 m c) y)
  blk_simp [iblk]
  blk_ext [e]
theorem rb2 (t : Fin cfg0.N) : (iblk m c 2 t : Vec Ideal S3x4096x512 .fp8e4m3) = m ((c.tc : Thread nD τ).loc main_arg2) := by
  funext y
  have e := wi2 t
  refine Eq.trans ?_ (congrFun (V_main_arg2 m c) y)
  blk_simp [iblk]
  blk_ext [e]
theorem rb3 (t : Fin cfg0.N) : (iblk m c 3 t : Vec Ideal S3x4096x512 .fp8e4m3) = m ((c.tc : Thread nD τ).loc main_arg3) := by
  funext y
  have e := wi3 t
  refine Eq.trans ?_ (congrFun (V_main_arg3 m c) y)
  blk_simp [iblk]
  blk_ext [e]
theorem rb4 (t : Fin cfg0.N) : (iblk m c 4 t : Vec Ideal S3x4096 .f32) = m ((c.tc : Thread nD τ).loc main_arg4) := by
  funext y
  have e := wi4 t
  refine Eq.trans ?_ (congrFun (V_main_arg4 m c) y)
  blk_simp [iblk]
  blk_ext [e]
theorem rb5 (t : Fin cfg0.N) : (iblk m c 5 t : Vec Ideal S3x4096 .f32) = m ((c.tc : Thread nD τ).loc main_arg5) := by
  funext y
  have e := wi5 t
  refine Eq.trans ?_ (congrFun (V_main_arg5 m c) y)
  blk_simp [iblk]
  blk_ext [e]
theorem rb6 (t : Fin cfg0.N) : (iblk m c 6 t : Vec Ideal S3x512 .f32) = m ((c.tc : Thread nD τ).loc main_arg6) := by
  funext y
  have e := wi6 t
  refine Eq.trans ?_ (congrFun (V_main_arg6 m c) y)
  blk_simp [iblk]
  blk_ext [e]
theorem rb7 (t : Fin cfg0.N) : (iblk m c 7 t : Vec Ideal S512x512 .fp8e4m3) = m ((c.tc : Thread nD τ).loc main_arg7) := by
  funext y
  have e := wi7 t
  refine Eq.trans ?_ (congrFun (V_main_arg7 m c) y)
  blk_simp [iblk]
  blk_ext [e]
theorem rb8 (t : Fin cfg0.N) : (iblk m c 8 t : Vec Ideal S1x512 .f32) = V m c main_v0 := by
  funext y
  have e := wi8 t
  blk_simp [iblk]
  blk_ext [e]
theorem rb9 (t : Fin cfg0.N) : (iblk m c 9 t : Vec Ideal S1x512 .f32) = V m c main_v1 := by
  funext y
  have e := wi9 t
  blk_simp [iblk]
  blk_ext [e]
theorem v0_val (d : Fin 512) : (V m c main_v0 (ix2 0 d) : EReal) = m ((c.tc : Thread nD τ).loc main_arg8) (ix1 d) := by
  entry_read
  pointwise
  all_goals rfl
theorem v1_val (d : Fin 512) : (V m c main_v1 (ix2 0 d) : EReal) = m ((c.tc : Thread nD τ).loc main_arg9) (ix1 d) := by
  entry_read
  pointwise
  all_goals rfl

/-! ### The arrays -/

def RGY : Vec Ideal S3x4096x512 .bf16 := fun i => bY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (V m c main_v0) (V m c main_v1) (i 0) (i 1) (i 2)
def RGP : Vec Ideal S3x4096x512 .bf16 := fun i => bP (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (V m c main_v0) (V m c main_v1) (i 0) (i 1) (i 2)
def RGC : Vec Ideal S3x4096x512 .fp8e4m3 := fun i => bC (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) (i 2)
def RGS : Vec Ideal S3x4096 .f32 := fun i => bS (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1)

theorem arr10 : (dats m 0 c).arrAt 10 cfg0.N = RGY m c := by
  refine Pipeline.Dat.arrAt_eq_of_covers (dats m 0 c) 10 (RGY m c) (by decide +kernel) fun t hf y => ?_
  have e := wi10 t
  have he : ((cfg0.win 10).blk t).view.emb y = (y : S3x4096x512.Idx) := by
    blk_ext [e]
  rw [after0_10, he]
  blk_simp
  refine (out10_val _ _ _ _ _ _ _ _ _ _ y).trans ?_
  rw [rb0, rb1, rb2, rb3, rb4, rb5, rb6, rb7, rb8, rb9]
  rfl
theorem arr11 : (dats m 0 c).arrAt 11 cfg0.N = RGP m c := by
  refine Pipeline.Dat.arrAt_eq_of_covers (dats m 0 c) 11 (RGP m c) (by decide +kernel) fun t hf y => ?_
  have e := wi11 t
  have he : ((cfg0.win 11).blk t).view.emb y = (y : S3x4096x512.Idx) := by
    blk_ext [e]
  rw [after0_11, he]
  blk_simp
  refine (out11_val _ _ _ _ _ _ _ _ _ _ y).trans ?_
  rw [rb1, rb2, rb3, rb4, rb5, rb6, rb7, rb8, rb9]
  rfl
theorem arr12 : (dats m 0 c).arrAt 12 cfg0.N = RGC m c := by
  refine Pipeline.Dat.arrAt_eq_of_covers (dats m 0 c) 12 (RGC m c) (by decide +kernel) fun t hf y => ?_
  have e := wi12 t
  have he : ((cfg0.win 12).blk t).view.emb y = (y : S3x4096x512.Idx) := by
    blk_ext [e]
  rw [after0_12, he]
  blk_simp
  refine (out12_val _ _ _ _ _ _ _ _ _ _ y).trans ?_
  rw [rb1, rb2, rb3, rb4, rb5, rb6]
  rfl
theorem arr13 : (dats m 0 c).arrAt 13 cfg0.N = RGS m c := by
  refine Pipeline.Dat.arrAt_eq_of_covers (dats m 0 c) 13 (RGS m c) (by decide +kernel) fun t hf y => ?_
  have e := wi13 t
  have he : ((cfg0.win 13).blk t).view.emb y = (y : S3x4096.Idx) := by
    blk_ext [e]
  rw [after0_13, he]
  blk_simp
  refine (out13_val _ _ _ _ _ _ _ _ _ _ y).trans ?_
  rw [rb1, rb2, rb3, rb4, rb5, rb6]
  rfl

end Cert.ReferenceIdeal.Gen

end

end
-- ==== Proof.Attn.Agree.lean ====
/- The kernel's results are the reference's: the two runs on the same arguments, the query scales nonnegative. -/
module

public import proofs.«01_k».proof.Defs
public import proofs.«01_k».proof.Proof.KernelIdeal.Final
public import proofs.«01_k».proof.Proof.ReferenceIdeal.Final

@[expose] public section

set_option maxRecDepth 16384
set_option maxHeartbeats 1000000

noncomputable section

namespace Cert.Agree

open Idealize.ShloMosaic Idealize.ShloMosaic.TcCoe Idealize.ShloMosaic.Tactic Idealize.SL.Sem Cert.Attn

theorem preFacts : Cert.Pre_scales_nonnegative.Facts := ⟨⟨fun a => a.elim0, fun a => a.elim0⟩⟩

/-! ### The named constants -/

theorem cA_val : Cert.KernelIdeal.Gen.cA = (((Real.sqrt 512)⁻¹ * (Real.log 2)⁻¹ : ℝ) : EReal) :=
  IdealRules.named_const.ideal_named_scalar Cert.KernelIdeal.κ "attn_log2e" _ _ rfl
theorem cS_val : Cert.ReferenceIdeal.Gen.cS = (((Real.sqrt 512)⁻¹ : ℝ) : EReal) :=
  IdealRules.named_const.ideal_named_scalar Cert.ReferenceIdeal.κ "attn_scale" _ _ rfl
theorem cL_eq : Cert.ReferenceIdeal.Gen.cL = Cert.KernelIdeal.Gen.cL :=
  (IdealRules.named_const.ideal_named_scalar Cert.ReferenceIdeal.κ "log2e" _ _ rfl).trans
    (IdealRules.named_const.ideal_named_scalar Cert.KernelIdeal.κ "log2e" _ _ rfl).symm

/-! ### The results as functions of the arguments -/

section
open Cert.KernelIdeal (nD τ sig)
open Cert.KernelIdeal.Gen (ax aq ak av aqs aks avs awo aso abo aO GY GP GC GS)

variable (m : (ℓ : Loc nD τ sig) → Buf (Elt Ideal) ℓ) (c : Dev nD)
  (x0 : Vec Ideal Cert.ReferenceIdeal.S3x4096x512 .bf16) (x1 x2 x3 : Vec Ideal Cert.ReferenceIdeal.S3x4096x512 .fp8e4m3)
  (x4 x5 : Vec Ideal Cert.ReferenceIdeal.S3x4096 .f32) (x6 : Vec Ideal Cert.ReferenceIdeal.S3x512 .f32)
  (x7 : Vec Ideal Cert.ReferenceIdeal.S512x512 .fp8e4m3) (x8 x9 : Vec Ideal Cert.ReferenceIdeal.S1x512 .f32)
  (f0 : (fun b a d => (x0 (ix3 b a d) : EReal)) = ax m c) (f1 : (fun b a d => (x1 (ix3 b a d) : EReal)) = aq m c)
  (f2 : (fun b a d => (x2 (ix3 b a d) : EReal)) = ak m c) (f3 : (fun b a d => (x3 (ix3 b a d) : EReal)) = av m c)
  (f4 : (fun b a => (x4 (ix2 b a) : EReal)) = aqs m c) (f5 : (fun b a => (x5 (ix2 b a) : EReal)) = aks m c)
  (f6 : (fun b d => (x6 (ix2 b d) : EReal)) = avs m c) (f7 : (fun x d => (x7 (ix2 x d) : EReal)) = awo m c)
  (f8 : (fun d => (x8 (ix2 0 d) : EReal)) = aso m c) (f9 : (fun d => (x9 (ix2 0 d) : EReal)) = abo m c)
  (hq : ∀ b a, 0 ≤ aqs m c b a)

include f1 f2 f3 f4 f5 f6 hq

theorem eqO : Cert.ReferenceIdeal.Gen.bO x1 x2 x3 x4 x5 x6 = aO m c := by
  unfold Cert.ReferenceIdeal.Gen.bO
  rw [f1, f2, f3, f4, f5, f6]
  exact (kO_eq _ _ _ _ _ _ _ _ (Real.sqrt 512)⁻¹ hq (inv_nonneg.2 (Real.sqrt_nonneg _)) cS_val cA_val).symm
theorem eqC : Cert.ReferenceIdeal.Gen.bC x1 x2 x3 x4 x5 x6 = outC Cert.KernelIdeal.Gen.cL (aO m c) := by
  unfold Cert.ReferenceIdeal.Gen.bC
  rw [eqO m c x1 x2 x3 x4 x5 x6 f1 f2 f3 f4 f5 f6 hq, cL_eq]
theorem eqS : Cert.ReferenceIdeal.Gen.bS x1 x2 x3 x4 x5 x6 = outS Cert.KernelIdeal.Gen.cL (aO m c) := by
  unfold Cert.ReferenceIdeal.Gen.bS
  rw [eqO m c x1 x2 x3 x4 x5 x6 f1 f2 f3 f4 f5 f6 hq, cL_eq]

include f7 f8 f9

theorem eqP : Cert.ReferenceIdeal.Gen.bP x1 x2 x3 x4 x5 x6 x7 x8 x9 = outP Cert.KernelIdeal.Gen.cL (aO m c) (awo m c) (aso m c) (abo m c) := by
  unfold Cert.ReferenceIdeal.Gen.bP
  rw [eqO m c x1 x2 x3 x4 x5 x6 f1 f2 f3 f4 f5 f6 hq, cL_eq, f7, f8, f9]

include f0

theorem eqY : Cert.ReferenceIdeal.Gen.bY x0 x1 x2 x3 x4 x5 x6 x7 x8 x9 = outY Cert.KernelIdeal.Gen.cL (aO m c) (ax m c) (awo m c) (aso m c) (abo m c) := by
  unfold Cert.ReferenceIdeal.Gen.bY
  rw [eqO m c x1 x2 x3 x4 x5 x6 f1 f2 f3 f4 f5 f6 hq, cL_eq, f0, f7, f8, f9]

end

/-! ### The precondition -/

theorem pre_apply [Cert.Pre_scales_nonnegative.Facts] (x0 : FVec Ideal Cert.Pre_scales_nonnegative.S3x4096x512 .bf16) (x1 x2 x3 : FVec Ideal Cert.Pre_scales_nonnegative.S3x4096x512 .fp8e4m3)
    (x4 x5 : FVec Ideal Cert.Pre_scales_nonnegative.S3x4096 .f32) (x6 : FVec Ideal Cert.Pre_scales_nonnegative.S3x512 .f32)
    (x7 : FVec Ideal Cert.Pre_scales_nonnegative.S512x512 .fp8e4m3) (x8 x9 : FVec Ideal Cert.Pre_scales_nonnegative.S512 .f32)
    (h : Cert.Pre_scales_nonnegative.fn (F := Ideal) x0 x1 x2 x3 x4 x5 x6 x7 x8 x9 = fun _ => 1#1) (y : Cert.Pre_scales_nonnegative.S3x4096.Idx) : (0 : EReal) ≤ x4 y := by
  have h1 : Ideal.cmp .oge (x4 y) (Ideal.ofBits .f32 0x00000000#32) = 1#1 := congrFun h y
  have h2 := (Ideal.cmp_oge_eq_one _ _).1 h1
  simpa using h2

/-! ### The arrays -/

section
open Cert.KernelIdeal (nD τ sig)
open Cert.KernelIdeal.Gen (aqs GY GP GC GS)

variable (m : (ℓ : Loc nD τ sig) → Buf (Elt Ideal) ℓ)
  (m' : (ℓ : Loc Cert.ReferenceIdeal.nD Cert.ReferenceIdeal.τ Cert.ReferenceIdeal.sig) → Buf (Elt Ideal) ℓ)
  (h : ∀ c : Dev nD, m' ((c.tc : Thread Cert.ReferenceIdeal.nD Cert.ReferenceIdeal.τ).loc Cert.ReferenceIdeal.main_arg0) = m ((c.tc : Thread nD τ).loc Cert.KernelIdeal.main_arg0)
      ∧ m' ((c.tc : Thread Cert.ReferenceIdeal.nD Cert.ReferenceIdeal.τ).loc Cert.ReferenceIdeal.main_arg1) = m ((c.tc : Thread nD τ).loc Cert.KernelIdeal.main_arg1)
      ∧ m' ((c.tc : Thread Cert.ReferenceIdeal.nD Cert.ReferenceIdeal.τ).loc Cert.ReferenceIdeal.main_arg2) = m ((c.tc : Thread nD τ).loc Cert.KernelIdeal.main_arg2)
      ∧ m' ((c.tc : Thread Cert.ReferenceIdeal.nD Cert.ReferenceIdeal.τ).loc Cert.ReferenceIdeal.main_arg3) = m ((c.tc : Thread nD τ).loc Cert.KernelIdeal.main_arg3)
      ∧ m' ((c.tc : Thread Cert.ReferenceIdeal.nD Cert.ReferenceIdeal.τ).loc Cert.ReferenceIdeal.main_arg4) = m ((c.tc : Thread nD τ).loc Cert.KernelIdeal.main_arg4)
      ∧ m' ((c.tc : Thread Cert.ReferenceIdeal.nD Cert.ReferenceIdeal.τ).loc Cert.ReferenceIdeal.main_arg5) = m ((c.tc : Thread nD τ).loc Cert.KernelIdeal.main_arg5)
      ∧ m' ((c.tc : Thread Cert.ReferenceIdeal.nD Cert.ReferenceIdeal.τ).loc Cert.ReferenceIdeal.main_arg6) = m ((c.tc : Thread nD τ).loc Cert.KernelIdeal.main_arg6)
      ∧ m' ((c.tc : Thread Cert.ReferenceIdeal.nD Cert.ReferenceIdeal.τ).loc Cert.ReferenceIdeal.main_arg7) = m ((c.tc : Thread nD τ).loc Cert.KernelIdeal.main_arg7)
      ∧ m' ((c.tc : Thread Cert.ReferenceIdeal.nD Cert.ReferenceIdeal.τ).loc Cert.ReferenceIdeal.main_arg8) = m ((c.tc : Thread nD τ).loc Cert.KernelIdeal.main_arg8)
      ∧ m' ((c.tc : Thread Cert.ReferenceIdeal.nD Cert.ReferenceIdeal.τ).loc Cert.ReferenceIdeal.main_arg9) = m ((c.tc : Thread nD τ).loc Cert.KernelIdeal.main_arg9))
  (hq : ∀ (c : Dev nD) b a, 0 ≤ aqs m c b a) (c : Dev nD)

include h hq

theorem arrC : Cert.ReferenceIdeal.Gen.RGC m' c = GC m c :=
  funext fun i => congrFun (congrFun (congrFun (eqC m c _ _ _ _ _ _ (funext fun b => funext fun a => funext fun d => congrFun (h c).2.1 (ix3 b a d)) (funext fun b => funext fun a => funext fun d => congrFun (h c).2.2.1 (ix3 b a d)) (funext fun b => funext fun a => funext fun d => congrFun (h c).2.2.2.1 (ix3 b a d)) (funext fun b => funext fun a => congrFun (h c).2.2.2.2.1 (ix2 b a)) (funext fun b => funext fun a => congrFun (h c).2.2.2.2.2.1 (ix2 b a)) (funext fun b => funext fun a => congrFun (h c).2.2.2.2.2.2.1 (ix2 b a)) (hq c)) (i 0)) (i 1)) (i 2)
theorem arrS : Cert.ReferenceIdeal.Gen.RGS m' c = GS m c :=
  funext fun i => congrFun (congrFun (eqS m c _ _ _ _ _ _ (funext fun b => funext fun a => funext fun d => congrFun (h c).2.1 (ix3 b a d)) (funext fun b => funext fun a => funext fun d => congrFun (h c).2.2.1 (ix3 b a d)) (funext fun b => funext fun a => funext fun d => congrFun (h c).2.2.2.1 (ix3 b a d)) (funext fun b => funext fun a => congrFun (h c).2.2.2.2.1 (ix2 b a)) (funext fun b => funext fun a => congrFun (h c).2.2.2.2.2.1 (ix2 b a)) (funext fun b => funext fun a => congrFun (h c).2.2.2.2.2.2.1 (ix2 b a)) (hq c)) (i 0)) (i 1)
theorem arrP : Cert.ReferenceIdeal.Gen.RGP m' c = GP m c :=
  funext fun i => congrFun (congrFun (congrFun (eqP m c _ _ _ _ _ _ _ _ _ (funext fun b => funext fun a => funext fun d => congrFun (h c).2.1 (ix3 b a d)) (funext fun b => funext fun a => funext fun d => congrFun (h c).2.2.1 (ix3 b a d)) (funext fun b => funext fun a => funext fun d => congrFun (h c).2.2.2.1 (ix3 b a d)) (funext fun b => funext fun a => congrFun (h c).2.2.2.2.1 (ix2 b a)) (funext fun b => funext fun a => congrFun (h c).2.2.2.2.2.1 (ix2 b a)) (funext fun b => funext fun a => congrFun (h c).2.2.2.2.2.2.1 (ix2 b a)) (funext fun b => funext fun a => congrFun (h c).2.2.2.2.2.2.2.1 (ix2 b a)) (funext fun d => (Cert.ReferenceIdeal.Gen.v0_val m' c d).trans (congrFun (h c).2.2.2.2.2.2.2.2.1 (ix1 d))) (funext fun d => (Cert.ReferenceIdeal.Gen.v1_val m' c d).trans (congrFun (h c).2.2.2.2.2.2.2.2.2 (ix1 d))) (hq c)) (i 0)) (i 1)) (i 2)
theorem arrY : Cert.ReferenceIdeal.Gen.RGY m' c = GY m c :=
  funext fun i => congrFun (congrFun (congrFun (eqY m c _ _ _ _ _ _ _ _ _ _ (funext fun b => funext fun a => funext fun d => congrFun (h c).1 (ix3 b a d)) (funext fun b => funext fun a => funext fun d => congrFun (h c).2.1 (ix3 b a d)) (funext fun b => funext fun a => funext fun d => congrFun (h c).2.2.1 (ix3 b a d)) (funext fun b => funext fun a => funext fun d => congrFun (h c).2.2.2.1 (ix3 b a d)) (funext fun b => funext fun a => congrFun (h c).2.2.2.2.1 (ix2 b a)) (funext fun b => funext fun a => congrFun (h c).2.2.2.2.2.1 (ix2 b a)) (funext fun b => funext fun a => congrFun (h c).2.2.2.2.2.2.1 (ix2 b a)) (funext fun b => funext fun a => congrFun (h c).2.2.2.2.2.2.2.1 (ix2 b a)) (funext fun d => (Cert.ReferenceIdeal.Gen.v0_val m' c d).trans (congrFun (h c).2.2.2.2.2.2.2.2.1 (ix1 d))) (funext fun d => (Cert.ReferenceIdeal.Gen.v1_val m' c d).trans (congrFun (h c).2.2.2.2.2.2.2.2.2 (ix1 d))) (hq c)) (i 0)) (i 1)) (i 2)

end

/-! ### The two runs -/

theorem algebraic [Cert.Pre_scales_nonnegative.Facts] : @Cert.algebraic_KernelIdeal_ReferenceIdeal_pre_scales_nonnegative Cert.KernelIdeal.Gen.facts Cert.ReferenceIdeal.Gen.facts _ := by
  intro m g m' g' hp h
  have hq : ∀ (c : Dev Cert.KernelIdeal.nD) b a, 0 ≤ Cert.KernelIdeal.Gen.aqs m c b a := fun c b a => pre_apply _ _ _ _ _ _ _ _ _ _ (hp c) (ix2 b a)
  refine ⟨Cert.KernelIdeal.Gen.GY m, Cert.KernelIdeal.Gen.GP m, Cert.KernelIdeal.Gen.GC m, Cert.KernelIdeal.Gen.GS m, ?_, ?_⟩
  · exact (θ_run Cert.KernelIdeal.defs _ _).mono (fun r hr c => ⟨(hr c).1.1, (hr c).1.2.1, (hr c).1.2.2.1, (hr c).1.2.2.2, Cert.KernelIdeal.Gen.kept m (Cert.KernelIdeal.Gen.spec m) r (hr c).2 c⟩) (Cert.KernelIdeal.Gen.results m g)
  · exact (θ_run Cert.ReferenceIdeal.defs _ _).mono (fun r hr c =>
      ⟨(hr c).1.trans ((Cert.ReferenceIdeal.Gen.arr10 m' c).trans (arrY m m' h hq c)),
        (hr c).2.1.trans ((Cert.ReferenceIdeal.Gen.arr11 m' c).trans (arrP m m' h hq c)),
        (hr c).2.2.1.trans ((Cert.ReferenceIdeal.Gen.arr12 m' c).trans (arrC m m' h hq c)),
        (hr c).2.2.2.1.trans ((Cert.ReferenceIdeal.Gen.arr13 m' c).trans (arrS m m' h hq c)),
        (hr c).2.2.2.2⟩) (Cert.ReferenceIdeal.Value.run_blocks m' g')

end Cert.Agree

end
-- ==== Proof.lean ====
module

public import proofs.«01_k».proof.Defs
public import proofs.«01_k».proof.Proof.Kernel.Sound
public import proofs.«01_k».proof.Proof.KernelIdeal.Sound
public import proofs.«01_k».proof.Proof.Gen.ReferenceIdeal.Value
public import proofs.«01_k».proof.Proof.Attn.Agree

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Agree.preFacts,
    fun m ρ _ => Cert.Kernel.Gen.frame m ρ,
    fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    ⟨IdealRules.named_const.statement Cert.KernelIdeal.κ "attn_log2e" .f32 0x3D8293EE#32 _ rfl,
      IdealRules.named_const.statement Cert.KernelIdeal.κ "log2e" .f32 0x3FB8AA3B#32 _ rfl⟩,
    @Cert.Agree.algebraic Cert.Agree.preFacts⟩

end Cert.Proof

end
